-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_Act (m : (ℓ : Loc Cert.Act.nD Cert.Act.τ Cert.Act.sig) → Buf (Elt Bits) ℓ) : Prop :=
  True

def Pre_ActIdeal (m : (ℓ : Loc Cert.ActIdeal.nD Cert.ActIdeal.τ Cert.ActIdeal.sig) → Buf (Elt Ideal) ℓ) : Prop :=
  True

def Pre_ActIdeal_finite_act [hPre_finite_act : Cert.Pre_finite_act.Facts] (m : (ℓ : Loc Cert.ActIdeal.nD Cert.ActIdeal.τ Cert.ActIdeal.sig) → Buf (Elt Ideal) ℓ) : Prop :=
  ∀ c : Dev Cert.ActIdeal.nD,
    (Cert.Pre_finite_act.fn (F := Ideal) (m ((c.tc : Thread Cert.ActIdeal.nD Cert.ActIdeal.τ).loc Cert.ActIdeal.main_arg0)) (m ((c.tc : Thread Cert.ActIdeal.nD Cert.ActIdeal.τ).loc Cert.ActIdeal.main_arg1)) (m ((c.tc : Thread Cert.ActIdeal.nD Cert.ActIdeal.τ).loc Cert.ActIdeal.main_arg2)) (m ((c.tc : Thread Cert.ActIdeal.nD Cert.ActIdeal.τ).loc Cert.ActIdeal.main_arg3))).1 = (fun _ => 1#1)
    ∧ (Cert.Pre_finite_act.fn (F := Ideal) (m ((c.tc : Thread Cert.ActIdeal.nD Cert.ActIdeal.τ).loc Cert.ActIdeal.main_arg0)) (m ((c.tc : Thread Cert.ActIdeal.nD Cert.ActIdeal.τ).loc Cert.ActIdeal.main_arg1)) (m ((c.tc : Thread Cert.ActIdeal.nD Cert.ActIdeal.τ).loc Cert.ActIdeal.main_arg2)) (m ((c.tc : Thread Cert.ActIdeal.nD Cert.ActIdeal.τ).loc Cert.ActIdeal.main_arg3))).2.1 = (fun _ => 1#1)
    ∧ (Cert.Pre_finite_act.fn (F := Ideal) (m ((c.tc : Thread Cert.ActIdeal.nD Cert.ActIdeal.τ).loc Cert.ActIdeal.main_arg0)) (m ((c.tc : Thread Cert.ActIdeal.nD Cert.ActIdeal.τ).loc Cert.ActIdeal.main_arg1)) (m ((c.tc : Thread Cert.ActIdeal.nD Cert.ActIdeal.τ).loc Cert.ActIdeal.main_arg2)) (m ((c.tc : Thread Cert.ActIdeal.nD Cert.ActIdeal.τ).loc Cert.ActIdeal.main_arg3))).2.2 = (fun _ => 1#1)

def Pre_ActRefIdeal (m : (ℓ : Loc Cert.ActRefIdeal.nD Cert.ActRefIdeal.τ Cert.ActRefIdeal.sig) → Buf (Elt Ideal) ℓ) : Prop :=
  True

def Pre_ActRefIdeal_finite_act [hPre_finite_act : Cert.Pre_finite_act.Facts] (m : (ℓ : Loc Cert.ActRefIdeal.nD Cert.ActRefIdeal.τ Cert.ActRefIdeal.sig) → Buf (Elt Ideal) ℓ) : Prop :=
  ∀ c : Dev Cert.ActRefIdeal.nD,
    (Cert.Pre_finite_act.fn (F := Ideal) (m ((c.tc : Thread Cert.ActRefIdeal.nD Cert.ActRefIdeal.τ).loc Cert.ActRefIdeal.main_arg0)) (m ((c.tc : Thread Cert.ActRefIdeal.nD Cert.ActRefIdeal.τ).loc Cert.ActRefIdeal.main_arg1)) (m ((c.tc : Thread Cert.ActRefIdeal.nD Cert.ActRefIdeal.τ).loc Cert.ActRefIdeal.main_arg2)) (m ((c.tc : Thread Cert.ActRefIdeal.nD Cert.ActRefIdeal.τ).loc Cert.ActRefIdeal.main_arg3))).1 = (fun _ => 1#1)
    ∧ (Cert.Pre_finite_act.fn (F := Ideal) (m ((c.tc : Thread Cert.ActRefIdeal.nD Cert.ActRefIdeal.τ).loc Cert.ActRefIdeal.main_arg0)) (m ((c.tc : Thread Cert.ActRefIdeal.nD Cert.ActRefIdeal.τ).loc Cert.ActRefIdeal.main_arg1)) (m ((c.tc : Thread Cert.ActRefIdeal.nD Cert.ActRefIdeal.τ).loc Cert.ActRefIdeal.main_arg2)) (m ((c.tc : Thread Cert.ActRefIdeal.nD Cert.ActRefIdeal.τ).loc Cert.ActRefIdeal.main_arg3))).2.1 = (fun _ => 1#1)
    ∧ (Cert.Pre_finite_act.fn (F := Ideal) (m ((c.tc : Thread Cert.ActRefIdeal.nD Cert.ActRefIdeal.τ).loc Cert.ActRefIdeal.main_arg0)) (m ((c.tc : Thread Cert.ActRefIdeal.nD Cert.ActRefIdeal.τ).loc Cert.ActRefIdeal.main_arg1)) (m ((c.tc : Thread Cert.ActRefIdeal.nD Cert.ActRefIdeal.τ).loc Cert.ActRefIdeal.main_arg2)) (m ((c.tc : Thread Cert.ActRefIdeal.nD Cert.ActRefIdeal.τ).loc Cert.ActRefIdeal.main_arg3))).2.2 = (fun _ => 1#1)

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpRefIdeal (m : (ℓ : Loc Cert.FfnUpRefIdeal.nD Cert.FfnUpRefIdeal.τ Cert.FfnUpRefIdeal.sig) → Buf (Elt Ideal) ℓ) : Prop :=
  True

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownRefIdeal (m : (ℓ : Loc Cert.FfnDownRefIdeal.nD Cert.FfnDownRefIdeal.τ Cert.FfnDownRefIdeal.sig) → Buf (Elt Ideal) ℓ) : Prop :=
  True

def Pre_MixIn (m : (ℓ : Loc Cert.MixIn.nD Cert.MixIn.τ Cert.MixIn.sig) → Buf (Elt Bits) ℓ) : Prop :=
  True

def Pre_MixInIdeal (m : (ℓ : Loc Cert.MixInIdeal.nD Cert.MixInIdeal.τ Cert.MixInIdeal.sig) → Buf (Elt Ideal) ℓ) : Prop :=
  True

def Pre_MixInRefIdeal (m : (ℓ : Loc Cert.MixInRefIdeal.nD Cert.MixInRefIdeal.τ Cert.MixInRefIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutRefIdeal (m : (ℓ : Loc Cert.MixOutRefIdeal.nD Cert.MixOutRefIdeal.τ Cert.MixOutRefIdeal.sig) → Buf (Elt Ideal) ℓ) : Prop :=
  True

def Pre_DwIn (m : (ℓ : Loc Cert.DwIn.nD Cert.DwIn.τ Cert.DwIn.sig) → Buf (Elt Bits) ℓ) : Prop :=
  True

def Pre_DwInIdeal (m : (ℓ : Loc Cert.DwInIdeal.nD Cert.DwInIdeal.τ Cert.DwInIdeal.sig) → Buf (Elt Ideal) ℓ) : Prop :=
  True

def Pre_DwInRefIdeal (m : (ℓ : Loc Cert.DwInRefIdeal.nD Cert.DwInRefIdeal.τ Cert.DwInRefIdeal.sig) → Buf (Elt Ideal) ℓ) : Prop :=
  True

def Pre_DwOut (m : (ℓ : Loc Cert.DwOut.nD Cert.DwOut.τ Cert.DwOut.sig) → Buf (Elt Bits) ℓ) : Prop :=
  True

def Pre_DwOutIdeal (m : (ℓ : Loc Cert.DwOutIdeal.nD Cert.DwOutIdeal.τ Cert.DwOutIdeal.sig) → Buf (Elt Ideal) ℓ) : Prop :=
  True

def Pre_DwOutRefIdeal (m : (ℓ : Loc Cert.DwOutRefIdeal.nD Cert.DwOutRefIdeal.τ Cert.DwOutRefIdeal.sig) → Buf (Elt Ideal) ℓ) : Prop :=
  True

def Pre_MixDin (m : (ℓ : Loc Cert.MixDin.nD Cert.MixDin.τ Cert.MixDin.sig) → Buf (Elt Bits) ℓ) : Prop :=
  True

def Pre_MixDinIdeal (m : (ℓ : Loc Cert.MixDinIdeal.nD Cert.MixDinIdeal.τ Cert.MixDinIdeal.sig) → Buf (Elt Ideal) ℓ) : Prop :=
  True

def Pre_MixDinRefIdeal (m : (ℓ : Loc Cert.MixDinRefIdeal.nD Cert.MixDinRefIdeal.τ Cert.MixDinRefIdeal.sig) → Buf (Elt Ideal) ℓ) : Prop :=
  True

def Pre_FirstNorm (m : (ℓ : Loc Cert.FirstNorm.nD Cert.FirstNorm.τ Cert.FirstNorm.sig) → Buf (Elt Bits) ℓ) : Prop :=
  True

def Pre_FirstNormIdeal (m : (ℓ : Loc Cert.FirstNormIdeal.nD Cert.FirstNormIdeal.τ Cert.FirstNormIdeal.sig) → Buf (Elt Ideal) ℓ) : Prop :=
  True

def Pre_FirstNormRefIdeal (m : (ℓ : Loc Cert.FirstNormRefIdeal.nD Cert.FirstNormRefIdeal.τ Cert.FirstNormRefIdeal.sig) → Buf (Elt Ideal) ℓ) : Prop :=
  True

def Pre_DinA (m : (ℓ : Loc Cert.DinA.nD Cert.DinA.τ Cert.DinA.sig) → Buf (Elt Bits) ℓ) : Prop :=
  True

def Pre_DinAIdeal (m : (ℓ : Loc Cert.DinAIdeal.nD Cert.DinAIdeal.τ Cert.DinAIdeal.sig) → Buf (Elt Ideal) ℓ) : Prop :=
  True

def Pre_DinARefIdeal (m : (ℓ : Loc Cert.DinARefIdeal.nD Cert.DinARefIdeal.τ Cert.DinARefIdeal.sig) → Buf (Elt Ideal) ℓ) : Prop :=
  True

def Pre_DinB (m : (ℓ : Loc Cert.DinB.nD Cert.DinB.τ Cert.DinB.sig) → Buf (Elt Bits) ℓ) : Prop :=
  True

def Pre_DinBIdeal (m : (ℓ : Loc Cert.DinBIdeal.nD Cert.DinBIdeal.τ Cert.DinBIdeal.sig) → Buf (Elt Ideal) ℓ) : Prop :=
  True

def Pre_DinBRefIdeal (m : (ℓ : Loc Cert.DinBRefIdeal.nD Cert.DinBRefIdeal.τ Cert.DinBRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Act [hAct : Cert.Act.Facts] : Prop :=
  ∀ (m : (ℓ : Loc Cert.Act.nD Cert.Act.τ Cert.Act.sig) → Buf (Elt Bits) ℓ) (g : Dev Cert.Act.nD → PrngReg), Pre_Act m →
    θ_run (Cert.Act.defs (F := Bits)) (onTc (τ := Cert.Act.τ) (Cert.Act.main (F := Bits))) ⟨m, fun _ => 0, g⟩ (fun r => (∀ c : Dev Cert.Act.nD,
      r.2.mem ((c.tc : Thread Cert.Act.nD Cert.Act.τ).loc Cert.Act.main_arg0) = m ((c.tc : Thread Cert.Act.nD Cert.Act.τ).loc Cert.Act.main_arg0)
      ∧ r.2.mem ((c.tc : Thread Cert.Act.nD Cert.Act.τ).loc Cert.Act.main_arg1) = m ((c.tc : Thread Cert.Act.nD Cert.Act.τ).loc Cert.Act.main_arg1)
      ∧ r.2.mem ((c.tc : Thread Cert.Act.nD Cert.Act.τ).loc Cert.Act.main_arg2) = m ((c.tc : Thread Cert.Act.nD Cert.Act.τ).loc Cert.Act.main_arg2)
      ∧ r.2.mem ((c.tc : Thread Cert.Act.nD Cert.Act.τ).loc Cert.Act.main_arg3) = m ((c.tc : Thread Cert.Act.nD Cert.Act.τ).loc Cert.Act.main_arg3))
      ∧ r.2.sem = fun _ => 0)

def quiescent_ActIdeal [hActIdeal : Cert.ActIdeal.Facts] : Prop :=
  ∀ (m : (ℓ : Loc Cert.ActIdeal.nD Cert.ActIdeal.τ Cert.ActIdeal.sig) → Buf (Elt Ideal) ℓ) (g : Dev Cert.ActIdeal.nD → PrngReg), Pre_ActIdeal m →
    θ_run (Cert.ActIdeal.defs (F := Ideal)) (onTc (τ := Cert.ActIdeal.τ) (Cert.ActIdeal.main (F := Ideal))) ⟨m, fun _ => 0, g⟩ (fun r => (∀ c : Dev Cert.ActIdeal.nD,
      r.2.mem ((c.tc : Thread Cert.ActIdeal.nD Cert.ActIdeal.τ).loc Cert.ActIdeal.main_arg0) = m ((c.tc : Thread Cert.ActIdeal.nD Cert.ActIdeal.τ).loc Cert.ActIdeal.main_arg0)
      ∧ r.2.mem ((c.tc : Thread Cert.ActIdeal.nD Cert.ActIdeal.τ).loc Cert.ActIdeal.main_arg1) = m ((c.tc : Thread Cert.ActIdeal.nD Cert.ActIdeal.τ).loc Cert.ActIdeal.main_arg1)
      ∧ r.2.mem ((c.tc : Thread Cert.ActIdeal.nD Cert.ActIdeal.τ).loc Cert.ActIdeal.main_arg2) = m ((c.tc : Thread Cert.ActIdeal.nD Cert.ActIdeal.τ).loc Cert.ActIdeal.main_arg2)
      ∧ r.2.mem ((c.tc : Thread Cert.ActIdeal.nD Cert.ActIdeal.τ).loc Cert.ActIdeal.main_arg3) = m ((c.tc : Thread Cert.ActIdeal.nD Cert.ActIdeal.τ).loc Cert.ActIdeal.main_arg3))
      ∧ r.2.sem = fun _ => 0)

def quiescent_ActIdeal_pre_finite_act [hActIdeal : Cert.ActIdeal.Facts] [hPre_finite_act : Cert.Pre_finite_act.Facts] : Prop :=
  ∀ (m : (ℓ : Loc Cert.ActIdeal.nD Cert.ActIdeal.τ Cert.ActIdeal.sig) → Buf (Elt Ideal) ℓ) (g : Dev Cert.ActIdeal.nD → PrngReg), Pre_ActIdeal_finite_act m →
    θ_run (Cert.ActIdeal.defs (F := Ideal)) (onTc (τ := Cert.ActIdeal.τ) (Cert.ActIdeal.main (F := Ideal))) ⟨m, fun _ => 0, g⟩ (fun r => (∀ c : Dev Cert.ActIdeal.nD,
      r.2.mem ((c.tc : Thread Cert.ActIdeal.nD Cert.ActIdeal.τ).loc Cert.ActIdeal.main_arg0) = m ((c.tc : Thread Cert.ActIdeal.nD Cert.ActIdeal.τ).loc Cert.ActIdeal.main_arg0)
      ∧ r.2.mem ((c.tc : Thread Cert.ActIdeal.nD Cert.ActIdeal.τ).loc Cert.ActIdeal.main_arg1) = m ((c.tc : Thread Cert.ActIdeal.nD Cert.ActIdeal.τ).loc Cert.ActIdeal.main_arg1)
      ∧ r.2.mem ((c.tc : Thread Cert.ActIdeal.nD Cert.ActIdeal.τ).loc Cert.ActIdeal.main_arg2) = m ((c.tc : Thread Cert.ActIdeal.nD Cert.ActIdeal.τ).loc Cert.ActIdeal.main_arg2)
      ∧ r.2.mem ((c.tc : Thread Cert.ActIdeal.nD Cert.ActIdeal.τ).loc Cert.ActIdeal.main_arg3) = m ((c.tc : Thread Cert.ActIdeal.nD Cert.ActIdeal.τ).loc Cert.ActIdeal.main_arg3))
      ∧ r.2.sem = fun _ => 0)

def quiescent_ActRefIdeal [hActRefIdeal : Cert.ActRefIdeal.Facts] : Prop :=
  ∀ (m : (ℓ : Loc Cert.ActRefIdeal.nD Cert.ActRefIdeal.τ Cert.ActRefIdeal.sig) → Buf (Elt Ideal) ℓ) (g : Dev Cert.ActRefIdeal.nD → PrngReg), Pre_ActRefIdeal m →
    θ_run (Cert.ActRefIdeal.defs (F := Ideal)) (onTc (τ := Cert.ActRefIdeal.τ) (Cert.ActRefIdeal.main (F := Ideal))) ⟨m, fun _ => 0, g⟩ (fun r => (∀ c : Dev Cert.ActRefIdeal.nD,
      r.2.mem ((c.tc : Thread Cert.ActRefIdeal.nD Cert.ActRefIdeal.τ).loc Cert.ActRefIdeal.main_arg0) = m ((c.tc : Thread Cert.ActRefIdeal.nD Cert.ActRefIdeal.τ).loc Cert.ActRefIdeal.main_arg0)
      ∧ r.2.mem ((c.tc : Thread Cert.ActRefIdeal.nD Cert.ActRefIdeal.τ).loc Cert.ActRefIdeal.main_arg1) = m ((c.tc : Thread Cert.ActRefIdeal.nD Cert.ActRefIdeal.τ).loc Cert.ActRefIdeal.main_arg1)
      ∧ r.2.mem ((c.tc : Thread Cert.ActRefIdeal.nD Cert.ActRefIdeal.τ).loc Cert.ActRefIdeal.main_arg2) = m ((c.tc : Thread Cert.ActRefIdeal.nD Cert.ActRefIdeal.τ).loc Cert.ActRefIdeal.main_arg2)
      ∧ r.2.mem ((c.tc : Thread Cert.ActRefIdeal.nD Cert.ActRefIdeal.τ).loc Cert.ActRefIdeal.main_arg3) = m ((c.tc : Thread Cert.ActRefIdeal.nD Cert.ActRefIdeal.τ).loc Cert.ActRefIdeal.main_arg3))
      ∧ r.2.sem = fun _ => 0)

def quiescent_ActRefIdeal_pre_finite_act [hActRefIdeal : Cert.ActRefIdeal.Facts] [hPre_finite_act : Cert.Pre_finite_act.Facts] : Prop :=
  ∀ (m : (ℓ : Loc Cert.ActRefIdeal.nD Cert.ActRefIdeal.τ Cert.ActRefIdeal.sig) → Buf (Elt Ideal) ℓ) (g : Dev Cert.ActRefIdeal.nD → PrngReg), Pre_ActRefIdeal_finite_act m →
    θ_run (Cert.ActRefIdeal.defs (F := Ideal)) (onTc (τ := Cert.ActRefIdeal.τ) (Cert.ActRefIdeal.main (F := Ideal))) ⟨m, fun _ => 0, g⟩ (fun r => (∀ c : Dev Cert.ActRefIdeal.nD,
      r.2.mem ((c.tc : Thread Cert.ActRefIdeal.nD Cert.ActRefIdeal.τ).loc Cert.ActRefIdeal.main_arg0) = m ((c.tc : Thread Cert.ActRefIdeal.nD Cert.ActRefIdeal.τ).loc Cert.ActRefIdeal.main_arg0)
      ∧ r.2.mem ((c.tc : Thread Cert.ActRefIdeal.nD Cert.ActRefIdeal.τ).loc Cert.ActRefIdeal.main_arg1) = m ((c.tc : Thread Cert.ActRefIdeal.nD Cert.ActRefIdeal.τ).loc Cert.ActRefIdeal.main_arg1)
      ∧ r.2.mem ((c.tc : Thread Cert.ActRefIdeal.nD Cert.ActRefIdeal.τ).loc Cert.ActRefIdeal.main_arg2) = m ((c.tc : Thread Cert.ActRefIdeal.nD Cert.ActRefIdeal.τ).loc Cert.ActRefIdeal.main_arg2)
      ∧ r.2.mem ((c.tc : Thread Cert.ActRefIdeal.nD Cert.ActRefIdeal.τ).loc Cert.ActRefIdeal.main_arg3) = m ((c.tc : Thread Cert.ActRefIdeal.nD Cert.ActRefIdeal.τ).loc Cert.ActRefIdeal.main_arg3))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3)
      ∧ r.2.mem ((c.tc : Thread Cert.Norm.nD Cert.Norm.τ).loc Cert.Norm.main_arg4) = m ((c.tc : Thread Cert.Norm.nD Cert.Norm.τ).loc Cert.Norm.main_arg4)
      ∧ r.2.mem ((c.tc : Thread Cert.Norm.nD Cert.Norm.τ).loc Cert.Norm.main_arg5) = m ((c.tc : Thread Cert.Norm.nD Cert.Norm.τ).loc Cert.Norm.main_arg5)
      ∧ r.2.mem ((c.tc : Thread Cert.Norm.nD Cert.Norm.τ).loc Cert.Norm.main_arg6) = m ((c.tc : Thread Cert.Norm.nD Cert.Norm.τ).loc Cert.Norm.main_arg6)
      ∧ r.2.mem ((c.tc : Thread Cert.Norm.nD Cert.Norm.τ).loc Cert.Norm.main_arg7) = m ((c.tc : Thread Cert.Norm.nD Cert.Norm.τ).loc Cert.Norm.main_arg7)
      ∧ r.2.mem ((c.tc : Thread Cert.Norm.nD Cert.Norm.τ).loc Cert.Norm.main_arg8) = m ((c.tc : Thread Cert.Norm.nD Cert.Norm.τ).loc Cert.Norm.main_arg8)
      ∧ r.2.mem ((c.tc : Thread Cert.Norm.nD Cert.Norm.τ).loc Cert.Norm.main_arg9) = m ((c.tc : Thread Cert.Norm.nD Cert.Norm.τ).loc Cert.Norm.main_arg9)
      ∧ r.2.mem ((c.tc : Thread Cert.Norm.nD Cert.Norm.τ).loc Cert.Norm.main_arg10) = m ((c.tc : Thread Cert.Norm.nD Cert.Norm.τ).loc Cert.Norm.main_arg10)
      ∧ r.2.mem ((c.tc : Thread Cert.Norm.nD Cert.Norm.τ).loc Cert.Norm.main_arg11) = m ((c.tc : Thread Cert.Norm.nD Cert.Norm.τ).loc Cert.Norm.main_arg11))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
      ∧ r.2.mem ((c.tc : Thread Cert.NormIdeal.nD Cert.NormIdeal.τ).loc Cert.NormIdeal.main_arg4) = m ((c.tc : Thread Cert.NormIdeal.nD Cert.NormIdeal.τ).loc Cert.NormIdeal.main_arg4)
      ∧ r.2.mem ((c.tc : Thread Cert.NormIdeal.nD Cert.NormIdeal.τ).loc Cert.NormIdeal.main_arg5) = m ((c.tc : Thread Cert.NormIdeal.nD Cert.NormIdeal.τ).loc Cert.NormIdeal.main_arg5)
      ∧ r.2.mem ((c.tc : Thread Cert.NormIdeal.nD Cert.NormIdeal.τ).loc Cert.NormIdeal.main_arg6) = m ((c.tc : Thread Cert.NormIdeal.nD Cert.NormIdeal.τ).loc Cert.NormIdeal.main_arg6)
      ∧ r.2.mem ((c.tc : Thread Cert.NormIdeal.nD Cert.NormIdeal.τ).loc Cert.NormIdeal.main_arg7) = m ((c.tc : Thread Cert.NormIdeal.nD Cert.NormIdeal.τ).loc Cert.NormIdeal.main_arg7)
      ∧ r.2.mem ((c.tc : Thread Cert.NormIdeal.nD Cert.NormIdeal.τ).loc Cert.NormIdeal.main_arg8) = m ((c.tc : Thread Cert.NormIdeal.nD Cert.NormIdeal.τ).loc Cert.NormIdeal.main_arg8)
      ∧ r.2.mem ((c.tc : Thread Cert.NormIdeal.nD Cert.NormIdeal.τ).loc Cert.NormIdeal.main_arg9) = m ((c.tc : Thread Cert.NormIdeal.nD Cert.NormIdeal.τ).loc Cert.NormIdeal.main_arg9)
      ∧ r.2.mem ((c.tc : Thread Cert.NormIdeal.nD Cert.NormIdeal.τ).loc Cert.NormIdeal.main_arg10) = m ((c.tc : Thread Cert.NormIdeal.nD Cert.NormIdeal.τ).loc Cert.NormIdeal.main_arg10)
      ∧ r.2.mem ((c.tc : Thread Cert.NormIdeal.nD Cert.NormIdeal.τ).loc Cert.NormIdeal.main_arg11) = m ((c.tc : Thread Cert.NormIdeal.nD Cert.NormIdeal.τ).loc Cert.NormIdeal.main_arg11))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3)
      ∧ r.2.mem ((c.tc : Thread Cert.NormRefIdeal.nD Cert.NormRefIdeal.τ).loc Cert.NormRefIdeal.main_arg4) = m ((c.tc : Thread Cert.NormRefIdeal.nD Cert.NormRefIdeal.τ).loc Cert.NormRefIdeal.main_arg4)
      ∧ r.2.mem ((c.tc : Thread Cert.NormRefIdeal.nD Cert.NormRefIdeal.τ).loc Cert.NormRefIdeal.main_arg5) = m ((c.tc : Thread Cert.NormRefIdeal.nD Cert.NormRefIdeal.τ).loc Cert.NormRefIdeal.main_arg5)
      ∧ r.2.mem ((c.tc : Thread Cert.NormRefIdeal.nD Cert.NormRefIdeal.τ).loc Cert.NormRefIdeal.main_arg6) = m ((c.tc : Thread Cert.NormRefIdeal.nD Cert.NormRefIdeal.τ).loc Cert.NormRefIdeal.main_arg6)
      ∧ r.2.mem ((c.tc : Thread Cert.NormRefIdeal.nD Cert.NormRefIdeal.τ).loc Cert.NormRefIdeal.main_arg7) = m ((c.tc : Thread Cert.NormRefIdeal.nD Cert.NormRefIdeal.τ).loc Cert.NormRefIdeal.main_arg7)
      ∧ r.2.mem ((c.tc : Thread Cert.NormRefIdeal.nD Cert.NormRefIdeal.τ).loc Cert.NormRefIdeal.main_arg8) = m ((c.tc : Thread Cert.NormRefIdeal.nD Cert.NormRefIdeal.τ).loc Cert.NormRefIdeal.main_arg8)
      ∧ r.2.mem ((c.tc : Thread Cert.NormRefIdeal.nD Cert.NormRefIdeal.τ).loc Cert.NormRefIdeal.main_arg9) = m ((c.tc : Thread Cert.NormRefIdeal.nD Cert.NormRefIdeal.τ).loc Cert.NormRefIdeal.main_arg9)
      ∧ r.2.mem ((c.tc : Thread Cert.NormRefIdeal.nD Cert.NormRefIdeal.τ).loc Cert.NormRefIdeal.main_arg10) = m ((c.tc : Thread Cert.NormRefIdeal.nD Cert.NormRefIdeal.τ).loc Cert.NormRefIdeal.main_arg10)
      ∧ r.2.mem ((c.tc : Thread Cert.NormRefIdeal.nD Cert.NormRefIdeal.τ).loc Cert.NormRefIdeal.main_arg11) = m ((c.tc : Thread Cert.NormRefIdeal.nD Cert.NormRefIdeal.τ).loc Cert.NormRefIdeal.main_arg11))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1)
      ∧ r.2.mem ((c.tc : Thread Cert.FfnUp.nD Cert.FfnUp.τ).loc Cert.FfnUp.main_arg2) = m ((c.tc : Thread Cert.FfnUp.nD Cert.FfnUp.τ).loc Cert.FfnUp.main_arg2))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
      ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2))
      ∧ r.2.sem = fun _ => 0)

def quiescent_FfnUpRefIdeal [hFfnUpRefIdeal : Cert.FfnUpRefIdeal.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1)
      ∧ r.2.mem ((c.tc : Thread Cert.FfnUpRefIdeal.nD Cert.FfnUpRefIdeal.τ).loc Cert.FfnUpRefIdeal.main_arg2) = m ((c.tc : Thread Cert.FfnUpRefIdeal.nD Cert.FfnUpRefIdeal.τ).loc Cert.FfnUpRefIdeal.main_arg2))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1)
      ∧ r.2.mem ((c.tc : Thread Cert.FfnDown.nD Cert.FfnDown.τ).loc Cert.FfnDown.main_arg2) = m ((c.tc : Thread Cert.FfnDown.nD Cert.FfnDown.τ).loc Cert.FfnDown.main_arg2)
      ∧ r.2.mem ((c.tc : Thread Cert.FfnDown.nD Cert.FfnDown.τ).loc Cert.FfnDown.main_arg3) = m ((c.tc : Thread Cert.FfnDown.nD Cert.FfnDown.τ).loc Cert.FfnDown.main_arg3))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
      ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2)
      ∧ r.2.mem ((c.tc : Thread Cert.FfnDownIdeal.nD Cert.FfnDownIdeal.τ).loc Cert.FfnDownIdeal.main_arg3) = m ((c.tc : Thread Cert.FfnDownIdeal.nD Cert.FfnDownIdeal.τ).loc Cert.FfnDownIdeal.main_arg3))
      ∧ r.2.sem = fun _ => 0)

def quiescent_FfnDownRefIdeal [hFfnDownRefIdeal : Cert.FfnDownRefIdeal.Facts] : Prop :=
  ∀ (m : (ℓ : Loc Cert.FfnDownRefIdeal.nD Cert.FfnDownRefIdeal.τ Cert.FfnDownRefIdeal.sig) → Buf (Elt Ideal) ℓ) (g : Dev Cert.FfnDownRefIdeal.nD → PrngReg), Pre_FfnDownRefIdeal m →
    θ_run (Cert.FfnDownRefIdeal.defs (F := Ideal)) (onTc (τ := Cert.FfnDownRefIdeal.τ) (Cert.FfnDownRefIdeal.main (F := Ideal))) ⟨m, fun _ => 0, g⟩ (fun r => (∀ c : Dev Cert.FfnDownRefIdeal.nD,
      r.2.mem ((c.tc : Thread Cert.FfnDownRefIdeal.nD Cert.FfnDownRefIdeal.τ).loc Cert.FfnDownRefIdeal.main_arg0) = m ((c.tc : Thread Cert.FfnDownRefIdeal.nD Cert.FfnDownRefIdeal.τ).loc Cert.FfnDownRefIdeal.main_arg0)
      ∧ r.2.mem ((c.tc : Thread Cert.FfnDownRefIdeal.nD Cert.FfnDownRefIdeal.τ).loc Cert.FfnDownRefIdeal.main_arg1) = m ((c.tc : Thread Cert.FfnDownRefIdeal.nD Cert.FfnDownRefIdeal.τ).loc Cert.FfnDownRefIdeal.main_arg1)
      ∧ r.2.mem ((c.tc : Thread Cert.FfnDownRefIdeal.nD Cert.FfnDownRefIdeal.τ).loc Cert.FfnDownRefIdeal.main_arg2) = m ((c.tc : Thread Cert.FfnDownRefIdeal.nD Cert.FfnDownRefIdeal.τ).loc Cert.FfnDownRefIdeal.main_arg2)
      ∧ r.2.mem ((c.tc : Thread Cert.FfnDownRefIdeal.nD Cert.FfnDownRefIdeal.τ).loc Cert.FfnDownRefIdeal.main_arg3) = m ((c.tc : Thread Cert.FfnDownRefIdeal.nD Cert.FfnDownRefIdeal.τ).loc Cert.FfnDownRefIdeal.main_arg3))
      ∧ r.2.sem = fun _ => 0)

def quiescent_MixIn [hMixIn : Cert.MixIn.Facts] : Prop :=
  ∀ (m : (ℓ : Loc Cert.MixIn.nD Cert.MixIn.τ Cert.MixIn.sig) → Buf (Elt Bits) ℓ) (g : Dev Cert.MixIn.nD → PrngReg), Pre_MixIn m →
    θ_run (Cert.MixIn.defs (F := Bits)) (onTc (τ := Cert.MixIn.τ) (Cert.MixIn.main (F := Bits))) ⟨m, fun _ => 0, g⟩ (fun r => (∀ c : Dev Cert.MixIn.nD,
      r.2.mem ((c.tc : Thread Cert.MixIn.nD Cert.MixIn.τ).loc Cert.MixIn.main_arg0) = m ((c.tc : Thread Cert.MixIn.nD Cert.MixIn.τ).loc Cert.MixIn.main_arg0)
      ∧ r.2.mem ((c.tc : Thread Cert.MixIn.nD Cert.MixIn.τ).loc Cert.MixIn.main_arg1) = m ((c.tc : Thread Cert.MixIn.nD Cert.MixIn.τ).loc Cert.MixIn.main_arg1))
      ∧ r.2.sem = fun _ => 0)

def quiescent_MixInIdeal [hMixInIdeal : Cert.MixInIdeal.Facts] : Prop :=
  ∀ (m : (ℓ : Loc Cert.MixInIdeal.nD Cert.MixInIdeal.τ Cert.MixInIdeal.sig) → Buf (Elt Ideal) ℓ) (g : Dev Cert.MixInIdeal.nD → PrngReg), Pre_MixInIdeal m →
    θ_run (Cert.MixInIdeal.defs (F := Ideal)) (onTc (τ := Cert.MixInIdeal.τ) (Cert.MixInIdeal.main (F := Ideal))) ⟨m, fun _ => 0, g⟩ (fun r => (∀ c : Dev Cert.MixInIdeal.nD,
      r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
      ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1))
      ∧ r.2.sem = fun _ => 0)

def quiescent_MixInRefIdeal [hMixInRefIdeal : Cert.MixInRefIdeal.Facts] : Prop :=
  ∀ (m : (ℓ : Loc Cert.MixInRefIdeal.nD Cert.MixInRefIdeal.τ Cert.MixInRefIdeal.sig) → Buf (Elt Ideal) ℓ) (g : Dev Cert.MixInRefIdeal.nD → PrngReg), Pre_MixInRefIdeal m →
    θ_run (Cert.MixInRefIdeal.defs (F := Ideal)) (onTc (τ := Cert.MixInRefIdeal.τ) (Cert.MixInRefIdeal.main (F := Ideal))) ⟨m, fun _ => 0, g⟩ (fun r => (∀ c : Dev Cert.MixInRefIdeal.nD,
      r.2.mem ((c.tc : Thread Cert.MixInRefIdeal.nD Cert.MixInRefIdeal.τ).loc Cert.MixInRefIdeal.main_arg0) = m ((c.tc : Thread Cert.MixInRefIdeal.nD Cert.MixInRefIdeal.τ).loc Cert.MixInRefIdeal.main_arg0)
      ∧ r.2.mem ((c.tc : Thread Cert.MixInRefIdeal.nD Cert.MixInRefIdeal.τ).loc Cert.MixInRefIdeal.main_arg1) = m ((c.tc : Thread Cert.MixInRefIdeal.nD Cert.MixInRefIdeal.τ).loc Cert.MixInRefIdeal.main_arg1))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1)
      ∧ r.2.mem ((c.tc : Thread Cert.MixOut.nD Cert.MixOut.τ).loc Cert.MixOut.main_arg2) = m ((c.tc : Thread Cert.MixOut.nD Cert.MixOut.τ).loc Cert.MixOut.main_arg2)
      ∧ r.2.mem ((c.tc : Thread Cert.MixOut.nD Cert.MixOut.τ).loc Cert.MixOut.main_arg3) = m ((c.tc : Thread Cert.MixOut.nD Cert.MixOut.τ).loc Cert.MixOut.main_arg3)
      ∧ r.2.mem ((c.tc : Thread Cert.MixOut.nD Cert.MixOut.τ).loc Cert.MixOut.main_arg4) = m ((c.tc : Thread Cert.MixOut.nD Cert.MixOut.τ).loc Cert.MixOut.main_arg4)
      ∧ r.2.mem ((c.tc : Thread Cert.MixOut.nD Cert.MixOut.τ).loc Cert.MixOut.main_arg5) = m ((c.tc : Thread Cert.MixOut.nD Cert.MixOut.τ).loc Cert.MixOut.main_arg5)
      ∧ r.2.mem ((c.tc : Thread Cert.MixOut.nD Cert.MixOut.τ).loc Cert.MixOut.main_arg6) = m ((c.tc : Thread Cert.MixOut.nD Cert.MixOut.τ).loc Cert.MixOut.main_arg6))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
      ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
      ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4)
      ∧ r.2.mem ((c.tc : Thread Cert.MixOutIdeal.nD Cert.MixOutIdeal.τ).loc Cert.MixOutIdeal.main_arg5) = m ((c.tc : Thread Cert.MixOutIdeal.nD Cert.MixOutIdeal.τ).loc Cert.MixOutIdeal.main_arg5)
      ∧ r.2.mem ((c.tc : Thread Cert.MixOutIdeal.nD Cert.MixOutIdeal.τ).loc Cert.MixOutIdeal.main_arg6) = m ((c.tc : Thread Cert.MixOutIdeal.nD Cert.MixOutIdeal.τ).loc Cert.MixOutIdeal.main_arg6))
      ∧ r.2.sem = fun _ => 0)

def quiescent_MixOutRefIdeal [hMixOutRefIdeal : Cert.MixOutRefIdeal.Facts] : Prop :=
  ∀ (m : (ℓ : Loc Cert.MixOutRefIdeal.nD Cert.MixOutRefIdeal.τ Cert.MixOutRefIdeal.sig) → Buf (Elt Ideal) ℓ) (g : Dev Cert.MixOutRefIdeal.nD → PrngReg), Pre_MixOutRefIdeal m →
    θ_run (Cert.MixOutRefIdeal.defs (F := Ideal)) (onTc (τ := Cert.MixOutRefIdeal.τ) (Cert.MixOutRefIdeal.main (F := Ideal))) ⟨m, fun _ => 0, g⟩ (fun r => (∀ c : Dev Cert.MixOutRefIdeal.nD,
      r.2.mem ((c.tc : Thread Cert.MixOutRefIdeal.nD Cert.MixOutRefIdeal.τ).loc Cert.MixOutRefIdeal.main_arg0) = m ((c.tc : Thread Cert.MixOutRefIdeal.nD Cert.MixOutRefIdeal.τ).loc Cert.MixOutRefIdeal.main_arg0)
      ∧ r.2.mem ((c.tc : Thread Cert.MixOutRefIdeal.nD Cert.MixOutRefIdeal.τ).loc Cert.MixOutRefIdeal.main_arg1) = m ((c.tc : Thread Cert.MixOutRefIdeal.nD Cert.MixOutRefIdeal.τ).loc Cert.MixOutRefIdeal.main_arg1)
      ∧ r.2.mem ((c.tc : Thread Cert.MixOutRefIdeal.nD Cert.MixOutRefIdeal.τ).loc Cert.MixOutRefIdeal.main_arg2) = m ((c.tc : Thread Cert.MixOutRefIdeal.nD Cert.MixOutRefIdeal.τ).loc Cert.MixOutRefIdeal.main_arg2)
      ∧ r.2.mem ((c.tc : Thread Cert.MixOutRefIdeal.nD Cert.MixOutRefIdeal.τ).loc Cert.MixOutRefIdeal.main_arg3) = m ((c.tc : Thread Cert.MixOutRefIdeal.nD Cert.MixOutRefIdeal.τ).loc Cert.MixOutRefIdeal.main_arg3)
      ∧ r.2.mem ((c.tc : Thread Cert.MixOutRefIdeal.nD Cert.MixOutRefIdeal.τ).loc Cert.MixOutRefIdeal.main_arg4) = m ((c.tc : Thread Cert.MixOutRefIdeal.nD Cert.MixOutRefIdeal.τ).loc Cert.MixOutRefIdeal.main_arg4)
      ∧ r.2.mem ((c.tc : Thread Cert.MixOutRefIdeal.nD Cert.MixOutRefIdeal.τ).loc Cert.MixOutRefIdeal.main_arg5) = m ((c.tc : Thread Cert.MixOutRefIdeal.nD Cert.MixOutRefIdeal.τ).loc Cert.MixOutRefIdeal.main_arg5)
      ∧ r.2.mem ((c.tc : Thread Cert.MixOutRefIdeal.nD Cert.MixOutRefIdeal.τ).loc Cert.MixOutRefIdeal.main_arg6) = m ((c.tc : Thread Cert.MixOutRefIdeal.nD Cert.MixOutRefIdeal.τ).loc Cert.MixOutRefIdeal.main_arg6))
      ∧ r.2.sem = fun _ => 0)

def quiescent_DwIn [hDwIn : Cert.DwIn.Facts] : Prop :=
  ∀ (m : (ℓ : Loc Cert.DwIn.nD Cert.DwIn.τ Cert.DwIn.sig) → Buf (Elt Bits) ℓ) (g : Dev Cert.DwIn.nD → PrngReg), Pre_DwIn m →
    θ_run (Cert.DwIn.defs (F := Bits)) (onTc (τ := Cert.DwIn.τ) (Cert.DwIn.main (F := Bits))) ⟨m, fun _ => 0, g⟩ (fun r => (∀ c : Dev Cert.DwIn.nD,
      r.2.mem ((c.tc : Thread Cert.DwIn.nD Cert.DwIn.τ).loc Cert.DwIn.main_arg0) = m ((c.tc : Thread Cert.DwIn.nD Cert.DwIn.τ).loc Cert.DwIn.main_arg0)
      ∧ r.2.mem ((c.tc : Thread Cert.DwIn.nD Cert.DwIn.τ).loc Cert.DwIn.main_arg1) = m ((c.tc : Thread Cert.DwIn.nD Cert.DwIn.τ).loc Cert.DwIn.main_arg1))
      ∧ r.2.sem = fun _ => 0)

def quiescent_DwInIdeal [hDwInIdeal : Cert.DwInIdeal.Facts] : Prop :=
  ∀ (m : (ℓ : Loc Cert.DwInIdeal.nD Cert.DwInIdeal.τ Cert.DwInIdeal.sig) → Buf (Elt Ideal) ℓ) (g : Dev Cert.DwInIdeal.nD → PrngReg), Pre_DwInIdeal m →
    θ_run (Cert.DwInIdeal.defs (F := Ideal)) (onTc (τ := Cert.DwInIdeal.τ) (Cert.DwInIdeal.main (F := Ideal))) ⟨m, fun _ => 0, g⟩ (fun r => (∀ c : Dev Cert.DwInIdeal.nD,
      r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
      ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1))
      ∧ r.2.sem = fun _ => 0)

def quiescent_DwInRefIdeal [hDwInRefIdeal : Cert.DwInRefIdeal.Facts] : Prop :=
  ∀ (m : (ℓ : Loc Cert.DwInRefIdeal.nD Cert.DwInRefIdeal.τ Cert.DwInRefIdeal.sig) → Buf (Elt Ideal) ℓ) (g : Dev Cert.DwInRefIdeal.nD → PrngReg), Pre_DwInRefIdeal m →
    θ_run (Cert.DwInRefIdeal.defs (F := Ideal)) (onTc (τ := Cert.DwInRefIdeal.τ) (Cert.DwInRefIdeal.main (F := Ideal))) ⟨m, fun _ => 0, g⟩ (fun r => (∀ c : Dev Cert.DwInRefIdeal.nD,
      r.2.mem ((c.tc : Thread Cert.DwInRefIdeal.nD Cert.DwInRefIdeal.τ).loc Cert.DwInRefIdeal.main_arg0) = m ((c.tc : Thread Cert.DwInRefIdeal.nD Cert.DwInRefIdeal.τ).loc Cert.DwInRefIdeal.main_arg0)
      ∧ r.2.mem ((c.tc : Thread Cert.DwInRefIdeal.nD Cert.DwInRefIdeal.τ).loc Cert.DwInRefIdeal.main_arg1) = m ((c.tc : Thread Cert.DwInRefIdeal.nD Cert.DwInRefIdeal.τ).loc Cert.DwInRefIdeal.main_arg1))
      ∧ r.2.sem = fun _ => 0)

def quiescent_DwOut [hDwOut : Cert.DwOut.Facts] : Prop :=
  ∀ (m : (ℓ : Loc Cert.DwOut.nD Cert.DwOut.τ Cert.DwOut.sig) → Buf (Elt Bits) ℓ) (g : Dev Cert.DwOut.nD → PrngReg), Pre_DwOut m →
    θ_run (Cert.DwOut.defs (F := Bits)) (onTc (τ := Cert.DwOut.τ) (Cert.DwOut.main (F := Bits))) ⟨m, fun _ => 0, g⟩ (fun r => (∀ c : Dev Cert.DwOut.nD,
      r.2.mem ((c.tc : Thread Cert.DwOut.nD Cert.DwOut.τ).loc Cert.DwOut.main_arg0) = m ((c.tc : Thread Cert.DwOut.nD Cert.DwOut.τ).loc Cert.DwOut.main_arg0)
      ∧ r.2.mem ((c.tc : Thread Cert.DwOut.nD Cert.DwOut.τ).loc Cert.DwOut.main_arg1) = m ((c.tc : Thread Cert.DwOut.nD Cert.DwOut.τ).loc Cert.DwOut.main_arg1))
      ∧ r.2.sem = fun _ => 0)

def quiescent_DwOutIdeal [hDwOutIdeal : Cert.DwOutIdeal.Facts] : Prop :=
  ∀ (m : (ℓ : Loc Cert.DwOutIdeal.nD Cert.DwOutIdeal.τ Cert.DwOutIdeal.sig) → Buf (Elt Ideal) ℓ) (g : Dev Cert.DwOutIdeal.nD → PrngReg), Pre_DwOutIdeal m →
    θ_run (Cert.DwOutIdeal.defs (F := Ideal)) (onTc (τ := Cert.DwOutIdeal.τ) (Cert.DwOutIdeal.main (F := Ideal))) ⟨m, fun _ => 0, g⟩ (fun r => (∀ c : Dev Cert.DwOutIdeal.nD,
      r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
      ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ r.2.sem = fun _ => 0)

def quiescent_DwOutRefIdeal [hDwOutRefIdeal : Cert.DwOutRefIdeal.Facts] : Prop :=
  ∀ (m : (ℓ : Loc Cert.DwOutRefIdeal.nD Cert.DwOutRefIdeal.τ Cert.DwOutRefIdeal.sig) → Buf (Elt Ideal) ℓ) (g : Dev Cert.DwOutRefIdeal.nD → PrngReg), Pre_DwOutRefIdeal m →
    θ_run (Cert.DwOutRefIdeal.defs (F := Ideal)) (onTc (τ := Cert.DwOutRefIdeal.τ) (Cert.DwOutRefIdeal.main (F := Ideal))) ⟨m, fun _ => 0, g⟩ (fun r => (∀ c : Dev Cert.DwOutRefIdeal.nD,
      r.2.mem ((c.tc : Thread Cert.DwOutRefIdeal.nD Cert.DwOutRefIdeal.τ).loc Cert.DwOutRefIdeal.main_arg0) = m ((c.tc : Thread Cert.DwOutRefIdeal.nD Cert.DwOutRefIdeal.τ).loc Cert.DwOutRefIdeal.main_arg0)
      ∧ r.2.mem ((c.tc : Thread Cert.DwOutRefIdeal.nD Cert.DwOutRefIdeal.τ).loc Cert.DwOutRefIdeal.main_arg1) = m ((c.tc : Thread Cert.DwOutRefIdeal.nD Cert.DwOutRefIdeal.τ).loc Cert.DwOutRefIdeal.main_arg1))
      ∧ r.2.sem = fun _ => 0)

def quiescent_MixDin [hMixDin : Cert.MixDin.Facts] : Prop :=
  ∀ (m : (ℓ : Loc Cert.MixDin.nD Cert.MixDin.τ Cert.MixDin.sig) → Buf (Elt Bits) ℓ) (g : Dev Cert.MixDin.nD → PrngReg), Pre_MixDin m →
    θ_run (Cert.MixDin.defs (F := Bits)) (onTc (τ := Cert.MixDin.τ) (Cert.MixDin.main (F := Bits))) ⟨m, fun _ => 0, g⟩ (fun r => (∀ c : Dev Cert.MixDin.nD,
      r.2.mem ((c.tc : Thread Cert.MixDin.nD Cert.MixDin.τ).loc Cert.MixDin.main_arg0) = m ((c.tc : Thread Cert.MixDin.nD Cert.MixDin.τ).loc Cert.MixDin.main_arg0)
      ∧ r.2.mem ((c.tc : Thread Cert.MixDin.nD Cert.MixDin.τ).loc Cert.MixDin.main_arg1) = m ((c.tc : Thread Cert.MixDin.nD Cert.MixDin.τ).loc Cert.MixDin.main_arg1)
      ∧ r.2.mem ((c.tc : Thread Cert.MixDin.nD Cert.MixDin.τ).loc Cert.MixDin.main_arg2) = m ((c.tc : Thread Cert.MixDin.nD Cert.MixDin.τ).loc Cert.MixDin.main_arg2)
      ∧ r.2.mem ((c.tc : Thread Cert.MixDin.nD Cert.MixDin.τ).loc Cert.MixDin.main_arg3) = m ((c.tc : Thread Cert.MixDin.nD Cert.MixDin.τ).loc Cert.MixDin.main_arg3)
      ∧ r.2.mem ((c.tc : Thread Cert.MixDin.nD Cert.MixDin.τ).loc Cert.MixDin.main_arg4) = m ((c.tc : Thread Cert.MixDin.nD Cert.MixDin.τ).loc Cert.MixDin.main_arg4))
      ∧ r.2.sem = fun _ => 0)

def quiescent_MixDinIdeal [hMixDinIdeal : Cert.MixDinIdeal.Facts] : Prop :=
  ∀ (m : (ℓ : Loc Cert.MixDinIdeal.nD Cert.MixDinIdeal.τ Cert.MixDinIdeal.sig) → Buf (Elt Ideal) ℓ) (g : Dev Cert.MixDinIdeal.nD → PrngReg), Pre_MixDinIdeal m →
    θ_run (Cert.MixDinIdeal.defs (F := Ideal)) (onTc (τ := Cert.MixDinIdeal.τ) (Cert.MixDinIdeal.main (F := Ideal))) ⟨m, fun _ => 0, g⟩ (fun r => (∀ c : Dev Cert.MixDinIdeal.nD,
      r.2.mem ((c.tc : Thread Cert.MixDinIdeal.nD Cert.MixDinIdeal.τ).loc Cert.MixDinIdeal.main_arg0) = m ((c.tc : Thread Cert.MixDinIdeal.nD Cert.MixDinIdeal.τ).loc Cert.MixDinIdeal.main_arg0)
      ∧ r.2.mem ((c.tc : Thread Cert.MixDinIdeal.nD Cert.MixDinIdeal.τ).loc Cert.MixDinIdeal.main_arg1) = m ((c.tc : Thread Cert.MixDinIdeal.nD Cert.MixDinIdeal.τ).loc Cert.MixDinIdeal.main_arg1)
      ∧ r.2.mem ((c.tc : Thread Cert.MixDinIdeal.nD Cert.MixDinIdeal.τ).loc Cert.MixDinIdeal.main_arg2) = m ((c.tc : Thread Cert.MixDinIdeal.nD Cert.MixDinIdeal.τ).loc Cert.MixDinIdeal.main_arg2)
      ∧ r.2.mem ((c.tc : Thread Cert.MixDinIdeal.nD Cert.MixDinIdeal.τ).loc Cert.MixDinIdeal.main_arg3) = m ((c.tc : Thread Cert.MixDinIdeal.nD Cert.MixDinIdeal.τ).loc Cert.MixDinIdeal.main_arg3)
      ∧ r.2.mem ((c.tc : Thread Cert.MixDinIdeal.nD Cert.MixDinIdeal.τ).loc Cert.MixDinIdeal.main_arg4) = m ((c.tc : Thread Cert.MixDinIdeal.nD Cert.MixDinIdeal.τ).loc Cert.MixDinIdeal.main_arg4))
      ∧ r.2.sem = fun _ => 0)

def quiescent_MixDinRefIdeal [hMixDinRefIdeal : Cert.MixDinRefIdeal.Facts] : Prop :=
  ∀ (m : (ℓ : Loc Cert.MixDinRefIdeal.nD Cert.MixDinRefIdeal.τ Cert.MixDinRefIdeal.sig) → Buf (Elt Ideal) ℓ) (g : Dev Cert.MixDinRefIdeal.nD → PrngReg), Pre_MixDinRefIdeal m →
    θ_run (Cert.MixDinRefIdeal.defs (F := Ideal)) (onTc (τ := Cert.MixDinRefIdeal.τ) (Cert.MixDinRefIdeal.main (F := Ideal))) ⟨m, fun _ => 0, g⟩ (fun r => (∀ c : Dev Cert.MixDinRefIdeal.nD,
      r.2.mem ((c.tc : Thread Cert.MixDinRefIdeal.nD Cert.MixDinRefIdeal.τ).loc Cert.MixDinRefIdeal.main_arg0) = m ((c.tc : Thread Cert.MixDinRefIdeal.nD Cert.MixDinRefIdeal.τ).loc Cert.MixDinRefIdeal.main_arg0)
      ∧ r.2.mem ((c.tc : Thread Cert.MixDinRefIdeal.nD Cert.MixDinRefIdeal.τ).loc Cert.MixDinRefIdeal.main_arg1) = m ((c.tc : Thread Cert.MixDinRefIdeal.nD Cert.MixDinRefIdeal.τ).loc Cert.MixDinRefIdeal.main_arg1)
      ∧ r.2.mem ((c.tc : Thread Cert.MixDinRefIdeal.nD Cert.MixDinRefIdeal.τ).loc Cert.MixDinRefIdeal.main_arg2) = m ((c.tc : Thread Cert.MixDinRefIdeal.nD Cert.MixDinRefIdeal.τ).loc Cert.MixDinRefIdeal.main_arg2)
      ∧ r.2.mem ((c.tc : Thread Cert.MixDinRefIdeal.nD Cert.MixDinRefIdeal.τ).loc Cert.MixDinRefIdeal.main_arg3) = m ((c.tc : Thread Cert.MixDinRefIdeal.nD Cert.MixDinRefIdeal.τ).loc Cert.MixDinRefIdeal.main_arg3)
      ∧ r.2.mem ((c.tc : Thread Cert.MixDinRefIdeal.nD Cert.MixDinRefIdeal.τ).loc Cert.MixDinRefIdeal.main_arg4) = m ((c.tc : Thread Cert.MixDinRefIdeal.nD Cert.MixDinRefIdeal.τ).loc Cert.MixDinRefIdeal.main_arg4))
      ∧ r.2.sem = fun _ => 0)

def quiescent_FirstNorm [hFirstNorm : Cert.FirstNorm.Facts] : Prop :=
  ∀ (m : (ℓ : Loc Cert.FirstNorm.nD Cert.FirstNorm.τ Cert.FirstNorm.sig) → Buf (Elt Bits) ℓ) (g : Dev Cert.FirstNorm.nD → PrngReg), Pre_FirstNorm m →
    θ_run (Cert.FirstNorm.defs (F := Bits)) (onTc (τ := Cert.FirstNorm.τ) (Cert.FirstNorm.main (F := Bits))) ⟨m, fun _ => 0, g⟩ (fun r => (∀ c : Dev Cert.FirstNorm.nD,
      r.2.mem ((c.tc : Thread Cert.FirstNorm.nD Cert.FirstNorm.τ).loc Cert.FirstNorm.main_arg0) = m ((c.tc : Thread Cert.FirstNorm.nD Cert.FirstNorm.τ).loc Cert.FirstNorm.main_arg0)
      ∧ r.2.mem ((c.tc : Thread Cert.FirstNorm.nD Cert.FirstNorm.τ).loc Cert.FirstNorm.main_arg1) = m ((c.tc : Thread Cert.FirstNorm.nD Cert.FirstNorm.τ).loc Cert.FirstNorm.main_arg1))
      ∧ r.2.sem = fun _ => 0)

def quiescent_FirstNormIdeal [hFirstNormIdeal : Cert.FirstNormIdeal.Facts] : Prop :=
  ∀ (m : (ℓ : Loc Cert.FirstNormIdeal.nD Cert.FirstNormIdeal.τ Cert.FirstNormIdeal.sig) → Buf (Elt Ideal) ℓ) (g : Dev Cert.FirstNormIdeal.nD → PrngReg), Pre_FirstNormIdeal m →
    θ_run (Cert.FirstNormIdeal.defs (F := Ideal)) (onTc (τ := Cert.FirstNormIdeal.τ) (Cert.FirstNormIdeal.main (F := Ideal))) ⟨m, fun _ => 0, g⟩ (fun r => (∀ c : Dev Cert.FirstNormIdeal.nD,
      r.2.mem ((c.tc : Thread Cert.FirstNormIdeal.nD Cert.FirstNormIdeal.τ).loc Cert.FirstNormIdeal.main_arg0) = m ((c.tc : Thread Cert.FirstNormIdeal.nD Cert.FirstNormIdeal.τ).loc Cert.FirstNormIdeal.main_arg0)
      ∧ r.2.mem ((c.tc : Thread Cert.FirstNormIdeal.nD Cert.FirstNormIdeal.τ).loc Cert.FirstNormIdeal.main_arg1) = m ((c.tc : Thread Cert.FirstNormIdeal.nD Cert.FirstNormIdeal.τ).loc Cert.FirstNormIdeal.main_arg1))
      ∧ r.2.sem = fun _ => 0)

def quiescent_FirstNormRefIdeal [hFirstNormRefIdeal : Cert.FirstNormRefIdeal.Facts] : Prop :=
  ∀ (m : (ℓ : Loc Cert.FirstNormRefIdeal.nD Cert.FirstNormRefIdeal.τ Cert.FirstNormRefIdeal.sig) → Buf (Elt Ideal) ℓ) (g : Dev Cert.FirstNormRefIdeal.nD → PrngReg), Pre_FirstNormRefIdeal m →
    θ_run (Cert.FirstNormRefIdeal.defs (F := Ideal)) (onTc (τ := Cert.FirstNormRefIdeal.τ) (Cert.FirstNormRefIdeal.main (F := Ideal))) ⟨m, fun _ => 0, g⟩ (fun r => (∀ c : Dev Cert.FirstNormRefIdeal.nD,
      r.2.mem ((c.tc : Thread Cert.FirstNormRefIdeal.nD Cert.FirstNormRefIdeal.τ).loc Cert.FirstNormRefIdeal.main_arg0) = m ((c.tc : Thread Cert.FirstNormRefIdeal.nD Cert.FirstNormRefIdeal.τ).loc Cert.FirstNormRefIdeal.main_arg0)
      ∧ r.2.mem ((c.tc : Thread Cert.FirstNormRefIdeal.nD Cert.FirstNormRefIdeal.τ).loc Cert.FirstNormRefIdeal.main_arg1) = m ((c.tc : Thread Cert.FirstNormRefIdeal.nD Cert.FirstNormRefIdeal.τ).loc Cert.FirstNormRefIdeal.main_arg1))
      ∧ r.2.sem = fun _ => 0)

def quiescent_DinA [hDinA : Cert.DinA.Facts] : Prop :=
  ∀ (m : (ℓ : Loc Cert.DinA.nD Cert.DinA.τ Cert.DinA.sig) → Buf (Elt Bits) ℓ) (g : Dev Cert.DinA.nD → PrngReg), Pre_DinA m →
    θ_run (Cert.DinA.defs (F := Bits)) (onTc (τ := Cert.DinA.τ) (Cert.DinA.main (F := Bits))) ⟨m, fun _ => 0, g⟩ (fun r => (∀ c : Dev Cert.DinA.nD,
      r.2.mem ((c.tc : Thread Cert.DinA.nD Cert.DinA.τ).loc Cert.DinA.main_arg0) = m ((c.tc : Thread Cert.DinA.nD Cert.DinA.τ).loc Cert.DinA.main_arg0)
      ∧ r.2.mem ((c.tc : Thread Cert.DinA.nD Cert.DinA.τ).loc Cert.DinA.main_arg1) = m ((c.tc : Thread Cert.DinA.nD Cert.DinA.τ).loc Cert.DinA.main_arg1)
      ∧ r.2.mem ((c.tc : Thread Cert.DinA.nD Cert.DinA.τ).loc Cert.DinA.main_arg2) = m ((c.tc : Thread Cert.DinA.nD Cert.DinA.τ).loc Cert.DinA.main_arg2)
      ∧ r.2.mem ((c.tc : Thread Cert.DinA.nD Cert.DinA.τ).loc Cert.DinA.main_arg3) = m ((c.tc : Thread Cert.DinA.nD Cert.DinA.τ).loc Cert.DinA.main_arg3)
      ∧ r.2.mem ((c.tc : Thread Cert.DinA.nD Cert.DinA.τ).loc Cert.DinA.main_arg4) = m ((c.tc : Thread Cert.DinA.nD Cert.DinA.τ).loc Cert.DinA.main_arg4)
      ∧ r.2.mem ((c.tc : Thread Cert.DinA.nD Cert.DinA.τ).loc Cert.DinA.main_arg5) = m ((c.tc : Thread Cert.DinA.nD Cert.DinA.τ).loc Cert.DinA.main_arg5)
      ∧ r.2.mem ((c.tc : Thread Cert.DinA.nD Cert.DinA.τ).loc Cert.DinA.main_arg6) = m ((c.tc : Thread Cert.DinA.nD Cert.DinA.τ).loc Cert.DinA.main_arg6))
      ∧ r.2.sem = fun _ => 0)

def quiescent_DinAIdeal [hDinAIdeal : Cert.DinAIdeal.Facts] : Prop :=
  ∀ (m : (ℓ : Loc Cert.DinAIdeal.nD Cert.DinAIdeal.τ Cert.DinAIdeal.sig) → Buf (Elt Ideal) ℓ) (g : Dev Cert.DinAIdeal.nD → PrngReg), Pre_DinAIdeal m →
    θ_run (Cert.DinAIdeal.defs (F := Ideal)) (onTc (τ := Cert.DinAIdeal.τ) (Cert.DinAIdeal.main (F := Ideal))) ⟨m, fun _ => 0, g⟩ (fun r => (∀ c : Dev Cert.DinAIdeal.nD,
      r.2.mem ((c.tc : Thread Cert.DinAIdeal.nD Cert.DinAIdeal.τ).loc Cert.DinAIdeal.main_arg0) = m ((c.tc : Thread Cert.DinAIdeal.nD Cert.DinAIdeal.τ).loc Cert.DinAIdeal.main_arg0)
      ∧ r.2.mem ((c.tc : Thread Cert.DinAIdeal.nD Cert.DinAIdeal.τ).loc Cert.DinAIdeal.main_arg1) = m ((c.tc : Thread Cert.DinAIdeal.nD Cert.DinAIdeal.τ).loc Cert.DinAIdeal.main_arg1)
      ∧ r.2.mem ((c.tc : Thread Cert.DinAIdeal.nD Cert.DinAIdeal.τ).loc Cert.DinAIdeal.main_arg2) = m ((c.tc : Thread Cert.DinAIdeal.nD Cert.DinAIdeal.τ).loc Cert.DinAIdeal.main_arg2)
      ∧ r.2.mem ((c.tc : Thread Cert.DinAIdeal.nD Cert.DinAIdeal.τ).loc Cert.DinAIdeal.main_arg3) = m ((c.tc : Thread Cert.DinAIdeal.nD Cert.DinAIdeal.τ).loc Cert.DinAIdeal.main_arg3)
      ∧ r.2.mem ((c.tc : Thread Cert.DinAIdeal.nD Cert.DinAIdeal.τ).loc Cert.DinAIdeal.main_arg4) = m ((c.tc : Thread Cert.DinAIdeal.nD Cert.DinAIdeal.τ).loc Cert.DinAIdeal.main_arg4)
      ∧ r.2.mem ((c.tc : Thread Cert.DinAIdeal.nD Cert.DinAIdeal.τ).loc Cert.DinAIdeal.main_arg5) = m ((c.tc : Thread Cert.DinAIdeal.nD Cert.DinAIdeal.τ).loc Cert.DinAIdeal.main_arg5)
      ∧ r.2.mem ((c.tc : Thread Cert.DinAIdeal.nD Cert.DinAIdeal.τ).loc Cert.DinAIdeal.main_arg6) = m ((c.tc : Thread Cert.DinAIdeal.nD Cert.DinAIdeal.τ).loc Cert.DinAIdeal.main_arg6))
      ∧ r.2.sem = fun _ => 0)

def quiescent_DinARefIdeal [hDinARefIdeal : Cert.DinARefIdeal.Facts] : Prop :=
  ∀ (m : (ℓ : Loc Cert.DinARefIdeal.nD Cert.DinARefIdeal.τ Cert.DinARefIdeal.sig) → Buf (Elt Ideal) ℓ) (g : Dev Cert.DinARefIdeal.nD → PrngReg), Pre_DinARefIdeal m →
    θ_run (Cert.DinARefIdeal.defs (F := Ideal)) (onTc (τ := Cert.DinARefIdeal.τ) (Cert.DinARefIdeal.main (F := Ideal))) ⟨m, fun _ => 0, g⟩ (fun r => (∀ c : Dev Cert.DinARefIdeal.nD,
      r.2.mem ((c.tc : Thread Cert.DinARefIdeal.nD Cert.DinARefIdeal.τ).loc Cert.DinARefIdeal.main_arg0) = m ((c.tc : Thread Cert.DinARefIdeal.nD Cert.DinARefIdeal.τ).loc Cert.DinARefIdeal.main_arg0)
      ∧ r.2.mem ((c.tc : Thread Cert.DinARefIdeal.nD Cert.DinARefIdeal.τ).loc Cert.DinARefIdeal.main_arg1) = m ((c.tc : Thread Cert.DinARefIdeal.nD Cert.DinARefIdeal.τ).loc Cert.DinARefIdeal.main_arg1)
      ∧ r.2.mem ((c.tc : Thread Cert.DinARefIdeal.nD Cert.DinARefIdeal.τ).loc Cert.DinARefIdeal.main_arg2) = m ((c.tc : Thread Cert.DinARefIdeal.nD Cert.DinARefIdeal.τ).loc Cert.DinARefIdeal.main_arg2)
      ∧ r.2.mem ((c.tc : Thread Cert.DinARefIdeal.nD Cert.DinARefIdeal.τ).loc Cert.DinARefIdeal.main_arg3) = m ((c.tc : Thread Cert.DinARefIdeal.nD Cert.DinARefIdeal.τ).loc Cert.DinARefIdeal.main_arg3)
      ∧ r.2.mem ((c.tc : Thread Cert.DinARefIdeal.nD Cert.DinARefIdeal.τ).loc Cert.DinARefIdeal.main_arg4) = m ((c.tc : Thread Cert.DinARefIdeal.nD Cert.DinARefIdeal.τ).loc Cert.DinARefIdeal.main_arg4)
      ∧ r.2.mem ((c.tc : Thread Cert.DinARefIdeal.nD Cert.DinARefIdeal.τ).loc Cert.DinARefIdeal.main_arg5) = m ((c.tc : Thread Cert.DinARefIdeal.nD Cert.DinARefIdeal.τ).loc Cert.DinARefIdeal.main_arg5)
      ∧ r.2.mem ((c.tc : Thread Cert.DinARefIdeal.nD Cert.DinARefIdeal.τ).loc Cert.DinARefIdeal.main_arg6) = m ((c.tc : Thread Cert.DinARefIdeal.nD Cert.DinARefIdeal.τ).loc Cert.DinARefIdeal.main_arg6))
      ∧ r.2.sem = fun _ => 0)

def quiescent_DinB [hDinB : Cert.DinB.Facts] : Prop :=
  ∀ (m : (ℓ : Loc Cert.DinB.nD Cert.DinB.τ Cert.DinB.sig) → Buf (Elt Bits) ℓ) (g : Dev Cert.DinB.nD → PrngReg), Pre_DinB m →
    θ_run (Cert.DinB.defs (F := Bits)) (onTc (τ := Cert.DinB.τ) (Cert.DinB.main (F := Bits))) ⟨m, fun _ => 0, g⟩ (fun r => (∀ c : Dev Cert.DinB.nD,
      r.2.mem ((c.tc : Thread Cert.DinB.nD Cert.DinB.τ).loc Cert.DinB.main_arg0) = m ((c.tc : Thread Cert.DinB.nD Cert.DinB.τ).loc Cert.DinB.main_arg0)
      ∧ r.2.mem ((c.tc : Thread Cert.DinB.nD Cert.DinB.τ).loc Cert.DinB.main_arg1) = m ((c.tc : Thread Cert.DinB.nD Cert.DinB.τ).loc Cert.DinB.main_arg1)
      ∧ r.2.mem ((c.tc : Thread Cert.DinB.nD Cert.DinB.τ).loc Cert.DinB.main_arg2) = m ((c.tc : Thread Cert.DinB.nD Cert.DinB.τ).loc Cert.DinB.main_arg2)
      ∧ r.2.mem ((c.tc : Thread Cert.DinB.nD Cert.DinB.τ).loc Cert.DinB.main_arg3) = m ((c.tc : Thread Cert.DinB.nD Cert.DinB.τ).loc Cert.DinB.main_arg3)
      ∧ r.2.mem ((c.tc : Thread Cert.DinB.nD Cert.DinB.τ).loc Cert.DinB.main_arg4) = m ((c.tc : Thread Cert.DinB.nD Cert.DinB.τ).loc Cert.DinB.main_arg4)
      ∧ r.2.mem ((c.tc : Thread Cert.DinB.nD Cert.DinB.τ).loc Cert.DinB.main_arg5) = m ((c.tc : Thread Cert.DinB.nD Cert.DinB.τ).loc Cert.DinB.main_arg5)
      ∧ r.2.mem ((c.tc : Thread Cert.DinB.nD Cert.DinB.τ).loc Cert.DinB.main_arg6) = m ((c.tc : Thread Cert.DinB.nD Cert.DinB.τ).loc Cert.DinB.main_arg6)
      ∧ r.2.mem ((c.tc : Thread Cert.DinB.nD Cert.DinB.τ).loc Cert.DinB.main_arg7) = m ((c.tc : Thread Cert.DinB.nD Cert.DinB.τ).loc Cert.DinB.main_arg7)
      ∧ r.2.mem ((c.tc : Thread Cert.DinB.nD Cert.DinB.τ).loc Cert.DinB.main_arg8) = m ((c.tc : Thread Cert.DinB.nD Cert.DinB.τ).loc Cert.DinB.main_arg8))
      ∧ r.2.sem = fun _ => 0)

def quiescent_DinBIdeal [hDinBIdeal : Cert.DinBIdeal.Facts] : Prop :=
  ∀ (m : (ℓ : Loc Cert.DinBIdeal.nD Cert.DinBIdeal.τ Cert.DinBIdeal.sig) → Buf (Elt Ideal) ℓ) (g : Dev Cert.DinBIdeal.nD → PrngReg), Pre_DinBIdeal m →
    θ_run (Cert.DinBIdeal.defs (F := Ideal)) (onTc (τ := Cert.DinBIdeal.τ) (Cert.DinBIdeal.main (F := Ideal))) ⟨m, fun _ => 0, g⟩ (fun r => (∀ c : Dev Cert.DinBIdeal.nD,
      r.2.mem ((c.tc : Thread Cert.DinBIdeal.nD Cert.DinBIdeal.τ).loc Cert.DinBIdeal.main_arg0) = m ((c.tc : Thread Cert.DinBIdeal.nD Cert.DinBIdeal.τ).loc Cert.DinBIdeal.main_arg0)
      ∧ r.2.mem ((c.tc : Thread Cert.DinBIdeal.nD Cert.DinBIdeal.τ).loc Cert.DinBIdeal.main_arg1) = m ((c.tc : Thread Cert.DinBIdeal.nD Cert.DinBIdeal.τ).loc Cert.DinBIdeal.main_arg1)
      ∧ r.2.mem ((c.tc : Thread Cert.DinBIdeal.nD Cert.DinBIdeal.τ).loc Cert.DinBIdeal.main_arg2) = m ((c.tc : Thread Cert.DinBIdeal.nD Cert.DinBIdeal.τ).loc Cert.DinBIdeal.main_arg2)
      ∧ r.2.mem ((c.tc : Thread Cert.DinBIdeal.nD Cert.DinBIdeal.τ).loc Cert.DinBIdeal.main_arg3) = m ((c.tc : Thread Cert.DinBIdeal.nD Cert.DinBIdeal.τ).loc Cert.DinBIdeal.main_arg3)
      ∧ r.2.mem ((c.tc : Thread Cert.DinBIdeal.nD Cert.DinBIdeal.τ).loc Cert.DinBIdeal.main_arg4) = m ((c.tc : Thread Cert.DinBIdeal.nD Cert.DinBIdeal.τ).loc Cert.DinBIdeal.main_arg4)
      ∧ r.2.mem ((c.tc : Thread Cert.DinBIdeal.nD Cert.DinBIdeal.τ).loc Cert.DinBIdeal.main_arg5) = m ((c.tc : Thread Cert.DinBIdeal.nD Cert.DinBIdeal.τ).loc Cert.DinBIdeal.main_arg5)
      ∧ r.2.mem ((c.tc : Thread Cert.DinBIdeal.nD Cert.DinBIdeal.τ).loc Cert.DinBIdeal.main_arg6) = m ((c.tc : Thread Cert.DinBIdeal.nD Cert.DinBIdeal.τ).loc Cert.DinBIdeal.main_arg6)
      ∧ r.2.mem ((c.tc : Thread Cert.DinBIdeal.nD Cert.DinBIdeal.τ).loc Cert.DinBIdeal.main_arg7) = m ((c.tc : Thread Cert.DinBIdeal.nD Cert.DinBIdeal.τ).loc Cert.DinBIdeal.main_arg7)
      ∧ r.2.mem ((c.tc : Thread Cert.DinBIdeal.nD Cert.DinBIdeal.τ).loc Cert.DinBIdeal.main_arg8) = m ((c.tc : Thread Cert.DinBIdeal.nD Cert.DinBIdeal.τ).loc Cert.DinBIdeal.main_arg8))
      ∧ r.2.sem = fun _ => 0)

def quiescent_DinBRefIdeal [hDinBRefIdeal : Cert.DinBRefIdeal.Facts] : Prop :=
  ∀ (m : (ℓ : Loc Cert.DinBRefIdeal.nD Cert.DinBRefIdeal.τ Cert.DinBRefIdeal.sig) → Buf (Elt Ideal) ℓ) (g : Dev Cert.DinBRefIdeal.nD → PrngReg), Pre_DinBRefIdeal m →
    θ_run (Cert.DinBRefIdeal.defs (F := Ideal)) (onTc (τ := Cert.DinBRefIdeal.τ) (Cert.DinBRefIdeal.main (F := Ideal))) ⟨m, fun _ => 0, g⟩ (fun r => (∀ c : Dev Cert.DinBRefIdeal.nD,
      r.2.mem ((c.tc : Thread Cert.DinBRefIdeal.nD Cert.DinBRefIdeal.τ).loc Cert.DinBRefIdeal.main_arg0) = m ((c.tc : Thread Cert.DinBRefIdeal.nD Cert.DinBRefIdeal.τ).loc Cert.DinBRefIdeal.main_arg0)
      ∧ r.2.mem ((c.tc : Thread Cert.DinBRefIdeal.nD Cert.DinBRefIdeal.τ).loc Cert.DinBRefIdeal.main_arg1) = m ((c.tc : Thread Cert.DinBRefIdeal.nD Cert.DinBRefIdeal.τ).loc Cert.DinBRefIdeal.main_arg1)
      ∧ r.2.mem ((c.tc : Thread Cert.DinBRefIdeal.nD Cert.DinBRefIdeal.τ).loc Cert.DinBRefIdeal.main_arg2) = m ((c.tc : Thread Cert.DinBRefIdeal.nD Cert.DinBRefIdeal.τ).loc Cert.DinBRefIdeal.main_arg2)
      ∧ r.2.mem ((c.tc : Thread Cert.DinBRefIdeal.nD Cert.DinBRefIdeal.τ).loc Cert.DinBRefIdeal.main_arg3) = m ((c.tc : Thread Cert.DinBRefIdeal.nD Cert.DinBRefIdeal.τ).loc Cert.DinBRefIdeal.main_arg3)
      ∧ r.2.mem ((c.tc : Thread Cert.DinBRefIdeal.nD Cert.DinBRefIdeal.τ).loc Cert.DinBRefIdeal.main_arg4) = m ((c.tc : Thread Cert.DinBRefIdeal.nD Cert.DinBRefIdeal.τ).loc Cert.DinBRefIdeal.main_arg4)
      ∧ r.2.mem ((c.tc : Thread Cert.DinBRefIdeal.nD Cert.DinBRefIdeal.τ).loc Cert.DinBRefIdeal.main_arg5) = m ((c.tc : Thread Cert.DinBRefIdeal.nD Cert.DinBRefIdeal.τ).loc Cert.DinBRefIdeal.main_arg5)
      ∧ r.2.mem ((c.tc : Thread Cert.DinBRefIdeal.nD Cert.DinBRefIdeal.τ).loc Cert.DinBRefIdeal.main_arg6) = m ((c.tc : Thread Cert.DinBRefIdeal.nD Cert.DinBRefIdeal.τ).loc Cert.DinBRefIdeal.main_arg6)
      ∧ r.2.mem ((c.tc : Thread Cert.DinBRefIdeal.nD Cert.DinBRefIdeal.τ).loc Cert.DinBRefIdeal.main_arg7) = m ((c.tc : Thread Cert.DinBRefIdeal.nD Cert.DinBRefIdeal.τ).loc Cert.DinBRefIdeal.main_arg7)
      ∧ r.2.mem ((c.tc : Thread Cert.DinBRefIdeal.nD Cert.DinBRefIdeal.τ).loc Cert.DinBRefIdeal.main_arg8) = m ((c.tc : Thread Cert.DinBRefIdeal.nD Cert.DinBRefIdeal.τ).loc Cert.DinBRefIdeal.main_arg8))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v37_0)) (v1 : (c : Dev Cert.KernelIdeal.nD) → Buf (Elt Ideal) ((c.tc : Thread Cert.KernelIdeal.nD Cert.KernelIdeal.τ).loc Cert.KernelIdeal.main_v37_1)) (v2 : (c : Dev Cert.KernelIdeal.nD) → Buf (Elt Ideal) ((c.tc : Thread Cert.KernelIdeal.nD Cert.KernelIdeal.τ).loc Cert.KernelIdeal.main_v37_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37_0) = v0 c
          ∧ r.2.mem ((c.tc : Thread Cert.KernelIdeal.nD Cert.KernelIdeal.τ).loc Cert.KernelIdeal.main_v37_1) = v1 c
          ∧ r.2.mem ((c.tc : Thread Cert.KernelIdeal.nD Cert.KernelIdeal.τ).loc Cert.KernelIdeal.main_v37_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_v77) = v1 c
          ∧ r.2.mem ((c.tc : Thread Cert.ReferenceIdeal.nD Cert.ReferenceIdeal.τ).loc Cert.ReferenceIdeal.main_v80) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Act_ActIdeal : Prop :=
  True

def algebraic_ActIdeal_ActRefIdeal_pre_finite_act [hActIdeal : Cert.ActIdeal.Facts] [hActRefIdeal : Cert.ActRefIdeal.Facts] [hPre_finite_act : Cert.Pre_finite_act.Facts] : Prop :=
  ∀ (m : (ℓ : Loc Cert.ActIdeal.nD Cert.ActIdeal.τ Cert.ActIdeal.sig) → Buf (Elt Ideal) ℓ) (g : Dev Cert.ActIdeal.nD → PrngReg)
    (m' : (ℓ : Loc Cert.ActRefIdeal.nD Cert.ActRefIdeal.τ Cert.ActRefIdeal.sig) → Buf (Elt Ideal) ℓ) (g' : Dev Cert.ActRefIdeal.nD → PrngReg), Pre_ActIdeal_finite_act m →
    (∀ c : Dev Cert.ActIdeal.nD,
      m' ((c.tc : Thread Cert.ActRefIdeal.nD Cert.ActRefIdeal.τ).loc Cert.ActRefIdeal.main_arg0) = m ((c.tc : Thread Cert.ActIdeal.nD Cert.ActIdeal.τ).loc Cert.ActIdeal.main_arg0)
      ∧ m' ((c.tc : Thread Cert.ActRefIdeal.nD Cert.ActRefIdeal.τ).loc Cert.ActRefIdeal.main_arg1) = m ((c.tc : Thread Cert.ActIdeal.nD Cert.ActIdeal.τ).loc Cert.ActIdeal.main_arg1)
      ∧ m' ((c.tc : Thread Cert.ActRefIdeal.nD Cert.ActRefIdeal.τ).loc Cert.ActRefIdeal.main_arg2) = m ((c.tc : Thread Cert.ActIdeal.nD Cert.ActIdeal.τ).loc Cert.ActIdeal.main_arg2)
      ∧ m' ((c.tc : Thread Cert.ActRefIdeal.nD Cert.ActRefIdeal.τ).loc Cert.ActRefIdeal.main_arg3) = m ((c.tc : Thread Cert.ActIdeal.nD Cert.ActIdeal.τ).loc Cert.ActIdeal.main_arg3)) →
    ∃ (v0 : (c : Dev Cert.ActIdeal.nD) → Buf (Elt Ideal) ((c.tc : Thread Cert.ActIdeal.nD Cert.ActIdeal.τ).loc Cert.ActIdeal.main_v0_0)) (v1 : (c : Dev Cert.ActIdeal.nD) → Buf (Elt Ideal) ((c.tc : Thread Cert.ActIdeal.nD Cert.ActIdeal.τ).loc Cert.ActIdeal.main_v0_1)),
      θ_run (Cert.ActIdeal.defs (F := Ideal)) (onTc (τ := Cert.ActIdeal.τ) (Cert.ActIdeal.main (F := Ideal))) ⟨m, fun _ => 0, g⟩ (fun r => ∀ c : Dev Cert.ActIdeal.nD,
          r.2.mem ((c.tc : Thread Cert.ActIdeal.nD Cert.ActIdeal.τ).loc Cert.ActIdeal.main_v0_0) = v0 c
          ∧ r.2.mem ((c.tc : Thread Cert.ActIdeal.nD Cert.ActIdeal.τ).loc Cert.ActIdeal.main_v0_1) = v1 c
          ∧ r.2.mem ((c.tc : Thread Cert.ActIdeal.nD Cert.ActIdeal.τ).loc Cert.ActIdeal.main_arg0) = m ((c.tc : Thread Cert.ActIdeal.nD Cert.ActIdeal.τ).loc Cert.ActIdeal.main_arg0)
          ∧ r.2.mem ((c.tc : Thread Cert.ActIdeal.nD Cert.ActIdeal.τ).loc Cert.ActIdeal.main_arg1) = m ((c.tc : Thread Cert.ActIdeal.nD Cert.ActIdeal.τ).loc Cert.ActIdeal.main_arg1)
          ∧ r.2.mem ((c.tc : Thread Cert.ActIdeal.nD Cert.ActIdeal.τ).loc Cert.ActIdeal.main_arg2) = m ((c.tc : Thread Cert.ActIdeal.nD Cert.ActIdeal.τ).loc Cert.ActIdeal.main_arg2)
          ∧ r.2.mem ((c.tc : Thread Cert.ActIdeal.nD Cert.ActIdeal.τ).loc Cert.ActIdeal.main_arg3) = m ((c.tc : Thread Cert.ActIdeal.nD Cert.ActIdeal.τ).loc Cert.ActIdeal.main_arg3))
      ∧ θ_run (Cert.ActRefIdeal.defs (F := Ideal)) (onTc (τ := Cert.ActRefIdeal.τ) (Cert.ActRefIdeal.main (F := Ideal))) ⟨m', fun _ => 0, g'⟩ (fun r => ∀ c : Dev Cert.ActRefIdeal.nD,
          r.2.mem ((c.tc : Thread Cert.ActRefIdeal.nD Cert.ActRefIdeal.τ).loc Cert.ActRefIdeal.main_v16) = v0 c
          ∧ r.2.mem ((c.tc : Thread Cert.ActRefIdeal.nD Cert.ActRefIdeal.τ).loc Cert.ActRefIdeal.main_v17) = v1 c
          ∧ r.2.mem ((c.tc : Thread Cert.ActRefIdeal.nD Cert.ActRefIdeal.τ).loc Cert.ActRefIdeal.main_arg0) = m' ((c.tc : Thread Cert.ActRefIdeal.nD Cert.ActRefIdeal.τ).loc Cert.ActRefIdeal.main_arg0)
          ∧ r.2.mem ((c.tc : Thread Cert.ActRefIdeal.nD Cert.ActRefIdeal.τ).loc Cert.ActRefIdeal.main_arg1) = m' ((c.tc : Thread Cert.ActRefIdeal.nD Cert.ActRefIdeal.τ).loc Cert.ActRefIdeal.main_arg1)
          ∧ r.2.mem ((c.tc : Thread Cert.ActRefIdeal.nD Cert.ActRefIdeal.τ).loc Cert.ActRefIdeal.main_arg2) = m' ((c.tc : Thread Cert.ActRefIdeal.nD Cert.ActRefIdeal.τ).loc Cert.ActRefIdeal.main_arg2)
          ∧ r.2.mem ((c.tc : Thread Cert.ActRefIdeal.nD Cert.ActRefIdeal.τ).loc Cert.ActRefIdeal.main_arg3) = m' ((c.tc : Thread Cert.ActRefIdeal.nD Cert.ActRefIdeal.τ).loc Cert.ActRefIdeal.main_arg3))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v0_0)) (v1 : (c : Dev Cert.UpIdeal.nD) → Buf (Elt Ideal) ((c.tc : Thread Cert.UpIdeal.nD Cert.UpIdeal.τ).loc Cert.UpIdeal.main_v0_1)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0_0) = v0 c
          ∧ r.2.mem ((c.tc : Thread Cert.UpIdeal.nD Cert.UpIdeal.τ).loc Cert.UpIdeal.main_v0_1) = v1 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v6) = v0 c
          ∧ r.2.mem ((c.tc : Thread Cert.UpRefIdeal.nD Cert.UpRefIdeal.τ).loc Cert.UpRefIdeal.main_v7) = v1 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)) →
    ∃ (v0 : (c : Dev Cert.DownIdeal.nD) → Buf (Elt Ideal) ((c.tc : Thread Cert.DownIdeal.nD Cert.DownIdeal.τ).loc Cert.DownIdeal.main_v0_0)) (v1 : (c : Dev Cert.DownIdeal.nD) → Buf (Elt Ideal) ((c.tc : Thread Cert.DownIdeal.nD Cert.DownIdeal.τ).loc Cert.DownIdeal.main_v0_1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0_0) = v0 c
          ∧ r.2.mem ((c.tc : Thread Cert.DownIdeal.nD Cert.DownIdeal.τ).loc Cert.DownIdeal.main_v0_1) = v1 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v9) = v0 c
          ∧ r.2.mem ((c.tc : Thread Cert.DownRefIdeal.nD Cert.DownRefIdeal.τ).loc Cert.DownRefIdeal.main_v10) = v1 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)
      ∧ m' ((c.tc : Thread Cert.NormRefIdeal.nD Cert.NormRefIdeal.τ).loc Cert.NormRefIdeal.main_arg2) = m ((c.tc : Thread Cert.NormIdeal.nD Cert.NormIdeal.τ).loc Cert.NormIdeal.main_arg2)
      ∧ m' ((c.tc : Thread Cert.NormRefIdeal.nD Cert.NormRefIdeal.τ).loc Cert.NormRefIdeal.main_arg3) = m ((c.tc : Thread Cert.NormIdeal.nD Cert.NormIdeal.τ).loc Cert.NormIdeal.main_arg3)
      ∧ m' ((c.tc : Thread Cert.NormRefIdeal.nD Cert.NormRefIdeal.τ).loc Cert.NormRefIdeal.main_arg4) = m ((c.tc : Thread Cert.NormIdeal.nD Cert.NormIdeal.τ).loc Cert.NormIdeal.main_arg4)
      ∧ m' ((c.tc : Thread Cert.NormRefIdeal.nD Cert.NormRefIdeal.τ).loc Cert.NormRefIdeal.main_arg5) = m ((c.tc : Thread Cert.NormIdeal.nD Cert.NormIdeal.τ).loc Cert.NormIdeal.main_arg5)
      ∧ m' ((c.tc : Thread Cert.NormRefIdeal.nD Cert.NormRefIdeal.τ).loc Cert.NormRefIdeal.main_arg6) = m ((c.tc : Thread Cert.NormIdeal.nD Cert.NormIdeal.τ).loc Cert.NormIdeal.main_arg6)
      ∧ m' ((c.tc : Thread Cert.NormRefIdeal.nD Cert.NormRefIdeal.τ).loc Cert.NormRefIdeal.main_arg7) = m ((c.tc : Thread Cert.NormIdeal.nD Cert.NormIdeal.τ).loc Cert.NormIdeal.main_arg7)
      ∧ m' ((c.tc : Thread Cert.NormRefIdeal.nD Cert.NormRefIdeal.τ).loc Cert.NormRefIdeal.main_arg8) = m ((c.tc : Thread Cert.NormIdeal.nD Cert.NormIdeal.τ).loc Cert.NormIdeal.main_arg8)
      ∧ m' ((c.tc : Thread Cert.NormRefIdeal.nD Cert.NormRefIdeal.τ).loc Cert.NormRefIdeal.main_arg9) = m ((c.tc : Thread Cert.NormIdeal.nD Cert.NormIdeal.τ).loc Cert.NormIdeal.main_arg9)
      ∧ m' ((c.tc : Thread Cert.NormRefIdeal.nD Cert.NormRefIdeal.τ).loc Cert.NormRefIdeal.main_arg10) = m ((c.tc : Thread Cert.NormIdeal.nD Cert.NormIdeal.τ).loc Cert.NormIdeal.main_arg10)
      ∧ m' ((c.tc : Thread Cert.NormRefIdeal.nD Cert.NormRefIdeal.τ).loc Cert.NormRefIdeal.main_arg11) = m ((c.tc : Thread Cert.NormIdeal.nD Cert.NormIdeal.τ).loc Cert.NormIdeal.main_arg11)) →
    ∃ (v0 : (c : Dev Cert.NormIdeal.nD) → Buf (Elt Ideal) ((c.tc : Thread Cert.NormIdeal.nD Cert.NormIdeal.τ).loc Cert.NormIdeal.main_v0_0)) (v1 : (c : Dev Cert.NormIdeal.nD) → Buf (Elt Ideal) ((c.tc : Thread Cert.NormIdeal.nD Cert.NormIdeal.τ).loc Cert.NormIdeal.main_v0_1)) (v2 : (c : Dev Cert.NormIdeal.nD) → Buf (Elt Ideal) ((c.tc : Thread Cert.NormIdeal.nD Cert.NormIdeal.τ).loc Cert.NormIdeal.main_v0_2)) (v3 : (c : Dev Cert.NormIdeal.nD) → Buf (Elt Ideal) ((c.tc : Thread Cert.NormIdeal.nD Cert.NormIdeal.τ).loc Cert.NormIdeal.main_v0_3)) (v4 : (c : Dev Cert.NormIdeal.nD) → Buf (Elt Ideal) ((c.tc : Thread Cert.NormIdeal.nD Cert.NormIdeal.τ).loc Cert.NormIdeal.main_v0_4)) (v5 : (c : Dev Cert.NormIdeal.nD) → Buf (Elt Ideal) ((c.tc : Thread Cert.NormIdeal.nD Cert.NormIdeal.τ).loc Cert.NormIdeal.main_v0_5)) (v6 : (c : Dev Cert.NormIdeal.nD) → Buf (Elt Ideal) ((c.tc : Thread Cert.NormIdeal.nD Cert.NormIdeal.τ).loc Cert.NormIdeal.main_v0_6)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v0_0) = v0 c
          ∧ r.2.mem ((c.tc : Thread Cert.NormIdeal.nD Cert.NormIdeal.τ).loc Cert.NormIdeal.main_v0_1) = v1 c
          ∧ r.2.mem ((c.tc : Thread Cert.NormIdeal.nD Cert.NormIdeal.τ).loc Cert.NormIdeal.main_v0_2) = v2 c
          ∧ r.2.mem ((c.tc : Thread Cert.NormIdeal.nD Cert.NormIdeal.τ).loc Cert.NormIdeal.main_v0_3) = v3 c
          ∧ r.2.mem ((c.tc : Thread Cert.NormIdeal.nD Cert.NormIdeal.τ).loc Cert.NormIdeal.main_v0_4) = v4 c
          ∧ r.2.mem ((c.tc : Thread Cert.NormIdeal.nD Cert.NormIdeal.τ).loc Cert.NormIdeal.main_v0_5) = v5 c
          ∧ r.2.mem ((c.tc : Thread Cert.NormIdeal.nD Cert.NormIdeal.τ).loc Cert.NormIdeal.main_v0_6) = v6 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
          ∧ r.2.mem ((c.tc : Thread Cert.NormIdeal.nD Cert.NormIdeal.τ).loc Cert.NormIdeal.main_arg4) = m ((c.tc : Thread Cert.NormIdeal.nD Cert.NormIdeal.τ).loc Cert.NormIdeal.main_arg4)
          ∧ r.2.mem ((c.tc : Thread Cert.NormIdeal.nD Cert.NormIdeal.τ).loc Cert.NormIdeal.main_arg5) = m ((c.tc : Thread Cert.NormIdeal.nD Cert.NormIdeal.τ).loc Cert.NormIdeal.main_arg5)
          ∧ r.2.mem ((c.tc : Thread Cert.NormIdeal.nD Cert.NormIdeal.τ).loc Cert.NormIdeal.main_arg6) = m ((c.tc : Thread Cert.NormIdeal.nD Cert.NormIdeal.τ).loc Cert.NormIdeal.main_arg6)
          ∧ r.2.mem ((c.tc : Thread Cert.NormIdeal.nD Cert.NormIdeal.τ).loc Cert.NormIdeal.main_arg7) = m ((c.tc : Thread Cert.NormIdeal.nD Cert.NormIdeal.τ).loc Cert.NormIdeal.main_arg7)
          ∧ r.2.mem ((c.tc : Thread Cert.NormIdeal.nD Cert.NormIdeal.τ).loc Cert.NormIdeal.main_arg8) = m ((c.tc : Thread Cert.NormIdeal.nD Cert.NormIdeal.τ).loc Cert.NormIdeal.main_arg8)
          ∧ r.2.mem ((c.tc : Thread Cert.NormIdeal.nD Cert.NormIdeal.τ).loc Cert.NormIdeal.main_arg9) = m ((c.tc : Thread Cert.NormIdeal.nD Cert.NormIdeal.τ).loc Cert.NormIdeal.main_arg9)
          ∧ r.2.mem ((c.tc : Thread Cert.NormIdeal.nD Cert.NormIdeal.τ).loc Cert.NormIdeal.main_arg10) = m ((c.tc : Thread Cert.NormIdeal.nD Cert.NormIdeal.τ).loc Cert.NormIdeal.main_arg10)
          ∧ r.2.mem ((c.tc : Thread Cert.NormIdeal.nD Cert.NormIdeal.τ).loc Cert.NormIdeal.main_arg11) = m ((c.tc : Thread Cert.NormIdeal.nD Cert.NormIdeal.τ).loc Cert.NormIdeal.main_arg11))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v48) = v0 c
          ∧ r.2.mem ((c.tc : Thread Cert.NormRefIdeal.nD Cert.NormRefIdeal.τ).loc Cert.NormRefIdeal.main_v49) = v1 c
          ∧ r.2.mem ((c.tc : Thread Cert.NormRefIdeal.nD Cert.NormRefIdeal.τ).loc Cert.NormRefIdeal.main_v31) = v2 c
          ∧ r.2.mem ((c.tc : Thread Cert.NormRefIdeal.nD Cert.NormRefIdeal.τ).loc Cert.NormRefIdeal.main_v122) = v3 c
          ∧ r.2.mem ((c.tc : Thread Cert.NormRefIdeal.nD Cert.NormRefIdeal.τ).loc Cert.NormRefIdeal.main_v103) = v4 c
          ∧ r.2.mem ((c.tc : Thread Cert.NormRefIdeal.nD Cert.NormRefIdeal.τ).loc Cert.NormRefIdeal.main_v106) = v5 c
          ∧ r.2.mem ((c.tc : Thread Cert.NormRefIdeal.nD Cert.NormRefIdeal.τ).loc Cert.NormRefIdeal.main_v87) = v6 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2)
          ∧ r.2.mem ((c.tc : Thread Cert.NormRefIdeal.nD Cert.NormRefIdeal.τ).loc Cert.NormRefIdeal.main_arg3) = m' ((c.tc : Thread Cert.NormRefIdeal.nD Cert.NormRefIdeal.τ).loc Cert.NormRefIdeal.main_arg3)
          ∧ r.2.mem ((c.tc : Thread Cert.NormRefIdeal.nD Cert.NormRefIdeal.τ).loc Cert.NormRefIdeal.main_arg4) = m' ((c.tc : Thread Cert.NormRefIdeal.nD Cert.NormRefIdeal.τ).loc Cert.NormRefIdeal.main_arg4)
          ∧ r.2.mem ((c.tc : Thread Cert.NormRefIdeal.nD Cert.NormRefIdeal.τ).loc Cert.NormRefIdeal.main_arg5) = m' ((c.tc : Thread Cert.NormRefIdeal.nD Cert.NormRefIdeal.τ).loc Cert.NormRefIdeal.main_arg5)
          ∧ r.2.mem ((c.tc : Thread Cert.NormRefIdeal.nD Cert.NormRefIdeal.τ).loc Cert.NormRefIdeal.main_arg6) = m' ((c.tc : Thread Cert.NormRefIdeal.nD Cert.NormRefIdeal.τ).loc Cert.NormRefIdeal.main_arg6)
          ∧ r.2.mem ((c.tc : Thread Cert.NormRefIdeal.nD Cert.NormRefIdeal.τ).loc Cert.NormRefIdeal.main_arg7) = m' ((c.tc : Thread Cert.NormRefIdeal.nD Cert.NormRefIdeal.τ).loc Cert.NormRefIdeal.main_arg7)
          ∧ r.2.mem ((c.tc : Thread Cert.NormRefIdeal.nD Cert.NormRefIdeal.τ).loc Cert.NormRefIdeal.main_arg8) = m' ((c.tc : Thread Cert.NormRefIdeal.nD Cert.NormRefIdeal.τ).loc Cert.NormRefIdeal.main_arg8)
          ∧ r.2.mem ((c.tc : Thread Cert.NormRefIdeal.nD Cert.NormRefIdeal.τ).loc Cert.NormRefIdeal.main_arg9) = m' ((c.tc : Thread Cert.NormRefIdeal.nD Cert.NormRefIdeal.τ).loc Cert.NormRefIdeal.main_arg9)
          ∧ r.2.mem ((c.tc : Thread Cert.NormRefIdeal.nD Cert.NormRefIdeal.τ).loc Cert.NormRefIdeal.main_arg10) = m' ((c.tc : Thread Cert.NormRefIdeal.nD Cert.NormRefIdeal.τ).loc Cert.NormRefIdeal.main_arg10)
          ∧ r.2.mem ((c.tc : Thread Cert.NormRefIdeal.nD Cert.NormRefIdeal.τ).loc Cert.NormRefIdeal.main_arg11) = m' ((c.tc : Thread Cert.NormRefIdeal.nD Cert.NormRefIdeal.τ).loc Cert.NormRefIdeal.main_arg11))

def preserves_FfnUp_FfnUpIdeal : Prop :=
  True

def algebraic_FfnUpIdeal_FfnUpRefIdeal [hFfnUpIdeal : Cert.FfnUpIdeal.Facts] [hFfnUpRefIdeal : Cert.FfnUpRefIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpRefIdeal.nD Cert.FfnUpRefIdeal.τ Cert.FfnUpRefIdeal.sig) → Buf (Elt Ideal) ℓ) (g' : Dev Cert.FfnUpRefIdeal.nD → PrngReg), Pre_FfnUpIdeal m →
    (∀ c : Dev Cert.FfnUpIdeal.nD,
      m' ((c.tc : Thread Cert.FfnUpRefIdeal.nD Cert.FfnUpRefIdeal.τ).loc Cert.FfnUpRefIdeal.main_arg0) = m ((c.tc : Thread Cert.FfnUpIdeal.nD Cert.FfnUpIdeal.τ).loc Cert.FfnUpIdeal.main_arg0)
      ∧ m' ((c.tc : Thread Cert.FfnUpRefIdeal.nD Cert.FfnUpRefIdeal.τ).loc Cert.FfnUpRefIdeal.main_arg1) = m ((c.tc : Thread Cert.FfnUpIdeal.nD Cert.FfnUpIdeal.τ).loc Cert.FfnUpIdeal.main_arg1)
      ∧ m' ((c.tc : Thread Cert.FfnUpRefIdeal.nD Cert.FfnUpRefIdeal.τ).loc Cert.FfnUpRefIdeal.main_arg2) = m ((c.tc : Thread Cert.FfnUpIdeal.nD Cert.FfnUpIdeal.τ).loc Cert.FfnUpIdeal.main_arg2)) →
    ∃ (v0 : (c : Dev Cert.FfnUpIdeal.nD) → Buf (Elt Ideal) ((c.tc : Thread Cert.FfnUpIdeal.nD Cert.FfnUpIdeal.τ).loc Cert.FfnUpIdeal.main_v0_0)) (v1 : (c : Dev Cert.FfnUpIdeal.nD) → Buf (Elt Ideal) ((c.tc : Thread Cert.FfnUpIdeal.nD Cert.FfnUpIdeal.τ).loc Cert.FfnUpIdeal.main_v0_1)) (v2 : (c : Dev Cert.FfnUpIdeal.nD) → Buf (Elt Ideal) ((c.tc : Thread Cert.FfnUpIdeal.nD Cert.FfnUpIdeal.τ).loc Cert.FfnUpIdeal.main_v0_2)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v0_0) = v0 c
          ∧ r.2.mem ((c.tc : Thread Cert.FfnUpIdeal.nD Cert.FfnUpIdeal.τ).loc Cert.FfnUpIdeal.main_v0_1) = v1 c
          ∧ r.2.mem ((c.tc : Thread Cert.FfnUpIdeal.nD Cert.FfnUpIdeal.τ).loc Cert.FfnUpIdeal.main_v0_2) = v2 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
          ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2))
      ∧ θ_run (Cert.FfnUpRefIdeal.defs (F := Ideal)) (onTc (τ := Cert.FfnUpRefIdeal.τ) (Cert.FfnUpRefIdeal.main (F := Ideal))) ⟨m', fun _ => 0, g'⟩ (fun r => ∀ c : Dev Cert.FfnUpRefIdeal.nD,
          r.2.mem ((c.tc : Thread Cert.FfnUpRefIdeal.nD Cert.FfnUpRefIdeal.τ).loc Cert.FfnUpRefIdeal.main_v9) = v0 c
          ∧ r.2.mem ((c.tc : Thread Cert.FfnUpRefIdeal.nD Cert.FfnUpRefIdeal.τ).loc Cert.FfnUpRefIdeal.main_v10) = v1 c
          ∧ r.2.mem ((c.tc : Thread Cert.FfnUpRefIdeal.nD Cert.FfnUpRefIdeal.τ).loc Cert.FfnUpRefIdeal.main_v11) = v2 c
          ∧ r.2.mem ((c.tc : Thread Cert.FfnUpRefIdeal.nD Cert.FfnUpRefIdeal.τ).loc Cert.FfnUpRefIdeal.main_arg0) = m' ((c.tc : Thread Cert.FfnUpRefIdeal.nD Cert.FfnUpRefIdeal.τ).loc Cert.FfnUpRefIdeal.main_arg0)
          ∧ r.2.mem ((c.tc : Thread Cert.FfnUpRefIdeal.nD Cert.FfnUpRefIdeal.τ).loc Cert.FfnUpRefIdeal.main_arg1) = m' ((c.tc : Thread Cert.FfnUpRefIdeal.nD Cert.FfnUpRefIdeal.τ).loc Cert.FfnUpRefIdeal.main_arg1)
          ∧ r.2.mem ((c.tc : Thread Cert.FfnUpRefIdeal.nD Cert.FfnUpRefIdeal.τ).loc Cert.FfnUpRefIdeal.main_arg2) = m' ((c.tc : Thread Cert.FfnUpRefIdeal.nD Cert.FfnUpRefIdeal.τ).loc Cert.FfnUpRefIdeal.main_arg2))

def preserves_FfnDown_FfnDownIdeal : Prop :=
  True

def algebraic_FfnDownIdeal_FfnDownRefIdeal [hFfnDownIdeal : Cert.FfnDownIdeal.Facts] [hFfnDownRefIdeal : Cert.FfnDownRefIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownRefIdeal.nD Cert.FfnDownRefIdeal.τ Cert.FfnDownRefIdeal.sig) → Buf (Elt Ideal) ℓ) (g' : Dev Cert.FfnDownRefIdeal.nD → PrngReg), Pre_FfnDownIdeal m →
    (∀ c : Dev Cert.FfnDownIdeal.nD,
      m' ((c.tc : Thread Cert.FfnDownRefIdeal.nD Cert.FfnDownRefIdeal.τ).loc Cert.FfnDownRefIdeal.main_arg0) = m ((c.tc : Thread Cert.FfnDownIdeal.nD Cert.FfnDownIdeal.τ).loc Cert.FfnDownIdeal.main_arg0)
      ∧ m' ((c.tc : Thread Cert.FfnDownRefIdeal.nD Cert.FfnDownRefIdeal.τ).loc Cert.FfnDownRefIdeal.main_arg1) = m ((c.tc : Thread Cert.FfnDownIdeal.nD Cert.FfnDownIdeal.τ).loc Cert.FfnDownIdeal.main_arg1)
      ∧ m' ((c.tc : Thread Cert.FfnDownRefIdeal.nD Cert.FfnDownRefIdeal.τ).loc Cert.FfnDownRefIdeal.main_arg2) = m ((c.tc : Thread Cert.FfnDownIdeal.nD Cert.FfnDownIdeal.τ).loc Cert.FfnDownIdeal.main_arg2)
      ∧ m' ((c.tc : Thread Cert.FfnDownRefIdeal.nD Cert.FfnDownRefIdeal.τ).loc Cert.FfnDownRefIdeal.main_arg3) = m ((c.tc : Thread Cert.FfnDownIdeal.nD Cert.FfnDownIdeal.τ).loc Cert.FfnDownIdeal.main_arg3)) →
    ∃ (v0 : (c : Dev Cert.FfnDownIdeal.nD) → Buf (Elt Ideal) ((c.tc : Thread Cert.FfnDownIdeal.nD Cert.FfnDownIdeal.τ).loc Cert.FfnDownIdeal.main_v0_0)) (v1 : (c : Dev Cert.FfnDownIdeal.nD) → Buf (Elt Ideal) ((c.tc : Thread Cert.FfnDownIdeal.nD Cert.FfnDownIdeal.τ).loc Cert.FfnDownIdeal.main_v0_1)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v0_0) = v0 c
          ∧ r.2.mem ((c.tc : Thread Cert.FfnDownIdeal.nD Cert.FfnDownIdeal.τ).loc Cert.FfnDownIdeal.main_v0_1) = v1 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
          ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2)
          ∧ r.2.mem ((c.tc : Thread Cert.FfnDownIdeal.nD Cert.FfnDownIdeal.τ).loc Cert.FfnDownIdeal.main_arg3) = m ((c.tc : Thread Cert.FfnDownIdeal.nD Cert.FfnDownIdeal.τ).loc Cert.FfnDownIdeal.main_arg3))
      ∧ θ_run (Cert.FfnDownRefIdeal.defs (F := Ideal)) (onTc (τ := Cert.FfnDownRefIdeal.τ) (Cert.FfnDownRefIdeal.main (F := Ideal))) ⟨m', fun _ => 0, g'⟩ (fun r => ∀ c : Dev Cert.FfnDownRefIdeal.nD,
          r.2.mem ((c.tc : Thread Cert.FfnDownRefIdeal.nD Cert.FfnDownRefIdeal.τ).loc Cert.FfnDownRefIdeal.main_v5) = v0 c
          ∧ r.2.mem ((c.tc : Thread Cert.FfnDownRefIdeal.nD Cert.FfnDownRefIdeal.τ).loc Cert.FfnDownRefIdeal.main_v18) = v1 c
          ∧ r.2.mem ((c.tc : Thread Cert.FfnDownRefIdeal.nD Cert.FfnDownRefIdeal.τ).loc Cert.FfnDownRefIdeal.main_arg0) = m' ((c.tc : Thread Cert.FfnDownRefIdeal.nD Cert.FfnDownRefIdeal.τ).loc Cert.FfnDownRefIdeal.main_arg0)
          ∧ r.2.mem ((c.tc : Thread Cert.FfnDownRefIdeal.nD Cert.FfnDownRefIdeal.τ).loc Cert.FfnDownRefIdeal.main_arg1) = m' ((c.tc : Thread Cert.FfnDownRefIdeal.nD Cert.FfnDownRefIdeal.τ).loc Cert.FfnDownRefIdeal.main_arg1)
          ∧ r.2.mem ((c.tc : Thread Cert.FfnDownRefIdeal.nD Cert.FfnDownRefIdeal.τ).loc Cert.FfnDownRefIdeal.main_arg2) = m' ((c.tc : Thread Cert.FfnDownRefIdeal.nD Cert.FfnDownRefIdeal.τ).loc Cert.FfnDownRefIdeal.main_arg2)
          ∧ r.2.mem ((c.tc : Thread Cert.FfnDownRefIdeal.nD Cert.FfnDownRefIdeal.τ).loc Cert.FfnDownRefIdeal.main_arg3) = m' ((c.tc : Thread Cert.FfnDownRefIdeal.nD Cert.FfnDownRefIdeal.τ).loc Cert.FfnDownRefIdeal.main_arg3))

def preserves_MixIn_MixInIdeal : Prop :=
  True

def algebraic_MixInIdeal_MixInRefIdeal [hMixInIdeal : Cert.MixInIdeal.Facts] [hMixInRefIdeal : Cert.MixInRefIdeal.Facts] : Prop :=
  ∀ (m : (ℓ : Loc Cert.MixInIdeal.nD Cert.MixInIdeal.τ Cert.MixInIdeal.sig) → Buf (Elt Ideal) ℓ) (g : Dev Cert.MixInIdeal.nD → PrngReg)
    (m' : (ℓ : Loc Cert.MixInRefIdeal.nD Cert.MixInRefIdeal.τ Cert.MixInRefIdeal.sig) → Buf (Elt Ideal) ℓ) (g' : Dev Cert.MixInRefIdeal.nD → PrngReg), Pre_MixInIdeal m →
    (∀ c : Dev Cert.MixInIdeal.nD,
      m' ((c.tc : Thread Cert.MixInRefIdeal.nD Cert.MixInRefIdeal.τ).loc Cert.MixInRefIdeal.main_arg0) = m ((c.tc : Thread Cert.MixInIdeal.nD Cert.MixInIdeal.τ).loc Cert.MixInIdeal.main_arg0)
      ∧ m' ((c.tc : Thread Cert.MixInRefIdeal.nD Cert.MixInRefIdeal.τ).loc Cert.MixInRefIdeal.main_arg1) = m ((c.tc : Thread Cert.MixInIdeal.nD Cert.MixInIdeal.τ).loc Cert.MixInIdeal.main_arg1)) →
    ∃ (v0 : (c : Dev Cert.MixInIdeal.nD) → Buf (Elt Ideal) ((c.tc : Thread Cert.MixInIdeal.nD Cert.MixInIdeal.τ).loc Cert.MixInIdeal.main_v0)),
      θ_run (Cert.MixInIdeal.defs (F := Ideal)) (onTc (τ := Cert.MixInIdeal.τ) (Cert.MixInIdeal.main (F := Ideal))) ⟨m, fun _ => 0, g⟩ (fun r => ∀ c : Dev Cert.MixInIdeal.nD,
          r.2.mem ((c.tc : Thread Cert.MixInIdeal.nD Cert.MixInIdeal.τ).loc Cert.MixInIdeal.main_v0) = v0 c
          ∧ r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
          ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1))
      ∧ θ_run (Cert.MixInRefIdeal.defs (F := Ideal)) (onTc (τ := Cert.MixInRefIdeal.τ) (Cert.MixInRefIdeal.main (F := Ideal))) ⟨m', fun _ => 0, g'⟩ (fun r => ∀ c : Dev Cert.MixInRefIdeal.nD,
          r.2.mem ((c.tc : Thread Cert.MixInRefIdeal.nD Cert.MixInRefIdeal.τ).loc Cert.MixInRefIdeal.main_v3) = v0 c
          ∧ r.2.mem ((c.tc : Thread Cert.MixInRefIdeal.nD Cert.MixInRefIdeal.τ).loc Cert.MixInRefIdeal.main_arg0) = m' ((c.tc : Thread Cert.MixInRefIdeal.nD Cert.MixInRefIdeal.τ).loc Cert.MixInRefIdeal.main_arg0)
          ∧ r.2.mem ((c.tc : Thread Cert.MixInRefIdeal.nD Cert.MixInRefIdeal.τ).loc Cert.MixInRefIdeal.main_arg1) = m' ((c.tc : Thread Cert.MixInRefIdeal.nD Cert.MixInRefIdeal.τ).loc Cert.MixInRefIdeal.main_arg1))

def preserves_MixOut_MixOutIdeal : Prop :=
  True

def algebraic_MixOutIdeal_MixOutRefIdeal [hMixOutIdeal : Cert.MixOutIdeal.Facts] [hMixOutRefIdeal : Cert.MixOutRefIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutRefIdeal.nD Cert.MixOutRefIdeal.τ Cert.MixOutRefIdeal.sig) → Buf (Elt Ideal) ℓ) (g' : Dev Cert.MixOutRefIdeal.nD → PrngReg), Pre_MixOutIdeal m →
    (∀ c : Dev Cert.MixOutIdeal.nD,
      m' ((c.tc : Thread Cert.MixOutRefIdeal.nD Cert.MixOutRefIdeal.τ).loc Cert.MixOutRefIdeal.main_arg0) = m ((c.tc : Thread Cert.MixOutIdeal.nD Cert.MixOutIdeal.τ).loc Cert.MixOutIdeal.main_arg0)
      ∧ m' ((c.tc : Thread Cert.MixOutRefIdeal.nD Cert.MixOutRefIdeal.τ).loc Cert.MixOutRefIdeal.main_arg1) = m ((c.tc : Thread Cert.MixOutIdeal.nD Cert.MixOutIdeal.τ).loc Cert.MixOutIdeal.main_arg1)
      ∧ m' ((c.tc : Thread Cert.MixOutRefIdeal.nD Cert.MixOutRefIdeal.τ).loc Cert.MixOutRefIdeal.main_arg2) = m ((c.tc : Thread Cert.MixOutIdeal.nD Cert.MixOutIdeal.τ).loc Cert.MixOutIdeal.main_arg2)
      ∧ m' ((c.tc : Thread Cert.MixOutRefIdeal.nD Cert.MixOutRefIdeal.τ).loc Cert.MixOutRefIdeal.main_arg3) = m ((c.tc : Thread Cert.MixOutIdeal.nD Cert.MixOutIdeal.τ).loc Cert.MixOutIdeal.main_arg3)
      ∧ m' ((c.tc : Thread Cert.MixOutRefIdeal.nD Cert.MixOutRefIdeal.τ).loc Cert.MixOutRefIdeal.main_arg4) = m ((c.tc : Thread Cert.MixOutIdeal.nD Cert.MixOutIdeal.τ).loc Cert.MixOutIdeal.main_arg4)
      ∧ m' ((c.tc : Thread Cert.MixOutRefIdeal.nD Cert.MixOutRefIdeal.τ).loc Cert.MixOutRefIdeal.main_arg5) = m ((c.tc : Thread Cert.MixOutIdeal.nD Cert.MixOutIdeal.τ).loc Cert.MixOutIdeal.main_arg5)
      ∧ m' ((c.tc : Thread Cert.MixOutRefIdeal.nD Cert.MixOutRefIdeal.τ).loc Cert.MixOutRefIdeal.main_arg6) = m ((c.tc : Thread Cert.MixOutIdeal.nD Cert.MixOutIdeal.τ).loc Cert.MixOutIdeal.main_arg6)) →
    ∃ (v0 : (c : Dev Cert.MixOutIdeal.nD) → Buf (Elt Ideal) ((c.tc : Thread Cert.MixOutIdeal.nD Cert.MixOutIdeal.τ).loc Cert.MixOutIdeal.main_v0_0)) (v1 : (c : Dev Cert.MixOutIdeal.nD) → Buf (Elt Ideal) ((c.tc : Thread Cert.MixOutIdeal.nD Cert.MixOutIdeal.τ).loc Cert.MixOutIdeal.main_v0_1)) (v2 : (c : Dev Cert.MixOutIdeal.nD) → Buf (Elt Ideal) ((c.tc : Thread Cert.MixOutIdeal.nD Cert.MixOutIdeal.τ).loc Cert.MixOutIdeal.main_v0_2)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v0_0) = v0 c
          ∧ r.2.mem ((c.tc : Thread Cert.MixOutIdeal.nD Cert.MixOutIdeal.τ).loc Cert.MixOutIdeal.main_v0_1) = v1 c
          ∧ r.2.mem ((c.tc : Thread Cert.MixOutIdeal.nD Cert.MixOutIdeal.τ).loc Cert.MixOutIdeal.main_v0_2) = v2 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
          ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
          ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
          ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4)
          ∧ r.2.mem ((c.tc : Thread Cert.MixOutIdeal.nD Cert.MixOutIdeal.τ).loc Cert.MixOutIdeal.main_arg5) = m ((c.tc : Thread Cert.MixOutIdeal.nD Cert.MixOutIdeal.τ).loc Cert.MixOutIdeal.main_arg5)
          ∧ r.2.mem ((c.tc : Thread Cert.MixOutIdeal.nD Cert.MixOutIdeal.τ).loc Cert.MixOutIdeal.main_arg6) = m ((c.tc : Thread Cert.MixOutIdeal.nD Cert.MixOutIdeal.τ).loc Cert.MixOutIdeal.main_arg6))
      ∧ θ_run (Cert.MixOutRefIdeal.defs (F := Ideal)) (onTc (τ := Cert.MixOutRefIdeal.τ) (Cert.MixOutRefIdeal.main (F := Ideal))) ⟨m', fun _ => 0, g'⟩ (fun r => ∀ c : Dev Cert.MixOutRefIdeal.nD,
          r.2.mem ((c.tc : Thread Cert.MixOutRefIdeal.nD Cert.MixOutRefIdeal.τ).loc Cert.MixOutRefIdeal.main_v28) = v0 c
          ∧ r.2.mem ((c.tc : Thread Cert.MixOutRefIdeal.nD Cert.MixOutRefIdeal.τ).loc Cert.MixOutRefIdeal.main_v27) = v1 c
          ∧ r.2.mem ((c.tc : Thread Cert.MixOutRefIdeal.nD Cert.MixOutRefIdeal.τ).loc Cert.MixOutRefIdeal.main_v41) = v2 c
          ∧ r.2.mem ((c.tc : Thread Cert.MixOutRefIdeal.nD Cert.MixOutRefIdeal.τ).loc Cert.MixOutRefIdeal.main_arg0) = m' ((c.tc : Thread Cert.MixOutRefIdeal.nD Cert.MixOutRefIdeal.τ).loc Cert.MixOutRefIdeal.main_arg0)
          ∧ r.2.mem ((c.tc : Thread Cert.MixOutRefIdeal.nD Cert.MixOutRefIdeal.τ).loc Cert.MixOutRefIdeal.main_arg1) = m' ((c.tc : Thread Cert.MixOutRefIdeal.nD Cert.MixOutRefIdeal.τ).loc Cert.MixOutRefIdeal.main_arg1)
          ∧ r.2.mem ((c.tc : Thread Cert.MixOutRefIdeal.nD Cert.MixOutRefIdeal.τ).loc Cert.MixOutRefIdeal.main_arg2) = m' ((c.tc : Thread Cert.MixOutRefIdeal.nD Cert.MixOutRefIdeal.τ).loc Cert.MixOutRefIdeal.main_arg2)
          ∧ r.2.mem ((c.tc : Thread Cert.MixOutRefIdeal.nD Cert.MixOutRefIdeal.τ).loc Cert.MixOutRefIdeal.main_arg3) = m' ((c.tc : Thread Cert.MixOutRefIdeal.nD Cert.MixOutRefIdeal.τ).loc Cert.MixOutRefIdeal.main_arg3)
          ∧ r.2.mem ((c.tc : Thread Cert.MixOutRefIdeal.nD Cert.MixOutRefIdeal.τ).loc Cert.MixOutRefIdeal.main_arg4) = m' ((c.tc : Thread Cert.MixOutRefIdeal.nD Cert.MixOutRefIdeal.τ).loc Cert.MixOutRefIdeal.main_arg4)
          ∧ r.2.mem ((c.tc : Thread Cert.MixOutRefIdeal.nD Cert.MixOutRefIdeal.τ).loc Cert.MixOutRefIdeal.main_arg5) = m' ((c.tc : Thread Cert.MixOutRefIdeal.nD Cert.MixOutRefIdeal.τ).loc Cert.MixOutRefIdeal.main_arg5)
          ∧ r.2.mem ((c.tc : Thread Cert.MixOutRefIdeal.nD Cert.MixOutRefIdeal.τ).loc Cert.MixOutRefIdeal.main_arg6) = m' ((c.tc : Thread Cert.MixOutRefIdeal.nD Cert.MixOutRefIdeal.τ).loc Cert.MixOutRefIdeal.main_arg6))

def preserves_DwIn_DwInIdeal : Prop :=
  True

def algebraic_DwInIdeal_DwInRefIdeal [hDwInIdeal : Cert.DwInIdeal.Facts] [hDwInRefIdeal : Cert.DwInRefIdeal.Facts] : Prop :=
  ∀ (m : (ℓ : Loc Cert.DwInIdeal.nD Cert.DwInIdeal.τ Cert.DwInIdeal.sig) → Buf (Elt Ideal) ℓ) (g : Dev Cert.DwInIdeal.nD → PrngReg)
    (m' : (ℓ : Loc Cert.DwInRefIdeal.nD Cert.DwInRefIdeal.τ Cert.DwInRefIdeal.sig) → Buf (Elt Ideal) ℓ) (g' : Dev Cert.DwInRefIdeal.nD → PrngReg), Pre_DwInIdeal m →
    (∀ c : Dev Cert.DwInIdeal.nD,
      m' ((c.tc : Thread Cert.DwInRefIdeal.nD Cert.DwInRefIdeal.τ).loc Cert.DwInRefIdeal.main_arg0) = m ((c.tc : Thread Cert.DwInIdeal.nD Cert.DwInIdeal.τ).loc Cert.DwInIdeal.main_arg0)
      ∧ m' ((c.tc : Thread Cert.DwInRefIdeal.nD Cert.DwInRefIdeal.τ).loc Cert.DwInRefIdeal.main_arg1) = m ((c.tc : Thread Cert.DwInIdeal.nD Cert.DwInIdeal.τ).loc Cert.DwInIdeal.main_arg1)) →
    ∃ (v0 : (c : Dev Cert.DwInIdeal.nD) → Buf (Elt Ideal) ((c.tc : Thread Cert.DwInIdeal.nD Cert.DwInIdeal.τ).loc Cert.DwInIdeal.main_v0)),
      θ_run (Cert.DwInIdeal.defs (F := Ideal)) (onTc (τ := Cert.DwInIdeal.τ) (Cert.DwInIdeal.main (F := Ideal))) ⟨m, fun _ => 0, g⟩ (fun r => ∀ c : Dev Cert.DwInIdeal.nD,
          r.2.mem ((c.tc : Thread Cert.DwInIdeal.nD Cert.DwInIdeal.τ).loc Cert.DwInIdeal.main_v0) = v0 c
          ∧ r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
          ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1))
      ∧ θ_run (Cert.DwInRefIdeal.defs (F := Ideal)) (onTc (τ := Cert.DwInRefIdeal.τ) (Cert.DwInRefIdeal.main (F := Ideal))) ⟨m', fun _ => 0, g'⟩ (fun r => ∀ c : Dev Cert.DwInRefIdeal.nD,
          r.2.mem ((c.tc : Thread Cert.DwInRefIdeal.nD Cert.DwInRefIdeal.τ).loc Cert.DwInRefIdeal.main_v7) = v0 c
          ∧ r.2.mem ((c.tc : Thread Cert.DwInRefIdeal.nD Cert.DwInRefIdeal.τ).loc Cert.DwInRefIdeal.main_arg0) = m' ((c.tc : Thread Cert.DwInRefIdeal.nD Cert.DwInRefIdeal.τ).loc Cert.DwInRefIdeal.main_arg0)
          ∧ r.2.mem ((c.tc : Thread Cert.DwInRefIdeal.nD Cert.DwInRefIdeal.τ).loc Cert.DwInRefIdeal.main_arg1) = m' ((c.tc : Thread Cert.DwInRefIdeal.nD Cert.DwInRefIdeal.τ).loc Cert.DwInRefIdeal.main_arg1))

def preserves_DwOut_DwOutIdeal : Prop :=
  True

def algebraic_DwOutIdeal_DwOutRefIdeal [hDwOutIdeal : Cert.DwOutIdeal.Facts] [hDwOutRefIdeal : Cert.DwOutRefIdeal.Facts] : Prop :=
  ∀ (m : (ℓ : Loc Cert.DwOutIdeal.nD Cert.DwOutIdeal.τ Cert.DwOutIdeal.sig) → Buf (Elt Ideal) ℓ) (g : Dev Cert.DwOutIdeal.nD → PrngReg)
    (m' : (ℓ : Loc Cert.DwOutRefIdeal.nD Cert.DwOutRefIdeal.τ Cert.DwOutRefIdeal.sig) → Buf (Elt Ideal) ℓ) (g' : Dev Cert.DwOutRefIdeal.nD → PrngReg), Pre_DwOutIdeal m →
    (∀ c : Dev Cert.DwOutIdeal.nD,
      m' ((c.tc : Thread Cert.DwOutRefIdeal.nD Cert.DwOutRefIdeal.τ).loc Cert.DwOutRefIdeal.main_arg0) = m ((c.tc : Thread Cert.DwOutIdeal.nD Cert.DwOutIdeal.τ).loc Cert.DwOutIdeal.main_arg0)
      ∧ m' ((c.tc : Thread Cert.DwOutRefIdeal.nD Cert.DwOutRefIdeal.τ).loc Cert.DwOutRefIdeal.main_arg1) = m ((c.tc : Thread Cert.DwOutIdeal.nD Cert.DwOutIdeal.τ).loc Cert.DwOutIdeal.main_arg1)) →
    ∃ (v0 : (c : Dev Cert.DwOutIdeal.nD) → Buf (Elt Ideal) ((c.tc : Thread Cert.DwOutIdeal.nD Cert.DwOutIdeal.τ).loc Cert.DwOutIdeal.main_v0)),
      θ_run (Cert.DwOutIdeal.defs (F := Ideal)) (onTc (τ := Cert.DwOutIdeal.τ) (Cert.DwOutIdeal.main (F := Ideal))) ⟨m, fun _ => 0, g⟩ (fun r => ∀ c : Dev Cert.DwOutIdeal.nD,
          r.2.mem ((c.tc : Thread Cert.DwOutIdeal.nD Cert.DwOutIdeal.τ).loc Cert.DwOutIdeal.main_v0) = v0 c
          ∧ r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
          ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ θ_run (Cert.DwOutRefIdeal.defs (F := Ideal)) (onTc (τ := Cert.DwOutRefIdeal.τ) (Cert.DwOutRefIdeal.main (F := Ideal))) ⟨m', fun _ => 0, g'⟩ (fun r => ∀ c : Dev Cert.DwOutRefIdeal.nD,
          r.2.mem ((c.tc : Thread Cert.DwOutRefIdeal.nD Cert.DwOutRefIdeal.τ).loc Cert.DwOutRefIdeal.main_v5) = v0 c
          ∧ r.2.mem ((c.tc : Thread Cert.DwOutRefIdeal.nD Cert.DwOutRefIdeal.τ).loc Cert.DwOutRefIdeal.main_arg0) = m' ((c.tc : Thread Cert.DwOutRefIdeal.nD Cert.DwOutRefIdeal.τ).loc Cert.DwOutRefIdeal.main_arg0)
          ∧ r.2.mem ((c.tc : Thread Cert.DwOutRefIdeal.nD Cert.DwOutRefIdeal.τ).loc Cert.DwOutRefIdeal.main_arg1) = m' ((c.tc : Thread Cert.DwOutRefIdeal.nD Cert.DwOutRefIdeal.τ).loc Cert.DwOutRefIdeal.main_arg1))

def preserves_MixDin_MixDinIdeal : Prop :=
  True

def algebraic_MixDinIdeal_MixDinRefIdeal [hMixDinIdeal : Cert.MixDinIdeal.Facts] [hMixDinRefIdeal : Cert.MixDinRefIdeal.Facts] : Prop :=
  ∀ (m : (ℓ : Loc Cert.MixDinIdeal.nD Cert.MixDinIdeal.τ Cert.MixDinIdeal.sig) → Buf (Elt Ideal) ℓ) (g : Dev Cert.MixDinIdeal.nD → PrngReg)
    (m' : (ℓ : Loc Cert.MixDinRefIdeal.nD Cert.MixDinRefIdeal.τ Cert.MixDinRefIdeal.sig) → Buf (Elt Ideal) ℓ) (g' : Dev Cert.MixDinRefIdeal.nD → PrngReg), Pre_MixDinIdeal m →
    (∀ c : Dev Cert.MixDinIdeal.nD,
      m' ((c.tc : Thread Cert.MixDinRefIdeal.nD Cert.MixDinRefIdeal.τ).loc Cert.MixDinRefIdeal.main_arg0) = m ((c.tc : Thread Cert.MixDinIdeal.nD Cert.MixDinIdeal.τ).loc Cert.MixDinIdeal.main_arg0)
      ∧ m' ((c.tc : Thread Cert.MixDinRefIdeal.nD Cert.MixDinRefIdeal.τ).loc Cert.MixDinRefIdeal.main_arg1) = m ((c.tc : Thread Cert.MixDinIdeal.nD Cert.MixDinIdeal.τ).loc Cert.MixDinIdeal.main_arg1)
      ∧ m' ((c.tc : Thread Cert.MixDinRefIdeal.nD Cert.MixDinRefIdeal.τ).loc Cert.MixDinRefIdeal.main_arg2) = m ((c.tc : Thread Cert.MixDinIdeal.nD Cert.MixDinIdeal.τ).loc Cert.MixDinIdeal.main_arg2)
      ∧ m' ((c.tc : Thread Cert.MixDinRefIdeal.nD Cert.MixDinRefIdeal.τ).loc Cert.MixDinRefIdeal.main_arg3) = m ((c.tc : Thread Cert.MixDinIdeal.nD Cert.MixDinIdeal.τ).loc Cert.MixDinIdeal.main_arg3)
      ∧ m' ((c.tc : Thread Cert.MixDinRefIdeal.nD Cert.MixDinRefIdeal.τ).loc Cert.MixDinRefIdeal.main_arg4) = m ((c.tc : Thread Cert.MixDinIdeal.nD Cert.MixDinIdeal.τ).loc Cert.MixDinIdeal.main_arg4)) →
    ∃ (v0 : (c : Dev Cert.MixDinIdeal.nD) → Buf (Elt Ideal) ((c.tc : Thread Cert.MixDinIdeal.nD Cert.MixDinIdeal.τ).loc Cert.MixDinIdeal.main_v0_0)) (v1 : (c : Dev Cert.MixDinIdeal.nD) → Buf (Elt Ideal) ((c.tc : Thread Cert.MixDinIdeal.nD Cert.MixDinIdeal.τ).loc Cert.MixDinIdeal.main_v0_1)) (v2 : (c : Dev Cert.MixDinIdeal.nD) → Buf (Elt Ideal) ((c.tc : Thread Cert.MixDinIdeal.nD Cert.MixDinIdeal.τ).loc Cert.MixDinIdeal.main_v0_2)),
      θ_run (Cert.MixDinIdeal.defs (F := Ideal)) (onTc (τ := Cert.MixDinIdeal.τ) (Cert.MixDinIdeal.main (F := Ideal))) ⟨m, fun _ => 0, g⟩ (fun r => ∀ c : Dev Cert.MixDinIdeal.nD,
          r.2.mem ((c.tc : Thread Cert.MixDinIdeal.nD Cert.MixDinIdeal.τ).loc Cert.MixDinIdeal.main_v0_0) = v0 c
          ∧ r.2.mem ((c.tc : Thread Cert.MixDinIdeal.nD Cert.MixDinIdeal.τ).loc Cert.MixDinIdeal.main_v0_1) = v1 c
          ∧ r.2.mem ((c.tc : Thread Cert.MixDinIdeal.nD Cert.MixDinIdeal.τ).loc Cert.MixDinIdeal.main_v0_2) = v2 c
          ∧ r.2.mem ((c.tc : Thread Cert.MixDinIdeal.nD Cert.MixDinIdeal.τ).loc Cert.MixDinIdeal.main_arg0) = m ((c.tc : Thread Cert.MixDinIdeal.nD Cert.MixDinIdeal.τ).loc Cert.MixDinIdeal.main_arg0)
          ∧ r.2.mem ((c.tc : Thread Cert.MixDinIdeal.nD Cert.MixDinIdeal.τ).loc Cert.MixDinIdeal.main_arg1) = m ((c.tc : Thread Cert.MixDinIdeal.nD Cert.MixDinIdeal.τ).loc Cert.MixDinIdeal.main_arg1)
          ∧ r.2.mem ((c.tc : Thread Cert.MixDinIdeal.nD Cert.MixDinIdeal.τ).loc Cert.MixDinIdeal.main_arg2) = m ((c.tc : Thread Cert.MixDinIdeal.nD Cert.MixDinIdeal.τ).loc Cert.MixDinIdeal.main_arg2)
          ∧ r.2.mem ((c.tc : Thread Cert.MixDinIdeal.nD Cert.MixDinIdeal.τ).loc Cert.MixDinIdeal.main_arg3) = m ((c.tc : Thread Cert.MixDinIdeal.nD Cert.MixDinIdeal.τ).loc Cert.MixDinIdeal.main_arg3)
          ∧ r.2.mem ((c.tc : Thread Cert.MixDinIdeal.nD Cert.MixDinIdeal.τ).loc Cert.MixDinIdeal.main_arg4) = m ((c.tc : Thread Cert.MixDinIdeal.nD Cert.MixDinIdeal.τ).loc Cert.MixDinIdeal.main_arg4))
      ∧ θ_run (Cert.MixDinRefIdeal.defs (F := Ideal)) (onTc (τ := Cert.MixDinRefIdeal.τ) (Cert.MixDinRefIdeal.main (F := Ideal))) ⟨m', fun _ => 0, g'⟩ (fun r => ∀ c : Dev Cert.MixDinRefIdeal.nD,
          r.2.mem ((c.tc : Thread Cert.MixDinRefIdeal.nD Cert.MixDinRefIdeal.τ).loc Cert.MixDinRefIdeal.main_v39) = v0 c
          ∧ r.2.mem ((c.tc : Thread Cert.MixDinRefIdeal.nD Cert.MixDinRefIdeal.τ).loc Cert.MixDinRefIdeal.main_v40) = v1 c
          ∧ r.2.mem ((c.tc : Thread Cert.MixDinRefIdeal.nD Cert.MixDinRefIdeal.τ).loc Cert.MixDinRefIdeal.main_v22) = v2 c
          ∧ r.2.mem ((c.tc : Thread Cert.MixDinRefIdeal.nD Cert.MixDinRefIdeal.τ).loc Cert.MixDinRefIdeal.main_arg0) = m' ((c.tc : Thread Cert.MixDinRefIdeal.nD Cert.MixDinRefIdeal.τ).loc Cert.MixDinRefIdeal.main_arg0)
          ∧ r.2.mem ((c.tc : Thread Cert.MixDinRefIdeal.nD Cert.MixDinRefIdeal.τ).loc Cert.MixDinRefIdeal.main_arg1) = m' ((c.tc : Thread Cert.MixDinRefIdeal.nD Cert.MixDinRefIdeal.τ).loc Cert.MixDinRefIdeal.main_arg1)
          ∧ r.2.mem ((c.tc : Thread Cert.MixDinRefIdeal.nD Cert.MixDinRefIdeal.τ).loc Cert.MixDinRefIdeal.main_arg2) = m' ((c.tc : Thread Cert.MixDinRefIdeal.nD Cert.MixDinRefIdeal.τ).loc Cert.MixDinRefIdeal.main_arg2)
          ∧ r.2.mem ((c.tc : Thread Cert.MixDinRefIdeal.nD Cert.MixDinRefIdeal.τ).loc Cert.MixDinRefIdeal.main_arg3) = m' ((c.tc : Thread Cert.MixDinRefIdeal.nD Cert.MixDinRefIdeal.τ).loc Cert.MixDinRefIdeal.main_arg3)
          ∧ r.2.mem ((c.tc : Thread Cert.MixDinRefIdeal.nD Cert.MixDinRefIdeal.τ).loc Cert.MixDinRefIdeal.main_arg4) = m' ((c.tc : Thread Cert.MixDinRefIdeal.nD Cert.MixDinRefIdeal.τ).loc Cert.MixDinRefIdeal.main_arg4))

def preserves_FirstNorm_FirstNormIdeal : Prop :=
  True

def algebraic_FirstNormIdeal_FirstNormRefIdeal [hFirstNormIdeal : Cert.FirstNormIdeal.Facts] [hFirstNormRefIdeal : Cert.FirstNormRefIdeal.Facts] : Prop :=
  ∀ (m : (ℓ : Loc Cert.FirstNormIdeal.nD Cert.FirstNormIdeal.τ Cert.FirstNormIdeal.sig) → Buf (Elt Ideal) ℓ) (g : Dev Cert.FirstNormIdeal.nD → PrngReg)
    (m' : (ℓ : Loc Cert.FirstNormRefIdeal.nD Cert.FirstNormRefIdeal.τ Cert.FirstNormRefIdeal.sig) → Buf (Elt Ideal) ℓ) (g' : Dev Cert.FirstNormRefIdeal.nD → PrngReg), Pre_FirstNormIdeal m →
    (∀ c : Dev Cert.FirstNormIdeal.nD,
      m' ((c.tc : Thread Cert.FirstNormRefIdeal.nD Cert.FirstNormRefIdeal.τ).loc Cert.FirstNormRefIdeal.main_arg0) = m ((c.tc : Thread Cert.FirstNormIdeal.nD Cert.FirstNormIdeal.τ).loc Cert.FirstNormIdeal.main_arg0)
      ∧ m' ((c.tc : Thread Cert.FirstNormRefIdeal.nD Cert.FirstNormRefIdeal.τ).loc Cert.FirstNormRefIdeal.main_arg1) = m ((c.tc : Thread Cert.FirstNormIdeal.nD Cert.FirstNormIdeal.τ).loc Cert.FirstNormIdeal.main_arg1)) →
    ∃ (v0 : (c : Dev Cert.FirstNormIdeal.nD) → Buf (Elt Ideal) ((c.tc : Thread Cert.FirstNormIdeal.nD Cert.FirstNormIdeal.τ).loc Cert.FirstNormIdeal.main_v0)),
      θ_run (Cert.FirstNormIdeal.defs (F := Ideal)) (onTc (τ := Cert.FirstNormIdeal.τ) (Cert.FirstNormIdeal.main (F := Ideal))) ⟨m, fun _ => 0, g⟩ (fun r => ∀ c : Dev Cert.FirstNormIdeal.nD,
          r.2.mem ((c.tc : Thread Cert.FirstNormIdeal.nD Cert.FirstNormIdeal.τ).loc Cert.FirstNormIdeal.main_v0) = v0 c
          ∧ r.2.mem ((c.tc : Thread Cert.FirstNormIdeal.nD Cert.FirstNormIdeal.τ).loc Cert.FirstNormIdeal.main_arg0) = m ((c.tc : Thread Cert.FirstNormIdeal.nD Cert.FirstNormIdeal.τ).loc Cert.FirstNormIdeal.main_arg0)
          ∧ r.2.mem ((c.tc : Thread Cert.FirstNormIdeal.nD Cert.FirstNormIdeal.τ).loc Cert.FirstNormIdeal.main_arg1) = m ((c.tc : Thread Cert.FirstNormIdeal.nD Cert.FirstNormIdeal.τ).loc Cert.FirstNormIdeal.main_arg1))
      ∧ θ_run (Cert.FirstNormRefIdeal.defs (F := Ideal)) (onTc (τ := Cert.FirstNormRefIdeal.τ) (Cert.FirstNormRefIdeal.main (F := Ideal))) ⟨m', fun _ => 0, g'⟩ (fun r => ∀ c : Dev Cert.FirstNormRefIdeal.nD,
          r.2.mem ((c.tc : Thread Cert.FirstNormRefIdeal.nD Cert.FirstNormRefIdeal.τ).loc Cert.FirstNormRefIdeal.main_v12) = v0 c
          ∧ r.2.mem ((c.tc : Thread Cert.FirstNormRefIdeal.nD Cert.FirstNormRefIdeal.τ).loc Cert.FirstNormRefIdeal.main_arg0) = m' ((c.tc : Thread Cert.FirstNormRefIdeal.nD Cert.FirstNormRefIdeal.τ).loc Cert.FirstNormRefIdeal.main_arg0)
          ∧ r.2.mem ((c.tc : Thread Cert.FirstNormRefIdeal.nD Cert.FirstNormRefIdeal.τ).loc Cert.FirstNormRefIdeal.main_arg1) = m' ((c.tc : Thread Cert.FirstNormRefIdeal.nD Cert.FirstNormRefIdeal.τ).loc Cert.FirstNormRefIdeal.main_arg1))

def preserves_DinA_DinAIdeal : Prop :=
  True

def algebraic_DinAIdeal_DinARefIdeal [hDinAIdeal : Cert.DinAIdeal.Facts] [hDinARefIdeal : Cert.DinARefIdeal.Facts] : Prop :=
  ∀ (m : (ℓ : Loc Cert.DinAIdeal.nD Cert.DinAIdeal.τ Cert.DinAIdeal.sig) → Buf (Elt Ideal) ℓ) (g : Dev Cert.DinAIdeal.nD → PrngReg)
    (m' : (ℓ : Loc Cert.DinARefIdeal.nD Cert.DinARefIdeal.τ Cert.DinARefIdeal.sig) → Buf (Elt Ideal) ℓ) (g' : Dev Cert.DinARefIdeal.nD → PrngReg), Pre_DinAIdeal m →
    (∀ c : Dev Cert.DinAIdeal.nD,
      m' ((c.tc : Thread Cert.DinARefIdeal.nD Cert.DinARefIdeal.τ).loc Cert.DinARefIdeal.main_arg0) = m ((c.tc : Thread Cert.DinAIdeal.nD Cert.DinAIdeal.τ).loc Cert.DinAIdeal.main_arg0)
      ∧ m' ((c.tc : Thread Cert.DinARefIdeal.nD Cert.DinARefIdeal.τ).loc Cert.DinARefIdeal.main_arg1) = m ((c.tc : Thread Cert.DinAIdeal.nD Cert.DinAIdeal.τ).loc Cert.DinAIdeal.main_arg1)
      ∧ m' ((c.tc : Thread Cert.DinARefIdeal.nD Cert.DinARefIdeal.τ).loc Cert.DinARefIdeal.main_arg2) = m ((c.tc : Thread Cert.DinAIdeal.nD Cert.DinAIdeal.τ).loc Cert.DinAIdeal.main_arg2)
      ∧ m' ((c.tc : Thread Cert.DinARefIdeal.nD Cert.DinARefIdeal.τ).loc Cert.DinARefIdeal.main_arg3) = m ((c.tc : Thread Cert.DinAIdeal.nD Cert.DinAIdeal.τ).loc Cert.DinAIdeal.main_arg3)
      ∧ m' ((c.tc : Thread Cert.DinARefIdeal.nD Cert.DinARefIdeal.τ).loc Cert.DinARefIdeal.main_arg4) = m ((c.tc : Thread Cert.DinAIdeal.nD Cert.DinAIdeal.τ).loc Cert.DinAIdeal.main_arg4)
      ∧ m' ((c.tc : Thread Cert.DinARefIdeal.nD Cert.DinARefIdeal.τ).loc Cert.DinARefIdeal.main_arg5) = m ((c.tc : Thread Cert.DinAIdeal.nD Cert.DinAIdeal.τ).loc Cert.DinAIdeal.main_arg5)
      ∧ m' ((c.tc : Thread Cert.DinARefIdeal.nD Cert.DinARefIdeal.τ).loc Cert.DinARefIdeal.main_arg6) = m ((c.tc : Thread Cert.DinAIdeal.nD Cert.DinAIdeal.τ).loc Cert.DinAIdeal.main_arg6)) →
    ∃ (v0 : (c : Dev Cert.DinAIdeal.nD) → Buf (Elt Ideal) ((c.tc : Thread Cert.DinAIdeal.nD Cert.DinAIdeal.τ).loc Cert.DinAIdeal.main_v1)) (v1 : (c : Dev Cert.DinAIdeal.nD) → Buf (Elt Ideal) ((c.tc : Thread Cert.DinAIdeal.nD Cert.DinAIdeal.τ).loc Cert.DinAIdeal.main_v2)) (v2 : (c : Dev Cert.DinAIdeal.nD) → Buf (Elt Ideal) ((c.tc : Thread Cert.DinAIdeal.nD Cert.DinAIdeal.τ).loc Cert.DinAIdeal.main_v0_2)),
      θ_run (Cert.DinAIdeal.defs (F := Ideal)) (onTc (τ := Cert.DinAIdeal.τ) (Cert.DinAIdeal.main (F := Ideal))) ⟨m, fun _ => 0, g⟩ (fun r => ∀ c : Dev Cert.DinAIdeal.nD,
          r.2.mem ((c.tc : Thread Cert.DinAIdeal.nD Cert.DinAIdeal.τ).loc Cert.DinAIdeal.main_v1) = v0 c
          ∧ r.2.mem ((c.tc : Thread Cert.DinAIdeal.nD Cert.DinAIdeal.τ).loc Cert.DinAIdeal.main_v2) = v1 c
          ∧ r.2.mem ((c.tc : Thread Cert.DinAIdeal.nD Cert.DinAIdeal.τ).loc Cert.DinAIdeal.main_v0_2) = v2 c
          ∧ r.2.mem ((c.tc : Thread Cert.DinAIdeal.nD Cert.DinAIdeal.τ).loc Cert.DinAIdeal.main_arg0) = m ((c.tc : Thread Cert.DinAIdeal.nD Cert.DinAIdeal.τ).loc Cert.DinAIdeal.main_arg0)
          ∧ r.2.mem ((c.tc : Thread Cert.DinAIdeal.nD Cert.DinAIdeal.τ).loc Cert.DinAIdeal.main_arg1) = m ((c.tc : Thread Cert.DinAIdeal.nD Cert.DinAIdeal.τ).loc Cert.DinAIdeal.main_arg1)
          ∧ r.2.mem ((c.tc : Thread Cert.DinAIdeal.nD Cert.DinAIdeal.τ).loc Cert.DinAIdeal.main_arg2) = m ((c.tc : Thread Cert.DinAIdeal.nD Cert.DinAIdeal.τ).loc Cert.DinAIdeal.main_arg2)
          ∧ r.2.mem ((c.tc : Thread Cert.DinAIdeal.nD Cert.DinAIdeal.τ).loc Cert.DinAIdeal.main_arg3) = m ((c.tc : Thread Cert.DinAIdeal.nD Cert.DinAIdeal.τ).loc Cert.DinAIdeal.main_arg3)
          ∧ r.2.mem ((c.tc : Thread Cert.DinAIdeal.nD Cert.DinAIdeal.τ).loc Cert.DinAIdeal.main_arg4) = m ((c.tc : Thread Cert.DinAIdeal.nD Cert.DinAIdeal.τ).loc Cert.DinAIdeal.main_arg4)
          ∧ r.2.mem ((c.tc : Thread Cert.DinAIdeal.nD Cert.DinAIdeal.τ).loc Cert.DinAIdeal.main_arg5) = m ((c.tc : Thread Cert.DinAIdeal.nD Cert.DinAIdeal.τ).loc Cert.DinAIdeal.main_arg5)
          ∧ r.2.mem ((c.tc : Thread Cert.DinAIdeal.nD Cert.DinAIdeal.τ).loc Cert.DinAIdeal.main_arg6) = m ((c.tc : Thread Cert.DinAIdeal.nD Cert.DinAIdeal.τ).loc Cert.DinAIdeal.main_arg6))
      ∧ θ_run (Cert.DinARefIdeal.defs (F := Ideal)) (onTc (τ := Cert.DinARefIdeal.τ) (Cert.DinARefIdeal.main (F := Ideal))) ⟨m', fun _ => 0, g'⟩ (fun r => ∀ c : Dev Cert.DinARefIdeal.nD,
          r.2.mem ((c.tc : Thread Cert.DinARefIdeal.nD Cert.DinARefIdeal.τ).loc Cert.DinARefIdeal.main_v51) = v0 c
          ∧ r.2.mem ((c.tc : Thread Cert.DinARefIdeal.nD Cert.DinARefIdeal.τ).loc Cert.DinARefIdeal.main_v52) = v1 c
          ∧ r.2.mem ((c.tc : Thread Cert.DinARefIdeal.nD Cert.DinARefIdeal.τ).loc Cert.DinARefIdeal.main_v34) = v2 c
          ∧ r.2.mem ((c.tc : Thread Cert.DinARefIdeal.nD Cert.DinARefIdeal.τ).loc Cert.DinARefIdeal.main_arg0) = m' ((c.tc : Thread Cert.DinARefIdeal.nD Cert.DinARefIdeal.τ).loc Cert.DinARefIdeal.main_arg0)
          ∧ r.2.mem ((c.tc : Thread Cert.DinARefIdeal.nD Cert.DinARefIdeal.τ).loc Cert.DinARefIdeal.main_arg1) = m' ((c.tc : Thread Cert.DinARefIdeal.nD Cert.DinARefIdeal.τ).loc Cert.DinARefIdeal.main_arg1)
          ∧ r.2.mem ((c.tc : Thread Cert.DinARefIdeal.nD Cert.DinARefIdeal.τ).loc Cert.DinARefIdeal.main_arg2) = m' ((c.tc : Thread Cert.DinARefIdeal.nD Cert.DinARefIdeal.τ).loc Cert.DinARefIdeal.main_arg2)
          ∧ r.2.mem ((c.tc : Thread Cert.DinARefIdeal.nD Cert.DinARefIdeal.τ).loc Cert.DinARefIdeal.main_arg3) = m' ((c.tc : Thread Cert.DinARefIdeal.nD Cert.DinARefIdeal.τ).loc Cert.DinARefIdeal.main_arg3)
          ∧ r.2.mem ((c.tc : Thread Cert.DinARefIdeal.nD Cert.DinARefIdeal.τ).loc Cert.DinARefIdeal.main_arg4) = m' ((c.tc : Thread Cert.DinARefIdeal.nD Cert.DinARefIdeal.τ).loc Cert.DinARefIdeal.main_arg4)
          ∧ r.2.mem ((c.tc : Thread Cert.DinARefIdeal.nD Cert.DinARefIdeal.τ).loc Cert.DinARefIdeal.main_arg5) = m' ((c.tc : Thread Cert.DinARefIdeal.nD Cert.DinARefIdeal.τ).loc Cert.DinARefIdeal.main_arg5)
          ∧ r.2.mem ((c.tc : Thread Cert.DinARefIdeal.nD Cert.DinARefIdeal.τ).loc Cert.DinARefIdeal.main_arg6) = m' ((c.tc : Thread Cert.DinARefIdeal.nD Cert.DinARefIdeal.τ).loc Cert.DinARefIdeal.main_arg6))

def preserves_DinB_DinBIdeal : Prop :=
  True

def algebraic_DinBIdeal_DinBRefIdeal [hDinBIdeal : Cert.DinBIdeal.Facts] [hDinBRefIdeal : Cert.DinBRefIdeal.Facts] : Prop :=
  ∀ (m : (ℓ : Loc Cert.DinBIdeal.nD Cert.DinBIdeal.τ Cert.DinBIdeal.sig) → Buf (Elt Ideal) ℓ) (g : Dev Cert.DinBIdeal.nD → PrngReg)
    (m' : (ℓ : Loc Cert.DinBRefIdeal.nD Cert.DinBRefIdeal.τ Cert.DinBRefIdeal.sig) → Buf (Elt Ideal) ℓ) (g' : Dev Cert.DinBRefIdeal.nD → PrngReg), Pre_DinBIdeal m →
    (∀ c : Dev Cert.DinBIdeal.nD,
      m' ((c.tc : Thread Cert.DinBRefIdeal.nD Cert.DinBRefIdeal.τ).loc Cert.DinBRefIdeal.main_arg0) = m ((c.tc : Thread Cert.DinBIdeal.nD Cert.DinBIdeal.τ).loc Cert.DinBIdeal.main_arg0)
      ∧ m' ((c.tc : Thread Cert.DinBRefIdeal.nD Cert.DinBRefIdeal.τ).loc Cert.DinBRefIdeal.main_arg1) = m ((c.tc : Thread Cert.DinBIdeal.nD Cert.DinBIdeal.τ).loc Cert.DinBIdeal.main_arg1)
      ∧ m' ((c.tc : Thread Cert.DinBRefIdeal.nD Cert.DinBRefIdeal.τ).loc Cert.DinBRefIdeal.main_arg2) = m ((c.tc : Thread Cert.DinBIdeal.nD Cert.DinBIdeal.τ).loc Cert.DinBIdeal.main_arg2)
      ∧ m' ((c.tc : Thread Cert.DinBRefIdeal.nD Cert.DinBRefIdeal.τ).loc Cert.DinBRefIdeal.main_arg3) = m ((c.tc : Thread Cert.DinBIdeal.nD Cert.DinBIdeal.τ).loc Cert.DinBIdeal.main_arg3)
      ∧ m' ((c.tc : Thread Cert.DinBRefIdeal.nD Cert.DinBRefIdeal.τ).loc Cert.DinBRefIdeal.main_arg4) = m ((c.tc : Thread Cert.DinBIdeal.nD Cert.DinBIdeal.τ).loc Cert.DinBIdeal.main_arg4)
      ∧ m' ((c.tc : Thread Cert.DinBRefIdeal.nD Cert.DinBRefIdeal.τ).loc Cert.DinBRefIdeal.main_arg5) = m ((c.tc : Thread Cert.DinBIdeal.nD Cert.DinBIdeal.τ).loc Cert.DinBIdeal.main_arg5)
      ∧ m' ((c.tc : Thread Cert.DinBRefIdeal.nD Cert.DinBRefIdeal.τ).loc Cert.DinBRefIdeal.main_arg6) = m ((c.tc : Thread Cert.DinBIdeal.nD Cert.DinBIdeal.τ).loc Cert.DinBIdeal.main_arg6)
      ∧ m' ((c.tc : Thread Cert.DinBRefIdeal.nD Cert.DinBRefIdeal.τ).loc Cert.DinBRefIdeal.main_arg7) = m ((c.tc : Thread Cert.DinBIdeal.nD Cert.DinBIdeal.τ).loc Cert.DinBIdeal.main_arg7)
      ∧ m' ((c.tc : Thread Cert.DinBRefIdeal.nD Cert.DinBRefIdeal.τ).loc Cert.DinBRefIdeal.main_arg8) = m ((c.tc : Thread Cert.DinBIdeal.nD Cert.DinBIdeal.τ).loc Cert.DinBIdeal.main_arg8)) →
    ∃ (v0 : (c : Dev Cert.DinBIdeal.nD) → Buf (Elt Ideal) ((c.tc : Thread Cert.DinBIdeal.nD Cert.DinBIdeal.τ).loc Cert.DinBIdeal.main_v0_0)) (v1 : (c : Dev Cert.DinBIdeal.nD) → Buf (Elt Ideal) ((c.tc : Thread Cert.DinBIdeal.nD Cert.DinBIdeal.τ).loc Cert.DinBIdeal.main_v0_1)) (v2 : (c : Dev Cert.DinBIdeal.nD) → Buf (Elt Ideal) ((c.tc : Thread Cert.DinBIdeal.nD Cert.DinBIdeal.τ).loc Cert.DinBIdeal.main_v0_2)),
      θ_run (Cert.DinBIdeal.defs (F := Ideal)) (onTc (τ := Cert.DinBIdeal.τ) (Cert.DinBIdeal.main (F := Ideal))) ⟨m, fun _ => 0, g⟩ (fun r => ∀ c : Dev Cert.DinBIdeal.nD,
          r.2.mem ((c.tc : Thread Cert.DinBIdeal.nD Cert.DinBIdeal.τ).loc Cert.DinBIdeal.main_v0_0) = v0 c
          ∧ r.2.mem ((c.tc : Thread Cert.DinBIdeal.nD Cert.DinBIdeal.τ).loc Cert.DinBIdeal.main_v0_1) = v1 c
          ∧ r.2.mem ((c.tc : Thread Cert.DinBIdeal.nD Cert.DinBIdeal.τ).loc Cert.DinBIdeal.main_v0_2) = v2 c
          ∧ r.2.mem ((c.tc : Thread Cert.DinBIdeal.nD Cert.DinBIdeal.τ).loc Cert.DinBIdeal.main_arg0) = m ((c.tc : Thread Cert.DinBIdeal.nD Cert.DinBIdeal.τ).loc Cert.DinBIdeal.main_arg0)
          ∧ r.2.mem ((c.tc : Thread Cert.DinBIdeal.nD Cert.DinBIdeal.τ).loc Cert.DinBIdeal.main_arg1) = m ((c.tc : Thread Cert.DinBIdeal.nD Cert.DinBIdeal.τ).loc Cert.DinBIdeal.main_arg1)
          ∧ r.2.mem ((c.tc : Thread Cert.DinBIdeal.nD Cert.DinBIdeal.τ).loc Cert.DinBIdeal.main_arg2) = m ((c.tc : Thread Cert.DinBIdeal.nD Cert.DinBIdeal.τ).loc Cert.DinBIdeal.main_arg2)
          ∧ r.2.mem ((c.tc : Thread Cert.DinBIdeal.nD Cert.DinBIdeal.τ).loc Cert.DinBIdeal.main_arg3) = m ((c.tc : Thread Cert.DinBIdeal.nD Cert.DinBIdeal.τ).loc Cert.DinBIdeal.main_arg3)
          ∧ r.2.mem ((c.tc : Thread Cert.DinBIdeal.nD Cert.DinBIdeal.τ).loc Cert.DinBIdeal.main_arg4) = m ((c.tc : Thread Cert.DinBIdeal.nD Cert.DinBIdeal.τ).loc Cert.DinBIdeal.main_arg4)
          ∧ r.2.mem ((c.tc : Thread Cert.DinBIdeal.nD Cert.DinBIdeal.τ).loc Cert.DinBIdeal.main_arg5) = m ((c.tc : Thread Cert.DinBIdeal.nD Cert.DinBIdeal.τ).loc Cert.DinBIdeal.main_arg5)
          ∧ r.2.mem ((c.tc : Thread Cert.DinBIdeal.nD Cert.DinBIdeal.τ).loc Cert.DinBIdeal.main_arg6) = m ((c.tc : Thread Cert.DinBIdeal.nD Cert.DinBIdeal.τ).loc Cert.DinBIdeal.main_arg6)
          ∧ r.2.mem ((c.tc : Thread Cert.DinBIdeal.nD Cert.DinBIdeal.τ).loc Cert.DinBIdeal.main_arg7) = m ((c.tc : Thread Cert.DinBIdeal.nD Cert.DinBIdeal.τ).loc Cert.DinBIdeal.main_arg7)
          ∧ r.2.mem ((c.tc : Thread Cert.DinBIdeal.nD Cert.DinBIdeal.τ).loc Cert.DinBIdeal.main_arg8) = m ((c.tc : Thread Cert.DinBIdeal.nD Cert.DinBIdeal.τ).loc Cert.DinBIdeal.main_arg8))
      ∧ θ_run (Cert.DinBRefIdeal.defs (F := Ideal)) (onTc (τ := Cert.DinBRefIdeal.τ) (Cert.DinBRefIdeal.main (F := Ideal))) ⟨m', fun _ => 0, g'⟩ (fun r => ∀ c : Dev Cert.DinBRefIdeal.nD,
          r.2.mem ((c.tc : Thread Cert.DinBRefIdeal.nD Cert.DinBRefIdeal.τ).loc Cert.DinBRefIdeal.main_v54) = v0 c
          ∧ r.2.mem ((c.tc : Thread Cert.DinBRefIdeal.nD Cert.DinBRefIdeal.τ).loc Cert.DinBRefIdeal.main_v56) = v1 c
          ∧ r.2.mem ((c.tc : Thread Cert.DinBRefIdeal.nD Cert.DinBRefIdeal.τ).loc Cert.DinBRefIdeal.main_v34) = v2 c
          ∧ r.2.mem ((c.tc : Thread Cert.DinBRefIdeal.nD Cert.DinBRefIdeal.τ).loc Cert.DinBRefIdeal.main_arg0) = m' ((c.tc : Thread Cert.DinBRefIdeal.nD Cert.DinBRefIdeal.τ).loc Cert.DinBRefIdeal.main_arg0)
          ∧ r.2.mem ((c.tc : Thread Cert.DinBRefIdeal.nD Cert.DinBRefIdeal.τ).loc Cert.DinBRefIdeal.main_arg1) = m' ((c.tc : Thread Cert.DinBRefIdeal.nD Cert.DinBRefIdeal.τ).loc Cert.DinBRefIdeal.main_arg1)
          ∧ r.2.mem ((c.tc : Thread Cert.DinBRefIdeal.nD Cert.DinBRefIdeal.τ).loc Cert.DinBRefIdeal.main_arg2) = m' ((c.tc : Thread Cert.DinBRefIdeal.nD Cert.DinBRefIdeal.τ).loc Cert.DinBRefIdeal.main_arg2)
          ∧ r.2.mem ((c.tc : Thread Cert.DinBRefIdeal.nD Cert.DinBRefIdeal.τ).loc Cert.DinBRefIdeal.main_arg3) = m' ((c.tc : Thread Cert.DinBRefIdeal.nD Cert.DinBRefIdeal.τ).loc Cert.DinBRefIdeal.main_arg3)
          ∧ r.2.mem ((c.tc : Thread Cert.DinBRefIdeal.nD Cert.DinBRefIdeal.τ).loc Cert.DinBRefIdeal.main_arg4) = m' ((c.tc : Thread Cert.DinBRefIdeal.nD Cert.DinBRefIdeal.τ).loc Cert.DinBRefIdeal.main_arg4)
          ∧ r.2.mem ((c.tc : Thread Cert.DinBRefIdeal.nD Cert.DinBRefIdeal.τ).loc Cert.DinBRefIdeal.main_arg5) = m' ((c.tc : Thread Cert.DinBRefIdeal.nD Cert.DinBRefIdeal.τ).loc Cert.DinBRefIdeal.main_arg5)
          ∧ r.2.mem ((c.tc : Thread Cert.DinBRefIdeal.nD Cert.DinBRefIdeal.τ).loc Cert.DinBRefIdeal.main_arg6) = m' ((c.tc : Thread Cert.DinBRefIdeal.nD Cert.DinBRefIdeal.τ).loc Cert.DinBRefIdeal.main_arg6)
          ∧ r.2.mem ((c.tc : Thread Cert.DinBRefIdeal.nD Cert.DinBRefIdeal.τ).loc Cert.DinBRefIdeal.main_arg7) = m' ((c.tc : Thread Cert.DinBRefIdeal.nD Cert.DinBRefIdeal.τ).loc Cert.DinBRefIdeal.main_arg7)
          ∧ r.2.mem ((c.tc : Thread Cert.DinBRefIdeal.nD Cert.DinBRefIdeal.τ).loc Cert.DinBRefIdeal.main_arg8) = m' ((c.tc : Thread Cert.DinBRefIdeal.nD Cert.DinBRefIdeal.τ).loc Cert.DinBRefIdeal.main_arg8))

def Claim : Prop :=
  ∃ (hKernel : Cert.Kernel.Facts) (hKernelIdeal : Cert.KernelIdeal.Facts) (hReferenceIdeal : Cert.ReferenceIdeal.Facts) (hAct : Cert.Act.Facts) (hActIdeal : Cert.ActIdeal.Facts) (hActRefIdeal : Cert.ActRefIdeal.Facts) (hUp : Cert.Up.Facts) (hUpIdeal : Cert.UpIdeal.Facts) (hUpRefIdeal : Cert.UpRefIdeal.Facts) (hDown : Cert.Down.Facts) (hDownIdeal : Cert.DownIdeal.Facts) (hDownRefIdeal : Cert.DownRefIdeal.Facts) (hNorm : Cert.Norm.Facts) (hNormIdeal : Cert.NormIdeal.Facts) (hNormRefIdeal : Cert.NormRefIdeal.Facts) (hFfnUp : Cert.FfnUp.Facts) (hFfnUpIdeal : Cert.FfnUpIdeal.Facts) (hFfnUpRefIdeal : Cert.FfnUpRefIdeal.Facts) (hFfnDown : Cert.FfnDown.Facts) (hFfnDownIdeal : Cert.FfnDownIdeal.Facts) (hFfnDownRefIdeal : Cert.FfnDownRefIdeal.Facts) (hMixIn : Cert.MixIn.Facts) (hMixInIdeal : Cert.MixInIdeal.Facts) (hMixInRefIdeal : Cert.MixInRefIdeal.Facts) (hMixOut : Cert.MixOut.Facts) (hMixOutIdeal : Cert.MixOutIdeal.Facts) (hMixOutRefIdeal : Cert.MixOutRefIdeal.Facts) (hDwIn : Cert.DwIn.Facts) (hDwInIdeal : Cert.DwInIdeal.Facts) (hDwInRefIdeal : Cert.DwInRefIdeal.Facts) (hDwOut : Cert.DwOut.Facts) (hDwOutIdeal : Cert.DwOutIdeal.Facts) (hDwOutRefIdeal : Cert.DwOutRefIdeal.Facts) (hMixDin : Cert.MixDin.Facts) (hMixDinIdeal : Cert.MixDinIdeal.Facts) (hMixDinRefIdeal : Cert.MixDinRefIdeal.Facts) (hFirstNorm : Cert.FirstNorm.Facts) (hFirstNormIdeal : Cert.FirstNormIdeal.Facts) (hFirstNormRefIdeal : Cert.FirstNormRefIdeal.Facts) (hDinA : Cert.DinA.Facts) (hDinAIdeal : Cert.DinAIdeal.Facts) (hDinARefIdeal : Cert.DinARefIdeal.Facts) (hDinB : Cert.DinB.Facts) (hDinBIdeal : Cert.DinBIdeal.Facts) (hDinBRefIdeal : Cert.DinBRefIdeal.Facts) (hPre_finite : Cert.Pre_finite.Facts) (hPre_finite_act : Cert.Pre_finite_act.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Act (hAct := hAct)
    ∧ quiescent_ActIdeal (hActIdeal := hActIdeal)
    ∧ quiescent_ActIdeal_pre_finite_act (hActIdeal := hActIdeal) (hPre_finite_act := hPre_finite_act)
    ∧ quiescent_ActRefIdeal (hActRefIdeal := hActRefIdeal)
    ∧ quiescent_ActRefIdeal_pre_finite_act (hActRefIdeal := hActRefIdeal) (hPre_finite_act := hPre_finite_act)
    ∧ quiescent_Up (hUp := hUp)
    ∧ quiescent_UpIdeal (hUpIdeal := hUpIdeal)
    ∧ quiescent_UpRefIdeal (hUpRefIdeal := hUpRefIdeal)
    ∧ quiescent_Down (hDown := hDown)
    ∧ quiescent_DownIdeal (hDownIdeal := hDownIdeal)
    ∧ quiescent_DownRefIdeal (hDownRefIdeal := hDownRefIdeal)
    ∧ quiescent_Norm (hNorm := hNorm)
    ∧ quiescent_NormIdeal (hNormIdeal := hNormIdeal)
    ∧ quiescent_NormRefIdeal (hNormRefIdeal := hNormRefIdeal)
    ∧ quiescent_FfnUp (hFfnUp := hFfnUp)
    ∧ quiescent_FfnUpIdeal (hFfnUpIdeal := hFfnUpIdeal)
    ∧ quiescent_FfnUpRefIdeal (hFfnUpRefIdeal := hFfnUpRefIdeal)
    ∧ quiescent_FfnDown (hFfnDown := hFfnDown)
    ∧ quiescent_FfnDownIdeal (hFfnDownIdeal := hFfnDownIdeal)
    ∧ quiescent_FfnDownRefIdeal (hFfnDownRefIdeal := hFfnDownRefIdeal)
    ∧ quiescent_MixIn (hMixIn := hMixIn)
    ∧ quiescent_MixInIdeal (hMixInIdeal := hMixInIdeal)
    ∧ quiescent_MixInRefIdeal (hMixInRefIdeal := hMixInRefIdeal)
    ∧ quiescent_MixOut (hMixOut := hMixOut)
    ∧ quiescent_MixOutIdeal (hMixOutIdeal := hMixOutIdeal)
    ∧ quiescent_MixOutRefIdeal (hMixOutRefIdeal := hMixOutRefIdeal)
    ∧ quiescent_DwIn (hDwIn := hDwIn)
    ∧ quiescent_DwInIdeal (hDwInIdeal := hDwInIdeal)
    ∧ quiescent_DwInRefIdeal (hDwInRefIdeal := hDwInRefIdeal)
    ∧ quiescent_DwOut (hDwOut := hDwOut)
    ∧ quiescent_DwOutIdeal (hDwOutIdeal := hDwOutIdeal)
    ∧ quiescent_DwOutRefIdeal (hDwOutRefIdeal := hDwOutRefIdeal)
    ∧ quiescent_MixDin (hMixDin := hMixDin)
    ∧ quiescent_MixDinIdeal (hMixDinIdeal := hMixDinIdeal)
    ∧ quiescent_MixDinRefIdeal (hMixDinRefIdeal := hMixDinRefIdeal)
    ∧ quiescent_FirstNorm (hFirstNorm := hFirstNorm)
    ∧ quiescent_FirstNormIdeal (hFirstNormIdeal := hFirstNormIdeal)
    ∧ quiescent_FirstNormRefIdeal (hFirstNormRefIdeal := hFirstNormRefIdeal)
    ∧ quiescent_DinA (hDinA := hDinA)
    ∧ quiescent_DinAIdeal (hDinAIdeal := hDinAIdeal)
    ∧ quiescent_DinARefIdeal (hDinARefIdeal := hDinARefIdeal)
    ∧ quiescent_DinB (hDinB := hDinB)
    ∧ quiescent_DinBIdeal (hDinBIdeal := hDinBIdeal)
    ∧ quiescent_DinBRefIdeal (hDinBRefIdeal := hDinBRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Act_ActIdeal
    ∧ algebraic_ActIdeal_ActRefIdeal_pre_finite_act (hActIdeal := hActIdeal) (hActRefIdeal := hActRefIdeal) (hPre_finite_act := hPre_finite_act)
    ∧ preserves_Up_UpIdeal
    ∧ algebraic_UpIdeal_UpRefIdeal (hUpIdeal := hUpIdeal) (hUpRefIdeal := hUpRefIdeal)
    ∧ preserves_Down_DownIdeal
    ∧ algebraic_DownIdeal_DownRefIdeal (hDownIdeal := hDownIdeal) (hDownRefIdeal := hDownRefIdeal)
    ∧ preserves_Norm_NormIdeal
    ∧ algebraic_NormIdeal_NormRefIdeal (hNormIdeal := hNormIdeal) (hNormRefIdeal := hNormRefIdeal)
    ∧ preserves_FfnUp_FfnUpIdeal
    ∧ algebraic_FfnUpIdeal_FfnUpRefIdeal (hFfnUpIdeal := hFfnUpIdeal) (hFfnUpRefIdeal := hFfnUpRefIdeal)
    ∧ preserves_FfnDown_FfnDownIdeal
    ∧ algebraic_FfnDownIdeal_FfnDownRefIdeal (hFfnDownIdeal := hFfnDownIdeal) (hFfnDownRefIdeal := hFfnDownRefIdeal)
    ∧ preserves_MixIn_MixInIdeal
    ∧ algebraic_MixInIdeal_MixInRefIdeal (hMixInIdeal := hMixInIdeal) (hMixInRefIdeal := hMixInRefIdeal)
    ∧ preserves_MixOut_MixOutIdeal
    ∧ algebraic_MixOutIdeal_MixOutRefIdeal (hMixOutIdeal := hMixOutIdeal) (hMixOutRefIdeal := hMixOutRefIdeal)
    ∧ preserves_DwIn_DwInIdeal
    ∧ algebraic_DwInIdeal_DwInRefIdeal (hDwInIdeal := hDwInIdeal) (hDwInRefIdeal := hDwInRefIdeal)
    ∧ preserves_DwOut_DwOutIdeal
    ∧ algebraic_DwOutIdeal_DwOutRefIdeal (hDwOutIdeal := hDwOutIdeal) (hDwOutRefIdeal := hDwOutRefIdeal)
    ∧ preserves_MixDin_MixDinIdeal
    ∧ algebraic_MixDinIdeal_MixDinRefIdeal (hMixDinIdeal := hMixDinIdeal) (hMixDinRefIdeal := hMixDinRefIdeal)
    ∧ preserves_FirstNorm_FirstNormIdeal
    ∧ algebraic_FirstNormIdeal_FirstNormRefIdeal (hFirstNormIdeal := hFirstNormIdeal) (hFirstNormRefIdeal := hFirstNormRefIdeal)
    ∧ preserves_DinA_DinAIdeal
    ∧ algebraic_DinAIdeal_DinARefIdeal (hDinAIdeal := hDinAIdeal) (hDinARefIdeal := hDinARefIdeal)
    ∧ preserves_DinB_DinBIdeal
    ∧ algebraic_DinBIdeal_DinBRefIdeal (hDinBIdeal := hDinBIdeal) (hDinBRefIdeal := hDinBRefIdeal)
-- ==== Pre_finite.lean ====
abbrev S4x4224x256 : Shape := ⟨3, ![4, 4224, 256]⟩
abbrev S4x4224x128 : Shape := ⟨3, ![4, 4224, 128]⟩
abbrev S4224x512 : Shape := ⟨2, ![4224, 512]⟩
abbrev S_ : Shape := ⟨0, ![]⟩

class Facts : Prop where
  bitsLt_bf16_f32 : FTy.bits .bf16 < FTy.bits .f32
  bcast_S_S4x4224x256 : S_.BroadcastsInDim S4x4224x256 (![] : Fin 0 → Fin S4x4224x256.rank)
  bcast_S_S4x4224x128 : S_.BroadcastsInDim S4x4224x128 (![] : Fin 0 → Fin S4x4224x128.rank)
  bcast_S_S4224x512 : S_.BroadcastsInDim S4224x512 (![] : Fin 0 → Fin S4224x512.rank)

variable [Facts]

def fn {F : FTy → Type} [FloatOps F] (main_arg0 : FVec F S4x4224x256 .bf16) (main_arg1 : FVec F S4x4224x256 .bf16) (main_arg2 : FVec F S4x4224x128 .bf16) (main_arg3 : FVec F S4224x512 .f32) : IVec S4x4224x256 1 × IVec S4x4224x256 1 × IVec S4x4224x128 1 × IVec S4224x512 1 :=
  let main_v0 : FVec F S4x4224x256 .f32 := (extf .f32 · bitsLt_bf16_f32) main_arg0
  let main_v1 : FVec F S4x4224x256 .f32 := Host.absf main_v0
  let main_cst : FVec F S_ .f32 := constant S_ .f32 0x7F800000#32
  let main_v2 : FVec F S4x4224x256 .f32 := broadcastInDim S4x4224x256 ![] bcast_S_S4x4224x256 main_cst
  let main_v3 : IVec S4x4224x256 1 := cmpf .olt main_v1 main_v2
  let main_v4 : FVec F S4x4224x256 .f32 := (extf .f32 · bitsLt_bf16_f32) main_arg1
  let main_v5 : FVec F S4x4224x256 .f32 := Host.absf main_v4
  let main_cst_0 : FVec F S_ .f32 := constant S_ .f32 0x7F800000#32
  let main_v6 : FVec F S4x4224x256 .f32 := broadcastInDim S4x4224x256 ![] bcast_S_S4x4224x256 main_cst_0
  let main_v7 : IVec S4x4224x256 1 := cmpf .olt main_v5 main_v6
  let main_v8 : FVec F S4x4224x128 .f32 := (extf .f32 · bitsLt_bf16_f32) main_arg2
  let main_v9 : FVec F S4x4224x128 .f32 := Host.absf main_v8
  let main_cst_1 : FVec F S_ .f32 := constant S_ .f32 0x7F800000#32
  let main_v10 : FVec F S4x4224x128 .f32 := broadcastInDim S4x4224x128 ![] bcast_S_S4x4224x128 main_cst_1
  let main_v11 : IVec S4x4224x128 1 := cmpf .olt main_v9 main_v10
  let main_v12 : FVec F S4224x512 .f32 := Host.absf main_arg3
  let main_cst_2 : FVec F S_ .f32 := constant S_ .f32 0x7F800000#32
  let main_v13 : FVec F S4224x512 .f32 := broadcastInDim S4224x512 ![] bcast_S_S4224x512 main_cst_2
  let main_v14 : IVec S4224x512 1 := cmpf .olt main_v12 main_v13
  (main_v3, main_v7, main_v11, main_v14)
-- ==== Pre_finite_act.lean ====
abbrev S4224x1024 : Shape := ⟨2, ![4224, 1024]⟩
abbrev S4x704x1024 : Shape := ⟨3, ![4, 704, 1024]⟩
abbrev S4x4224x704 : Shape := ⟨3, ![4, 4224, 704]⟩
abbrev S_ : Shape := ⟨0, ![]⟩

class Facts : Prop where
  bitsLt_bf16_f32 : FTy.bits .bf16 < FTy.bits .f32
  bcast_S_S4224x1024 : S_.BroadcastsInDim S4224x1024 (![] : Fin 0 → Fin S4224x1024.rank)
  bcast_S_S4x704x1024 : S_.BroadcastsInDim S4x704x1024 (![] : Fin 0 → Fin S4x704x1024.rank)
  bcast_S_S4x4224x704 : S_.BroadcastsInDim S4x4224x704 (![] : Fin 0 → Fin S4x4224x704.rank)

variable [Facts]

def fn {F : FTy → Type} [FloatOps F] (main_arg0 : FVec F S4224x1024 .bf16) (main_arg1 : FVec F S4x704x1024 .bf16) (main_arg2 : FVec F S4x4224x704 .bf16) (main_arg3 : FVec F S4x4224x704 .bf16) : IVec S4224x1024 1 × IVec S4x704x1024 1 × IVec S4x4224x704 1 :=
  let main_v0 : FVec F S4224x1024 .f32 := (extf .f32 · bitsLt_bf16_f32) main_arg0
  let main_v1 : FVec F S4224x1024 .f32 := Host.absf main_v0
  let main_cst : FVec F S_ .f32 := constant S_ .f32 0x7F800000#32
  let main_v2 : FVec F S4224x1024 .f32 := broadcastInDim S4224x1024 ![] bcast_S_S4224x1024 main_cst
  let main_v3 : IVec S4224x1024 1 := cmpf .olt main_v1 main_v2
  let main_v4 : FVec F S4x704x1024 .f32 := (extf .f32 · bitsLt_bf16_f32) main_arg1
  let main_v5 : FVec F S4x704x1024 .f32 := Host.absf main_v4
  let main_cst_0 : FVec F S_ .f32 := constant S_ .f32 0x7F800000#32
  let main_v6 : FVec F S4x704x1024 .f32 := broadcastInDim S4x704x1024 ![] bcast_S_S4x704x1024 main_cst_0
  let main_v7 : IVec S4x704x1024 1 := cmpf .olt main_v5 main_v6
  let main_v8 : FVec F S4x4224x704 .f32 := (extf .f32 · bitsLt_bf16_f32) main_arg3
  let main_v9 : FVec F S4x4224x704 .f32 := Host.absf main_v8
  let main_cst_1 : FVec F S_ .f32 := constant S_ .f32 0x7F800000#32
  let main_v10 : FVec F S4x4224x704 .f32 := broadcastInDim S4x4224x704 ![] bcast_S_S4x4224x704 main_cst_1
  let main_v11 : IVec S4x4224x704 1 := cmpf .olt main_v9 main_v10
  (main_v3, main_v7, main_v11)
-- ==== Kernel.lean ====
abbrev S4x4224x256 : Shape := ⟨3, ![4, 4224, 256]⟩
abbrev S4x4224x128 : Shape := ⟨3, ![4, 4224, 128]⟩
abbrev S4224x512 : Shape := ⟨2, ![4224, 512]⟩
abbrev S4x2x2112x256 : Shape := ⟨4, ![4, 2, 2112, 256]⟩
abbrev S2x4x2112x256 : Shape := ⟨4, ![2, 4, 2112, 256]⟩
abbrev S2112 : Shape := ⟨1, ![2112]⟩
abbrev S_ : Shape := ⟨0, ![]⟩
abbrev S2x4x2112x2112 : Shape := ⟨4, ![2, 4, 2112, 2112]⟩
abbrev S1x2112 : Shape := ⟨2, ![1, 2112]⟩
abbrev S2112x1 : Shape := ⟨2, ![2112, 1]⟩
abbrev S2112x2112 : Shape := ⟨2, ![2112, 2112]⟩
abbrev S1x1x2112x2112 : Shape := ⟨4, ![1, 1, 2112, 2112]⟩
abbrev S2x4x2112 : Shape := ⟨3, ![2, 4, 2112]⟩
abbrev S2x4x2112x1 : Shape := ⟨4, ![2, 4, 2112, 1]⟩
abbrev S4x2x2112x128 : Shape := ⟨4, ![4, 2, 2112, 128]⟩
abbrev S2x4x2112x128 : Shape := ⟨4, ![2, 4, 2112, 128]⟩
abbrev S2x2112x4x128 : Shape := ⟨4, ![2, 2112, 4, 128]⟩
abbrev S4x2x2112x1 : Shape := ⟨4, ![4, 2, 2112, 1]⟩
abbrev S4x4224x1 : Shape := ⟨3, ![4, 4224, 1]⟩
abbrev S1x2112x256 : Shape := ⟨3, ![1, 2112, 256]⟩
abbrev S1x2112x128 : Shape := ⟨3, ![1, 2112, 128]⟩
abbrev S2112x128 : Shape := ⟨2, ![2112, 128]⟩
abbrev S1x2112x1 : Shape := ⟨3, ![1, 2112, 1]⟩
abbrev S2112x256 : Shape := ⟨2, ![2112, 256]⟩
abbrev S1x192x256 : Shape := ⟨3, ![1, 192, 256]⟩
abbrev S192x256 : Shape := ⟨2, ![192, 256]⟩
abbrev S192x128 : Shape := ⟨2, ![192, 128]⟩
abbrev S192 : Shape := ⟨1, ![192]⟩
abbrev S192x1 : Shape := ⟨2, ![192, 1]⟩
abbrev S192x192 : Shape := ⟨2, ![192, 192]⟩
abbrev S1x192x1 : Shape := ⟨3, ![1, 192, 1]⟩
abbrev S1x192x128 : Shape := ⟨3, ![1, 192, 128]⟩
abbrev S1x384x256 : Shape := ⟨3, ![1, 384, 256]⟩
abbrev S384x256 : Shape := ⟨2, ![384, 256]⟩
abbrev S192x384 : Shape := ⟨2, ![192, 384]⟩
abbrev S384x128 : Shape := ⟨2, ![384, 128]⟩
abbrev S1x384x128 : Shape := ⟨3, ![1, 384, 128]⟩
abbrev S1x576x256 : Shape := ⟨3, ![1, 576, 256]⟩
abbrev S576x256 : Shape := ⟨2, ![576, 256]⟩
abbrev S192x576 : Shape := ⟨2, ![192, 576]⟩
abbrev S576x128 : Shape := ⟨2, ![576, 128]⟩
abbrev S1x576x128 : Shape := ⟨3, ![1, 576, 128]⟩
abbrev S1x768x256 : Shape := ⟨3, ![1, 768, 256]⟩
abbrev S768x256 : Shape := ⟨2, ![768, 256]⟩
abbrev S192x768 : Shape := ⟨2, ![192, 768]⟩
abbrev S768x128 : Shape := ⟨2, ![768, 128]⟩
abbrev S1x768x128 : Shape := ⟨3, ![1, 768, 128]⟩
abbrev S1x960x256 : Shape := ⟨3, ![1, 960, 256]⟩
abbrev S960x256 : Shape := ⟨2, ![960, 256]⟩
abbrev S192x960 : Shape := ⟨2, ![192, 960]⟩
abbrev S960x128 : Shape := ⟨2, ![960, 128]⟩
abbrev S1x960x128 : Shape := ⟨3, ![1, 960, 128]⟩
abbrev S1x1152x256 : Shape := ⟨3, ![1, 1152, 256]⟩
abbrev S1152x256 : Shape := ⟨2, ![1152, 256]⟩
abbrev S192x1152 : Shape := ⟨2, ![192, 1152]⟩
abbrev S1152x128 : Shape := ⟨2, ![1152, 128]⟩
abbrev S1x1152x128 : Shape := ⟨3, ![1, 1152, 128]⟩
abbrev S1x1344x256 : Shape := ⟨3, ![1, 1344, 256]⟩
abbrev S1344x256 : Shape := ⟨2, ![1344, 256]⟩
abbrev S192x1344 : Shape := ⟨2, ![192, 1344]⟩
abbrev S1344x128 : Shape := ⟨2, ![1344, 128]⟩
abbrev S1x1344x128 : Shape := ⟨3, ![1, 1344, 128]⟩
abbrev S1x1536x256 : Shape := ⟨3, ![1, 1536, 256]⟩
abbrev S1536x256 : Shape := ⟨2, ![1536, 256]⟩
abbrev S192x1536 : Shape := ⟨2, ![192, 1536]⟩
abbrev S1536x128 : Shape := ⟨2, ![1536, 128]⟩
abbrev S1x1536x128 : Shape := ⟨3, ![1, 1536, 128]⟩
abbrev S1x1728x256 : Shape := ⟨3, ![1, 1728, 256]⟩
abbrev S1728x256 : Shape := ⟨2, ![1728, 256]⟩
abbrev S192x1728 : Shape := ⟨2, ![192, 1728]⟩
abbrev S1728x128 : Shape := ⟨2, ![1728, 128]⟩
abbrev S1x1728x128 : Shape := ⟨3, ![1, 1728, 128]⟩
abbrev S1x1920x256 : Shape := ⟨3, ![1, 1920, 256]⟩
abbrev S1920x256 : Shape := ⟨2, ![1920, 256]⟩
abbrev S192x1920 : Shape := ⟨2, ![192, 1920]⟩
abbrev S1920x128 : Shape := ⟨2, ![1920, 128]⟩
abbrev S1x1920x128 : Shape := ⟨3, ![1, 1920, 128]⟩
abbrev S192x2112 : Shape := ⟨2, ![192, 2112]⟩

abbrev nBuf : Space → Nat
  | .hbm => 68
  | .vmem => 20
  | .smem => 0
  | _ => 0

abbrev bufTy : (tb : Table) → Fin (tcTables nBuf tb) → BufTy
  | .hbm, ⟨0, _⟩ => ⟨S4x4224x256, .bf16⟩
  | .hbm, ⟨1, _⟩ => ⟨S4x4224x256, .bf16⟩
  | .hbm, ⟨2, _⟩ => ⟨S4x4224x128, .bf16⟩
  | .hbm, ⟨3, _⟩ => ⟨S4224x512, .f32⟩
  | .hbm, ⟨4, _⟩ => ⟨S4x4224x256, .f32⟩
  | .hbm, ⟨5, _⟩ => ⟨S4x2x2112x256, .f32⟩
  | .hbm, ⟨6, _⟩ => ⟨S2x4x2112x256, .f32⟩
  | .hbm, ⟨7, _⟩ => ⟨S4x4224x256, .f32⟩
  | .hbm, ⟨8, _⟩ => ⟨S4x2x2112x256, .f32⟩
  | .hbm, ⟨9, _⟩ => ⟨S2x4x2112x256, .f32⟩
  | .hbm, ⟨10, _⟩ => ⟨S2112, .i32⟩
  | .hbm, ⟨11, _⟩ => ⟨S_, .i32⟩
  | .hbm, ⟨12, _⟩ => ⟨S_, .i32⟩
  | .hbm, ⟨13, _⟩ => ⟨S2112, .i32⟩
  | .hbm, ⟨14, _⟩ => ⟨S2112, .i32⟩
  | .hbm, ⟨15, _⟩ => ⟨S2112, .i32⟩
  | .hbm, ⟨16, _⟩ => ⟨S_, .i32⟩
  | .hbm, ⟨17, _⟩ => ⟨S2112, .i32⟩
  | .hbm, ⟨18, _⟩ => ⟨S2112, .i1⟩
  | .hbm, ⟨19, _⟩ => ⟨S2112, .i32⟩
  | .hbm, ⟨20, _⟩ => ⟨S2112, .i32⟩
  | .hbm, ⟨21, _⟩ => ⟨S_, .i32⟩
  | .hbm, ⟨22, _⟩ => ⟨S2112, .i32⟩
  | .hbm, ⟨23, _⟩ => ⟨S2112, .i1⟩
  | .hbm, ⟨24, _⟩ => ⟨S2112, .i1⟩
  | .hbm, ⟨25, _⟩ => ⟨S_, .i32⟩
  | .hbm, ⟨26, _⟩ => ⟨S2112, .i32⟩
  | .hbm, ⟨27, _⟩ => ⟨S2112, .i32⟩
  | .hbm, ⟨28, _⟩ => ⟨S2112, .i32⟩
  | .hbm, ⟨29, _⟩ => ⟨S2x4x2112x2112, .f32⟩
  | .hbm, ⟨30, _⟩ => ⟨S_, .f32⟩
  | .hbm, ⟨31, _⟩ => ⟨S2x4x2112x2112, .f32⟩
  | .hbm, ⟨32, _⟩ => ⟨S2x4x2112x2112, .f32⟩
  | .hbm, ⟨33, _⟩ => ⟨S1x2112, .i32⟩
  | .hbm, ⟨34, _⟩ => ⟨S2112x1, .i32⟩
  | .hbm, ⟨35, _⟩ => ⟨S2112x2112, .i32⟩
  | .hbm, ⟨36, _⟩ => ⟨S2112x2112, .i32⟩
  | .hbm, ⟨37, _⟩ => ⟨S2112x2112, .i1⟩
  | .hbm, ⟨38, _⟩ => ⟨S1x1x2112x2112, .i1⟩
  | .hbm, ⟨39, _⟩ => ⟨S_, .f32⟩
  | .hbm, ⟨40, _⟩ => ⟨S_, .f32⟩
  | .hbm, ⟨41, _⟩ => ⟨S2x4x2112x2112, .i1⟩
  | .hbm, ⟨42, _⟩ => ⟨S2x4x2112x2112, .f32⟩
  | .hbm, ⟨43, _⟩ => ⟨S2x4x2112x2112, .f32⟩
  | .hbm, ⟨44, _⟩ => ⟨S_, .f32⟩
  | .hbm, ⟨45, _⟩ => ⟨S2x4x2112, .f32⟩
  | .hbm, ⟨46, _⟩ => ⟨S2x4x2112x1, .f32⟩
  | .hbm, ⟨47, _⟩ => ⟨S2x4x2112x2112, .f32⟩
  | .hbm, ⟨48, _⟩ => ⟨S2x4x2112x2112, .f32⟩
  | .hbm, ⟨49, _⟩ => ⟨S2x4x2112x2112, .f32⟩
  | .hbm, ⟨50, _⟩ => ⟨S_, .f32⟩
  | .hbm, ⟨51, _⟩ => ⟨S2x4x2112, .f32⟩
  | .hbm, ⟨52, _⟩ => ⟨S2x4x2112x1, .f32⟩
  | .hbm, ⟨53, _⟩ => ⟨S2x4x2112x2112, .f32⟩
  | .hbm, ⟨54, _⟩ => ⟨S2x4x2112x2112, .f32⟩
  | .hbm, ⟨55, _⟩ => ⟨S4x4224x128, .f32⟩
  | .hbm, ⟨56, _⟩ => ⟨S4x2x2112x128, .f32⟩
  | .hbm, ⟨57, _⟩ => ⟨S2x4x2112x128, .f32⟩
  | .hbm, ⟨58, _⟩ => ⟨S2x4x2112x128, .f32⟩
  | .hbm, ⟨59, _⟩ => ⟨S2x2112x4x128, .f32⟩
  | .hbm, ⟨60, _⟩ => ⟨S4224x512, .f32⟩
  | .hbm, ⟨61, _⟩ => ⟨S2x4x2112x1, .f32⟩
  | .hbm, ⟨62, _⟩ => ⟨S2x4x2112x1, .f32⟩
  | .hbm, ⟨63, _⟩ => ⟨S4x2x2112x1, .f32⟩
  | .hbm, ⟨64, _⟩ => ⟨S4x4224x1, .f32⟩
  | .hbm, ⟨65, _⟩ => ⟨S4x4224x256, .bf16⟩
  | .hbm, ⟨66, _⟩ => ⟨S4x4224x256, .bf16⟩
  | .hbm, ⟨67, _⟩ => ⟨S4x4224x128, .bf16⟩
  | .local _ .vmem, ⟨0, _⟩ => ⟨S1x2112x256, .bf16⟩
  | .local _ .vmem, ⟨1, _⟩ => ⟨S1x2112x256, .bf16⟩
  | .local _ .vmem, ⟨2, _⟩ => ⟨S1x2112x256, .bf16⟩
  | .local _ .vmem, ⟨3, _⟩ => ⟨S1x2112x256, .bf16⟩
  | .local _ .vmem, ⟨4, _⟩ => ⟨S1x2112x128, .bf16⟩
  | .local _ .vmem, ⟨5, _⟩ => ⟨S1x2112x128, .bf16⟩
  | .local _ .vmem, ⟨6, _⟩ => ⟨S2112x128, .f32⟩
  | .local _ .vmem, ⟨7, _⟩ => ⟨S2112x128, .f32⟩
  | .local _ .vmem, ⟨8, _⟩ => ⟨S1x2112x1, .f32⟩
  | .local _ .vmem, ⟨9, _⟩ => ⟨S1x2112x1, .f32⟩
  | .local _ .vmem, ⟨10, _⟩ => ⟨S2112x128, .f32⟩
  | .local _ .vmem, ⟨11, _⟩ => ⟨S2112x128, .f32⟩
  | .local _ .vmem, ⟨12, _⟩ => ⟨S1x2112x256, .bf16⟩
  | .local _ .vmem, ⟨13, _⟩ => ⟨S1x2112x256, .bf16⟩
  | .local _ .vmem, ⟨14, _⟩ => ⟨S1x2112x256, .bf16⟩
  | .local _ .vmem, ⟨15, _⟩ => ⟨S1x2112x256, .bf16⟩
  | .local _ .vmem, ⟨16, _⟩ => ⟨S1x2112x128, .bf16⟩
  | .local _ .vmem, ⟨17, _⟩ => ⟨S1x2112x128, .bf16⟩
  | .local _ .vmem, ⟨18, _⟩ => ⟨S2112x256, .f32⟩
  | .local _ .vmem, ⟨19, _⟩ => ⟨S2112x128, .f32⟩
  | _, _ => ⟨S4x4224x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v7 : Ref sig .tc := ⟨.hbm, 28, rfl⟩
abbrev main_v8 : Ref sig .tc := ⟨.hbm, 29, rfl⟩
abbrev main_cst : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_cst_0 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_v17 : Ref sig .tc := ⟨.hbm, 43, rfl⟩
abbrev main_cst_1 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_cst_2 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37_0 : Ref sig .tc := ⟨.hbm, 65, rfl⟩
abbrev main_v37_1 : Ref sig .tc := ⟨.hbm, 66, rfl⟩
abbrev main_v37_2 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1x2112x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2112x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2112x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2112x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2112x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2112x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2112x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2112x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x2112x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceIdeal.lean ====
abbrev S4x4224x256 : Shape := ⟨3, ![4, 4224, 256]⟩
abbrev S4x4224x128 : Shape := ⟨3, ![4, 4224, 128]⟩
abbrev S4224x512 : Shape := ⟨2, ![4224, 512]⟩
abbrev S4x2x2112x256 : Shape := ⟨4, ![4, 2, 2112, 256]⟩
abbrev S2x4x2112x256 : Shape := ⟨4, ![2, 4, 2112, 256]⟩
abbrev S4x2x2112x128 : Shape := ⟨4, ![4, 2, 2112, 128]⟩
abbrev S2x4x2112x128 : Shape := ⟨4, ![2, 4, 2112, 128]⟩
abbrev S2x2112x4x128 : Shape := ⟨4, ![2, 2112, 4, 128]⟩
abbrev S2112 : Shape := ⟨1, ![2112]⟩
abbrev S_ : Shape := ⟨0, ![]⟩
abbrev S2x4x2112x2112 : Shape := ⟨4, ![2, 4, 2112, 2112]⟩
abbrev S1x2112 : Shape := ⟨2, ![1, 2112]⟩
abbrev S2112x1 : Shape := ⟨2, ![2112, 1]⟩
abbrev S2112x2112 : Shape := ⟨2, ![2112, 2112]⟩
abbrev S1x1x2112x2112 : Shape := ⟨4, ![1, 1, 2112, 2112]⟩
abbrev S2x4x2112 : Shape := ⟨3, ![2, 4, 2112]⟩
abbrev S2x4x2112x1 : Shape := ⟨4, ![2, 4, 2112, 1]⟩
abbrev S2x4x128x2112 : Shape := ⟨4, ![2, 4, 128, 2112]⟩

abbrev nBuf : Space → Nat
  | .hbm => 124
  | .vmem => 0
  | .smem => 0
  | _ => 0

abbrev bufTy : (tb : Table) → Fin (tcTables nBuf tb) → BufTy
  | .hbm, ⟨0, _⟩ => ⟨S4x4224x256, .bf16⟩
  | .hbm, ⟨1, _⟩ => ⟨S4x4224x256, .bf16⟩
  | .hbm, ⟨2, _⟩ => ⟨S4x4224x128, .bf16⟩
  | .hbm, ⟨3, _⟩ => ⟨S4224x512, .f32⟩
  | .hbm, ⟨4, _⟩ => ⟨S4x4224x256, .f32⟩
  | .hbm, ⟨5, _⟩ => ⟨S4x2x2112x256, .f32⟩
  | .hbm, ⟨6, _⟩ => ⟨S2x4x2112x256, .f32⟩
  | .hbm, ⟨7, _⟩ => ⟨S4x4224x256, .f32⟩
  | .hbm, ⟨8, _⟩ => ⟨S4x2x2112x256, .f32⟩
  | .hbm, ⟨9, _⟩ => ⟨S2x4x2112x256, .f32⟩
  | .hbm, ⟨10, _⟩ => ⟨S4x4224x128, .f32⟩
  | .hbm, ⟨11, _⟩ => ⟨S4x2x2112x128, .f32⟩
  | .hbm, ⟨12, _⟩ => ⟨S2x4x2112x128, .f32⟩
  | .hbm, ⟨13, _⟩ => ⟨S2x2112x4x128, .f32⟩
  | .hbm, ⟨14, _⟩ => ⟨S2x4x2112x128, .f32⟩
  | .hbm, ⟨15, _⟩ => ⟨S2112, .i32⟩
  | .hbm, ⟨16, _⟩ => ⟨S_, .i32⟩
  | .hbm, ⟨17, _⟩ => ⟨S_, .i32⟩
  | .hbm, ⟨18, _⟩ => ⟨S2112, .i32⟩
  | .hbm, ⟨19, _⟩ => ⟨S2112, .i32⟩
  | .hbm, ⟨20, _⟩ => ⟨S2112, .i32⟩
  | .hbm, ⟨21, _⟩ => ⟨S_, .i32⟩
  | .hbm, ⟨22, _⟩ => ⟨S2112, .i32⟩
  | .hbm, ⟨23, _⟩ => ⟨S2112, .i1⟩
  | .hbm, ⟨24, _⟩ => ⟨S2112, .i32⟩
  | .hbm, ⟨25, _⟩ => ⟨S2112, .i32⟩
  | .hbm, ⟨26, _⟩ => ⟨S_, .i32⟩
  | .hbm, ⟨27, _⟩ => ⟨S2112, .i32⟩
  | .hbm, ⟨28, _⟩ => ⟨S2112, .i1⟩
  | .hbm, ⟨29, _⟩ => ⟨S2112, .i1⟩
  | .hbm, ⟨30, _⟩ => ⟨S_, .i32⟩
  | .hbm, ⟨31, _⟩ => ⟨S2112, .i32⟩
  | .hbm, ⟨32, _⟩ => ⟨S2112, .i32⟩
  | .hbm, ⟨33, _⟩ => ⟨S2112, .i32⟩
  | .hbm, ⟨34, _⟩ => ⟨S2x4x2112x2112, .f32⟩
  | .hbm, ⟨35, _⟩ => ⟨S_, .f32⟩
  | .hbm, ⟨36, _⟩ => ⟨S2x4x2112x2112, .f32⟩
  | .hbm, ⟨37, _⟩ => ⟨S2x4x2112x2112, .f32⟩
  | .hbm, ⟨38, _⟩ => ⟨S1x2112, .i32⟩
  | .hbm, ⟨39, _⟩ => ⟨S2112x1, .i32⟩
  | .hbm, ⟨40, _⟩ => ⟨S2112x2112, .i32⟩
  | .hbm, ⟨41, _⟩ => ⟨S2112x2112, .i32⟩
  | .hbm, ⟨42, _⟩ => ⟨S2112x2112, .i1⟩
  | .hbm, ⟨43, _⟩ => ⟨S1x1x2112x2112, .i1⟩
  | .hbm, ⟨44, _⟩ => ⟨S_, .f32⟩
  | .hbm, ⟨45, _⟩ => ⟨S_, .f32⟩
  | .hbm, ⟨46, _⟩ => ⟨S2x4x2112x2112, .i1⟩
  | .hbm, ⟨47, _⟩ => ⟨S2x4x2112x2112, .f32⟩
  | .hbm, ⟨48, _⟩ => ⟨S2x4x2112x2112, .f32⟩
  | .hbm, ⟨49, _⟩ => ⟨S_, .f32⟩
  | .hbm, ⟨50, _⟩ => ⟨S2x4x2112x2112, .f32⟩
  | .hbm, ⟨51, _⟩ => ⟨S_, .f32⟩
  | .hbm, ⟨52, _⟩ => ⟨S2x4x2112, .f32⟩
  | .hbm, ⟨53, _⟩ => ⟨S2x4x2112x1, .f32⟩
  | .hbm, ⟨54, _⟩ => ⟨S2x4x2112x2112, .f32⟩
  | .hbm, ⟨55, _⟩ => ⟨S2x4x2112x2112, .i1⟩
  | .hbm, ⟨56, _⟩ => ⟨S2x4x2112x2112, .f32⟩
  | .hbm, ⟨57, _⟩ => ⟨S_, .f32⟩
  | .hbm, ⟨58, _⟩ => ⟨S2x4x2112, .f32⟩
  | .hbm, ⟨59, _⟩ => ⟨S_, .f32⟩
  | .hbm, ⟨60, _⟩ => ⟨S2x4x2112, .f32⟩
  | .hbm, ⟨61, _⟩ => ⟨S2x4x2112, .f32⟩
  | .hbm, ⟨62, _⟩ => ⟨S_, .f32⟩
  | .hbm, ⟨63, _⟩ => ⟨S2x4x2112, .f32⟩
  | .hbm, ⟨64, _⟩ => ⟨S2x4x2112, .i1⟩
  | .hbm, ⟨65, _⟩ => ⟨S_, .f32⟩
  | .hbm, ⟨66, _⟩ => ⟨S2x4x2112, .f32⟩
  | .hbm, ⟨67, _⟩ => ⟨S2x4x2112, .i1⟩
  | .hbm, ⟨68, _⟩ => ⟨S_, .f32⟩
  | .hbm, ⟨69, _⟩ => ⟨S2x4x2112, .f32⟩
  | .hbm, ⟨70, _⟩ => ⟨S_, .f32⟩
  | .hbm, ⟨71, _⟩ => ⟨S2x4x2112, .f32⟩
  | .hbm, ⟨72, _⟩ => ⟨S_, .f32⟩
  | .hbm, ⟨73, _⟩ => ⟨S2x4x2112, .f32⟩
  | .hbm, ⟨74, _⟩ => ⟨S2x4x2112, .f32⟩
  | .hbm, ⟨75, _⟩ => ⟨S2x4x2112, .f32⟩
  | .hbm, ⟨76, _⟩ => ⟨S2x4x2112x1, .f32⟩
  | .hbm, ⟨77, _⟩ => ⟨S2x4x2112x2112, .f32⟩
  | .hbm, ⟨78, _⟩ => ⟨S2x4x2112x2112, .f32⟩
  | .hbm, ⟨79, _⟩ => ⟨S2x4x2112x2112, .f32⟩
  | .hbm, ⟨80, _⟩ => ⟨S_, .f32⟩
  | .hbm, ⟨81, _⟩ => ⟨S2x4x2112, .f32⟩
  | .hbm, ⟨82, _⟩ => ⟨S2x4x2112x1, .f32⟩
  | .hbm, ⟨83, _⟩ => ⟨S2x4x2112x2112, .f32⟩
  | .hbm, ⟨84, _⟩ => ⟨S2x4x2112x2112, .f32⟩
  | .hbm, ⟨85, _⟩ => ⟨S2x4x2112x1, .f32⟩
  | .hbm, ⟨86, _⟩ => ⟨S_, .f32⟩
  | .hbm, ⟨87, _⟩ => ⟨S2x4x2112x1, .f32⟩
  | .hbm, ⟨88, _⟩ => ⟨S2x4x2112x1, .f32⟩
  | .hbm, ⟨89, _⟩ => ⟨S2x4x2112x128, .f32⟩
  | .hbm, ⟨90, _⟩ => ⟨S2x4x128x2112, .f32⟩
  | .hbm, ⟨91, _⟩ => ⟨S2x4x2112x128, .f32⟩
  | .hbm, ⟨92, _⟩ => ⟨S2x4x2112x2112, .f32⟩
  | .hbm, ⟨93, _⟩ => ⟨S2x4x2112x2112, .f32⟩
  | .hbm, ⟨94, _⟩ => ⟨S2x4x2112x2112, .f32⟩
  | .hbm, ⟨95, _⟩ => ⟨S2x4x2112x2112, .f32⟩
  | .hbm, ⟨96, _⟩ => ⟨S_, .f32⟩
  | .hbm, ⟨97, _⟩ => ⟨S2x4x2112, .f32⟩
  | .hbm, ⟨98, _⟩ => ⟨S2x4x2112x1, .f32⟩
  | .hbm, ⟨99, _⟩ => ⟨S2x4x2112x1, .f32⟩
  | .hbm, ⟨100, _⟩ => ⟨S2x4x2112x2112, .f32⟩
  | .hbm, ⟨101, _⟩ => ⟨S2x4x2112x2112, .f32⟩
  | .hbm, ⟨102, _⟩ => ⟨S_, .f32⟩
  | .hbm, ⟨103, _⟩ => ⟨S2x4x2112, .f32⟩
  | .hbm, ⟨104, _⟩ => ⟨S2x4x2112x2112, .f32⟩
  | .hbm, ⟨105, _⟩ => ⟨S2x4x2112x2112, .f32⟩
  | .hbm, ⟨106, _⟩ => ⟨S2x4x2112x2112, .f32⟩
  | .hbm, ⟨107, _⟩ => ⟨S_, .f32⟩
  | .hbm, ⟨108, _⟩ => ⟨S2x4x2112x2112, .f32⟩
  | .hbm, ⟨109, _⟩ => ⟨S2x4x2112x2112, .f32⟩
  | .hbm, ⟨110, _⟩ => ⟨S_, .f32⟩
  | .hbm, ⟨111, _⟩ => ⟨S2x4x2112x2112, .f32⟩
  | .hbm, ⟨112, _⟩ => ⟨S2x4x2112x2112, .f32⟩
  | .hbm, ⟨113, _⟩ => ⟨S2x4x2112x256, .f32⟩
  | .hbm, ⟨114, _⟩ => ⟨S2x4x2112x256, .f32⟩
  | .hbm, ⟨115, _⟩ => ⟨S4x2x2112x256, .f32⟩
  | .hbm, ⟨116, _⟩ => ⟨S4x4224x256, .f32⟩
  | .hbm, ⟨117, _⟩ => ⟨S4x4224x256, .bf16⟩
  | .hbm, ⟨118, _⟩ => ⟨S4x2x2112x256, .f32⟩
  | .hbm, ⟨119, _⟩ => ⟨S4x4224x256, .f32⟩
  | .hbm, ⟨120, _⟩ => ⟨S4x4224x256, .bf16⟩
  | .hbm, ⟨121, _⟩ => ⟨S4x2x2112x128, .f32⟩
  | .hbm, ⟨122, _⟩ => ⟨S4x4224x128, .f32⟩
  | .hbm, ⟨123, _⟩ => ⟨S4x4224x128, .bf16⟩
  | _, _ => ⟨S4x4224x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_c : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_c : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_0 : Ref sig .tc := ⟨.hbm, 30, rfl⟩
abbrev main_call0_v12 : Ref sig .tc := ⟨.hbm, 31, rfl⟩
abbrev main_call0_v13 : Ref sig .tc := ⟨.hbm, 32, rfl⟩
abbrev main_v12 : Ref sig .tc := ⟨.hbm, 33, rfl⟩
abbrev main_v13 : Ref sig .tc := ⟨.hbm, 34, rfl⟩
abbrev main_cst : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_cst_0 : Ref sig .tc := ⟨.hbm, 44, rfl⟩
abbrev main_call1_v0 : Ref sig .tc := ⟨.hbm, 45, rfl⟩
abbrev main_v22_1 : Ref sig .tc := ⟨.hbm, 46, rfl⟩
abbrev main_call1_v2 : Ref sig .tc := ⟨.hbm, 47, rfl⟩
abbrev main_v22_0 : Ref sig .tc := ⟨.hbm, 48, rfl⟩
abbrev main_call1_cst : Ref sig .tc := ⟨.hbm, 49, rfl⟩
abbrev main_v22_2 : Ref sig .tc := ⟨.hbm, 50, rfl⟩
abbrev main_cst_1 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_cst_2 : Ref sig .tc := ⟨.hbm, 57, rfl⟩
abbrev main_v28 : Ref sig .tc := ⟨.hbm, 58, rfl⟩
abbrev main_cst_3 : Ref sig .tc := ⟨.hbm, 59, rfl⟩
abbrev main_v29 : Ref sig .tc := ⟨.hbm, 60, rfl⟩
abbrev main_v30 : Ref sig .tc := ⟨.hbm, 61, rfl⟩
abbrev main_cst_4 : Ref sig .tc := ⟨.hbm, 62, rfl⟩
abbrev main_v31 : Ref sig .tc := ⟨.hbm, 63, rfl⟩
abbrev main_v32 : Ref sig .tc := ⟨.hbm, 64, rfl⟩
abbrev main_cst_5 : Ref sig .tc := ⟨.hbm, 65, rfl⟩
abbrev main_v33 : Ref sig .tc := ⟨.hbm, 66, rfl⟩
abbrev main_v34 : Ref sig .tc := ⟨.hbm, 67, rfl⟩
abbrev main_cst_6 : Ref sig .tc := ⟨.hbm, 68, rfl⟩
abbrev main_v35 : Ref sig .tc := ⟨.hbm, 69, rfl⟩
abbrev main_cst_7 : Ref sig .tc := ⟨.hbm, 70, rfl⟩
abbrev main_v36 : Ref sig .tc := ⟨.hbm, 71, rfl⟩
abbrev main_cst_8 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_cst_9 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_cst_10 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_cst_11 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_cst_12 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_call2_cst : Ref sig .tc := ⟨.hbm, 107, rfl⟩
abbrev main_call2_v0 : Ref sig .tc := ⟨.hbm, 108, rfl⟩
abbrev main_v67 : Ref sig .tc := ⟨.hbm, 109, rfl⟩
abbrev main_cst_13 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩

abbrev nD : Nat := 1
abbrev τ : Topo := Topo.v7x

variable {F : FTy → Type} [FloatOps F]
-- ==== Act.lean ====
abbrev S4224x1024 : Shape := ⟨2, ![4224, 1024]⟩
abbrev S4x704x1024 : Shape := ⟨3, ![4, 704, 1024]⟩
abbrev S4x4224x704 : Shape := ⟨3, ![4, 4224, 704]⟩
abbrev S1408x1024 : Shape := ⟨2, ![1408, 1024]⟩
abbrev S1x704x1024 : Shape := ⟨3, ![1, 704, 1024]⟩
abbrev S1x1408x704 : Shape := ⟨3, ![1, 1408, 704]⟩
abbrev S704x1024 : Shape := ⟨2, ![704, 1024]⟩
abbrev S704x704 : Shape := ⟨2, ![704, 704]⟩
abbrev S1x704x704 : Shape := ⟨3, ![1, 704, 704]⟩

abbrev nBuf : Space → Nat
  | .hbm => 6
  | .vmem => 12
  | .smem => 0
  | _ => 0

abbrev bufTy : (tb : Table) → Fin (tcTables nBuf tb) → BufTy
  | .hbm, ⟨0, _⟩ => ⟨S4224x1024, .bf16⟩
  | .hbm, ⟨1, _⟩ => ⟨S4x704x1024, .bf16⟩
  | .hbm, ⟨2, _⟩ => ⟨S4x4224x704, .bf16⟩
  | .hbm, ⟨3, _⟩ => ⟨S4x4224x704, .bf16⟩
  | .hbm, ⟨4, _⟩ => ⟨S4x4224x704, .bf16⟩
  | .hbm, ⟨5, _⟩ => ⟨S4x4224x704, .bf16⟩
  | .local _ .vmem, ⟨0, _⟩ => ⟨S1408x1024, .bf16⟩
  | .local _ .vmem, ⟨1, _⟩ => ⟨S1408x1024, .bf16⟩
  | .local _ .vmem, ⟨2, _⟩ => ⟨S1x704x1024, .bf16⟩
  | .local _ .vmem, ⟨3, _⟩ => ⟨S1x704x1024, .bf16⟩
  | .local _ .vmem, ⟨4, _⟩ => ⟨S1x1408x704, .bf16⟩
  | .local _ .vmem, ⟨5, _⟩ => ⟨S1x1408x704, .bf16⟩
  | .local _ .vmem, ⟨6, _⟩ => ⟨S1x1408x704, .bf16⟩
  | .local _ .vmem, ⟨7, _⟩ => ⟨S1x1408x704, .bf16⟩
  | .local _ .vmem, ⟨8, _⟩ => ⟨S1x1408x704, .bf16⟩
  | .local _ .vmem, ⟨9, _⟩ => ⟨S1x1408x704, .bf16⟩
  | .local _ .vmem, ⟨10, _⟩ => ⟨S1x1408x704, .bf16⟩
  | .local _ .vmem, ⟨11, _⟩ => ⟨S1x1408x704, .bf16⟩
  | _, _ => ⟨S4224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1408x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1408x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1408x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1408x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ActRefIdeal.lean ====
abbrev S4224x1024 : Shape := ⟨2, ![4224, 1024]⟩
abbrev S4x704x1024 : Shape := ⟨3, ![4, 704, 1024]⟩
abbrev S4x4224x704 : Shape := ⟨3, ![4, 4224, 704]⟩
abbrev S_ : Shape := ⟨0, ![]⟩
abbrev S4224x4x704 : Shape := ⟨3, ![4224, 4, 704]⟩

abbrev nBuf : Space → Nat
  | .hbm => 39
  | .vmem => 0
  | .smem => 0
  | _ => 0

abbrev bufTy : (tb : Table) → Fin (tcTables nBuf tb) → BufTy
  | .hbm, ⟨0, _⟩ => ⟨S4224x1024, .bf16⟩
  | .hbm, ⟨1, _⟩ => ⟨S4x704x1024, .bf16⟩
  | .hbm, ⟨2, _⟩ => ⟨S4x4224x704, .bf16⟩
  | .hbm, ⟨3, _⟩ => ⟨S4x4224x704, .bf16⟩
  | .hbm, ⟨4, _⟩ => ⟨S4224x1024, .f32⟩
  | .hbm, ⟨5, _⟩ => ⟨S4x704x1024, .f32⟩
  | .hbm, ⟨6, _⟩ => ⟨S4x4224x704, .f32⟩
  | .hbm, ⟨7, _⟩ => ⟨S4x4224x704, .f32⟩
  | .hbm, ⟨8, _⟩ => ⟨S4x4224x704, .f32⟩
  | .hbm, ⟨9, _⟩ => ⟨S4x4224x704, .f32⟩
  | .hbm, ⟨10, _⟩ => ⟨S_, .f32⟩
  | .hbm, ⟨11, _⟩ => ⟨S4x4224x704, .f32⟩
  | .hbm, ⟨12, _⟩ => ⟨S4x4224x704, .f32⟩
  | .hbm, ⟨13, _⟩ => ⟨S_, .f32⟩
  | .hbm, ⟨14, _⟩ => ⟨S4x4224x704, .f32⟩
  | .hbm, ⟨15, _⟩ => ⟨S4x4224x704, .f32⟩
  | .hbm, ⟨16, _⟩ => ⟨S_, .f32⟩
  | .hbm, ⟨17, _⟩ => ⟨S4x4224x704, .f32⟩
  | .hbm, ⟨18, _⟩ => ⟨S4x4224x704, .f32⟩
  | .hbm, ⟨19, _⟩ => ⟨S4x4224x704, .f32⟩
  | .hbm, ⟨20, _⟩ => ⟨S4x4224x704, .f32⟩
  | .hbm, ⟨21, _⟩ => ⟨S4x4224x704, .f32⟩
  | .hbm, ⟨22, _⟩ => ⟨S4224x1024, .f32⟩
  | .hbm, ⟨23, _⟩ => ⟨S_, .f32⟩
  | .hbm, ⟨24, _⟩ => ⟨S4224x1024, .f32⟩
  | .hbm, ⟨25, _⟩ => ⟨S4224x1024, .f32⟩
  | .hbm, ⟨26, _⟩ => ⟨S_, .f32⟩
  | .hbm, ⟨27, _⟩ => ⟨S4224x1024, .f32⟩
  | .hbm, ⟨28, _⟩ => ⟨S4224x1024, .f32⟩
  | .hbm, ⟨29, _⟩ => ⟨S4224x4x704, .f32⟩
  | .hbm, ⟨30, _⟩ => ⟨S4x4224x704, .f32⟩
  | .hbm, ⟨31, _⟩ => ⟨S4x4224x704, .f32⟩
  | .hbm, ⟨32, _⟩ => ⟨S4x4224x704, .f32⟩
  | .hbm, ⟨33, _⟩ => ⟨S4x4224x704, .f32⟩
  | .hbm, ⟨34, _⟩ => ⟨S4x4224x704, .f32⟩
  | .hbm, ⟨35, _⟩ => ⟨S4x4224x704, .f32⟩
  | .hbm, ⟨36, _⟩ => ⟨S4x4224x704, .f32⟩
  | .hbm, ⟨37, _⟩ => ⟨S4x4224x704, .bf16⟩
  | .hbm, ⟨38, _⟩ => ⟨S4x4224x704, .bf16⟩
  | _, _ => ⟨S4224x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_v4_2 : Ref sig .tc := ⟨.hbm, 15, rfl⟩
abbrev main_call0_cst_1 : Ref sig .tc := ⟨.hbm, 16, rfl⟩
abbrev main_call0_v6 : Ref sig .tc := ⟨.hbm, 17, rfl⟩
abbrev main_call0_v7 : Ref sig .tc := ⟨.hbm, 18, rfl⟩
abbrev main_v4_1 : Ref sig .tc := ⟨.hbm, 19, rfl⟩
abbrev main_v4_0 : Ref sig .tc := ⟨.hbm, 20, rfl⟩
abbrev main_v5 : Ref sig .tc := ⟨.hbm, 21, rfl⟩
abbrev main_v6 : Ref sig .tc := ⟨.hbm, 22, rfl⟩
abbrev main_cst : Ref sig .tc := ⟨.hbm, 23, rfl⟩
abbrev main_v7 : Ref sig .tc := ⟨.hbm, 24, rfl⟩
abbrev main_v8 : Ref sig .tc := ⟨.hbm, 25, rfl⟩
abbrev main_cst_0 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩

abbrev nD : Nat := 1
abbrev τ : Topo := Topo.v7x

variable {F : FTy → Type} [FloatOps F]
-- ==== Up.lean ====
abbrev S4x4224x704 : Shape := ⟨3, ![4, 4224, 704]⟩
abbrev S4224x1024 : Shape := ⟨2, ![4224, 1024]⟩
abbrev S4x704x1024 : Shape := ⟨3, ![4, 704, 1024]⟩
abbrev S1x4224x704 : Shape := ⟨3, ![1, 4224, 704]⟩
abbrev S1x704x1024 : Shape := ⟨3, ![1, 704, 1024]⟩
abbrev S4224x704 : Shape := ⟨2, ![4224, 704]⟩
abbrev S704x1024 : Shape := ⟨2, ![704, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4x4224x704, .bf16⟩
  | .hbm, ⟨1, _⟩ => ⟨S4224x1024, .bf16⟩
  | .hbm, ⟨2, _⟩ => ⟨S4x704x1024, .f32⟩
  | .hbm, ⟨3, _⟩ => ⟨S4x704x1024, .bf16⟩
  | .local _ .vmem, ⟨0, _⟩ => ⟨S1x4224x704, .bf16⟩
  | .local _ .vmem, ⟨1, _⟩ => ⟨S1x4224x704, .bf16⟩
  | .local _ .vmem, ⟨2, _⟩ => ⟨S4224x1024, .bf16⟩
  | .local _ .vmem, ⟨3, _⟩ => ⟨S1x704x1024, .f32⟩
  | .local _ .vmem, ⟨4, _⟩ => ⟨S1x704x1024, .f32⟩
  | .local _ .vmem, ⟨5, _⟩ => ⟨S1x704x1024, .bf16⟩
  | .local _ .vmem, ⟨6, _⟩ => ⟨S1x704x1024, .bf16⟩
  | _, _ => ⟨S4x4224x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x4224x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4224x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x704x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x704x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== UpRefIdeal.lean ====
abbrev S4x4224x704 : Shape := ⟨3, ![4, 4224, 704]⟩
abbrev S4224x1024 : Shape := ⟨2, ![4224, 1024]⟩
abbrev S_ : Shape := ⟨0, ![]⟩
abbrev S4x704x1024 : Shape := ⟨3, ![4, 704, 1024]⟩
abbrev S4x704x4224 : Shape := ⟨3, ![4, 704, 4224]⟩

abbrev nBuf : Space → Nat
  | .hbm => 11
  | .vmem => 0
  | .smem => 0
  | _ => 0

abbrev bufTy : (tb : Table) → Fin (tcTables nBuf tb) → BufTy
  | .hbm, ⟨0, _⟩ => ⟨S4x4224x704, .bf16⟩
  | .hbm, ⟨1, _⟩ => ⟨S4224x1024, .bf16⟩
  | .hbm, ⟨2, _⟩ => ⟨S4224x1024, .f32⟩
  | .hbm, ⟨3, _⟩ => ⟨S4x4224x704, .f32⟩
  | .hbm, ⟨4, _⟩ => ⟨S_, .f32⟩
  | .hbm, ⟨5, _⟩ => ⟨S4x704x1024, .f32⟩
  | .hbm, ⟨6, _⟩ => ⟨S4x704x4224, .f32⟩
  | .hbm, ⟨7, _⟩ => ⟨S4x4224x704, .f32⟩
  | .hbm, ⟨8, _⟩ => ⟨S4x704x4224, .f32⟩
  | .hbm, ⟨9, _⟩ => ⟨S4x704x1024, .f32⟩
  | .hbm, ⟨10, _⟩ => ⟨S4x704x1024, .bf16⟩
  | _, _ => ⟨S4x4224x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Down.lean ====
abbrev S4x4224x704 : Shape := ⟨3, ![4, 4224, 704]⟩
abbrev S4224x1024 : Shape := ⟨2, ![4224, 1024]⟩
abbrev S4x704x1024 : Shape := ⟨3, ![4, 704, 1024]⟩
abbrev S1x4224x704 : Shape := ⟨3, ![1, 4224, 704]⟩
abbrev S1x704x1024 : Shape := ⟨3, ![1, 704, 1024]⟩
abbrev S4224x704 : Shape := ⟨2, ![4224, 704]⟩
abbrev S704x1024 : Shape := ⟨2, ![704, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4x4224x704, .bf16⟩
  | .hbm, ⟨1, _⟩ => ⟨S4224x1024, .bf16⟩
  | .hbm, ⟨2, _⟩ => ⟨S4x704x1024, .f32⟩
  | .hbm, ⟨3, _⟩ => ⟨S4x704x1024, .bf16⟩
  | .local _ .vmem, ⟨0, _⟩ => ⟨S1x4224x704, .bf16⟩
  | .local _ .vmem, ⟨1, _⟩ => ⟨S1x4224x704, .bf16⟩
  | .local _ .vmem, ⟨2, _⟩ => ⟨S4224x1024, .bf16⟩
  | .local _ .vmem, ⟨3, _⟩ => ⟨S1x704x1024, .f32⟩
  | .local _ .vmem, ⟨4, _⟩ => ⟨S1x704x1024, .f32⟩
  | .local _ .vmem, ⟨5, _⟩ => ⟨S1x704x1024, .bf16⟩
  | .local _ .vmem, ⟨6, _⟩ => ⟨S1x704x1024, .bf16⟩
  | _, _ => ⟨S4x4224x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x4224x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4224x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x704x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x704x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== DownRefIdeal.lean ====
abbrev S4x4224x704 : Shape := ⟨3, ![4, 4224, 704]⟩
abbrev S4224x1024 : Shape := ⟨2, ![4224, 1024]⟩
abbrev S_ : Shape := ⟨0, ![]⟩
abbrev S4x704x1024 : Shape := ⟨3, ![4, 704, 1024]⟩
abbrev S1024x4x704 : Shape := ⟨3, ![1024, 4, 704]⟩

abbrev nBuf : Space → Nat
  | .hbm => 16
  | .vmem => 0
  | .smem => 0
  | _ => 0

abbrev bufTy : (tb : Table) → Fin (tcTables nBuf tb) → BufTy
  | .hbm, ⟨0, _⟩ => ⟨S4x4224x704, .bf16⟩
  | .hbm, ⟨1, _⟩ => ⟨S4224x1024, .bf16⟩
  | .hbm, ⟨2, _⟩ => ⟨S4x4224x704, .f32⟩
  | .hbm, ⟨3, _⟩ => ⟨S4224x1024, .f32⟩
  | .hbm, ⟨4, _⟩ => ⟨S_, .f32⟩
  | .hbm, ⟨5, _⟩ => ⟨S4x704x1024, .f32⟩
  | .hbm, ⟨6, _⟩ => ⟨S4224x1024, .f32⟩
  | .hbm, ⟨7, _⟩ => ⟨S_, .f32⟩
  | .hbm, ⟨8, _⟩ => ⟨S4224x1024, .f32⟩
  | .hbm, ⟨9, _⟩ => ⟨S4224x1024, .f32⟩
  | .hbm, ⟨10, _⟩ => ⟨S_, .f32⟩
  | .hbm, ⟨11, _⟩ => ⟨S4224x1024, .f32⟩
  | .hbm, ⟨12, _⟩ => ⟨S4224x1024, .f32⟩
  | .hbm, ⟨13, _⟩ => ⟨S1024x4x704, .f32⟩
  | .hbm, ⟨14, _⟩ => ⟨S4x704x1024, .f32⟩
  | .hbm, ⟨15, _⟩ => ⟨S4x704x1024, .bf16⟩
  | _, _ => ⟨S4x4224x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== Norm.lean ====
abbrev S4x4224x704 : Shape := ⟨3, ![4, 4224, 704]⟩
abbrev S4x704x1024 : Shape := ⟨3, ![4, 704, 1024]⟩
abbrev S4224x1024 : Shape := ⟨2, ![4224, 1024]⟩
abbrev S1x1024 : Shape := ⟨2, ![1, 1024]⟩
abbrev S1024x1024 : Shape := ⟨2, ![1024, 1024]⟩
abbrev S4224x512 : Shape := ⟨2, ![4224, 512]⟩
abbrev S1x512 : Shape := ⟨2, ![1, 512]⟩
abbrev S4x352x704 : Shape := ⟨3, ![4, 352, 704]⟩
abbrev S352x1024 : Shape := ⟨2, ![352, 1024]⟩
abbrev S352x512 : Shape := ⟨2, ![352, 512]⟩
abbrev S1x352x704 : Shape := ⟨3, ![1, 352, 704]⟩
abbrev S352x704 : Shape := ⟨2, ![352, 704]⟩
abbrev S1x704x1024 : Shape := ⟨3, ![1, 704, 1024]⟩
abbrev S704x1024 : Shape := ⟨2, ![704, 1024]⟩
abbrev S352 : Shape := ⟨1, ![352]⟩
abbrev S352x1 : Shape := ⟨2, ![352, 1]⟩
abbrev S1024 : Shape := ⟨1, ![1024]⟩
abbrev S512 : Shape := ⟨1, ![512]⟩

abbrev nBuf : Space → Nat
  | .hbm => 19
  | .vmem => 29
  | .smem => 0
  | _ => 0

abbrev bufTy : (tb : Table) → Fin (tcTables nBuf tb) → BufTy
  | .hbm, ⟨0, _⟩ => ⟨S4x4224x704, .bf16⟩
  | .hbm, ⟨1, _⟩ => ⟨S4x704x1024, .bf16⟩
  | .hbm, ⟨2, _⟩ => ⟨S4x4224x704, .bf16⟩
  | .hbm, ⟨3, _⟩ => ⟨S4x704x1024, .bf16⟩
  | .hbm, ⟨4, _⟩ => ⟨S4224x1024, .f32⟩
  | .hbm, ⟨5, _⟩ => ⟨S1x1024, .f32⟩
  | .hbm, ⟨6, _⟩ => ⟨S4224x1024, .f32⟩
  | .hbm, ⟨7, _⟩ => ⟨S1024x1024, .bf16⟩
  | .hbm, ⟨8, _⟩ => ⟨S4224x512, .f32⟩
  | .hbm, ⟨9, _⟩ => ⟨S4224x512, .f32⟩
  | .hbm, ⟨10, _⟩ => ⟨S1x512, .f32⟩
  | .hbm, ⟨11, _⟩ => ⟨S1x512, .f32⟩
  | .hbm, ⟨12, _⟩ => ⟨S4224x1024, .f32⟩
  | .hbm, ⟨13, _⟩ => ⟨S4224x1024, .bf16⟩
  | .hbm, ⟨14, _⟩ => ⟨S1x1024, .f32⟩
  | .hbm, ⟨15, _⟩ => ⟨S4224x512, .f32⟩
  | .hbm, ⟨16, _⟩ => ⟨S4224x512, .f32⟩
  | .hbm, ⟨17, _⟩ => ⟨S1x512, .f32⟩
  | .hbm, ⟨18, _⟩ => ⟨S1x512, .f32⟩
  | .local _ .vmem, ⟨0, _⟩ => ⟨S4x352x704, .bf16⟩
  | .local _ .vmem, ⟨1, _⟩ => ⟨S4x352x704, .bf16⟩
  | .local _ .vmem, ⟨2, _⟩ => ⟨S4x704x1024, .bf16⟩
  | .local _ .vmem, ⟨3, _⟩ => ⟨S4x352x704, .bf16⟩
  | .local _ .vmem, ⟨4, _⟩ => ⟨S4x352x704, .bf16⟩
  | .local _ .vmem, ⟨5, _⟩ => ⟨S4x704x1024, .bf16⟩
  | .local _ .vmem, ⟨6, _⟩ => ⟨S352x1024, .f32⟩
  | .local _ .vmem, ⟨7, _⟩ => ⟨S352x1024, .f32⟩
  | .local _ .vmem, ⟨8, _⟩ => ⟨S1x1024, .f32⟩
  | .local _ .vmem, ⟨9, _⟩ => ⟨S352x1024, .f32⟩
  | .local _ .vmem, ⟨10, _⟩ => ⟨S352x1024, .f32⟩
  | .local _ .vmem, ⟨11, _⟩ => ⟨S1024x1024, .bf16⟩
  | .local _ .vmem, ⟨12, _⟩ => ⟨S352x512, .f32⟩
  | .local _ .vmem, ⟨13, _⟩ => ⟨S352x512, .f32⟩
  | .local _ .vmem, ⟨14, _⟩ => ⟨S352x512, .f32⟩
  | .local _ .vmem, ⟨15, _⟩ => ⟨S352x512, .f32⟩
  | .local _ .vmem, ⟨16, _⟩ => ⟨S1x512, .f32⟩
  | .local _ .vmem, ⟨17, _⟩ => ⟨S1x512, .f32⟩
  | .local _ .vmem, ⟨18, _⟩ => ⟨S352x1024, .f32⟩
  | .local _ .vmem, ⟨19, _⟩ => ⟨S352x1024, .f32⟩
  | .local _ .vmem, ⟨20, _⟩ => ⟨S352x1024, .bf16⟩
  | .local _ .vmem, ⟨21, _⟩ => ⟨S352x1024, .bf16⟩
  | .local _ .vmem, ⟨22, _⟩ => ⟨S1x1024, .f32⟩
  | .local _ .vmem, ⟨23, _⟩ => ⟨S352x512, .f32⟩
  | .local _ .vmem, ⟨24, _⟩ => ⟨S352x512, .f32⟩
  | .local _ .vmem, ⟨25, _⟩ => ⟨S352x512, .f32⟩
  | .local _ .vmem, ⟨26, _⟩ => ⟨S352x512, .f32⟩
  | .local _ .vmem, ⟨27, _⟩ => ⟨S1x512, .f32⟩
  | .local _ .vmem, ⟨28, _⟩ => ⟨S1x512, .f32⟩
  | _, _ => ⟨S4x4224x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v0_3 : Ref sig .tc := ⟨.hbm, 15, rfl⟩
abbrev main_v0_4 : Ref sig .tc := ⟨.hbm, 16, rfl⟩
abbrev main_v0_5 : Ref sig .tc := ⟨.hbm, 17, rfl⟩
abbrev main_v0_6 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg18_0 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem11_0 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem18_0 : DmaSem sig := 28

abbrev nD : Nat := 1
abbrev τ : Topo := Topo.v7x

variable {F : FTy → Type} [FloatOps F]

abbrev grid0 : Pipeline.Grid := ⟨1, ![12], ![false]⟩

def k0_cond1 (i : grid0.Coords) : BitVec 1 :=
  let arg0 : BitVec 32 := BitVec.ofNat 32 (i 0).val
  let c0_i32 : BitVec 32 := 0#32
  let v141 : BitVec 1 := Scalar.cmpi .eq arg0 c0_i32
  let v142 : BitVec 32 := Scalar.extui v141
  let c0_i32_95 : BitVec 32 := 0#32
  let v143 : BitVec 1 := Scalar.cmpi .ne v142 c0_i32_95
  v143

def k0_cond2 (i : grid0.Coords) : BitVec 1 :=
  let arg0 : BitVec 32 := BitVec.ofNat 32 (i 0).val
  let c0_i32_96 : BitVec 32 := 0#32
  let v144 : BitVec 1 := Scalar.cmpi .ne arg0 c0_i32_96
  let v145 : BitVec 32 := Scalar.extui v144
  let c0_i32_97 : BitVec 32 := 0#32
  let v146 : BitVec 1 := Scalar.cmpi .ne v145 c0_i32_97
  v146

def cc0_transform_0 (i : grid0.Coords) : Fin 3 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![c0_i32_0.toNat, v0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![c0_i32_0.toNat, v0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_9 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_13 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_16 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x352x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x704x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4x352x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x704x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S352x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S352x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S352x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S352x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S352x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S352x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S1x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x512 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]
-- ==== NormRefIdeal.lean ====
abbrev S4x4224x704 : Shape := ⟨3, ![4, 4224, 704]⟩
abbrev S4x704x1024 : Shape := ⟨3, ![4, 704, 1024]⟩
abbrev S4224x1024 : Shape := ⟨2, ![4224, 1024]⟩
abbrev S1x1024 : Shape := ⟨2, ![1, 1024]⟩
abbrev S1024x1024 : Shape := ⟨2, ![1024, 1024]⟩
abbrev S4224x512 : Shape := ⟨2, ![4224, 512]⟩
abbrev S1x512 : Shape := ⟨2, ![1, 512]⟩
abbrev S_ : Shape := ⟨0, ![]⟩
abbrev S4224 : Shape := ⟨1, ![4224]⟩
abbrev S4224x1 : Shape := ⟨2, ![4224, 1]⟩
abbrev S4x704x4224 : Shape := ⟨3, ![4, 704, 4224]⟩
abbrev S1024 : Shape := ⟨1, ![1024]⟩
abbrev S512 : Shape := ⟨1, ![512]⟩

abbrev nBuf : Space → Nat
  | .hbm => 159
  | .vmem => 0
  | .smem => 0
  | _ => 0

abbrev hbmTy0_0 (i : Nat) : BufTy := match i % 128 with
  | 0 => ⟨S4x4224x704, .bf16⟩
  | 1 => ⟨S4x704x1024, .bf16⟩
  | 2 => ⟨S4x4224x704, .bf16⟩
  | 3 => ⟨S4x704x1024, .bf16⟩
  | 4 => ⟨S4224x1024, .f32⟩
  | 5 => ⟨S1x1024, .f32⟩
  | 6 => ⟨S4224x1024, .f32⟩
  | 7 => ⟨S1024x1024, .bf16⟩
  | 8 => ⟨S4224x512, .f32⟩
  | 9 => ⟨S4224x512, .f32⟩
  | 10 => ⟨S1x512, .f32⟩
  | 11 => ⟨S1x512, .f32⟩
  | 12 => ⟨S4x4224x704, .f32⟩
  | 13 => ⟨S4x704x1024, .f32⟩
  | 14 => ⟨S4x4224x704, .f32⟩
  | 15 => ⟨S4x704x1024, .f32⟩
  | 16 => ⟨S1024x1024, .f32⟩
  | 17 => ⟨S4224x1024, .f32⟩
  | 18 => ⟨S_, .f32⟩
  | 19 => ⟨S4224, .f32⟩
  | 20 => ⟨S4224x1, .f32⟩
  | 21 => ⟨S_, .f32⟩
  | 22 => ⟨S4224x1, .f32⟩
  | 23 => ⟨S4224x1, .f32⟩
  | 24 => ⟨S_, .f32⟩
  | 25 => ⟨S4224x1, .f32⟩
  | 26 => ⟨S4224x1, .f32⟩
  | 27 => ⟨S4224x1, .f32⟩
  | 28 => ⟨S4224x1, .f32⟩
  | 29 => ⟨S_, .f32⟩
  | 30 => ⟨S4224x1, .f32⟩
  | 31 => ⟨S4224x1, .f32⟩
  | 32 => ⟨S4224x1024, .f32⟩
  | 33 => ⟨S4224x1024, .f32⟩
  | 34 => ⟨S4224x1024, .f32⟩
  | 35 => ⟨S4224x1024, .f32⟩
  | 36 => ⟨S4x704x4224, .f32⟩
  | 37 => ⟨S4x4224x704, .f32⟩
  | 38 => ⟨S4x704x4224, .f32⟩
  | 39 => ⟨S4x4224x704, .f32⟩
  | 40 => ⟨S4x704x4224, .f32⟩
  | 41 => ⟨S4224x1024, .f32⟩
  | 42 => ⟨S4x704x4224, .f32⟩
  | 43 => ⟨S4224x1024, .f32⟩
  | 44 => ⟨S4224x1024, .f32⟩
  | 45 => ⟨S4224x1024, .f32⟩
  | 46 => ⟨S_, .f32⟩
  | 47 => ⟨S1024, .f32⟩
  | 48 => ⟨S1x1024, .f32⟩
  | 49 => ⟨S4224x1024, .f32⟩
  | 50 => ⟨S4224x1024, .f32⟩
  | 51 => ⟨S4224x1024, .f32⟩
  | 52 => ⟨S_, .f32⟩
  | 53 => ⟨S4224, .f32⟩
  | 54 => ⟨S4224x1, .f32⟩
  | 55 => ⟨S4224x1024, .f32⟩
  | 56 => ⟨S4224x1024, .f32⟩
  | 57 => ⟨S4224x1, .f32⟩
  | 58 => ⟨S_, .f32⟩
  | 59 => ⟨S4224x1, .f32⟩
  | 60 => ⟨S4224x1, .f32⟩
  | 61 => ⟨S_, .f32⟩
  | 62 => ⟨S4224, .f32⟩
  | 63 => ⟨S4224x1024, .f32⟩
  | 64 => ⟨S4224x1024, .f32⟩
  | 65 => ⟨S4224x1024, .f32⟩
  | 66 => ⟨S4224x1024, .f32⟩
  | 67 => ⟨S4224x1024, .f32⟩
  | 68 => ⟨S4224x1024, .f32⟩
  | 69 => ⟨S4224x1024, .bf16⟩
  | 70 => ⟨S4224x512, .f32⟩
  | 71 => ⟨S_, .f32⟩
  | 72 => ⟨S4224, .f32⟩
  | 73 => ⟨S4224x1, .f32⟩
  | 74 => ⟨S_, .f32⟩
  | 75 => ⟨S4224x1, .f32⟩
  | 76 => ⟨S4224x1, .f32⟩
  | 77 => ⟨S_, .f32⟩
  | 78 => ⟨S4224x1, .f32⟩
  | 79 => ⟨S4224x1, .f32⟩
  | 80 => ⟨S4224x1, .f32⟩
  | 81 => ⟨S4224x1, .f32⟩
  | 82 => ⟨S_, .f32⟩
  | 83 => ⟨S4224x1, .f32⟩
  | 84 => ⟨S4224x1, .f32⟩
  | 85 => ⟨S4224x512, .f32⟩
  | 86 => ⟨S4224x512, .f32⟩
  | 87 => ⟨S4224x512, .f32⟩
  | 88 => ⟨S4224x512, .f32⟩
  | 89 => ⟨S4224x512, .f32⟩
  | 90 => ⟨S_, .f32⟩
  | 91 => ⟨S4224, .f32⟩
  | 92 => ⟨S4224x1, .f32⟩
  | 93 => ⟨S_, .f32⟩
  | 94 => ⟨S4224x1, .f32⟩
  | 95 => ⟨S4224x1, .f32⟩
  | 96 => ⟨S_, .f32⟩
  | 97 => ⟨S4224x1, .f32⟩
  | 98 => ⟨S4224x1, .f32⟩
  | 99 => ⟨S4224x1, .f32⟩
  | 100 => ⟨S4224x1, .f32⟩
  | 101 => ⟨S_, .f32⟩
  | 102 => ⟨S4224x1, .f32⟩
  | 103 => ⟨S4224x1, .f32⟩
  | 104 => ⟨S4224x512, .f32⟩
  | 105 => ⟨S4224x512, .f32⟩
  | 106 => ⟨S4224x512, .f32⟩
  | 107 => ⟨S4224x512, .f32⟩
  | 108 => ⟨S4224x1024, .f32⟩
  | 109 => ⟨S4224x1024, .f32⟩
  | 110 => ⟨S4224x1024, .f32⟩
  | 111 => ⟨S4224x512, .f32⟩
  | 112 => ⟨S4224x512, .f32⟩
  | 113 => ⟨S4224x512, .f32⟩
  | 114 => ⟨S_, .f32⟩
  | 115 => ⟨S512, .f32⟩
  | 116 => ⟨S1x512, .f32⟩
  | 117 => ⟨S4224x512, .f32⟩
  | 118 => ⟨S4224x512, .f32⟩
  | 119 => ⟨S4224x512, .f32⟩
  | 120 => ⟨S_, .f32⟩
  | 121 => ⟨S4224, .f32⟩
  | 122 => ⟨S4224x1, .f32⟩
  | 123 => ⟨S4224x512, .f32⟩
  | 124 => ⟨S4224x512, .f32⟩
  | 125 => ⟨S4224x1, .f32⟩
  | 126 => ⟨S_, .f32⟩
  | 127 => ⟨S4224x1, .f32⟩
  | _ => ⟨S4x4224x704, .bf16⟩

abbrev hbmTy0_1 (i : Nat) : BufTy := match i % 128 with
  | 0 => ⟨S4224x1, .f32⟩
  | 1 => ⟨S_, .f32⟩
  | 2 => ⟨S4224, .f32⟩
  | 3 => ⟨S4224x512, .f32⟩
  | 4 => ⟨S4224x512, .f32⟩
  | 5 => ⟨S4224x512, .f32⟩
  | 6 => ⟨S4224x512, .f32⟩
  | 7 => ⟨S4224x512, .f32⟩
  | 8 => ⟨S4224x512, .f32⟩
  | 9 => ⟨S_, .f32⟩
  | 10 => ⟨S512, .f32⟩
  | 11 => ⟨S1x512, .f32⟩
  | 12 => ⟨S4224x512, .f32⟩
  | 13 => ⟨S4224x512, .f32⟩
  | 14 => ⟨S4224x512, .f32⟩
  | 15 => ⟨S_, .f32⟩
  | 16 => ⟨S4224, .f32⟩
  | 17 => ⟨S4224x1, .f32⟩
  | 18 => ⟨S4224x512, .f32⟩
  | 19 => ⟨S4224x512, .f32⟩
  | 20 => ⟨S4224x1, .f32⟩
  | 21 => ⟨S_, .f32⟩
  | 22 => ⟨S4224x1, .f32⟩
  | 23 => ⟨S4224x1, .f32⟩
  | 24 => ⟨S_, .f32⟩
  | 25 => ⟨S4224, .f32⟩
  | 26 => ⟨S4224x512, .f32⟩
  | 27 => ⟨S4224x512, .f32⟩
  | 28 => ⟨S4224x512, .f32⟩
  | 29 => ⟨S4224x512, .f32⟩
  | 30 => ⟨S4224x512, .f32⟩
  | _ => ⟨S4x4224x704, .bf16⟩

abbrev hbmTy (i : Nat) : BufTy := match i / 128 with
  | 0 => hbmTy0_0 i
  | 1 => hbmTy0_1 i
  | _ => ⟨S4x4224x704, .bf16⟩

abbrev bufTy : (tb : Table) → Fin (tcTables nBuf tb) → BufTy
  | .hbm, ⟨i, _⟩ => hbmTy i
  | _, _ => ⟨S4x4224x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst : Ref sig .tc := ⟨.hbm, 18, rfl⟩
abbrev main_v6 : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_cst_1 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_3 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_4 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_5 : Ref sig .tc := ⟨.hbm, 58, rfl⟩
abbrev main_v40 : Ref sig .tc := ⟨.hbm, 59, rfl⟩
abbrev main_v41 : Ref sig .tc := ⟨.hbm, 60, rfl⟩
abbrev main_cst_6 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_7 : Ref sig .tc := ⟨.hbm, 71, rfl⟩
abbrev main_v51 : Ref sig .tc := ⟨.hbm, 72, rfl⟩
abbrev main_v52 : Ref sig .tc := ⟨.hbm, 73, rfl⟩
abbrev main_cst_8 : Ref sig .tc := ⟨.hbm, 74, rfl⟩
abbrev main_v53 : Ref sig .tc := ⟨.hbm, 75, rfl⟩
abbrev main_v54 : Ref sig .tc := ⟨.hbm, 76, rfl⟩
abbrev main_cst_9 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_10 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_cst_11 : Ref sig .tc := ⟨.hbm, 90, rfl⟩
abbrev main_v66 : Ref sig .tc := ⟨.hbm, 91, rfl⟩
abbrev main_v67 : Ref sig .tc := ⟨.hbm, 92, rfl⟩
abbrev main_cst_12 : Ref sig .tc := ⟨.hbm, 93, rfl⟩
abbrev main_v68 : Ref sig .tc := ⟨.hbm, 94, rfl⟩
abbrev main_v69 : Ref sig .tc := ⟨.hbm, 95, rfl⟩
abbrev main_cst_13 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_cst_14 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_cst_15 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_cst_16 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_cst_17 : Ref sig .tc := ⟨.hbm, 126, rfl⟩
abbrev main_v96 : Ref sig .tc := ⟨.hbm, 127, rfl⟩
abbrev main_v97 : Ref sig .tc := ⟨.hbm, 128, rfl⟩
abbrev main_cst_18 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_cst_19 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_cst_20 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_cst_21 : Ref sig .tc := ⟨.hbm, 149, rfl⟩
abbrev main_v115 : Ref sig .tc := ⟨.hbm, 150, rfl⟩
abbrev main_v116 : Ref sig .tc := ⟨.hbm, 151, rfl⟩
abbrev main_cst_22 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩

abbrev nD : Nat := 1
abbrev τ : Topo := Topo.v7x

variable {F : FTy → Type} [FloatOps F]
-- ==== FfnUp.lean ====
abbrev S4224x1024 : Shape := ⟨2, ![4224, 1024]⟩
abbrev S4x704x1024 : Shape := ⟨3, ![4, 704, 1024]⟩
abbrev S4x4224x704 : Shape := ⟨3, ![4, 4224, 704]⟩
abbrev S1408x1024 : Shape := ⟨2, ![1408, 1024]⟩
abbrev S1x704x1024 : Shape := ⟨3, ![1, 704, 1024]⟩
abbrev S1x1408x704 : Shape := ⟨3, ![1, 1408, 704]⟩
abbrev S704x1024 : Shape := ⟨2, ![704, 1024]⟩
abbrev S1408x704 : Shape := ⟨2, ![1408, 704]⟩

abbrev nBuf : Space → Nat
  | .hbm => 6
  | .vmem => 12
  | .smem => 0
  | _ => 0

abbrev bufTy : (tb : Table) → Fin (tcTables nBuf tb) → BufTy
  | .hbm, ⟨0, _⟩ => ⟨S4224x1024, .bf16⟩
  | .hbm, ⟨1, _⟩ => ⟨S4x704x1024, .bf16⟩
  | .hbm, ⟨2, _⟩ => ⟨S4x704x1024, .bf16⟩
  | .hbm, ⟨3, _⟩ => ⟨S4x4224x704, .bf16⟩
  | .hbm, ⟨4, _⟩ => ⟨S4x4224x704, .bf16⟩
  | .hbm, ⟨5, _⟩ => ⟨S4x4224x704, .bf16⟩
  | .local _ .vmem, ⟨0, _⟩ => ⟨S1408x1024, .bf16⟩
  | .local _ .vmem, ⟨1, _⟩ => ⟨S1408x1024, .bf16⟩
  | .local _ .vmem, ⟨2, _⟩ => ⟨S1x704x1024, .bf16⟩
  | .local _ .vmem, ⟨3, _⟩ => ⟨S1x704x1024, .bf16⟩
  | .local _ .vmem, ⟨4, _⟩ => ⟨S1x704x1024, .bf16⟩
  | .local _ .vmem, ⟨5, _⟩ => ⟨S1x704x1024, .bf16⟩
  | .local _ .vmem, ⟨6, _⟩ => ⟨S1x1408x704, .bf16⟩
  | .local _ .vmem, ⟨7, _⟩ => ⟨S1x1408x704, .bf16⟩
  | .local _ .vmem, ⟨8, _⟩ => ⟨S1x1408x704, .bf16⟩
  | .local _ .vmem, ⟨9, _⟩ => ⟨S1x1408x704, .bf16⟩
  | .local _ .vmem, ⟨10, _⟩ => ⟨S1x1408x704, .bf16⟩
  | .local _ .vmem, ⟨11, _⟩ => ⟨S1x1408x704, .bf16⟩
  | _, _ => ⟨S4224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1408x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1408x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1408x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FfnUpRefIdeal.lean ====
abbrev S4224x1024 : Shape := ⟨2, ![4224, 1024]⟩
abbrev S4x704x1024 : Shape := ⟨3, ![4, 704, 1024]⟩
abbrev S4x704x4224 : Shape := ⟨3, ![4, 704, 4224]⟩
abbrev S4x4224x704 : Shape := ⟨3, ![4, 4224, 704]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S4224x1024, .bf16⟩
  | .hbm, ⟨1, _⟩ => ⟨S4x704x1024, .bf16⟩
  | .hbm, ⟨2, _⟩ => ⟨S4x704x1024, .bf16⟩
  | .hbm, ⟨3, _⟩ => ⟨S4224x1024, .f32⟩
  | .hbm, ⟨4, _⟩ => ⟨S4x704x1024, .f32⟩
  | .hbm, ⟨5, _⟩ => ⟨S4x704x1024, .f32⟩
  | .hbm, ⟨6, _⟩ => ⟨S4x704x4224, .f32⟩
  | .hbm, ⟨7, _⟩ => ⟨S4x4224x704, .f32⟩
  | .hbm, ⟨8, _⟩ => ⟨S4x704x4224, .f32⟩
  | .hbm, ⟨9, _⟩ => ⟨S4x4224x704, .f32⟩
  | .hbm, ⟨10, _⟩ => ⟨S4x4224x704, .f32⟩
  | .hbm, ⟨11, _⟩ => ⟨S4x4224x704, .f32⟩
  | .hbm, ⟨12, _⟩ => ⟨S_, .f32⟩
  | .hbm, ⟨13, _⟩ => ⟨S4x4224x704, .f32⟩
  | .hbm, ⟨14, _⟩ => ⟨S4x4224x704, .f32⟩
  | .hbm, ⟨15, _⟩ => ⟨S_, .f32⟩
  | .hbm, ⟨16, _⟩ => ⟨S4x4224x704, .f32⟩
  | .hbm, ⟨17, _⟩ => ⟨S4x4224x704, .f32⟩
  | .hbm, ⟨18, _⟩ => ⟨S4x4224x704, .f32⟩
  | .hbm, ⟨19, _⟩ => ⟨S4x4224x704, .f32⟩
  | .hbm, ⟨20, _⟩ => ⟨S4x4224x704, .bf16⟩
  | .hbm, ⟨21, _⟩ => ⟨S4x4224x704, .bf16⟩
  | .hbm, ⟨22, _⟩ => ⟨S4x4224x704, .bf16⟩
  | _, _ => ⟨S4224x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩

abbrev nD : Nat := 1
abbrev τ : Topo := Topo.v7x

variable {F : FTy → Type} [FloatOps F]
-- ==== FfnDown.lean ====
abbrev S4x4224x704 : Shape := ⟨3, ![4, 4224, 704]⟩
abbrev S4x704x1024 : Shape := ⟨3, ![4, 704, 1024]⟩
abbrev S4224x1024 : Shape := ⟨2, ![4224, 1024]⟩
abbrev S1x1024 : Shape := ⟨2, ![1, 1024]⟩
abbrev S4x352x704 : Shape := ⟨3, ![4, 352, 704]⟩
abbrev S352x1024 : Shape := ⟨2, ![352, 1024]⟩
abbrev S1x352x704 : Shape := ⟨3, ![1, 352, 704]⟩
abbrev S352x704 : Shape := ⟨2, ![352, 704]⟩
abbrev S1x704x1024 : Shape := ⟨3, ![1, 704, 1024]⟩
abbrev S704x1024 : Shape := ⟨2, ![704, 1024]⟩
abbrev S352 : Shape := ⟨1, ![352]⟩
abbrev S352x1 : Shape := ⟨2, ![352, 1]⟩

abbrev nBuf : Space → Nat
  | .hbm => 6
  | .vmem => 10
  | .smem => 0
  | _ => 0

abbrev bufTy : (tb : Table) → Fin (tcTables nBuf tb) → BufTy
  | .hbm, ⟨0, _⟩ => ⟨S4x4224x704, .bf16⟩
  | .hbm, ⟨1, _⟩ => ⟨S4x704x1024, .bf16⟩
  | .hbm, ⟨2, _⟩ => ⟨S4224x1024, .f32⟩
  | .hbm, ⟨3, _⟩ => ⟨S1x1024, .f32⟩
  | .hbm, ⟨4, _⟩ => ⟨S4224x1024, .f32⟩
  | .hbm, ⟨5, _⟩ => ⟨S4224x1024, .bf16⟩
  | .local _ .vmem, ⟨0, _⟩ => ⟨S4x352x704, .bf16⟩
  | .local _ .vmem, ⟨1, _⟩ => ⟨S4x352x704, .bf16⟩
  | .local _ .vmem, ⟨2, _⟩ => ⟨S4x704x1024, .bf16⟩
  | .local _ .vmem, ⟨3, _⟩ => ⟨S352x1024, .f32⟩
  | .local _ .vmem, ⟨4, _⟩ => ⟨S352x1024, .f32⟩
  | .local _ .vmem, ⟨5, _⟩ => ⟨S1x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .bf16⟩
  | .local _ .vmem, ⟨9, _⟩ => ⟨S352x1024, .bf16⟩
  | _, _ => ⟨S4x4224x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![12], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x352x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x704x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FfnDownRefIdeal.lean ====
abbrev S4x4224x704 : Shape := ⟨3, ![4, 4224, 704]⟩
abbrev S4x704x1024 : Shape := ⟨3, ![4, 704, 1024]⟩
abbrev S4224x1024 : Shape := ⟨2, ![4224, 1024]⟩
abbrev S1x1024 : Shape := ⟨2, ![1, 1024]⟩
abbrev S_ : Shape := ⟨0, ![]⟩
abbrev S4224 : Shape := ⟨1, ![4224]⟩
abbrev S4224x1 : Shape := ⟨2, ![4224, 1]⟩

abbrev nBuf : Space → Nat
  | .hbm => 27
  | .vmem => 0
  | .smem => 0
  | _ => 0

abbrev bufTy : (tb : Table) → Fin (tcTables nBuf tb) → BufTy
  | .hbm, ⟨0, _⟩ => ⟨S4x4224x704, .bf16⟩
  | .hbm, ⟨1, _⟩ => ⟨S4x704x1024, .bf16⟩
  | .hbm, ⟨2, _⟩ => ⟨S4224x1024, .f32⟩
  | .hbm, ⟨3, _⟩ => ⟨S1x1024, .f32⟩
  | .hbm, ⟨4, _⟩ => ⟨S4x4224x704, .f32⟩
  | .hbm, ⟨5, _⟩ => ⟨S4x704x1024, .f32⟩
  | .hbm, ⟨6, _⟩ => ⟨S4224x1024, .f32⟩
  | .hbm, ⟨7, _⟩ => ⟨S_, .f32⟩
  | .hbm, ⟨8, _⟩ => ⟨S4224x1024, .f32⟩
  | .hbm, ⟨9, _⟩ => ⟨S4224x1024, .f32⟩
  | .hbm, ⟨10, _⟩ => ⟨S4224x1024, .f32⟩
  | .hbm, ⟨11, _⟩ => ⟨S4224x1024, .f32⟩
  | .hbm, ⟨12, _⟩ => ⟨S_, .f32⟩
  | .hbm, ⟨13, _⟩ => ⟨S4224, .f32⟩
  | .hbm, ⟨14, _⟩ => ⟨S4224x1, .f32⟩
  | .hbm, ⟨15, _⟩ => ⟨S_, .f32⟩
  | .hbm, ⟨16, _⟩ => ⟨S4224x1, .f32⟩
  | .hbm, ⟨17, _⟩ => ⟨S4224x1, .f32⟩
  | .hbm, ⟨18, _⟩ => ⟨S_, .f32⟩
  | .hbm, ⟨19, _⟩ => ⟨S4224x1, .f32⟩
  | .hbm, ⟨20, _⟩ => ⟨S4224x1, .f32⟩
  | .hbm, ⟨21, _⟩ => ⟨S4224x1, .f32⟩
  | .hbm, ⟨22, _⟩ => ⟨S4224x1024, .f32⟩
  | .hbm, ⟨23, _⟩ => ⟨S4224x1024, .f32⟩
  | .hbm, ⟨24, _⟩ => ⟨S4224x1024, .f32⟩
  | .hbm, ⟨25, _⟩ => ⟨S4224x1024, .f32⟩
  | .hbm, ⟨26, _⟩ => ⟨S4224x1024, .bf16⟩
  | _, _ => ⟨S4x4224x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== MixIn.lean ====
abbrev S4224x1024 : Shape := ⟨2, ![4224, 1024]⟩
abbrev S1792x1024 : Shape := ⟨2, ![1792, 1024]⟩
abbrev S4224x1792 : Shape := ⟨2, ![4224, 1792]⟩
abbrev S1408x1024 : Shape := ⟨2, ![1408, 1024]⟩
abbrev S1408x1792 : Shape := ⟨2, ![1408, 1792]⟩

abbrev nBuf : Space → Nat
  | .hbm => 3
  | .vmem => 5
  | .smem => 0
  | _ => 0

abbrev bufTy : (tb : Table) → Fin (tcTables nBuf tb) → BufTy
  | .hbm, ⟨0, _⟩ => ⟨S4224x1024, .bf16⟩
  | .hbm, ⟨1, _⟩ => ⟨S1792x1024, .bf16⟩
  | .hbm, ⟨2, _⟩ => ⟨S4224x1792, .f32⟩
  | .local _ .vmem, ⟨0, _⟩ => ⟨S1408x1024, .bf16⟩
  | .local _ .vmem, ⟨1, _⟩ => ⟨S1408x1024, .bf16⟩
  | .local _ .vmem, ⟨2, _⟩ => ⟨S1792x1024, .bf16⟩
  | .local _ .vmem, ⟨3, _⟩ => ⟨S1408x1792, .f32⟩
  | .local _ .vmem, ⟨4, _⟩ => ⟨S1408x1792, .f32⟩
  | _, _ => ⟨S4224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1792x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1408x1792 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== MixInRefIdeal.lean ====
abbrev S4224x1024 : Shape := ⟨2, ![4224, 1024]⟩
abbrev S1792x1024 : Shape := ⟨2, ![1792, 1024]⟩
abbrev S1024x1792 : Shape := ⟨2, ![1024, 1792]⟩
abbrev S4224x1792 : Shape := ⟨2, ![4224, 1792]⟩

abbrev nBuf : Space → Nat
  | .hbm => 6
  | .vmem => 0
  | .smem => 0
  | _ => 0

abbrev bufTy : (tb : Table) → Fin (tcTables nBuf tb) → BufTy
  | .hbm, ⟨0, _⟩ => ⟨S4224x1024, .bf16⟩
  | .hbm, ⟨1, _⟩ => ⟨S1792x1024, .bf16⟩
  | .hbm, ⟨2, _⟩ => ⟨S4224x1024, .f32⟩
  | .hbm, ⟨3, _⟩ => ⟨S1792x1024, .f32⟩
  | .hbm, ⟨4, _⟩ => ⟨S1024x1792, .f32⟩
  | .hbm, ⟨5, _⟩ => ⟨S4224x1792, .f32⟩
  | _, _ => ⟨S4224x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== MixOut.lean ====
abbrev S4224x512 : Shape := ⟨2, ![4224, 512]⟩
abbrev S1x512 : Shape := ⟨2, ![1, 512]⟩
abbrev S1024x1024 : Shape := ⟨2, ![1024, 1024]⟩
abbrev S4224x1024 : Shape := ⟨2, ![4224, 1024]⟩
abbrev S1x1024 : Shape := ⟨2, ![1, 1024]⟩
abbrev S352x512 : Shape := ⟨2, ![352, 512]⟩
abbrev S352x1024 : Shape := ⟨2, ![352, 1024]⟩
abbrev S352 : Shape := ⟨1, ![352]⟩
abbrev S352x1 : Shape := ⟨2, ![352, 1]⟩
abbrev S512x1024 : Shape := ⟨2, ![512, 1024]⟩

abbrev nBuf : Space → Nat
  | .hbm => 10
  | .vmem => 16
  | .smem => 0
  | _ => 0

abbrev bufTy : (tb : Table) → Fin (tcTables nBuf tb) → BufTy
  | .hbm, ⟨0, _⟩ => ⟨S4224x512, .f32⟩
  | .hbm, ⟨1, _⟩ => ⟨S4224x512, .f32⟩
  | .hbm, ⟨2, _⟩ => ⟨S1x512, .f32⟩
  | .hbm, ⟨3, _⟩ => ⟨S1x512, .f32⟩
  | .hbm, ⟨4, _⟩ => ⟨S1024x1024, .bf16⟩
  | .hbm, ⟨5, _⟩ => ⟨S4224x1024, .f32⟩
  | .hbm, ⟨6, _⟩ => ⟨S1x1024, .f32⟩
  | .hbm, ⟨7, _⟩ => ⟨S4224x1024, .bf16⟩
  | .hbm, ⟨8, _⟩ => ⟨S4224x1024, .f32⟩
  | .hbm, ⟨9, _⟩ => ⟨S4224x1024, .bf16⟩
  | .local _ .vmem, ⟨0, _⟩ => ⟨S352x512, .f32⟩
  | .local _ .vmem, ⟨1, _⟩ => ⟨S352x512, .f32⟩
  | .local _ .vmem, ⟨2, _⟩ => ⟨S352x512, .f32⟩
  | .local _ .vmem, ⟨3, _⟩ => ⟨S352x512, .f32⟩
  | .local _ .vmem, ⟨4, _⟩ => ⟨S1x512, .f32⟩
  | .local _ .vmem, ⟨5, _⟩ => ⟨S1x512, .f32⟩
  | .local _ .vmem, ⟨6, _⟩ => ⟨S1024x1024, .bf16⟩
  | .local _ .vmem, ⟨7, _⟩ => ⟨S352x1024, .f32⟩
  | .local _ .vmem, ⟨8, _⟩ => ⟨S352x1024, .f32⟩
  | .local _ .vmem, ⟨9, _⟩ => ⟨S1x1024, .f32⟩
  | .local _ .vmem, ⟨10, _⟩ => ⟨S352x1024, .bf16⟩
  | .local _ .vmem, ⟨11, _⟩ => ⟨S352x1024, .bf16⟩
  | .local _ .vmem, ⟨12, _⟩ => ⟨S352x1024, .f32⟩
  | .local _ .vmem, ⟨13, _⟩ => ⟨S352x1024, .f32⟩
  | .local _ .vmem, ⟨14, _⟩ => ⟨S352x1024, .bf16⟩
  | .local _ .vmem, ⟨15, _⟩ => ⟨S352x1024, .bf16⟩
  | _, _ => ⟨S4224x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S352x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S352x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S352x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S352x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== MixOutRefIdeal.lean ====
abbrev S4224x512 : Shape := ⟨2, ![4224, 512]⟩
abbrev S1x512 : Shape := ⟨2, ![1, 512]⟩
abbrev S1024x1024 : Shape := ⟨2, ![1024, 1024]⟩
abbrev S4224x1024 : Shape := ⟨2, ![4224, 1024]⟩
abbrev S1x1024 : Shape := ⟨2, ![1, 1024]⟩
abbrev S_ : Shape := ⟨0, ![]⟩
abbrev S4224 : Shape := ⟨1, ![4224]⟩
abbrev S4224x1 : Shape := ⟨2, ![4224, 1]⟩

abbrev nBuf : Space → Nat
  | .hbm => 58
  | .vmem => 0
  | .smem => 0
  | _ => 0

abbrev bufTy : (tb : Table) → Fin (tcTables nBuf tb) → BufTy
  | .hbm, ⟨0, _⟩ => ⟨S4224x512, .f32⟩
  | .hbm, ⟨1, _⟩ => ⟨S4224x512, .f32⟩
  | .hbm, ⟨2, _⟩ => ⟨S1x512, .f32⟩
  | .hbm, ⟨3, _⟩ => ⟨S1x512, .f32⟩
  | .hbm, ⟨4, _⟩ => ⟨S1024x1024, .bf16⟩
  | .hbm, ⟨5, _⟩ => ⟨S4224x1024, .f32⟩
  | .hbm, ⟨6, _⟩ => ⟨S1x1024, .f32⟩
  | .hbm, ⟨7, _⟩ => ⟨S4224x512, .f32⟩
  | .hbm, ⟨8, _⟩ => ⟨S_, .f32⟩
  | .hbm, ⟨9, _⟩ => ⟨S4224, .f32⟩
  | .hbm, ⟨10, _⟩ => ⟨S4224x1, .f32⟩
  | .hbm, ⟨11, _⟩ => ⟨S_, .f32⟩
  | .hbm, ⟨12, _⟩ => ⟨S4224x1, .f32⟩
  | .hbm, ⟨13, _⟩ => ⟨S4224x1, .f32⟩
  | .hbm, ⟨14, _⟩ => ⟨S_, .f32⟩
  | .hbm, ⟨15, _⟩ => ⟨S4224x1, .f32⟩
  | .hbm, ⟨16, _⟩ => ⟨S4224x1, .f32⟩
  | .hbm, ⟨17, _⟩ => ⟨S4224x1, .f32⟩
  | .hbm, ⟨18, _⟩ => ⟨S4224x512, .f32⟩
  | .hbm, ⟨19, _⟩ => ⟨S4224x512, .f32⟩
  | .hbm, ⟨20, _⟩ => ⟨S4224x512, .f32⟩
  | .hbm, ⟨21, _⟩ => ⟨S4224x512, .f32⟩
  | .hbm, ⟨22, _⟩ => ⟨S4224x512, .f32⟩
  | .hbm, ⟨23, _⟩ => ⟨S_, .f32⟩
  | .hbm, ⟨24, _⟩ => ⟨S4224, .f32⟩
  | .hbm, ⟨25, _⟩ => ⟨S4224x1, .f32⟩
  | .hbm, ⟨26, _⟩ => ⟨S_, .f32⟩
  | .hbm, ⟨27, _⟩ => ⟨S4224x1, .f32⟩
  | .hbm, ⟨28, _⟩ => ⟨S4224x1, .f32⟩
  | .hbm, ⟨29, _⟩ => ⟨S_, .f32⟩
  | .hbm, ⟨30, _⟩ => ⟨S4224x1, .f32⟩
  | .hbm, ⟨31, _⟩ => ⟨S4224x1, .f32⟩
  | .hbm, ⟨32, _⟩ => ⟨S4224x1, .f32⟩
  | .hbm, ⟨33, _⟩ => ⟨S4224x512, .f32⟩
  | .hbm, ⟨34, _⟩ => ⟨S4224x512, .f32⟩
  | .hbm, ⟨35, _⟩ => ⟨S4224x512, .f32⟩
  | .hbm, ⟨36, _⟩ => ⟨S4224x512, .f32⟩
  | .hbm, ⟨37, _⟩ => ⟨S4224x1024, .f32⟩
  | .hbm, ⟨38, _⟩ => ⟨S1024x1024, .f32⟩
  | .hbm, ⟨39, _⟩ => ⟨S4224x1024, .f32⟩
  | .hbm, ⟨40, _⟩ => ⟨S4224x1024, .f32⟩
  | .hbm, ⟨41, _⟩ => ⟨S4224x1024, .bf16⟩
  | .hbm, ⟨42, _⟩ => ⟨S4224x1024, .f32⟩
  | .hbm, ⟨43, _⟩ => ⟨S_, .f32⟩
  | .hbm, ⟨44, _⟩ => ⟨S4224, .f32⟩
  | .hbm, ⟨45, _⟩ => ⟨S4224x1, .f32⟩
  | .hbm, ⟨46, _⟩ => ⟨S_, .f32⟩
  | .hbm, ⟨47, _⟩ => ⟨S4224x1, .f32⟩
  | .hbm, ⟨48, _⟩ => ⟨S4224x1, .f32⟩
  | .hbm, ⟨49, _⟩ => ⟨S_, .f32⟩
  | .hbm, ⟨50, _⟩ => ⟨S4224x1, .f32⟩
  | .hbm, ⟨51, _⟩ => ⟨S4224x1, .f32⟩
  | .hbm, ⟨52, _⟩ => ⟨S4224x1, .f32⟩
  | .hbm, ⟨53, _⟩ => ⟨S4224x1024, .f32⟩
  | .hbm, ⟨54, _⟩ => ⟨S4224x1024, .f32⟩
  | .hbm, ⟨55, _⟩ => ⟨S4224x1024, .f32⟩
  | .hbm, ⟨56, _⟩ => ⟨S4224x1024, .f32⟩
  | .hbm, ⟨57, _⟩ => ⟨S4224x1024, .bf16⟩
  | _, _ => ⟨S4224x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_cst_4 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_5 : Ref sig .tc := ⟨.hbm, 43, rfl⟩
abbrev main_v30 : Ref sig .tc := ⟨.hbm, 44, rfl⟩
abbrev main_v31 : Ref sig .tc := ⟨.hbm, 45, rfl⟩
abbrev main_cst_6 : Ref sig .tc := ⟨.hbm, 46, rfl⟩
abbrev main_v32 : Ref sig .tc := ⟨.hbm, 47, rfl⟩
abbrev main_v33 : Ref sig .tc := ⟨.hbm, 48, rfl⟩
abbrev main_cst_7 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩

abbrev nD : Nat := 1
abbrev τ : Topo := Topo.v7x

variable {F : FTy → Type} [FloatOps F]
-- ==== DwIn.lean ====
abbrev S4224x1792 : Shape := ⟨2, ![4224, 1792]⟩
abbrev S4224x1024 : Shape := ⟨2, ![4224, 1024]⟩
abbrev S1792x1024 : Shape := ⟨2, ![1792, 1024]⟩
abbrev S4224x256 : Shape := ⟨2, ![4224, 256]⟩
abbrev S256x1024 : Shape := ⟨2, ![256, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4224x1792, .bf16⟩
  | .hbm, ⟨1, _⟩ => ⟨S4224x1024, .bf16⟩
  | .hbm, ⟨2, _⟩ => ⟨S1792x1024, .f32⟩
  | .local _ .vmem, ⟨0, _⟩ => ⟨S4224x256, .bf16⟩
  | .local _ .vmem, ⟨1, _⟩ => ⟨S4224x256, .bf16⟩
  | .local _ .vmem, ⟨2, _⟩ => ⟨S4224x1024, .bf16⟩
  | .local _ .vmem, ⟨3, _⟩ => ⟨S256x1024, .f32⟩
  | .local _ .vmem, ⟨4, _⟩ => ⟨S256x1024, .f32⟩
  | _, _ => ⟨S4224x1792, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 7], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 2 → Memref sig .tc .vmem S4224x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S4224x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]
-- ==== DwInRefIdeal.lean ====
abbrev S4224x1792 : Shape := ⟨2, ![4224, 1792]⟩
abbrev S4224x1024 : Shape := ⟨2, ![4224, 1024]⟩
abbrev S_ : Shape := ⟨0, ![]⟩
abbrev S1792x1024 : Shape := ⟨2, ![1792, 1024]⟩
abbrev S1024x1792 : Shape := ⟨2, ![1024, 1792]⟩

abbrev nBuf : Space → Nat
  | .hbm => 11
  | .vmem => 0
  | .smem => 0
  | _ => 0

abbrev bufTy : (tb : Table) → Fin (tcTables nBuf tb) → BufTy
  | .hbm, ⟨0, _⟩ => ⟨S4224x1792, .bf16⟩
  | .hbm, ⟨1, _⟩ => ⟨S4224x1024, .bf16⟩
  | .hbm, ⟨2, _⟩ => ⟨S4224x1792, .f32⟩
  | .hbm, ⟨3, _⟩ => ⟨S4224x1024, .f32⟩
  | .hbm, ⟨4, _⟩ => ⟨S_, .f32⟩
  | .hbm, ⟨5, _⟩ => ⟨S1792x1024, .f32⟩
  | .hbm, ⟨6, _⟩ => ⟨S1024x1792, .f32⟩
  | .hbm, ⟨7, _⟩ => ⟨S4224x1792, .f32⟩
  | .hbm, ⟨8, _⟩ => ⟨S1792x1024, .f32⟩
  | .hbm, ⟨9, _⟩ => ⟨S1024x1792, .f32⟩
  | .hbm, ⟨10, _⟩ => ⟨S1792x1024, .f32⟩
  | _, _ => ⟨S4224x1792, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== DwOut.lean ====
abbrev S4224x1024 : Shape := ⟨2, ![4224, 1024]⟩
abbrev S1024x1024 : Shape := ⟨2, ![1024, 1024]⟩
abbrev S4224x256 : Shape := ⟨2, ![4224, 256]⟩
abbrev S256x1024 : Shape := ⟨2, ![256, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4224x1024, .bf16⟩
  | .hbm, ⟨1, _⟩ => ⟨S4224x1024, .bf16⟩
  | .hbm, ⟨2, _⟩ => ⟨S1024x1024, .f32⟩
  | .local _ .vmem, ⟨0, _⟩ => ⟨S4224x256, .bf16⟩
  | .local _ .vmem, ⟨1, _⟩ => ⟨S4224x256, .bf16⟩
  | .local _ .vmem, ⟨2, _⟩ => ⟨S4224x1024, .bf16⟩
  | .local _ .vmem, ⟨3, _⟩ => ⟨S256x1024, .f32⟩
  | .local _ .vmem, ⟨4, _⟩ => ⟨S256x1024, .f32⟩
  | _, _ => ⟨S4224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 2 → Memref sig .tc .vmem S4224x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S4224x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]
-- ==== DwOutRefIdeal.lean ====
abbrev S4224x1024 : Shape := ⟨2, ![4224, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4224x1024, .bf16⟩
  | .hbm, ⟨1, _⟩ => ⟨S4224x1024, .bf16⟩
  | .hbm, ⟨2, _⟩ => ⟨S4224x1024, .f32⟩
  | .hbm, ⟨3, _⟩ => ⟨S4224x1024, .f32⟩
  | .hbm, ⟨4, _⟩ => ⟨S_, .f32⟩
  | .hbm, ⟨5, _⟩ => ⟨S1024x1024, .f32⟩
  | .hbm, ⟨6, _⟩ => ⟨S4224x1024, .f32⟩
  | .hbm, ⟨7, _⟩ => ⟨S1024x1024, .f32⟩
  | .hbm, ⟨8, _⟩ => ⟨S1024x1024, .f32⟩
  | _, _ => ⟨S4224x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== MixDin.lean ====
abbrev S4224x1792 : Shape := ⟨2, ![4224, 1792]⟩
abbrev S1792x1024 : Shape := ⟨2, ![1792, 1024]⟩
abbrev S4224x1024 : Shape := ⟨2, ![4224, 1024]⟩
abbrev S1x1024 : Shape := ⟨2, ![1, 1024]⟩
abbrev S352x1792 : Shape := ⟨2, ![352, 1792]⟩
abbrev S352x1024 : Shape := ⟨2, ![352, 1024]⟩
abbrev S352 : Shape := ⟨1, ![352]⟩
abbrev S352x1 : Shape := ⟨2, ![352, 1]⟩
abbrev S1024 : Shape := ⟨1, ![1024]⟩

abbrev nBuf : Space → Nat
  | .hbm => 8
  | .vmem => 13
  | .smem => 0
  | _ => 0

abbrev bufTy : (tb : Table) → Fin (tcTables nBuf tb) → BufTy
  | .hbm, ⟨0, _⟩ => ⟨S4224x1792, .bf16⟩
  | .hbm, ⟨1, _⟩ => ⟨S1792x1024, .bf16⟩
  | .hbm, ⟨2, _⟩ => ⟨S4224x1024, .f32⟩
  | .hbm, ⟨3, _⟩ => ⟨S1x1024, .f32⟩
  | .hbm, ⟨4, _⟩ => ⟨S4224x1024, .f32⟩
  | .hbm, ⟨5, _⟩ => ⟨S4224x1024, .f32⟩
  | .hbm, ⟨6, _⟩ => ⟨S4224x1024, .bf16⟩
  | .hbm, ⟨7, _⟩ => ⟨S1x1024, .f32⟩
  | .local _ .vmem, ⟨0, _⟩ => ⟨S352x1792, .bf16⟩
  | .local _ .vmem, ⟨1, _⟩ => ⟨S352x1792, .bf16⟩
  | .local _ .vmem, ⟨2, _⟩ => ⟨S1792x1024, .bf16⟩
  | .local _ .vmem, ⟨3, _⟩ => ⟨S352x1024, .f32⟩
  | .local _ .vmem, ⟨4, _⟩ => ⟨S352x1024, .f32⟩
  | .local _ .vmem, ⟨5, _⟩ => ⟨S1x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .vmem, ⟨10, _⟩ => ⟨S352x1024, .bf16⟩
  | .local _ .vmem, ⟨11, _⟩ => ⟨S352x1024, .bf16⟩
  | .local _ .vmem, ⟨12, _⟩ => ⟨S1x1024, .f32⟩
  | _, _ => ⟨S4224x1792, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![12], ![false]⟩

def k0_cond1 (i : grid0.Coords) : BitVec 1 :=
  let arg0 : BitVec 32 := BitVec.ofNat 32 (i 0).val
  let c0_i32 : BitVec 32 := 0#32
  let v37 : BitVec 1 := Scalar.cmpi .eq arg0 c0_i32
  let v38 : BitVec 32 := Scalar.extui v37
  let c0_i32_20 : BitVec 32 := 0#32
  let v39 : BitVec 1 := Scalar.cmpi .ne v38 c0_i32_20
  v39

def k0_cond2 (i : grid0.Coords) : BitVec 1 :=
  let arg0 : BitVec 32 := BitVec.ofNat 32 (i 0).val
  let c0_i32_21 : BitVec 32 := 0#32
  let v40 : BitVec 1 := Scalar.cmpi .ne arg0 c0_i32_21
  let v41 : BitVec 32 := Scalar.extui v40
  let c0_i32_22 : BitVec 32 := 0#32
  let v42 : BitVec 1 := Scalar.cmpi .ne v41 c0_i32_22
  v42

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S352x1792 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1792x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== MixDinRefIdeal.lean ====
abbrev S4224x1792 : Shape := ⟨2, ![4224, 1792]⟩
abbrev S1792x1024 : Shape := ⟨2, ![1792, 1024]⟩
abbrev S4224x1024 : Shape := ⟨2, ![4224, 1024]⟩
abbrev S1x1024 : Shape := ⟨2, ![1, 1024]⟩
abbrev S_ : Shape := ⟨0, ![]⟩
abbrev S4224 : Shape := ⟨1, ![4224]⟩
abbrev S4224x1 : Shape := ⟨2, ![4224, 1]⟩
abbrev S1024x1792 : Shape := ⟨2, ![1024, 1792]⟩
abbrev S1024 : Shape := ⟨1, ![1024]⟩

abbrev nBuf : Space → Nat
  | .hbm => 54
  | .vmem => 0
  | .smem => 0
  | _ => 0

abbrev bufTy : (tb : Table) → Fin (tcTables nBuf tb) → BufTy
  | .hbm, ⟨0, _⟩ => ⟨S4224x1792, .bf16⟩
  | .hbm, ⟨1, _⟩ => ⟨S1792x1024, .bf16⟩
  | .hbm, ⟨2, _⟩ => ⟨S4224x1024, .f32⟩
  | .hbm, ⟨3, _⟩ => ⟨S1x1024, .f32⟩
  | .hbm, ⟨4, _⟩ => ⟨S4224x1024, .f32⟩
  | .hbm, ⟨5, _⟩ => ⟨S4224x1792, .f32⟩
  | .hbm, ⟨6, _⟩ => ⟨S1792x1024, .f32⟩
  | .hbm, ⟨7, _⟩ => ⟨S4224x1024, .f32⟩
  | .hbm, ⟨8, _⟩ => ⟨S_, .f32⟩
  | .hbm, ⟨9, _⟩ => ⟨S4224, .f32⟩
  | .hbm, ⟨10, _⟩ => ⟨S4224x1, .f32⟩
  | .hbm, ⟨11, _⟩ => ⟨S_, .f32⟩
  | .hbm, ⟨12, _⟩ => ⟨S4224x1, .f32⟩
  | .hbm, ⟨13, _⟩ => ⟨S4224x1, .f32⟩
  | .hbm, ⟨14, _⟩ => ⟨S_, .f32⟩
  | .hbm, ⟨15, _⟩ => ⟨S4224x1, .f32⟩
  | .hbm, ⟨16, _⟩ => ⟨S4224x1, .f32⟩
  | .hbm, ⟨17, _⟩ => ⟨S4224x1, .f32⟩
  | .hbm, ⟨18, _⟩ => ⟨S4224x1, .f32⟩
  | .hbm, ⟨19, _⟩ => ⟨S_, .f32⟩
  | .hbm, ⟨20, _⟩ => ⟨S4224x1, .f32⟩
  | .hbm, ⟨21, _⟩ => ⟨S4224x1, .f32⟩
  | .hbm, ⟨22, _⟩ => ⟨S4224x1024, .f32⟩
  | .hbm, ⟨23, _⟩ => ⟨S4224x1024, .f32⟩
  | .hbm, ⟨24, _⟩ => ⟨S4224x1024, .f32⟩
  | .hbm, ⟨25, _⟩ => ⟨S4224x1024, .f32⟩
  | .hbm, ⟨26, _⟩ => ⟨S1024x1792, .f32⟩
  | .hbm, ⟨27, _⟩ => ⟨S4224x1792, .f32⟩
  | .hbm, ⟨28, _⟩ => ⟨S4224x1024, .f32⟩
  | .hbm, ⟨29, _⟩ => ⟨S4224x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S4224x1024, .f32⟩
  | .hbm, ⟨34, _⟩ => ⟨S4224x1024, .f32⟩
  | .hbm, ⟨35, _⟩ => ⟨S4224x1024, .f32⟩
  | .hbm, ⟨36, _⟩ => ⟨S_, .f32⟩
  | .hbm, ⟨37, _⟩ => ⟨S4224, .f32⟩
  | .hbm, ⟨38, _⟩ => ⟨S4224x1, .f32⟩
  | .hbm, ⟨39, _⟩ => ⟨S4224x1024, .f32⟩
  | .hbm, ⟨40, _⟩ => ⟨S4224x1024, .f32⟩
  | .hbm, ⟨41, _⟩ => ⟨S4224x1, .f32⟩
  | .hbm, ⟨42, _⟩ => ⟨S_, .f32⟩
  | .hbm, ⟨43, _⟩ => ⟨S4224x1, .f32⟩
  | .hbm, ⟨44, _⟩ => ⟨S4224x1, .f32⟩
  | .hbm, ⟨45, _⟩ => ⟨S_, .f32⟩
  | .hbm, ⟨46, _⟩ => ⟨S4224, .f32⟩
  | .hbm, ⟨47, _⟩ => ⟨S4224x1024, .f32⟩
  | .hbm, ⟨48, _⟩ => ⟨S4224x1024, .f32⟩
  | .hbm, ⟨49, _⟩ => ⟨S4224x1024, .f32⟩
  | .hbm, ⟨50, _⟩ => ⟨S4224x1024, .f32⟩
  | .hbm, ⟨51, _⟩ => ⟨S4224x1024, .f32⟩
  | .hbm, ⟨52, _⟩ => ⟨S4224x1024, .f32⟩
  | .hbm, ⟨53, _⟩ => ⟨S4224x1024, .bf16⟩
  | _, _ => ⟨S4224x1792, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩

abbrev nD : Nat := 1
abbrev τ : Topo := Topo.v7x

variable {F : FTy → Type} [FloatOps F]
-- ==== FirstNorm.lean ====
abbrev S4224x1024 : Shape := ⟨2, ![4224, 1024]⟩
abbrev S1x1024 : Shape := ⟨2, ![1, 1024]⟩
abbrev S352x1024 : Shape := ⟨2, ![352, 1024]⟩
abbrev S352 : Shape := ⟨1, ![352]⟩
abbrev S352x1 : Shape := ⟨2, ![352, 1]⟩

abbrev nBuf : Space → Nat
  | .hbm => 3
  | .vmem => 5
  | .smem => 0
  | _ => 0

abbrev bufTy : (tb : Table) → Fin (tcTables nBuf tb) → BufTy
  | .hbm, ⟨0, _⟩ => ⟨S4224x1024, .f32⟩
  | .hbm, ⟨1, _⟩ => ⟨S1x1024, .f32⟩
  | .hbm, ⟨2, _⟩ => ⟨S4224x1024, .bf16⟩
  | .local _ .vmem, ⟨0, _⟩ => ⟨S352x1024, .f32⟩
  | .local _ .vmem, ⟨1, _⟩ => ⟨S352x1024, .f32⟩
  | .local _ .vmem, ⟨2, _⟩ => ⟨S1x1024, .f32⟩
  | .local _ .vmem, ⟨3, _⟩ => ⟨S352x1024, .bf16⟩
  | .local _ .vmem, ⟨4, _⟩ => ⟨S352x1024, .bf16⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S352x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FirstNormRefIdeal.lean ====
abbrev S4224x1024 : Shape := ⟨2, ![4224, 1024]⟩
abbrev S1x1024 : Shape := ⟨2, ![1, 1024]⟩
abbrev S_ : Shape := ⟨0, ![]⟩
abbrev S4224 : Shape := ⟨1, ![4224]⟩
abbrev S4224x1 : Shape := ⟨2, ![4224, 1]⟩

abbrev nBuf : Space → Nat
  | .hbm => 18
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S1x1024, .f32⟩
  | .hbm, ⟨2, _⟩ => ⟨S4224x1024, .f32⟩
  | .hbm, ⟨3, _⟩ => ⟨S_, .f32⟩
  | .hbm, ⟨4, _⟩ => ⟨S4224, .f32⟩
  | .hbm, ⟨5, _⟩ => ⟨S4224x1, .f32⟩
  | .hbm, ⟨6, _⟩ => ⟨S_, .f32⟩
  | .hbm, ⟨7, _⟩ => ⟨S4224x1, .f32⟩
  | .hbm, ⟨8, _⟩ => ⟨S4224x1, .f32⟩
  | .hbm, ⟨9, _⟩ => ⟨S_, .f32⟩
  | .hbm, ⟨10, _⟩ => ⟨S4224x1, .f32⟩
  | .hbm, ⟨11, _⟩ => ⟨S4224x1, .f32⟩
  | .hbm, ⟨12, _⟩ => ⟨S4224x1, .f32⟩
  | .hbm, ⟨13, _⟩ => ⟨S4224x1024, .f32⟩
  | .hbm, ⟨14, _⟩ => ⟨S4224x1024, .f32⟩
  | .hbm, ⟨15, _⟩ => ⟨S4224x1024, .f32⟩
  | .hbm, ⟨16, _⟩ => ⟨S4224x1024, .f32⟩
  | .hbm, ⟨17, _⟩ => ⟨S4224x1024, .bf16⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== DinA.lean ====
abbrev S4x4224x704 : Shape := ⟨3, ![4, 4224, 704]⟩
abbrev S4x704x1024 : Shape := ⟨3, ![4, 704, 1024]⟩
abbrev S4224x1024 : Shape := ⟨2, ![4224, 1024]⟩
abbrev S1x1024 : Shape := ⟨2, ![1, 1024]⟩
abbrev S4x352x704 : Shape := ⟨3, ![4, 352, 704]⟩
abbrev S352x1024 : Shape := ⟨2, ![352, 1024]⟩
abbrev S1x352x704 : Shape := ⟨3, ![1, 352, 704]⟩
abbrev S352x704 : Shape := ⟨2, ![352, 704]⟩
abbrev S1x704x1024 : Shape := ⟨3, ![1, 704, 1024]⟩
abbrev S704x1024 : Shape := ⟨2, ![704, 1024]⟩
abbrev S352 : Shape := ⟨1, ![352]⟩
abbrev S352x1 : Shape := ⟨2, ![352, 1]⟩
abbrev S1024 : Shape := ⟨1, ![1024]⟩
abbrev S2112x1024 : Shape := ⟨2, ![2112, 1024]⟩

abbrev nBuf : Space → Nat
  | .hbm => 12
  | .vmem => 16
  | .smem => 0
  | _ => 0

abbrev bufTy : (tb : Table) → Fin (tcTables nBuf tb) → BufTy
  | .hbm, ⟨0, _⟩ => ⟨S4x4224x704, .bf16⟩
  | .hbm, ⟨1, _⟩ => ⟨S4x704x1024, .bf16⟩
  | .hbm, ⟨2, _⟩ => ⟨S4x4224x704, .bf16⟩
  | .hbm, ⟨3, _⟩ => ⟨S4x704x1024, .bf16⟩
  | .hbm, ⟨4, _⟩ => ⟨S4224x1024, .f32⟩
  | .hbm, ⟨5, _⟩ => ⟨S1x1024, .f32⟩
  | .hbm, ⟨6, _⟩ => ⟨S4224x1024, .f32⟩
  | .hbm, ⟨7, _⟩ => ⟨S4224x1024, .f32⟩
  | .hbm, ⟨8, _⟩ => ⟨S4224x1024, .bf16⟩
  | .hbm, ⟨9, _⟩ => ⟨S1x1024, .f32⟩
  | .hbm, ⟨10, _⟩ => ⟨S2112x1024, .f32⟩
  | .hbm, ⟨11, _⟩ => ⟨S2112x1024, .bf16⟩
  | .local _ .vmem, ⟨0, _⟩ => ⟨S4x352x704, .bf16⟩
  | .local _ .vmem, ⟨1, _⟩ => ⟨S4x352x704, .bf16⟩
  | .local _ .vmem, ⟨2, _⟩ => ⟨S4x704x1024, .bf16⟩
  | .local _ .vmem, ⟨3, _⟩ => ⟨S4x352x704, .bf16⟩
  | .local _ .vmem, ⟨4, _⟩ => ⟨S4x352x704, .bf16⟩
  | .local _ .vmem, ⟨5, _⟩ => ⟨S4x704x1024, .bf16⟩
  | .local _ .vmem, ⟨6, _⟩ => ⟨S352x1024, .f32⟩
  | .local _ .vmem, ⟨7, _⟩ => ⟨S352x1024, .f32⟩
  | .local _ .vmem, ⟨8, _⟩ => ⟨S1x1024, .f32⟩
  | .local _ .vmem, ⟨9, _⟩ => ⟨S352x1024, .f32⟩
  | .local _ .vmem, ⟨10, _⟩ => ⟨S352x1024, .f32⟩
  | .local _ .vmem, ⟨11, _⟩ => ⟨S352x1024, .f32⟩
  | .local _ .vmem, ⟨12, _⟩ => ⟨S352x1024, .f32⟩
  | .local _ .vmem, ⟨13, _⟩ => ⟨S352x1024, .bf16⟩
  | .local _ .vmem, ⟨14, _⟩ => ⟨S352x1024, .bf16⟩
  | .local _ .vmem, ⟨15, _⟩ => ⟨S1x1024, .f32⟩
  | _, _ => ⟨S4x4224x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v1 : Ref sig .tc := ⟨.hbm, 10, rfl⟩
abbrev main_v2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨1, ![6], ![false]⟩

def k0_cond1 (i : grid0.Coords) : BitVec 1 :=
  let arg0 : BitVec 32 := BitVec.ofNat 32 (i 0).val
  let c0_i32 : BitVec 32 := 0#32
  let v81 : BitVec 1 := Scalar.cmpi .eq arg0 c0_i32
  let v82 : BitVec 32 := Scalar.extui v81
  let c0_i32_68 : BitVec 32 := 0#32
  let v83 : BitVec 1 := Scalar.cmpi .ne v82 c0_i32_68
  v83

def k0_cond2 (i : grid0.Coords) : BitVec 1 :=
  let arg0 : BitVec 32 := BitVec.ofNat 32 (i 0).val
  let c0_i32_69 : BitVec 32 := 0#32
  let v84 : BitVec 1 := Scalar.cmpi .ne arg0 c0_i32_69
  let v85 : BitVec 32 := Scalar.extui v84
  let c0_i32_70 : BitVec 32 := 0#32
  let v86 : BitVec 1 := Scalar.cmpi .ne v85 c0_i32_70
  v86

def cc0_transform_0 (i : grid0.Coords) : Fin 3 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![c0_i32_0.toNat, v0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![c0_i32_0.toNat, v0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_7 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_8 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x352x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x704x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4x352x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x704x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S352x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S352x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== DinARefIdeal.lean ====
abbrev S4x4224x704 : Shape := ⟨3, ![4, 4224, 704]⟩
abbrev S4x704x1024 : Shape := ⟨3, ![4, 704, 1024]⟩
abbrev S4224x1024 : Shape := ⟨2, ![4224, 1024]⟩
abbrev S1x1024 : Shape := ⟨2, ![1, 1024]⟩
abbrev S4x2112x704 : Shape := ⟨3, ![4, 2112, 704]⟩
abbrev S2112x1024 : Shape := ⟨2, ![2112, 1024]⟩
abbrev S_ : Shape := ⟨0, ![]⟩
abbrev S2112 : Shape := ⟨1, ![2112]⟩
abbrev S2112x1 : Shape := ⟨2, ![2112, 1]⟩
abbrev S4x704x2112 : Shape := ⟨3, ![4, 704, 2112]⟩
abbrev S1024 : Shape := ⟨1, ![1024]⟩

abbrev nBuf : Space → Nat
  | .hbm => 68
  | .vmem => 0
  | .smem => 0
  | _ => 0

abbrev bufTy : (tb : Table) → Fin (tcTables nBuf tb) → BufTy
  | .hbm, ⟨0, _⟩ => ⟨S4x4224x704, .bf16⟩
  | .hbm, ⟨1, _⟩ => ⟨S4x704x1024, .bf16⟩
  | .hbm, ⟨2, _⟩ => ⟨S4x4224x704, .bf16⟩
  | .hbm, ⟨3, _⟩ => ⟨S4x704x1024, .bf16⟩
  | .hbm, ⟨4, _⟩ => ⟨S4224x1024, .f32⟩
  | .hbm, ⟨5, _⟩ => ⟨S1x1024, .f32⟩
  | .hbm, ⟨6, _⟩ => ⟨S4224x1024, .f32⟩
  | .hbm, ⟨7, _⟩ => ⟨S4x2112x704, .bf16⟩
  | .hbm, ⟨8, _⟩ => ⟨S4x2112x704, .bf16⟩
  | .hbm, ⟨9, _⟩ => ⟨S2112x1024, .f32⟩
  | .hbm, ⟨10, _⟩ => ⟨S2112x1024, .f32⟩
  | .hbm, ⟨11, _⟩ => ⟨S4x2112x704, .f32⟩
  | .hbm, ⟨12, _⟩ => ⟨S4x704x1024, .f32⟩
  | .hbm, ⟨13, _⟩ => ⟨S4x2112x704, .f32⟩
  | .hbm, ⟨14, _⟩ => ⟨S4x704x1024, .f32⟩
  | .hbm, ⟨15, _⟩ => ⟨S2112x1024, .f32⟩
  | .hbm, ⟨16, _⟩ => ⟨S_, .f32⟩
  | .hbm, ⟨17, _⟩ => ⟨S2112, .f32⟩
  | .hbm, ⟨18, _⟩ => ⟨S2112x1, .f32⟩
  | .hbm, ⟨19, _⟩ => ⟨S_, .f32⟩
  | .hbm, ⟨20, _⟩ => ⟨S2112x1, .f32⟩
  | .hbm, ⟨21, _⟩ => ⟨S2112x1, .f32⟩
  | .hbm, ⟨22, _⟩ => ⟨S_, .f32⟩
  | .hbm, ⟨23, _⟩ => ⟨S2112x1, .f32⟩
  | .hbm, ⟨24, _⟩ => ⟨S2112x1, .f32⟩
  | .hbm, ⟨25, _⟩ => ⟨S2112x1, .f32⟩
  | .hbm, ⟨26, _⟩ => ⟨S2112x1, .f32⟩
  | .hbm, ⟨27, _⟩ => ⟨S_, .f32⟩
  | .hbm, ⟨28, _⟩ => ⟨S2112x1, .f32⟩
  | .hbm, ⟨29, _⟩ => ⟨S2112x1, .f32⟩
  | .hbm, ⟨30, _⟩ => ⟨S2112x1024, .f32⟩
  | .hbm, ⟨31, _⟩ => ⟨S2112x1024, .f32⟩
  | .hbm, ⟨32, _⟩ => ⟨S2112x1024, .f32⟩
  | .hbm, ⟨33, _⟩ => ⟨S2112x1024, .f32⟩
  | .hbm, ⟨34, _⟩ => ⟨S4x704x2112, .f32⟩
  | .hbm, ⟨35, _⟩ => ⟨S4x2112x704, .f32⟩
  | .hbm, ⟨36, _⟩ => ⟨S4x704x2112, .f32⟩
  | .hbm, ⟨37, _⟩ => ⟨S4x2112x704, .f32⟩
  | .hbm, ⟨38, _⟩ => ⟨S4x704x2112, .f32⟩
  | .hbm, ⟨39, _⟩ => ⟨S2112x1024, .f32⟩
  | .hbm, ⟨40, _⟩ => ⟨S4x704x2112, .f32⟩
  | .hbm, ⟨41, _⟩ => ⟨S2112x1024, .f32⟩
  | .hbm, ⟨42, _⟩ => ⟨S2112x1024, .f32⟩
  | .hbm, ⟨43, _⟩ => ⟨S2112x1024, .f32⟩
  | .hbm, ⟨44, _⟩ => ⟨S_, .f32⟩
  | .hbm, ⟨45, _⟩ => ⟨S1024, .f32⟩
  | .hbm, ⟨46, _⟩ => ⟨S1x1024, .f32⟩
  | .hbm, ⟨47, _⟩ => ⟨S2112x1024, .f32⟩
  | .hbm, ⟨48, _⟩ => ⟨S2112x1024, .f32⟩
  | .hbm, ⟨49, _⟩ => ⟨S2112x1024, .f32⟩
  | .hbm, ⟨50, _⟩ => ⟨S_, .f32⟩
  | .hbm, ⟨51, _⟩ => ⟨S2112, .f32⟩
  | .hbm, ⟨52, _⟩ => ⟨S2112x1, .f32⟩
  | .hbm, ⟨53, _⟩ => ⟨S2112x1024, .f32⟩
  | .hbm, ⟨54, _⟩ => ⟨S2112x1024, .f32⟩
  | .hbm, ⟨55, _⟩ => ⟨S2112x1, .f32⟩
  | .hbm, ⟨56, _⟩ => ⟨S_, .f32⟩
  | .hbm, ⟨57, _⟩ => ⟨S2112x1, .f32⟩
  | .hbm, ⟨58, _⟩ => ⟨S2112x1, .f32⟩
  | .hbm, ⟨59, _⟩ => ⟨S_, .f32⟩
  | .hbm, ⟨60, _⟩ => ⟨S2112, .f32⟩
  | .hbm, ⟨61, _⟩ => ⟨S2112x1024, .f32⟩
  | .hbm, ⟨62, _⟩ => ⟨S2112x1024, .f32⟩
  | .hbm, ⟨63, _⟩ => ⟨S2112x1024, .f32⟩
  | .hbm, ⟨64, _⟩ => ⟨S2112x1024, .f32⟩
  | .hbm, ⟨65, _⟩ => ⟨S2112x1024, .f32⟩
  | .hbm, ⟨66, _⟩ => ⟨S2112x1024, .f32⟩
  | .hbm, ⟨67, _⟩ => ⟨S2112x1024, .bf16⟩
  | _, _ => ⟨S4x4224x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_3 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_4 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_5 : Ref sig .tc := ⟨.hbm, 56, rfl⟩
abbrev main_v43 : Ref sig .tc := ⟨.hbm, 57, rfl⟩
abbrev main_v44 : Ref sig .tc := ⟨.hbm, 58, rfl⟩
abbrev main_cst_6 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩

abbrev nD : Nat := 1
abbrev τ : Topo := Topo.v7x

variable {F : FTy → Type} [FloatOps F]
-- ==== DinB.lean ====
abbrev S4x4224x704 : Shape := ⟨3, ![4, 4224, 704]⟩
abbrev S4x704x1024 : Shape := ⟨3, ![4, 704, 1024]⟩
abbrev S4224x1024 : Shape := ⟨2, ![4224, 1024]⟩
abbrev S1x1024 : Shape := ⟨2, ![1, 1024]⟩
abbrev S4x352x704 : Shape := ⟨3, ![4, 352, 704]⟩
abbrev S352x1024 : Shape := ⟨2, ![352, 1024]⟩
abbrev S1x352x704 : Shape := ⟨3, ![1, 352, 704]⟩
abbrev S352x704 : Shape := ⟨2, ![352, 704]⟩
abbrev S1x704x1024 : Shape := ⟨3, ![1, 704, 1024]⟩
abbrev S704x1024 : Shape := ⟨2, ![704, 1024]⟩
abbrev S352 : Shape := ⟨1, ![352]⟩
abbrev S352x1 : Shape := ⟨2, ![352, 1]⟩
abbrev S1024 : Shape := ⟨1, ![1024]⟩

abbrev nBuf : Space → Nat
  | .hbm => 12
  | .vmem => 16
  | .smem => 0
  | _ => 0

abbrev bufTy : (tb : Table) → Fin (tcTables nBuf tb) → BufTy
  | .hbm, ⟨0, _⟩ => ⟨S4x4224x704, .bf16⟩
  | .hbm, ⟨1, _⟩ => ⟨S4x704x1024, .bf16⟩
  | .hbm, ⟨2, _⟩ => ⟨S4x4224x704, .bf16⟩
  | .hbm, ⟨3, _⟩ => ⟨S4x704x1024, .bf16⟩
  | .hbm, ⟨4, _⟩ => ⟨S4224x1024, .f32⟩
  | .hbm, ⟨5, _⟩ => ⟨S1x1024, .f32⟩
  | .hbm, ⟨6, _⟩ => ⟨S4224x1024, .f32⟩
  | .hbm, ⟨7, _⟩ => ⟨S4224x1024, .f32⟩
  | .hbm, ⟨8, _⟩ => ⟨S4224x1024, .bf16⟩
  | .hbm, ⟨9, _⟩ => ⟨S4224x1024, .f32⟩
  | .hbm, ⟨10, _⟩ => ⟨S4224x1024, .bf16⟩
  | .hbm, ⟨11, _⟩ => ⟨S1x1024, .f32⟩
  | .local _ .vmem, ⟨0, _⟩ => ⟨S4x352x704, .bf16⟩
  | .local _ .vmem, ⟨1, _⟩ => ⟨S4x352x704, .bf16⟩
  | .local _ .vmem, ⟨2, _⟩ => ⟨S4x704x1024, .bf16⟩
  | .local _ .vmem, ⟨3, _⟩ => ⟨S4x352x704, .bf16⟩
  | .local _ .vmem, ⟨4, _⟩ => ⟨S4x352x704, .bf16⟩
  | .local _ .vmem, ⟨5, _⟩ => ⟨S4x704x1024, .bf16⟩
  | .local _ .vmem, ⟨6, _⟩ => ⟨S352x1024, .f32⟩
  | .local _ .vmem, ⟨7, _⟩ => ⟨S352x1024, .f32⟩
  | .local _ .vmem, ⟨8, _⟩ => ⟨S1x1024, .f32⟩
  | .local _ .vmem, ⟨9, _⟩ => ⟨S352x1024, .f32⟩
  | .local _ .vmem, ⟨10, _⟩ => ⟨S352x1024, .f32⟩
  | .local _ .vmem, ⟨11, _⟩ => ⟨S352x1024, .f32⟩
  | .local _ .vmem, ⟨12, _⟩ => ⟨S352x1024, .f32⟩
  | .local _ .vmem, ⟨13, _⟩ => ⟨S352x1024, .bf16⟩
  | .local _ .vmem, ⟨14, _⟩ => ⟨S352x1024, .bf16⟩
  | .local _ .vmem, ⟨15, _⟩ => ⟨S1x1024, .f32⟩
  | _, _ => ⟨S4x4224x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨1, ![6], ![false]⟩

def k0_cond1 (i : grid0.Coords) : BitVec 1 :=
  let arg0 : BitVec 32 := BitVec.ofNat 32 (i 0).val
  let c0_i32 : BitVec 32 := 0#32
  let v81 : BitVec 1 := Scalar.cmpi .eq arg0 c0_i32
  let v82 : BitVec 32 := Scalar.extui v81
  let c0_i32_68 : BitVec 32 := 0#32
  let v83 : BitVec 1 := Scalar.cmpi .ne v82 c0_i32_68
  v83

def k0_cond2 (i : grid0.Coords) : BitVec 1 :=
  let arg0 : BitVec 32 := BitVec.ofNat 32 (i 0).val
  let c0_i32_69 : BitVec 32 := 0#32
  let v84 : BitVec 1 := Scalar.cmpi .ne arg0 c0_i32_69
  let v85 : BitVec 32 := Scalar.extui v84
  let c0_i32_70 : BitVec 32 := 0#32
  let v86 : BitVec 1 := Scalar.cmpi .ne v85 c0_i32_70
  v86

def cc0_transform_0 (i : grid0.Coords) : Fin 3 → Nat :=
  let arg0 : BitVec 32 := BitVec.ofNat 32 (i 0).val
  let c6_i32 : BitVec 32 := 6#32
  let v0 : BitVec 32 := Scalar.addi arg0 c6_i32
  let c0_i32 : BitVec 32 := 0#32
  let c0_i32_0 : BitVec 32 := 0#32
  let c0_i32_1 : BitVec 32 := 0#32
  ![c0_i32.toNat, v0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c6_i32 : BitVec 32 := 6#32
  let v0 : BitVec 32 := Scalar.addi arg0 c6_i32
  let c0_i32 : BitVec 32 := 0#32
  let c0_i32_0 : BitVec 32 := 0#32
  let c0_i32_1 : BitVec 32 := 0#32
  ![c0_i32.toNat, v0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c6_i32 : BitVec 32 := 6#32
  let v0 : BitVec 32 := Scalar.addi arg0 c6_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c6_i32 : BitVec 32 := 6#32
  let v0 : BitVec 32 := Scalar.addi arg0 c6_i32
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c6_i32 : BitVec 32 := 6#32
  let v0 : BitVec 32 := Scalar.addi arg0 c6_i32
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c6_i32 : BitVec 32 := 6#32
  let v0 : BitVec 32 := Scalar.addi arg0 c6_i32
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x352x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x704x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4x352x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x704x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S352x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S352x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== DinBRefIdeal.lean ====
abbrev S4x4224x704 : Shape := ⟨3, ![4, 4224, 704]⟩
abbrev S4x704x1024 : Shape := ⟨3, ![4, 704, 1024]⟩
abbrev S4224x1024 : Shape := ⟨2, ![4224, 1024]⟩
abbrev S1x1024 : Shape := ⟨2, ![1, 1024]⟩
abbrev S4x2112x704 : Shape := ⟨3, ![4, 2112, 704]⟩
abbrev S2112x1024 : Shape := ⟨2, ![2112, 1024]⟩
abbrev S_ : Shape := ⟨0, ![]⟩
abbrev S2112 : Shape := ⟨1, ![2112]⟩
abbrev S2112x1 : Shape := ⟨2, ![2112, 1]⟩
abbrev S4x704x2112 : Shape := ⟨3, ![4, 704, 2112]⟩
abbrev S1024 : Shape := ⟨1, ![1024]⟩

abbrev nBuf : Space → Nat
  | .hbm => 74
  | .vmem => 0
  | .smem => 0
  | _ => 0

abbrev bufTy : (tb : Table) → Fin (tcTables nBuf tb) → BufTy
  | .hbm, ⟨0, _⟩ => ⟨S4x4224x704, .bf16⟩
  | .hbm, ⟨1, _⟩ => ⟨S4x704x1024, .bf16⟩
  | .hbm, ⟨2, _⟩ => ⟨S4x4224x704, .bf16⟩
  | .hbm, ⟨3, _⟩ => ⟨S4x704x1024, .bf16⟩
  | .hbm, ⟨4, _⟩ => ⟨S4224x1024, .f32⟩
  | .hbm, ⟨5, _⟩ => ⟨S1x1024, .f32⟩
  | .hbm, ⟨6, _⟩ => ⟨S4224x1024, .f32⟩
  | .hbm, ⟨7, _⟩ => ⟨S4224x1024, .f32⟩
  | .hbm, ⟨8, _⟩ => ⟨S4224x1024, .bf16⟩
  | .hbm, ⟨9, _⟩ => ⟨S4x2112x704, .bf16⟩
  | .hbm, ⟨10, _⟩ => ⟨S4x2112x704, .bf16⟩
  | .hbm, ⟨11, _⟩ => ⟨S2112x1024, .f32⟩
  | .hbm, ⟨12, _⟩ => ⟨S2112x1024, .f32⟩
  | .hbm, ⟨13, _⟩ => ⟨S4x2112x704, .f32⟩
  | .hbm, ⟨14, _⟩ => ⟨S4x704x1024, .f32⟩
  | .hbm, ⟨15, _⟩ => ⟨S4x2112x704, .f32⟩
  | .hbm, ⟨16, _⟩ => ⟨S4x704x1024, .f32⟩
  | .hbm, ⟨17, _⟩ => ⟨S2112x1024, .f32⟩
  | .hbm, ⟨18, _⟩ => ⟨S_, .f32⟩
  | .hbm, ⟨19, _⟩ => ⟨S2112, .f32⟩
  | .hbm, ⟨20, _⟩ => ⟨S2112x1, .f32⟩
  | .hbm, ⟨21, _⟩ => ⟨S_, .f32⟩
  | .hbm, ⟨22, _⟩ => ⟨S2112x1, .f32⟩
  | .hbm, ⟨23, _⟩ => ⟨S2112x1, .f32⟩
  | .hbm, ⟨24, _⟩ => ⟨S_, .f32⟩
  | .hbm, ⟨25, _⟩ => ⟨S2112x1, .f32⟩
  | .hbm, ⟨26, _⟩ => ⟨S2112x1, .f32⟩
  | .hbm, ⟨27, _⟩ => ⟨S2112x1, .f32⟩
  | .hbm, ⟨28, _⟩ => ⟨S2112x1, .f32⟩
  | .hbm, ⟨29, _⟩ => ⟨S_, .f32⟩
  | .hbm, ⟨30, _⟩ => ⟨S2112x1, .f32⟩
  | .hbm, ⟨31, _⟩ => ⟨S2112x1, .f32⟩
  | .hbm, ⟨32, _⟩ => ⟨S2112x1024, .f32⟩
  | .hbm, ⟨33, _⟩ => ⟨S2112x1024, .f32⟩
  | .hbm, ⟨34, _⟩ => ⟨S2112x1024, .f32⟩
  | .hbm, ⟨35, _⟩ => ⟨S2112x1024, .f32⟩
  | .hbm, ⟨36, _⟩ => ⟨S4x704x2112, .f32⟩
  | .hbm, ⟨37, _⟩ => ⟨S4x2112x704, .f32⟩
  | .hbm, ⟨38, _⟩ => ⟨S4x704x2112, .f32⟩
  | .hbm, ⟨39, _⟩ => ⟨S4x2112x704, .f32⟩
  | .hbm, ⟨40, _⟩ => ⟨S4x704x2112, .f32⟩
  | .hbm, ⟨41, _⟩ => ⟨S2112x1024, .f32⟩
  | .hbm, ⟨42, _⟩ => ⟨S4x704x2112, .f32⟩
  | .hbm, ⟨43, _⟩ => ⟨S2112x1024, .f32⟩
  | .hbm, ⟨44, _⟩ => ⟨S2112x1024, .f32⟩
  | .hbm, ⟨45, _⟩ => ⟨S2112x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S2112x1024, .f32⟩
  | .hbm, ⟨50, _⟩ => ⟨S2112x1024, .f32⟩
  | .hbm, ⟨51, _⟩ => ⟨S2112x1024, .f32⟩
  | .hbm, ⟨52, _⟩ => ⟨S_, .f32⟩
  | .hbm, ⟨53, _⟩ => ⟨S2112, .f32⟩
  | .hbm, ⟨54, _⟩ => ⟨S2112x1, .f32⟩
  | .hbm, ⟨55, _⟩ => ⟨S2112x1024, .f32⟩
  | .hbm, ⟨56, _⟩ => ⟨S2112x1024, .f32⟩
  | .hbm, ⟨57, _⟩ => ⟨S2112x1, .f32⟩
  | .hbm, ⟨58, _⟩ => ⟨S_, .f32⟩
  | .hbm, ⟨59, _⟩ => ⟨S2112x1, .f32⟩
  | .hbm, ⟨60, _⟩ => ⟨S2112x1, .f32⟩
  | .hbm, ⟨61, _⟩ => ⟨S_, .f32⟩
  | .hbm, ⟨62, _⟩ => ⟨S2112, .f32⟩
  | .hbm, ⟨63, _⟩ => ⟨S2112x1024, .f32⟩
  | .hbm, ⟨64, _⟩ => ⟨S2112x1024, .f32⟩
  | .hbm, ⟨65, _⟩ => ⟨S2112x1024, .f32⟩
  | .hbm, ⟨66, _⟩ => ⟨S2112x1024, .f32⟩
  | .hbm, ⟨67, _⟩ => ⟨S2112x1024, .f32⟩
  | .hbm, ⟨68, _⟩ => ⟨S2112x1024, .f32⟩
  | .hbm, ⟨69, _⟩ => ⟨S2112x1024, .bf16⟩
  | .hbm, ⟨70, _⟩ => ⟨S2112x1024, .f32⟩
  | .hbm, ⟨71, _⟩ => ⟨S4224x1024, .f32⟩
  | .hbm, ⟨72, _⟩ => ⟨S2112x1024, .bf16⟩
  | .hbm, ⟨73, _⟩ => ⟨S4224x1024, .bf16⟩
  | _, _ => ⟨S4x4224x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_3 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_4 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_5 : Ref sig .tc := ⟨.hbm, 58, rfl⟩
abbrev main_v43 : Ref sig .tc := ⟨.hbm, 59, rfl⟩
abbrev main_v44 : Ref sig .tc := ⟨.hbm, 60, rfl⟩
abbrev main_cst_6 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩

abbrev nD : Nat := 1
abbrev τ : Topo := Topo.v7x

variable {F : FTy → Type} [FloatOps F]
-- ==== Proof.Spec.lean ====
/- The real numbers behind the attention gradients: what kernel and reference both compute for one example and one head. -/
module

public import Mathlib.Data.EReal.Operations
public import Mathlib.Analysis.SpecialFunctions.Exp
public import Mathlib.Analysis.SpecialFunctions.Log.Basic
public import Idealize.ShloMosaic.PureOps.Ideal

@[expose] public section

noncomputable section

namespace Cert.Attn

open Idealize.ShloMosaic

/-- A sum of real numbers, taken among the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The scale of the logits, as the single-precision word the program holds. -/
def scale : ℝ := (Ideal.ofBits .f32 0x3D93CD3A#32 : EReal).toReal

/-- That word denotes a real number. -/
theorem ofBits_scale : (Ideal.ofBits .f32 0x3D93CD3A#32 : EReal) = (scale : EReal) := by
  unfold scale
  rw [EReal.coe_toReal]
  · simp [Ideal.ofBits, Ideal.ieee, -EReal.coe_mul]
  · simp [Ideal.ofBits, Ideal.ieee, -EReal.coe_mul]

/-- The word of minus infinity. -/
theorem ofBits_neg_inf : (Ideal.ofBits .f32 0xFF800000#32 : EReal) = ⊥ := by simp [Ideal.ofBits, Ideal.ieee]

/-- The word of plus infinity. -/
theorem ofBits_inf : (Ideal.ofBits .f32 0x7F800000#32 : EReal) = ⊤ := by simp [Ideal.ofBits, Ideal.ieee]

/-- The operands of one example and head: queries, keys, values, the result's gradient, and one real number per row by which the logits are shifted
    before they are exponentiated (any number will do: it cancels). -/
structure Head where
  Q : Fin 2112 → Fin 256 → ℝ
  K : Fin 2112 → Fin 256 → ℝ
  V : Fin 2112 → Fin 128 → ℝ
  D : Fin 2112 → Fin 128 → ℝ
  M : Fin 2112 → ℝ

namespace Head
variable (x : Head)

/-- The scaled logit of a row at a key. -/
def s (r c : Fin 2112) : ℝ := (∑ d, x.Q r d * x.K c d) * scale

/-- The shifted exponential of a logit; nothing for a key of a later chunk. -/
def e (r c : Fin 2112) : ℝ := if c.val / 64 ≤ r.val / 64 then Real.exp (x.s r c - x.M r) else 0

/-- The sum of a row's exponentials. -/
def l (r : Fin 2112) : ℝ := ∑ c, x.e r c

/-- The weight of a row at a key. -/
def p (r c : Fin 2112) : ℝ := x.e r c / x.l r

/-- The attention's result. -/
def o (r : Fin 2112) (d : Fin 128) : ℝ := ∑ c, x.p r c * x.V c d

/-- The gradient of a weight. -/
def dp (r c : Fin 2112) : ℝ := ∑ d, x.D r d * x.V c d

/-- The weighted mean of a row's weight gradients. -/
def delta (r : Fin 2112) : ℝ := ∑ c, x.p r c * x.dp r c

/-- The gradient of an unscaled logit. -/
def ds (r c : Fin 2112) : ℝ := x.p r c * (x.dp r c - x.delta r) * scale

/-- The queries' gradient. -/
def dq (r : Fin 2112) (d : Fin 256) : ℝ := ∑ c, x.ds r c * x.K c d

/-- The keys' gradient. -/
def dk (c : Fin 2112) (d : Fin 256) : ℝ := ∑ r, x.ds r c * x.Q r d

/-- The values' gradient. -/
def dv (c : Fin 2112) (d : Fin 128) : ℝ := ∑ r, x.p r c * x.D r d

/-- No exponential is negative. -/
theorem e_nonneg (r c : Fin 2112) : 0 ≤ x.e r c := by
  unfold e; split
  · exact (Real.exp_pos _).le
  · exact le_rfl

/-- A row sees itself, so its sum is positive. -/
theorem l_pos (r : Fin 2112) : 0 < x.l r := by
  refine Finset.sum_pos' (fun c _ => x.e_nonneg r c) ⟨r, Finset.mem_univ _, ?_⟩
  simp only [e, le_refl, if_true]; exact Real.exp_pos _

/-- A key of a later chunk has no weight. -/
theorem p_masked {r c : Fin 2112} (h : ¬c.val / 64 ≤ r.val / 64) : x.p r c = 0 := by simp [p, e, h]

/-- A masked logit's gradient is zero. -/
theorem ds_masked {r c : Fin 2112} (h : ¬c.val / 64 ≤ r.val / 64) : x.ds r c = 0 := by simp [ds, x.p_masked h]

/-- The weight from the logarithm of the row's sum: what the kernel computes. -/
theorem exp_sub_lse {r c : Fin 2112} (h : c.val / 64 ≤ r.val / 64) :
    Real.exp (x.s r c - (x.M r + Real.log (x.l r))) = x.p r c := by
  rw [← sub_sub, Real.exp_sub, Real.exp_log (x.l_pos r), p, e, if_pos h]

/-- The mean of a row's weight gradients is the product of its result and the result's gradient. -/
theorem sum_D_o (r : Fin 2112) : ∑ d, x.D r d * x.o r d = x.delta r := by
  simp only [o, delta, dp, Finset.mul_sum]
  rw [Finset.sum_comm]
  refine Finset.sum_congr rfl fun c _ => Finset.sum_congr rfl fun d _ => ?_
  ring

/-- The logit's gradient as differentiation writes it: the quotient's two parts. -/
theorem ds_quotient (r c : Fin 2112) :
    (x.dp r c / x.l r + -∑ c', x.dp r c' * (1 / (x.l r * x.l r)) * x.e r c') * x.e r c * scale = x.ds r c := by
  have hl := (x.l_pos r).ne'
  have h : ∑ c', x.dp r c' * (1 / (x.l r * x.l r)) * x.e r c' = x.delta r / x.l r := by
    rw [delta, Finset.sum_div]
    refine Finset.sum_congr rfl fun c' _ => ?_
    rw [p]; field_simp
  rw [h, ds, p]; field_simp; ring

end Head

end Cert.Attn

end
-- ==== Proof.Tile.lean ====
/- One tile of rows against a prefix of keys: the sums the kernel forms there, as real numbers. -/
module

public import proofs.«01_k».proof.Proof.Spec
public import Idealize.ShloMosaic.Lib.Pointwise

@[expose] public section

set_option maxRecDepth 16384

noncomputable section

namespace Cert.Attn

open Idealize.ShloMosaic

/-- A row of the tile that begins at row `J`. -/
abbrev row (J : ℕ) (hJ : J + 192 ≤ 2112) (i : Fin 192) : Fin 2112 := ⟨J + i.val, by omega⟩

/-- A key of the first `N`. -/
abbrev key (N : ℕ) (hN : N ≤ 2112) (k : Fin N) : Fin 2112 := ⟨k.val, by omega⟩

/-- Shifting a row number right by six places divides it by the chunk length. -/
theorem shift_word : ∀ i : Fin 2112, IntOp.shrsi .vector (BitVec.ofNat 32 i.val) 6#32 = BitVec.ofNat 32 (i.val / 64) := by
  decide +kernel

/-- Two chunk numbers compared as words. -/
theorem chunk_le_word : ∀ a b : Fin 33, IntOp.cmpi .sle (BitVec.ofNat 32 a.val) (BitVec.ofNat 32 b.val) = if a.val ≤ b.val then 1#1 else 0#1 := by
  decide +kernel

/-- The kernel's mask selects the keys of the row's chunk and of the chunks before it. -/
theorem select_seen {J : ℕ} (hJ : J + 192 ≤ 2112) (i : Fin 192) (c : Fin 2112) (x : EReal) :
    Scalar.select (IntOp.cmpi .sle (IntOp.shrsi .vector (BitVec.ofNat 32 c.val) 6#32)
        (IntOp.shrsi .vector (IntOp.addi (BitVec.ofNat 32 J) (BitVec.ofNat 32 i.val)) 6#32)) x 0
      = if c.val / 64 ≤ (row J hJ i).val / 64 then x else 0 := by
  have h : IntOp.addi (BitVec.ofNat 32 J) (BitVec.ofNat 32 i.val) = BitVec.ofNat 32 (row J hJ i).val := by
    simp [IntOp.addi, BitVec.ofNat_add]
  rw [h, shift_word c, shift_word (row J hJ i)]
  have h2 := chunk_le_word ⟨c.val / 64, by omega⟩ ⟨(row J hJ i).val / 64, by omega⟩
  dsimp only at h2
  rw [h2]
  split
  · rfl
  · rfl

namespace Head
variable (H : Head)

/-- The scaled logit among the extended reals. -/
theorem logit_coe (r c : Fin 2112) :
    (∑ e : Fin 256, (H.Q r e : EReal) * (H.K c e : EReal)) * Ideal.ofBits .f32 1033096506#32 = ((H.s r c : ℝ) : EReal) := by
  rw [show (Ideal.ofBits .f32 1033096506#32 : EReal) = (scale : EReal) from ofBits_scale, s, EReal.coe_mul, coe_sum]
  simp only [EReal.coe_mul]

/-- What the weight gradient less its mean is among the extended reals. -/
theorem dp_coe (r c : Fin 2112) :
    (∑ e : Fin 128, (H.D r e : EReal) * (H.V c e : EReal)) - ∑ e : Fin 128, (H.D r e : EReal) * (H.o r e : EReal) = ((H.dp r c - H.delta r : ℝ) : EReal) := by
  rw [EReal.coe_sub, ← H.sum_D_o, dp, coe_sum, coe_sum]
  simp only [EReal.coe_mul]

/-- The weight the kernel exponentiates at a key the row sees. -/
theorem weight_coe {r c : Fin 2112} (h : c.val / 64 ≤ r.val / 64) :
    Ideal.exp ((∑ e : Fin 256, (H.Q r e : EReal) * (H.K c e : EReal)) * Ideal.ofBits .f32 1033096506#32 - ((H.M r + Real.log (H.l r) : ℝ) : EReal))
      = ((H.p r c : ℝ) : EReal) := by
  rw [logit_coe, ← EReal.coe_sub, Ideal.exp_coe, H.exp_sub_lse h]

variable {J N : ℕ} (hJ : J + 192 ≤ 2112) (hN : N ≤ 2112)
  {q : Fin 192 → Fin 256 → EReal} {k : Fin N → Fin 256 → EReal} {v : Fin N → Fin 128 → EReal}
  {o : Fin 192 → Fin 128 → EReal} {l : Fin 192 → EReal} {d : Fin 192 → Fin 128 → EReal}

/-- What a tile of rows adds to the gradient of a value. -/
theorem tile_dv (hq : ∀ i e, q i e = ((H.Q (row J hJ i) e : ℝ) : EReal)) (hk : ∀ c e, k c e = ((H.K (key N hN c) e : ℝ) : EReal))
    (hl : ∀ i, l i = ((H.M (row J hJ i) + Real.log (H.l (row J hJ i)) : ℝ) : EReal)) (hd : ∀ i e, d i e = ((H.D (row J hJ i) e : ℝ) : EReal))
    (c : Fin N) (e : Fin 128) :
    (∑ i : Fin 192, Scalar.select (IntOp.cmpi .sle (IntOp.shrsi .vector (BitVec.ofNat 32 c.val) 6#32)
        (IntOp.shrsi .vector (IntOp.addi (BitVec.ofNat 32 J) (BitVec.ofNat 32 i.val)) 6#32))
        (Ideal.exp ((∑ a : Fin 256, q i a * k c a) * Ideal.ofBits .f32 1033096506#32 - l i) * d i e) 0)
      = ((∑ i : Fin 192, H.p (row J hJ i) (key N hN c) * H.D (row J hJ i) e : ℝ) : EReal) := by
  rw [coe_sum]
  refine Finset.sum_congr rfl fun i _ => ?_
  refine (select_seen hJ i (key N hN c) _).trans ?_
  split
  · rename_i h
    simp only [hq, hk, hl, hd]
    rw [H.weight_coe h, EReal.coe_mul]
  · rename_i h
    rw [H.p_masked h, zero_mul, EReal.coe_zero]

/-- A logit's gradient times one more factor, as the kernel forms it. -/
theorem tile_ds (hq : ∀ i e, q i e = ((H.Q (row J hJ i) e : ℝ) : EReal)) (hk : ∀ c e, k c e = ((H.K (key N hN c) e : ℝ) : EReal))
    (hv : ∀ c e, v c e = ((H.V (key N hN c) e : ℝ) : EReal)) (ho : ∀ i e, o i e = ((H.o (row J hJ i) e : ℝ) : EReal))
    (hl : ∀ i, l i = ((H.M (row J hJ i) + Real.log (H.l (row J hJ i)) : ℝ) : EReal)) (hd : ∀ i e, d i e = ((H.D (row J hJ i) e : ℝ) : EReal))
    (i : Fin 192) (c : Fin N) {x : EReal} {y : ℝ} (hx : x = (y : EReal)) :
    Scalar.select (IntOp.cmpi .sle (IntOp.shrsi .vector (BitVec.ofNat 32 c.val) 6#32)
        (IntOp.shrsi .vector (IntOp.addi (BitVec.ofNat 32 J) (BitVec.ofNat 32 i.val)) 6#32))
        (Ideal.exp ((∑ a : Fin 256, q i a * k c a) * Ideal.ofBits .f32 1033096506#32 - l i)
          * (∑ a : Fin 128, d i a * v c a - ∑ a : Fin 128, d i a * o i a) * Ideal.ofBits .f32 1033096506#32 * x) 0
      = ((H.ds (row J hJ i) (key N hN c) * y : ℝ) : EReal) := by
  refine (select_seen hJ i (key N hN c) _).trans ?_
  split
  · rename_i h
    simp only [hq, hk, hv, ho, hl, hd, hx]
    rw [H.weight_coe h, H.dp_coe, show (Ideal.ofBits .f32 1033096506#32 : EReal) = (scale : EReal) from ofBits_scale,
      ← EReal.coe_mul, ← EReal.coe_mul, ← EReal.coe_mul, ds]
  · rename_i h
    rw [H.ds_masked h, zero_mul, EReal.coe_zero]

/-- What a tile of rows adds to the gradient of a key. -/
theorem tile_dk (hq : ∀ i e, q i e = ((H.Q (row J hJ i) e : ℝ) : EReal)) (hk : ∀ c e, k c e = ((H.K (key N hN c) e : ℝ) : EReal))
    (hv : ∀ c e, v c e = ((H.V (key N hN c) e : ℝ) : EReal)) (ho : ∀ i e, o i e = ((H.o (row J hJ i) e : ℝ) : EReal))
    (hl : ∀ i, l i = ((H.M (row J hJ i) + Real.log (H.l (row J hJ i)) : ℝ) : EReal)) (hd : ∀ i e, d i e = ((H.D (row J hJ i) e : ℝ) : EReal))
    (c : Fin N) (e : Fin 256) :
    (∑ i : Fin 192, Scalar.select (IntOp.cmpi .sle (IntOp.shrsi .vector (BitVec.ofNat 32 c.val) 6#32)
        (IntOp.shrsi .vector (IntOp.addi (BitVec.ofNat 32 J) (BitVec.ofNat 32 i.val)) 6#32))
        (Ideal.exp ((∑ a : Fin 256, q i a * k c a) * Ideal.ofBits .f32 1033096506#32 - l i)
          * (∑ a : Fin 128, d i a * v c a - ∑ a : Fin 128, d i a * o i a) * Ideal.ofBits .f32 1033096506#32 * q i e) 0)
      = ((∑ i : Fin 192, H.ds (row J hJ i) (key N hN c) * H.Q (row J hJ i) e : ℝ) : EReal) := by
  rw [coe_sum]
  exact Finset.sum_congr rfl fun i _ => H.tile_ds hJ hN hq hk hv ho hl hd i c (hq i e)

/-- Keys behind the tile's last row have no part in its rows. -/
theorem behind (hE : N = J + 192) (hC : J % 64 = 0) (i : Fin 192) {c : Fin 2112} (h : N ≤ c.val) : ¬c.val / 64 ≤ (row J hJ i).val / 64 := by
  simp only
  omega

/-- The gradient of a query of the tile: the keys in front make up the whole sum. -/
theorem tile_dq (hE : N = J + 192) (hC : J % 64 = 0)
    (hq : ∀ i e, q i e = ((H.Q (row J hJ i) e : ℝ) : EReal)) (hk : ∀ c e, k c e = ((H.K (key N hN c) e : ℝ) : EReal))
    (hv : ∀ c e, v c e = ((H.V (key N hN c) e : ℝ) : EReal)) (ho : ∀ i e, o i e = ((H.o (row J hJ i) e : ℝ) : EReal))
    (hl : ∀ i, l i = ((H.M (row J hJ i) + Real.log (H.l (row J hJ i)) : ℝ) : EReal)) (hd : ∀ i e, d i e = ((H.D (row J hJ i) e : ℝ) : EReal))
    (i : Fin 192) (e : Fin 256) :
    (∑ c : Fin N, Scalar.select (IntOp.cmpi .sle (IntOp.shrsi .vector (BitVec.ofNat 32 c.val) 6#32)
        (IntOp.shrsi .vector (IntOp.addi (BitVec.ofNat 32 J) (BitVec.ofNat 32 i.val)) 6#32))
        (Ideal.exp ((∑ a : Fin 256, q i a * k c a) * Ideal.ofBits .f32 1033096506#32 - l i)
          * (∑ a : Fin 128, d i a * v c a - ∑ a : Fin 128, d i a * o i a) * Ideal.ofBits .f32 1033096506#32 * k c e) 0)
      = ((H.dq (row J hJ i) e : ℝ) : EReal) := by
  have h1 : H.dq (row J hJ i) e = ∑ c : Fin N, H.ds (row J hJ i) (key N hN c) * H.K (key N hN c) e := by
    rw [dq]
    symm
    refine Finset.sum_of_injOn (key N hN) (fun a _ b _ hab => Fin.ext (by simpa [key] using hab)) (fun _ _ => Finset.mem_univ _) (fun c _ hc => ?_) fun _ _ => rfl
    have hc' : N ≤ c.val := by
      by_contra hlt
      exact hc ⟨⟨c.val, by omega⟩, by simp, rfl⟩
    rw [H.ds_masked (behind hJ hE hC i hc'), zero_mul]
  rw [h1, coe_sum]
  exact Finset.sum_congr rfl fun c _ => H.tile_ds hJ hN hq hk hv ho hl hd i c (hk c e)

end Head

end Cert.Attn

end
-- ==== Proof.Acc.lean ====
/- Loads of a tile from a whole block, and an accumulator that grows tile by tile. -/
module

public import proofs.«01_k».proof.Proof.Tile
public import Idealize.ShloMosaic.Lib.Pipeline.ValueKit

@[expose] public section

set_option maxRecDepth 16384

noncomputable section

namespace Cert.Attn

open Idealize.ShloMosaic Idealize.ShloMosaic.TcCoe Idealize.SL.Sem

/-! ## Loads -/

section
variable {sig : RefSig} {φ : EltTy}

/-- A load of `n` rows from row `J` on of a block with a unit leading axis. -/
theorem load3 {J n w L : ℕ} {M : Memref sig .tc .vmem ⟨3, ![1, L, w]⟩ φ} (hM : M.IsWhole) (x : Vec Ideal ⟨3, ![1, L, w]⟩ φ)
    (inb : ∀ a, (![0, J, 0] : Fin 3 → ℕ) a + (![1, n, w] : Fin 3 → ℕ) a ≤ (⟨3, ![1, L, w]⟩ : Shape).size a) (i : Fin n) (e : Fin w) (h : J + i.val < L) :
    (View.readAt (Elt Ideal) M.view (Rect.unit (s := ⟨3, ![1, L, w]⟩) ![0, J, 0] ![1, n, w] inb).toLoadRect (hM.unread x) : Vec Ideal ⟨3, ![1, n, w]⟩ φ) (ix3 0 i e)
      = x (ix3 0 ⟨J + i.val, h⟩ e) := by
  rw [View.readAt_eq_ld, hM.read_unread]
  refine congrArg x (funext fun a => Fin.ext ?_)
  refine (ValueKit.rect_emb_unit_val _ _ _ _ _).trans ?_
  fin_cases a <;> simp [ix3]

/-- A load of `n` rows from row `J` on of a block without a leading axis. -/
theorem load2 {J n w L : ℕ} {M : Memref sig .tc .vmem ⟨2, ![L, w]⟩ φ} (hM : M.IsWhole) (x : Vec Ideal ⟨2, ![L, w]⟩ φ)
    (inb : ∀ a, (![J, 0] : Fin 2 → ℕ) a + (![n, w] : Fin 2 → ℕ) a ≤ (⟨2, ![L, w]⟩ : Shape).size a) (i : Fin n) (e : Fin w) (h : J + i.val < L) :
    (View.readAt (Elt Ideal) M.view (Rect.unit (s := ⟨2, ![L, w]⟩) ![J, 0] ![n, w] inb).toLoadRect (hM.unread x) : Vec Ideal ⟨2, ![n, w]⟩ φ) (ix2 i e)
      = x (ix2 ⟨J + i.val, h⟩ e) := by
  rw [View.readAt_eq_ld, hM.read_unread]
  refine congrArg x (funext fun a => Fin.ext ?_)
  refine (ValueKit.rect_emb_unit_val _ _ _ _ _).trans ?_
  fin_cases a <;> simp [ix2]

/-- A load of the leading `n` rows of an accumulator reads what its stores left. -/
theorem load_acc {n w L : ℕ} (M : Memref sig .tc .vmem ⟨2, ![L, w]⟩ φ) (P : List (View.Piece (Elt Ideal) ⟨2, ![L, w]⟩ φ))
    (inb : ∀ a, (![0, 0] : Fin 2 → ℕ) a + (![n, w] : Fin 2 → ℕ) a ≤ (⟨2, ![L, w]⟩ : Shape).size a) (i : Fin n) (e : Fin w) (h : i.val < L) :
    (M.view.readCov P (Rect.unit (s := ⟨2, ![L, w]⟩) ![0, 0] ![n, w] inb).toLoadRect : Vec Ideal ⟨2, ![n, w]⟩ φ) (ix2 i e)
      = (View.canon P : Vec Ideal ⟨2, ![L, w]⟩ φ) (ix2 ⟨i.val, h⟩ e) := by
  rw [View.readCov_eq_canon']
  refine congrArg (View.canon P) (funext fun a => Fin.ext ?_)
  refine (ValueKit.rect_emb_unit_val _ _ _ _ _).trans ?_
  fin_cases a <;> simp [ix2]

/-! ## Stores -/

/-- Under a store of the leading `n` rows. -/
theorem store_front {n w L : ℕ} (P : List (View.Piece (Elt Ideal) ⟨2, ![L, w]⟩ φ))
    (inb : ∀ a, (![0, 0] : Fin 2 → ℕ) a + (![n, w] : Fin 2 → ℕ) a ≤ (⟨2, ![L, w]⟩ : Shape).size a) (y : Vec Ideal ⟨2, ![n, w]⟩ φ) (i : Fin n) (e : Fin w) (h : i.val < L) :
    (View.canon (⟨Rect.unit (s := ⟨2, ![L, w]⟩) ![0, 0] ![n, w] inb, y⟩ :: P) : Vec Ideal ⟨2, ![L, w]⟩ φ) (ix2 ⟨i.val, h⟩ e) = y (ix2 i e) := by
  refine Eq.trans (congrArg _ (funext fun a => Fin.ext ?_)) (View.canon_cons_emb (Val := Elt Ideal) (Rect.unit (s := ⟨2, ![L, w]⟩) ![0, 0] ![n, w] inb) y P (ix2 i e))
  refine Eq.trans ?_ (ValueKit.rect_emb_unit_val _ _ _ _ _).symm
  fin_cases a <;> simp [ix2]

/-- Under a store of a whole block with a unit leading axis. -/
theorem store_whole {w L : ℕ} (P : List (View.Piece (Elt Ideal) ⟨3, ![1, L, w]⟩ φ))
    (inb : ∀ a, (![0, 0, 0] : Fin 3 → ℕ) a + (![1, L, w] : Fin 3 → ℕ) a ≤ (⟨3, ![1, L, w]⟩ : Shape).size a) (y : Vec Ideal ⟨3, ![1, L, w]⟩ φ) (r : Fin L) (e : Fin w) :
    (View.canon (⟨Rect.unit (s := ⟨3, ![1, L, w]⟩) ![0, 0, 0] ![1, L, w] inb, y⟩ :: P) : Vec Ideal ⟨3, ![1, L, w]⟩ φ) (ix3 0 r e) = y (ix3 0 r e) := by
  refine Eq.trans (congrArg _ (funext fun a => Fin.ext ?_)) (View.canon_cons_emb (Val := Elt Ideal) (Rect.unit (s := ⟨3, ![1, L, w]⟩) ![0, 0, 0] ![1, L, w] inb) y P (ix3 0 r e))
  refine Eq.trans ?_ (ValueKit.rect_emb_unit_val _ _ _ _ _).symm
  fin_cases a <;> exact (Nat.zero_add _).symm

/-- Behind a store of the leading `n` rows. -/
theorem store_behind {n w L : ℕ} (P : List (View.Piece (Elt Ideal) ⟨2, ![L, w]⟩ φ))
    (inb : ∀ a, (![0, 0] : Fin 2 → ℕ) a + (![n, w] : Fin 2 → ℕ) a ≤ (⟨2, ![L, w]⟩ : Shape).size a) (y : Vec Ideal ⟨2, ![n, w]⟩ φ) (c : Fin L) (e : Fin w) (h : n ≤ c.val) :
    (View.canon (⟨Rect.unit (s := ⟨2, ![L, w]⟩) ![0, 0] ![n, w] inb, y⟩ :: P) : Vec Ideal ⟨2, ![L, w]⟩ φ) (ix2 c e)
      = (View.canon P : Vec Ideal ⟨2, ![L, w]⟩ φ) (ix2 c e) := by
  refine View.canon_cons_of_not_mem (Val := Elt Ideal) _ _ ?_
  intro hm
  obtain ⟨x, hx⟩ := LoadRect.exists_idx_of_mem _ hm
  have h2 := congrArg (fun z : (⟨2, ![L, w]⟩ : Shape).Idx => (z 0).val) hx
  have h3 : 0 + (x 0).val = c.val := (ValueKit.rect_emb_unit_val (s := ⟨2, ![L, w]⟩) ![0, 0] ![n, w] inb x 0).symm.trans h2
  have h4 : (x 0).val < n := (x 0).isLt
  clear h2 hx
  revert h3 h4
  generalize (x 0).val = z
  intro h3 h4
  omega

end

/-! ## The accumulator -/

/-- A sum over the rows in front of row `n`. -/
def upto (n : ℕ) (f : Fin 2112 → ℝ) : ℝ := ∑ r : Fin 2112 with r.val < n, f r

/-- No rows: an empty sum. -/
theorem upto_zero (f : Fin 2112 → ℝ) : upto 0 f = 0 := by simp [upto]

/-- All the rows: the whole sum. -/
theorem upto_all (f : Fin 2112 → ℝ) : upto 2112 f = ∑ r, f r := by
  rw [upto, Finset.filter_true_of_mem fun r _ => r.isLt]

/-- One tile more. -/
theorem upto_add (J : ℕ) (hJ : J + 192 ≤ 2112) (f : Fin 2112 → ℝ) : upto (J + 192) f = upto J f + ∑ i : Fin 192, f (row J hJ i) := by
  have hs : (Finset.univ.filter fun r : Fin 2112 => r.val < J + 192) = (Finset.univ.filter fun r : Fin 2112 => r.val < J) ∪ Finset.univ.image (row J hJ) := by
    ext r
    simp only [Finset.mem_filter, Finset.mem_univ, true_and, Finset.mem_union, Finset.mem_image]
    constructor
    · intro h
      by_cases h2 : r.val < J
      · exact .inl h2
      · exact .inr ⟨⟨r.val - J, by omega⟩, Fin.ext (by simp only; omega)⟩
    · rintro (h | ⟨i, rfl⟩)
      · omega
      · simp only; omega
  rw [upto, hs, Finset.sum_union, Finset.sum_image, upto]
  · intro a _ b _ hab
    have := congrArg Fin.val hab
    simp only at this
    exact Fin.ext (by omega)
  · rw [Finset.disjoint_left]
    intro r h1 h2
    obtain ⟨i, _, rfl⟩ := Finset.mem_image.mp h2
    have := (Finset.mem_filter.mp h1).2
    simp only at this
    omega

/-- A tile that adds its part to the keys in front of its end leaves the sum over the rows so far at every key. -/
theorem acc_step {J N w : ℕ} (hJ : J + 192 ≤ 2112) (hE : N = J + 192) (hC : J % 64 = 0) (f : Fin 2112 → Fin 2112 → Fin w → ℝ)
    (hf : ∀ r c e, ¬c.val / 64 ≤ r.val / 64 → f r c e = 0)
    (P : List (View.Piece (Elt Ideal) ⟨2, ![2112, w]⟩ .f32))
    (inb : ∀ a, (![0, 0] : Fin 2 → ℕ) a + (![N, w] : Fin 2 → ℕ) a ≤ (⟨2, ![2112, w]⟩ : Shape).size a) (y : FVec Ideal ⟨2, ![N, w]⟩ .f32)
    (hP : ∀ c e, (View.canon P : FVec Ideal ⟨2, ![2112, w]⟩ .f32) (ix2 c e) = ((upto J fun r => f r c e : ℝ) : EReal))
    (hy : ∀ (k : Fin N) (e : Fin w), y (ix2 k e) = (View.canon P : FVec Ideal ⟨2, ![2112, w]⟩ .f32) (ix2 (key N (by omega) k) e)
      + ((∑ i : Fin 192, f (row J hJ i) (key N (by omega) k) e : ℝ) : EReal)) (c : Fin 2112) (e : Fin w) :
    (View.canon (⟨Rect.unit (s := ⟨2, ![2112, w]⟩) ![0, 0] ![N, w] inb, y⟩ :: P) : FVec Ideal ⟨2, ![2112, w]⟩ .f32) (ix2 c e)
      = ((upto N fun r => f r c e : ℝ) : EReal) := by
  subst hE
  rw [upto_add J hJ]
  by_cases hc : c.val < J + 192
  · refine (store_front P inb y ⟨c.val, hc⟩ e c.isLt).trans ?_
    rw [hy, hP, ← EReal.coe_add]
  · refine (store_behind P inb y c e (by omega)).trans ?_
    rw [hP, Finset.sum_eq_zero fun i _ => hf _ _ _ (Head.behind hJ rfl hC i (by omega)), add_zero]

/-- A store of the rows from row `J` on, behind stores that made up the rows in front. -/
theorem tile_step {J w : ℕ} {φ : EltTy} (hJ : J + 192 ≤ 2112) (g : Fin 2112 → Fin w → Elt Ideal φ)
    (P : List (View.Piece (Elt Ideal) ⟨3, ![1, 2112, w]⟩ φ))
    (inb : ∀ a, (![0, J, 0] : Fin 3 → ℕ) a + (![1, 192, w] : Fin 3 → ℕ) a ≤ (⟨3, ![1, 2112, w]⟩ : Shape).size a) (y : Vec Ideal ⟨3, ![1, 192, w]⟩ φ)
    (hP : ∀ r e, r.val < J → (View.canon P : Vec Ideal ⟨3, ![1, 2112, w]⟩ φ) (ix3 0 r e) = g r e)
    (hy : ∀ (i : Fin 192) (e : Fin w), y (ix3 0 i e) = g (row J hJ i) e) (r : Fin 2112) (e : Fin w) (hr : r.val < J + 192) :
    (View.canon (⟨Rect.unit (s := ⟨3, ![1, 2112, w]⟩) ![0, J, 0] ![1, 192, w] inb, y⟩ :: P) : Vec Ideal ⟨3, ![1, 2112, w]⟩ φ) (ix3 0 r e) = g r e := by
  by_cases hc : r.val < J
  · refine (View.canon_cons_of_not_mem (Val := Elt Ideal) _ _ ?_).trans (hP r e hc)
    intro hm
    obtain ⟨x, hx⟩ := LoadRect.exists_idx_of_mem _ hm
    have h2 := congrArg (fun z : (⟨3, ![1, 2112, w]⟩ : Shape).Idx => (z 1).val) hx
    have h3 : J + (x 1).val = r.val := (ValueKit.rect_emb_unit_val (s := ⟨3, ![1, 2112, w]⟩) ![0, J, 0] ![1, 192, w] inb x 1).symm.trans h2
    omega
  · have hi := hy ⟨r.val - J, by omega⟩ e
    rw [show row J hJ ⟨r.val - J, by omega⟩ = r from Fin.ext (by simp only; omega)] at hi
    rw [← hi]
    refine Eq.trans (congrArg _ (funext fun a => Fin.ext ?_)) (View.canon_cons_emb (Val := Elt Ideal) (Rect.unit (s := ⟨3, ![1, 2112, w]⟩) ![0, J, 0] ![1, 192, w] inb) y P (ix3 0 ⟨r.val - J, by omega⟩ e))
    refine Eq.trans ?_ (ValueKit.rect_emb_unit_val _ _ _ _ _).symm
    fin_cases a
    · rfl
    · show r.val = J + (r.val - J)
      omega
    · exact (Nat.zero_add _).symm

end Cert.Attn

end
-- ==== Proof.Blocks.lean ====
/- What each tile of rows stores, read at an index. -/
module

public import proofs.«01_k».proof.Proof.Tile
public import proofs.«01_k».proof.Proof.Acc
public import proofs.«01_k».proof.Proof.Gen.KernelIdeal.Value

@[expose] public section

set_option maxRecDepth 16384

noncomputable section

namespace Cert.KernelIdeal.Block

open Cert.KernelIdeal Cert.KernelIdeal.Gen Cert.Attn Idealize.ShloMosaic Idealize.ShloMosaic.TcCoe Idealize.SL.Sem

/-- The operands a tile's weights are made of, as loaded: rows from row `J` on, the keys in front of key `N`. -/
structure InScore (H : Head) (J N : ℕ) (hJ : J + 192 ≤ 2112) (hN : N ≤ 2112) (q1 : FVec Ideal ⟨3, ![1, 192, 256]⟩ .bf16) (k1 : FVec Ideal ⟨3, ![1, N, 256]⟩ .bf16)
    (l1 : FVec Ideal ⟨3, ![1, 192, 1]⟩ .f32) (d1 : FVec Ideal ⟨2, ![192, 128]⟩ .f32) : Prop where
  q : ∀ i e, q1 (ix3 0 i e) = ((H.Q (row J hJ i) e : ℝ) : EReal)
  k : ∀ c e, k1 (ix3 0 c e) = ((H.K (key N hN c) e : ℝ) : EReal)
  l : ∀ i, l1 (ix3 0 i 0) = ((H.M (row J hJ i) + Real.log (H.l (row J hJ i)) : ℝ) : EReal)
  d : ∀ i e, d1 (ix2 i e) = ((H.D (row J hJ i) e : ℝ) : EReal)

/-- All operands of a tile: also the values in front of key `N` and the result's rows. -/
structure InTile (H : Head) (J N : ℕ) (hJ : J + 192 ≤ 2112) (hN : N ≤ 2112) (q1 : FVec Ideal ⟨3, ![1, 192, 256]⟩ .bf16) (k1 : FVec Ideal ⟨3, ![1, N, 256]⟩ .bf16)
    (v1 : FVec Ideal ⟨3, ![1, N, 128]⟩ .bf16) (o1 : FVec Ideal ⟨2, ![192, 128]⟩ .f32) (l1 : FVec Ideal ⟨3, ![1, 192, 1]⟩ .f32) (d1 : FVec Ideal ⟨2, ![192, 128]⟩ .f32) : Prop
    extends InScore H J N hJ hN q1 k1 l1 d1 where
  v : ∀ c e, v1 (ix3 0 c e) = ((H.V (key N hN c) e : ℝ) : EReal)
  o : ∀ i e, o1 (ix2 i e) = ((H.o (row J hJ i) e : ℝ) : EReal)

variable {H : Head}

section
variable {q1 : FVec Ideal S1x192x256 .bf16} {k1 : FVec Ideal S1x192x256 .bf16} {v1 : FVec Ideal S1x192x128 .bf16} {o1 : FVec Ideal S192x128 .f32}
  {l1 : FVec Ideal S1x192x1 .f32} {d1 : FVec Ideal S192x128 .f32}

/-- Rows 0 to 191: what they add to the values' gradient. -/
theorem dv_0 (h : InScore H 0 192 (by decide) (by decide) q1 k1 l1 d1) (acc : FVec Ideal S192x128 .f32) (c : Fin 192) (e : Fin 128) :
    (k0_pay12 (k0_pay6 d1) k0_pay8 k0_pay9 (k0_pay10 q1 k1) l1 acc : FVec Ideal S192x128 .f32) (ix2 c e)
      = acc (ix2 c e) + ((∑ i : Fin 192, H.p (row 0 (by decide) i) (key 192 (by decide) c) * H.D (row 0 (by decide) i) e : ℝ) : EReal) := by
  pointwise [k0_pay10, k0_pay7, k0_pay4, k0_pay9, k0_pay8, k0_pay6, k0_pay12, k0_pay11]
  exact congrArg (acc (ix2 c e) + ·) (H.tile_dv (J := 0) (by decide) (by decide) h.q h.k h.l h.d c e)

/-- Rows 0 to 191: what they add to the keys' gradient. -/
theorem dk_0 (h : InTile H 0 192 (by decide) (by decide) q1 k1 v1 o1 l1 d1) (acc : FVec Ideal S192x256 .f32) (c : Fin 192) (e : Fin 256) :
    (k0_pay15 (k0_pay4 q1) (k0_pay5 d1 o1) (k0_pay6 d1) k0_pay8 k0_pay9 (k0_pay10 q1 k1) l1 v1 acc : FVec Ideal S192x256 .f32) (ix2 c e)
      = acc (ix2 c e) + ((∑ i : Fin 192, H.ds (row 0 (by decide) i) (key 192 (by decide) c) * H.Q (row 0 (by decide) i) e : ℝ) : EReal) := by
  pointwise [k0_pay10, k0_pay7, k0_pay4, k0_pay9, k0_pay8, k0_pay6, k0_pay5, k0_pay15, k0_pay13, k0_pay11]
  exact congrArg (acc (ix2 c e) + ·) (H.tile_dk (J := 0) (by decide) (by decide) h.q h.k h.v h.o h.l h.d c e)

/-- Rows 0 to 191: the queries' gradient. -/
theorem dq_0 (h : InTile H 0 192 (by decide) (by decide) q1 k1 v1 o1 l1 d1) (r : Fin 192) (e : Fin 256) :
    (k0_pay14 (k0_pay5 d1 o1) (k0_pay6 d1) (k0_pay7 k1) k0_pay8 k0_pay9 (k0_pay10 q1 k1) l1 v1 : FVec Ideal S1x192x256 .bf16) (ix3 0 r e) = ((H.dq (row 0 (by decide) r) e : ℝ) : EReal) := by
  pointwise [k0_pay10, k0_pay7, k0_pay4, k0_pay9, k0_pay8, k0_pay6, k0_pay5, k0_pay14, k0_pay13, k0_pay11]
  exact H.tile_dq (J := 0) (by decide) (by decide) rfl (by decide) h.q h.k h.v h.o h.l h.d r e

end

section
variable {q1 : FVec Ideal S1x192x256 .bf16} {k1 : FVec Ideal S1x384x256 .bf16} {v1 : FVec Ideal S1x384x128 .bf16} {o1 : FVec Ideal S192x128 .f32}
  {l1 : FVec Ideal S1x192x1 .f32} {d1 : FVec Ideal S192x128 .f32}

/-- Rows 192 to 383: what they add to the values' gradient. -/
theorem dv_1 (h : InScore H 192 384 (by decide) (by decide) q1 k1 l1 d1) (acc : FVec Ideal S384x128 .f32) (c : Fin 384) (e : Fin 128) :
    (k0_pay21 q1 d1 k1 l1 acc : FVec Ideal S384x128 .f32) (ix2 c e)
      = acc (ix2 c e) + ((∑ i : Fin 192, H.p (row 192 (by decide) i) (key 384 (by decide) c) * H.D (row 192 (by decide) i) e : ℝ) : EReal) := by
  pointwise [k0_pay21, k0_pay18, k0_pay20, k0_pay19, k0_pay16]
  exact congrArg (acc (ix2 c e) + ·) (H.tile_dv (J := 192) (by decide) (by decide) h.q h.k h.l h.d c e)

/-- Rows 192 to 383: what they add to the keys' gradient. -/
theorem dk_1 (h : InTile H 192 384 (by decide) (by decide) q1 k1 v1 o1 l1 d1) (acc : FVec Ideal S384x256 .f32) (c : Fin 384) (e : Fin 256) :
    (k0_pay24 (k0_pay16 q1) (k0_pay17 d1 o1) (k0_pay18 d1) (k0_pay20 q1 k1 l1) v1 acc : FVec Ideal S384x256 .f32) (ix2 c e)
      = acc (ix2 c e) + ((∑ i : Fin 192, H.ds (row 192 (by decide) i) (key 384 (by decide) c) * H.Q (row 192 (by decide) i) e : ℝ) : EReal) := by
  pointwise [k0_pay20, k0_pay19, k0_pay16, k0_pay18, k0_pay17, k0_pay24, k0_pay22]
  exact congrArg (acc (ix2 c e) + ·) (H.tile_dk (J := 192) (by decide) (by decide) h.q h.k h.v h.o h.l h.d c e)

/-- Rows 192 to 383: the queries' gradient. -/
theorem dq_1 (h : InTile H 192 384 (by decide) (by decide) q1 k1 v1 o1 l1 d1) (r : Fin 192) (e : Fin 256) :
    (k0_pay23 (k0_pay17 d1 o1) (k0_pay18 d1) (k0_pay19 k1) (k0_pay20 q1 k1 l1) v1 : FVec Ideal S1x192x256 .bf16) (ix3 0 r e) = ((H.dq (row 192 (by decide) r) e : ℝ) : EReal) := by
  pointwise [k0_pay20, k0_pay19, k0_pay16, k0_pay18, k0_pay17, k0_pay23, k0_pay22]
  exact H.tile_dq (J := 192) (by decide) (by decide) rfl (by decide) h.q h.k h.v h.o h.l h.d r e

end

section
variable {q1 : FVec Ideal S1x192x256 .bf16} {k1 : FVec Ideal S1x576x256 .bf16} {v1 : FVec Ideal S1x576x128 .bf16} {o1 : FVec Ideal S192x128 .f32}
  {l1 : FVec Ideal S1x192x1 .f32} {d1 : FVec Ideal S192x128 .f32}

/-- Rows 384 to 575: what they add to the values' gradient. -/
theorem dv_2 (h : InScore H 384 576 (by decide) (by decide) q1 k1 l1 d1) (acc : FVec Ideal S576x128 .f32) (c : Fin 576) (e : Fin 128) :
    (k0_pay30 (k0_pay25 q1) (k0_pay27 d1) (k0_pay28 k1) (iota .tc S192x576 32 [0] iota_S192x576_d0_w32) (384#32) l1 acc : FVec Ideal S576x128 .f32) (ix2 c e)
      = acc (ix2 c e) + ((∑ i : Fin 192, H.p (row 384 (by decide) i) (key 576 (by decide) c) * H.D (row 384 (by decide) i) e : ℝ) : EReal) := by
  pointwise [k0_pay28, k0_pay27, k0_pay25, k0_pay30, k0_pay29]
  exact congrArg (acc (ix2 c e) + ·) (H.tile_dv (J := 384) (by decide) (by decide) h.q h.k h.l h.d c e)

/-- Rows 384 to 575: what they add to the keys' gradient. -/
theorem dk_2 (h : InTile H 384 576 (by decide) (by decide) q1 k1 v1 o1 l1 d1) (acc : FVec Ideal S576x256 .f32) (c : Fin 576) (e : Fin 256) :
    (k0_pay34 (k0_pay25 q1) (k0_pay31 (k0_pay25 q1) (k0_pay26 d1 o1) (k0_pay27 d1) (k0_pay28 k1) (iota .tc S192x576 32 [0] iota_S192x576_d0_w32) (384#32) l1 v1) acc : FVec Ideal S576x256 .f32) (ix2 c e)
      = acc (ix2 c e) + ((∑ i : Fin 192, H.ds (row 384 (by decide) i) (key 576 (by decide) c) * H.Q (row 384 (by decide) i) e : ℝ) : EReal) := by
  pointwise [k0_pay28, k0_pay27, k0_pay26, k0_pay25, k0_pay31, k0_pay29, k0_pay34]
  exact congrArg (acc (ix2 c e) + ·) (H.tile_dk (J := 384) (by decide) (by decide) h.q h.k h.v h.o h.l h.d c e)

/-- Rows 384 to 575: the queries' gradient. -/
theorem dq_2 (h : InTile H 384 576 (by decide) (by decide) q1 k1 v1 o1 l1 d1) (r : Fin 192) (e : Fin 256) :
    (k0_pay33 (k0_pay32 (k0_pay25 q1) (k0_pay26 d1 o1) (k0_pay27 d1) (k0_pay28 k1) (iota .tc S192x576 32 [0] iota_S192x576_d0_w32) (384#32) l1 v1) : FVec Ideal S1x192x256 .bf16) (ix3 0 r e) = ((H.dq (row 384 (by decide) r) e : ℝ) : EReal) := by
  pointwise [k0_pay28, k0_pay27, k0_pay26, k0_pay25, k0_pay32, k0_pay31, k0_pay29, k0_pay33]
  exact H.tile_dq (J := 384) (by decide) (by decide) rfl (by decide) h.q h.k h.v h.o h.l h.d r e

end

section
variable {q1 : FVec Ideal S1x192x256 .bf16} {k1 : FVec Ideal S1x768x256 .bf16} {v1 : FVec Ideal S1x768x128 .bf16} {o1 : FVec Ideal S192x128 .f32}
  {l1 : FVec Ideal S1x192x1 .f32} {d1 : FVec Ideal S192x128 .f32}

/-- Rows 576 to 767: what they add to the values' gradient. -/
theorem dv_3 (h : InScore H 576 768 (by decide) (by decide) q1 k1 l1 d1) (acc : FVec Ideal S768x128 .f32) (c : Fin 768) (e : Fin 128) :
    (k0_pay43 (k0_pay37 d1) k0_pay39 k0_pay40 (k0_pay41 q1 k1 l1) acc : FVec Ideal S768x128 .f32) (ix2 c e)
      = acc (ix2 c e) + ((∑ i : Fin 192, H.p (row 576 (by decide) i) (key 768 (by decide) c) * H.D (row 576 (by decide) i) e : ℝ) : EReal) := by
  pointwise [k0_pay41, k0_pay38, k0_pay35, k0_pay40, k0_pay39, k0_pay37, k0_pay43, k0_pay42]
  exact congrArg (acc (ix2 c e) + ·) (H.tile_dv (J := 576) (by decide) (by decide) h.q h.k h.l h.d c e)

/-- Rows 576 to 767: what they add to the keys' gradient. -/
theorem dk_3 (h : InTile H 576 768 (by decide) (by decide) q1 k1 v1 o1 l1 d1) (acc : FVec Ideal S768x256 .f32) (c : Fin 768) (e : Fin 256) :
    (k0_pay46 (k0_pay35 q1) (k0_pay36 d1 o1) (k0_pay37 d1) k0_pay39 k0_pay40 (k0_pay41 q1 k1 l1) v1 acc : FVec Ideal S768x256 .f32) (ix2 c e)
      = acc (ix2 c e) + ((∑ i : Fin 192, H.ds (row 576 (by decide) i) (key 768 (by decide) c) * H.Q (row 576 (by decide) i) e : ℝ) : EReal) := by
  pointwise [k0_pay41, k0_pay38, k0_pay35, k0_pay40, k0_pay39, k0_pay37, k0_pay36, k0_pay46, k0_pay44, k0_pay42]
  exact congrArg (acc (ix2 c e) + ·) (H.tile_dk (J := 576) (by decide) (by decide) h.q h.k h.v h.o h.l h.d c e)

/-- Rows 576 to 767: the queries' gradient. -/
theorem dq_3 (h : InTile H 576 768 (by decide) (by decide) q1 k1 v1 o1 l1 d1) (r : Fin 192) (e : Fin 256) :
    (k0_pay45 (k0_pay36 d1 o1) (k0_pay37 d1) (k0_pay38 k1) k0_pay39 k0_pay40 (k0_pay41 q1 k1 l1) v1 : FVec Ideal S1x192x256 .bf16) (ix3 0 r e) = ((H.dq (row 576 (by decide) r) e : ℝ) : EReal) := by
  pointwise [k0_pay41, k0_pay38, k0_pay35, k0_pay40, k0_pay39, k0_pay37, k0_pay36, k0_pay45, k0_pay44, k0_pay42]
  exact H.tile_dq (J := 576) (by decide) (by decide) rfl (by decide) h.q h.k h.v h.o h.l h.d r e

end

section
variable {q1 : FVec Ideal S1x192x256 .bf16} {k1 : FVec Ideal S1x960x256 .bf16} {v1 : FVec Ideal S1x960x128 .bf16} {o1 : FVec Ideal S192x128 .f32}
  {l1 : FVec Ideal S1x192x1 .f32} {d1 : FVec Ideal S192x128 .f32}

/-- Rows 768 to 959: what they add to the values' gradient. -/
theorem dv_4 (h : InScore H 768 960 (by decide) (by decide) q1 k1 l1 d1) (acc : FVec Ideal S960x128 .f32) (c : Fin 960) (e : Fin 128) :
    (k0_pay52 (k0_pay47 q1) d1 k1 l1 acc : FVec Ideal S960x128 .f32) (ix2 c e)
      = acc (ix2 c e) + ((∑ i : Fin 192, H.p (row 768 (by decide) i) (key 960 (by decide) c) * H.D (row 768 (by decide) i) e : ℝ) : EReal) := by
  pointwise [k0_pay47, k0_pay52, k0_pay49, k0_pay51, k0_pay50]
  exact congrArg (acc (ix2 c e) + ·) (H.tile_dv (J := 768) (by decide) (by decide) h.q h.k h.l h.d c e)

/-- Rows 768 to 959: what they add to the keys' gradient. -/
theorem dk_4 (h : InTile H 768 960 (by decide) (by decide) q1 k1 v1 o1 l1 d1) (acc : FVec Ideal S960x256 .f32) (c : Fin 960) (e : Fin 256) :
    (k0_pay55 (k0_pay47 q1) (k0_pay48 d1 o1) (k0_pay49 d1) (k0_pay51 (k0_pay47 q1) k1 l1) v1 acc : FVec Ideal S960x256 .f32) (ix2 c e)
      = acc (ix2 c e) + ((∑ i : Fin 192, H.ds (row 768 (by decide) i) (key 960 (by decide) c) * H.Q (row 768 (by decide) i) e : ℝ) : EReal) := by
  pointwise [k0_pay47, k0_pay51, k0_pay50, k0_pay49, k0_pay48, k0_pay55, k0_pay53]
  exact congrArg (acc (ix2 c e) + ·) (H.tile_dk (J := 768) (by decide) (by decide) h.q h.k h.v h.o h.l h.d c e)

/-- Rows 768 to 959: the queries' gradient. -/
theorem dq_4 (h : InTile H 768 960 (by decide) (by decide) q1 k1 v1 o1 l1 d1) (r : Fin 192) (e : Fin 256) :
    (k0_pay54 (k0_pay48 d1 o1) (k0_pay49 d1) (k0_pay50 k1) (k0_pay51 (k0_pay47 q1) k1 l1) v1 : FVec Ideal S1x192x256 .bf16) (ix3 0 r e) = ((H.dq (row 768 (by decide) r) e : ℝ) : EReal) := by
  pointwise [k0_pay47, k0_pay51, k0_pay50, k0_pay49, k0_pay48, k0_pay54, k0_pay53]
  exact H.tile_dq (J := 768) (by decide) (by decide) rfl (by decide) h.q h.k h.v h.o h.l h.d r e

end

section
variable {q1 : FVec Ideal S1x192x256 .bf16} {k1 : FVec Ideal S1x1152x256 .bf16} {v1 : FVec Ideal S1x1152x128 .bf16} {o1 : FVec Ideal S192x128 .f32}
  {l1 : FVec Ideal S1x192x1 .f32} {d1 : FVec Ideal S192x128 .f32}

/-- Rows 960 to 1151: what they add to the values' gradient. -/
theorem dv_5 (h : InScore H 960 1152 (by decide) (by decide) q1 k1 l1 d1) (acc : FVec Ideal S1152x128 .f32) (c : Fin 1152) (e : Fin 128) :
    (k0_pay62 (k0_pay56 q1) (k0_pay58 d1) (k0_pay59 k1) k0_pay60 (6#32) l1 acc : FVec Ideal S1152x128 .f32) (ix2 c e)
      = acc (ix2 c e) + ((∑ i : Fin 192, H.p (row 960 (by decide) i) (key 1152 (by decide) c) * H.D (row 960 (by decide) i) e : ℝ) : EReal) := by
  pointwise [k0_pay60, k0_pay59, k0_pay58, k0_pay56, k0_pay62, k0_pay61]
  exact congrArg (acc (ix2 c e) + ·) (H.tile_dv (J := 960) (by decide) (by decide) h.q h.k h.l h.d c e)

/-- Rows 960 to 1151: what they add to the keys' gradient. -/
theorem dk_5 (h : InTile H 960 1152 (by decide) (by decide) q1 k1 v1 o1 l1 d1) (acc : FVec Ideal S1152x256 .f32) (c : Fin 1152) (e : Fin 256) :
    (k0_pay65 (k0_pay56 q1) (k0_pay63 (k0_pay56 q1) (k0_pay57 d1 o1) (k0_pay58 d1) (k0_pay59 k1) k0_pay60 (6#32) l1 v1) acc : FVec Ideal S1152x256 .f32) (ix2 c e)
      = acc (ix2 c e) + ((∑ i : Fin 192, H.ds (row 960 (by decide) i) (key 1152 (by decide) c) * H.Q (row 960 (by decide) i) e : ℝ) : EReal) := by
  pointwise [k0_pay60, k0_pay59, k0_pay58, k0_pay57, k0_pay56, k0_pay63, k0_pay61, k0_pay65]
  exact congrArg (acc (ix2 c e) + ·) (H.tile_dk (J := 960) (by decide) (by decide) h.q h.k h.v h.o h.l h.d c e)

/-- Rows 960 to 1151: the queries' gradient. -/
theorem dq_5 (h : InTile H 960 1152 (by decide) (by decide) q1 k1 v1 o1 l1 d1) (r : Fin 192) (e : Fin 256) :
    (k0_pay64 (k0_pay56 q1) (k0_pay57 d1 o1) (k0_pay58 d1) (k0_pay59 k1) k0_pay60 (6#32) l1 v1 : FVec Ideal S1x192x256 .bf16) (ix3 0 r e) = ((H.dq (row 960 (by decide) r) e : ℝ) : EReal) := by
  pointwise [k0_pay60, k0_pay59, k0_pay58, k0_pay57, k0_pay56, k0_pay64, k0_pay63, k0_pay61]
  exact H.tile_dq (J := 960) (by decide) (by decide) rfl (by decide) h.q h.k h.v h.o h.l h.d r e

end

section
variable {q1 : FVec Ideal S1x192x256 .bf16} {k1 : FVec Ideal S1x1344x256 .bf16} {v1 : FVec Ideal S1x1344x128 .bf16} {o1 : FVec Ideal S192x128 .f32}
  {l1 : FVec Ideal S1x192x1 .f32} {d1 : FVec Ideal S192x128 .f32}

/-- Rows 1152 to 1343: what they add to the values' gradient. -/
theorem dv_6 (h : InScore H 1152 1344 (by decide) (by decide) q1 k1 l1 d1) (acc : FVec Ideal S1344x128 .f32) (c : Fin 1344) (e : Fin 128) :
    (k0_pay73 (k0_pay68 d1) k0_pay70 (k0_pay71 q1 k1 l1) (FloatOps.ofBits (F := Ideal) FTy.f32 0#32) acc : FVec Ideal S1344x128 .f32) (ix2 c e)
      = acc (ix2 c e) + ((∑ i : Fin 192, H.p (row 1152 (by decide) i) (key 1344 (by decide) c) * H.D (row 1152 (by decide) i) e : ℝ) : EReal) := by
  pointwise [k0_pay71, k0_pay69, k0_pay66, k0_pay70, k0_pay68, k0_pay73, k0_pay72]
  exact congrArg (acc (ix2 c e) + ·) (H.tile_dv (J := 1152) (by decide) (by decide) h.q h.k h.l h.d c e)

/-- Rows 1152 to 1343: what they add to the keys' gradient. -/
theorem dk_6 (h : InTile H 1152 1344 (by decide) (by decide) q1 k1 v1 o1 l1 d1) (acc : FVec Ideal S1344x256 .f32) (c : Fin 1344) (e : Fin 256) :
    (k0_pay76 (k0_pay66 q1) (k0_pay67 d1 o1) (k0_pay68 d1) k0_pay70 (k0_pay71 q1 k1 l1) (FloatOps.ofBits (F := Ideal) FTy.f32 0#32) v1 acc : FVec Ideal S1344x256 .f32) (ix2 c e)
      = acc (ix2 c e) + ((∑ i : Fin 192, H.ds (row 1152 (by decide) i) (key 1344 (by decide) c) * H.Q (row 1152 (by decide) i) e : ℝ) : EReal) := by
  pointwise [k0_pay71, k0_pay69, k0_pay66, k0_pay70, k0_pay68, k0_pay67, k0_pay76, k0_pay74, k0_pay72]
  exact congrArg (acc (ix2 c e) + ·) (H.tile_dk (J := 1152) (by decide) (by decide) h.q h.k h.v h.o h.l h.d c e)

/-- Rows 1152 to 1343: the queries' gradient. -/
theorem dq_6 (h : InTile H 1152 1344 (by decide) (by decide) q1 k1 v1 o1 l1 d1) (r : Fin 192) (e : Fin 256) :
    (k0_pay75 (k0_pay67 d1 o1) (k0_pay68 d1) (k0_pay69 k1) k0_pay70 (k0_pay71 q1 k1 l1) (FloatOps.ofBits (F := Ideal) FTy.f32 0#32) v1 : FVec Ideal S1x192x256 .bf16) (ix3 0 r e) = ((H.dq (row 1152 (by decide) r) e : ℝ) : EReal) := by
  pointwise [k0_pay71, k0_pay69, k0_pay66, k0_pay70, k0_pay68, k0_pay67, k0_pay75, k0_pay74, k0_pay72]
  exact H.tile_dq (J := 1152) (by decide) (by decide) rfl (by decide) h.q h.k h.v h.o h.l h.d r e

end

section
variable {q1 : FVec Ideal S1x192x256 .bf16} {k1 : FVec Ideal S1x1536x256 .bf16} {v1 : FVec Ideal S1x1536x128 .bf16} {o1 : FVec Ideal S192x128 .f32}
  {l1 : FVec Ideal S1x192x1 .f32} {d1 : FVec Ideal S192x128 .f32}

/-- Rows 1344 to 1535: what they add to the values' gradient. -/
theorem dv_7 (h : InScore H 1344 1536 (by decide) (by decide) q1 k1 l1 d1) (acc : FVec Ideal S1536x128 .f32) (c : Fin 1536) (e : Fin 128) :
    (k0_pay82 (k0_pay77 q1) d1 k1 l1 acc : FVec Ideal S1536x128 .f32) (ix2 c e)
      = acc (ix2 c e) + ((∑ i : Fin 192, H.p (row 1344 (by decide) i) (key 1536 (by decide) c) * H.D (row 1344 (by decide) i) e : ℝ) : EReal) := by
  pointwise [k0_pay77, k0_pay82, k0_pay79, k0_pay81, k0_pay80]
  exact congrArg (acc (ix2 c e) + ·) (H.tile_dv (J := 1344) (by decide) (by decide) h.q h.k h.l h.d c e)

/-- Rows 1344 to 1535: what they add to the keys' gradient. -/
theorem dk_7 (h : InTile H 1344 1536 (by decide) (by decide) q1 k1 v1 o1 l1 d1) (acc : FVec Ideal S1536x256 .f32) (c : Fin 1536) (e : Fin 256) :
    (k0_pay86 (k0_pay77 q1) (k0_pay78 d1 o1) (k0_pay79 d1) (k0_pay81 (k0_pay77 q1) k1 l1) (k0_pay83 v1) (constant S192x1536 FTy.f32 0#32) acc : FVec Ideal S1536x256 .f32) (ix2 c e)
      = acc (ix2 c e) + ((∑ i : Fin 192, H.ds (row 1344 (by decide) i) (key 1536 (by decide) c) * H.Q (row 1344 (by decide) i) e : ℝ) : EReal) := by
  pointwise [k0_pay83, k0_pay77, k0_pay81, k0_pay80, k0_pay79, k0_pay78, k0_pay86, k0_pay84]
  exact congrArg (acc (ix2 c e) + ·) (H.tile_dk (J := 1344) (by decide) (by decide) h.q h.k h.v h.o h.l h.d c e)

/-- Rows 1344 to 1535: the queries' gradient. -/
theorem dq_7 (h : InTile H 1344 1536 (by decide) (by decide) q1 k1 v1 o1 l1 d1) (r : Fin 192) (e : Fin 256) :
    (k0_pay85 (k0_pay78 d1 o1) (k0_pay79 d1) (k0_pay80 k1) (k0_pay81 (k0_pay77 q1) k1 l1) (k0_pay83 v1) (constant S192x1536 FTy.f32 0#32) : FVec Ideal S1x192x256 .bf16) (ix3 0 r e) = ((H.dq (row 1344 (by decide) r) e : ℝ) : EReal) := by
  pointwise [k0_pay83, k0_pay77, k0_pay81, k0_pay80, k0_pay79, k0_pay78, k0_pay85, k0_pay84]
  exact H.tile_dq (J := 1344) (by decide) (by decide) rfl (by decide) h.q h.k h.v h.o h.l h.d r e

end

section
variable {q1 : FVec Ideal S1x192x256 .bf16} {k1 : FVec Ideal S1x1728x256 .bf16} {v1 : FVec Ideal S1x1728x128 .bf16} {o1 : FVec Ideal S192x128 .f32}
  {l1 : FVec Ideal S1x192x1 .f32} {d1 : FVec Ideal S192x128 .f32}

/-- Rows 1536 to 1727: what they add to the values' gradient. -/
theorem dv_8 (h : InScore H 1536 1728 (by decide) (by decide) q1 k1 l1 d1) (acc : FVec Ideal S1728x128 .f32) (c : Fin 1728) (e : Fin 128) :
    (k0_pay93 (k0_pay87 q1) (k0_pay89 d1) (k0_pay90 k1) k0_pay91 (iota .tc S192x1728 32 [1] iota_S192x1728_d1_w32) l1 acc : FVec Ideal S1728x128 .f32) (ix2 c e)
      = acc (ix2 c e) + ((∑ i : Fin 192, H.p (row 1536 (by decide) i) (key 1728 (by decide) c) * H.D (row 1536 (by decide) i) e : ℝ) : EReal) := by
  pointwise [k0_pay91, k0_pay90, k0_pay89, k0_pay87, k0_pay93, k0_pay92]
  exact congrArg (acc (ix2 c e) + ·) (H.tile_dv (J := 1536) (by decide) (by decide) h.q h.k h.l h.d c e)

/-- Rows 1536 to 1727: what they add to the keys' gradient. -/
theorem dk_8 (h : InTile H 1536 1728 (by decide) (by decide) q1 k1 v1 o1 l1 d1) (acc : FVec Ideal S1728x256 .f32) (c : Fin 1728) (e : Fin 256) :
    (k0_pay96 (k0_pay87 q1) (k0_pay94 (k0_pay87 q1) (k0_pay88 d1 o1) (k0_pay89 d1) (k0_pay90 k1) k0_pay91 (iota .tc S192x1728 32 [1] iota_S192x1728_d1_w32) l1 v1) acc : FVec Ideal S1728x256 .f32) (ix2 c e)
      = acc (ix2 c e) + ((∑ i : Fin 192, H.ds (row 1536 (by decide) i) (key 1728 (by decide) c) * H.Q (row 1536 (by decide) i) e : ℝ) : EReal) := by
  pointwise [k0_pay91, k0_pay90, k0_pay89, k0_pay88, k0_pay87, k0_pay94, k0_pay92, k0_pay96]
  exact congrArg (acc (ix2 c e) + ·) (H.tile_dk (J := 1536) (by decide) (by decide) h.q h.k h.v h.o h.l h.d c e)

/-- Rows 1536 to 1727: the queries' gradient. -/
theorem dq_8 (h : InTile H 1536 1728 (by decide) (by decide) q1 k1 v1 o1 l1 d1) (r : Fin 192) (e : Fin 256) :
    (k0_pay95 (k0_pay87 q1) (k0_pay88 d1 o1) (k0_pay89 d1) (k0_pay90 k1) k0_pay91 (iota .tc S192x1728 32 [1] iota_S192x1728_d1_w32) l1 v1 : FVec Ideal S1x192x256 .bf16) (ix3 0 r e) = ((H.dq (row 1536 (by decide) r) e : ℝ) : EReal) := by
  pointwise [k0_pay91, k0_pay90, k0_pay89, k0_pay88, k0_pay87, k0_pay95, k0_pay94, k0_pay92]
  exact H.tile_dq (J := 1536) (by decide) (by decide) rfl (by decide) h.q h.k h.v h.o h.l h.d r e

end

section
variable {q1 : FVec Ideal S1x192x256 .bf16} {k1 : FVec Ideal S1x1920x256 .bf16} {v1 : FVec Ideal S1x1920x128 .bf16} {o1 : FVec Ideal S192x128 .f32}
  {l1 : FVec Ideal S1x192x1 .f32} {d1 : FVec Ideal S192x128 .f32}

/-- Rows 1728 to 1919: what they add to the values' gradient. -/
theorem dv_9 (h : InScore H 1728 1920 (by decide) (by decide) q1 k1 l1 d1) (acc : FVec Ideal S1920x128 .f32) (c : Fin 1920) (e : Fin 128) :
    (k0_pay102 (k0_pay99 d1) (k0_pay101 q1 k1 l1) acc : FVec Ideal S1920x128 .f32) (ix2 c e)
      = acc (ix2 c e) + ((∑ i : Fin 192, H.p (row 1728 (by decide) i) (key 1920 (by decide) c) * H.D (row 1728 (by decide) i) e : ℝ) : EReal) := by
  pointwise [k0_pay101, k0_pay100, k0_pay97, k0_pay99, k0_pay102]
  exact congrArg (acc (ix2 c e) + ·) (H.tile_dv (J := 1728) (by decide) (by decide) h.q h.k h.l h.d c e)

/-- Rows 1728 to 1919: what they add to the keys' gradient. -/
theorem dk_9 (h : InTile H 1728 1920 (by decide) (by decide) q1 k1 v1 o1 l1 d1) (acc : FVec Ideal S1920x256 .f32) (c : Fin 1920) (e : Fin 256) :
    (k0_pay105 (k0_pay97 q1) (k0_pay98 d1 o1) (k0_pay99 d1) (k0_pay101 q1 k1 l1) v1 acc : FVec Ideal S1920x256 .f32) (ix2 c e)
      = acc (ix2 c e) + ((∑ i : Fin 192, H.ds (row 1728 (by decide) i) (key 1920 (by decide) c) * H.Q (row 1728 (by decide) i) e : ℝ) : EReal) := by
  pointwise [k0_pay101, k0_pay100, k0_pay97, k0_pay99, k0_pay98, k0_pay105, k0_pay103]
  exact congrArg (acc (ix2 c e) + ·) (H.tile_dk (J := 1728) (by decide) (by decide) h.q h.k h.v h.o h.l h.d c e)

/-- Rows 1728 to 1919: the queries' gradient. -/
theorem dq_9 (h : InTile H 1728 1920 (by decide) (by decide) q1 k1 v1 o1 l1 d1) (r : Fin 192) (e : Fin 256) :
    (k0_pay104 (k0_pay98 d1 o1) (k0_pay99 d1) (k0_pay100 k1) (k0_pay101 q1 k1 l1) v1 : FVec Ideal S1x192x256 .bf16) (ix3 0 r e) = ((H.dq (row 1728 (by decide) r) e : ℝ) : EReal) := by
  pointwise [k0_pay101, k0_pay100, k0_pay97, k0_pay99, k0_pay98, k0_pay104, k0_pay103]
  exact H.tile_dq (J := 1728) (by decide) (by decide) rfl (by decide) h.q h.k h.v h.o h.l h.d r e

end

section
variable {q1 : FVec Ideal S1x192x256 .bf16} {k1 : FVec Ideal S1x2112x256 .bf16} {v1 : FVec Ideal S1x2112x128 .bf16} {o1 : FVec Ideal S192x128 .f32}
  {l1 : FVec Ideal S1x192x1 .f32} {d1 : FVec Ideal S192x128 .f32}

/-- Rows 1920 to 2111: what they add to the values' gradient. -/
theorem dv_10 (h : InScore H 1920 2112 (by decide) (by decide) q1 k1 l1 d1) (acc : FVec Ideal S2112x128 .f32) (c : Fin 2112) (e : Fin 128) :
    (k0_pay111 (k0_pay106 q1) d1 k1 l1 acc : FVec Ideal S2112x128 .f32) (ix2 c e)
      = acc (ix2 c e) + ((∑ i : Fin 192, H.p (row 1920 (by decide) i) (key 2112 (by decide) c) * H.D (row 1920 (by decide) i) e : ℝ) : EReal) := by
  pointwise [k0_pay106, k0_pay111, k0_pay108, k0_pay110, k0_pay109]
  exact congrArg (acc (ix2 c e) + ·) (H.tile_dv (J := 1920) (by decide) (by decide) h.q h.k h.l h.d c e)

/-- Rows 1920 to 2111: what they add to the keys' gradient. -/
theorem dk_10 (h : InTile H 1920 2112 (by decide) (by decide) q1 k1 v1 o1 l1 d1) (acc : FVec Ideal S2112x256 .f32) (c : Fin 2112) (e : Fin 256) :
    (k0_pay115 (k0_pay106 q1) (k0_pay110 (k0_pay106 q1) k1 l1) (k0_pay112 d1 (k0_pay107 o1) v1) acc : FVec Ideal S2112x256 .f32) (ix2 c e)
      = acc (ix2 c e) + ((∑ i : Fin 192, H.ds (row 1920 (by decide) i) (key 2112 (by decide) c) * H.Q (row 1920 (by decide) i) e : ℝ) : EReal) := by
  pointwise [k0_pay107, k0_pay112, k0_pay108, k0_pay106, k0_pay110, k0_pay109, k0_pay115, k0_pay113]
  exact congrArg (acc (ix2 c e) + ·) (H.tile_dk (J := 1920) (by decide) (by decide) h.q h.k h.v h.o h.l h.d c e)

/-- Rows 1920 to 2111: the queries' gradient. -/
theorem dq_10 (h : InTile H 1920 2112 (by decide) (by decide) q1 k1 v1 o1 l1 d1) (r : Fin 192) (e : Fin 256) :
    (k0_pay114 (k0_pay109 k1) (k0_pay110 (k0_pay106 q1) k1 l1) (k0_pay112 d1 (k0_pay107 o1) v1) : FVec Ideal S1x192x256 .bf16) (ix3 0 r e) = ((H.dq (row 1920 (by decide) r) e : ℝ) : EReal) := by
  pointwise [k0_pay107, k0_pay112, k0_pay108, k0_pay106, k0_pay110, k0_pay109, k0_pay114, k0_pay113]
  exact H.tile_dq (J := 1920) (by decide) (by decide) rfl (by decide) h.q h.k h.v h.o h.l h.d r e

end

end Cert.KernelIdeal.Block

end
-- ==== Proof.Body.lean ====
/- The accumulators after every tile, and the three blocks one grid point stores. -/
module

public import proofs.«01_k».proof.Proof.Blocks
public import proofs.«01_k».proof.Proof.Gen.KernelIdeal.Value

@[expose] public section

set_option maxRecDepth 16384

noncomputable section

namespace Cert.KernelIdeal.Block

open Cert.KernelIdeal Cert.KernelIdeal.Gen Cert.Attn Idealize.ShloMosaic Idealize.ShloMosaic.TcCoe Idealize.SL.Sem

/-- The blocks of one example and head. -/
structure Holds (H : Head) (x0 : FVec Ideal S1x2112x256 .bf16) (x1 : FVec Ideal S1x2112x256 .bf16) (x2 : FVec Ideal S1x2112x128 .bf16) (x3 : FVec Ideal S2112x128 .f32)
    (x4 : FVec Ideal S1x2112x1 .f32) (x5 : FVec Ideal S2112x128 .f32) : Prop where
  q : ∀ r e, x0 (ix3 0 r e) = ((H.Q r e : ℝ) : EReal)
  k : ∀ r e, x1 (ix3 0 r e) = ((H.K r e : ℝ) : EReal)
  v : ∀ r e, x2 (ix3 0 r e) = ((H.V r e : ℝ) : EReal)
  o : ∀ r e, x3 (ix2 r e) = ((H.o r e : ℝ) : EReal)
  l : ∀ r, x4 (ix3 0 r 0) = ((H.M r + Real.log (H.l r) : ℝ) : EReal)
  d : ∀ r e, x5 (ix2 r e) = ((H.D r e : ℝ) : EReal)

variable {H : Head} (c : Dev nD) {i : grid0.Coords}
  {arg2 : Memref sig .tc .vmem S1x2112x256 .bf16} {harg2 : arg2.IsWhole} {arg3 : Memref sig .tc .vmem S1x2112x256 .bf16} {harg3 : arg3.IsWhole}
  {arg4 : Memref sig .tc .vmem S1x2112x128 .bf16} {harg4 : arg4.IsWhole} {arg5 : Memref sig .tc .vmem S2112x128 .f32} {harg5 : arg5.IsWhole}
  {arg6 : Memref sig .tc .vmem S1x2112x1 .f32} {harg6 : arg6.IsWhole} {arg7 : Memref sig .tc .vmem S2112x128 .f32} {harg7 : arg7.IsWhole}
  {arg8 : Memref sig .tc .vmem S1x2112x256 .bf16} {harg8 : arg8.IsWhole} {arg9 : Memref sig .tc .vmem S1x2112x256 .bf16} {harg9 : arg9.IsWhole}
  {arg10 : Memref sig .tc .vmem S1x2112x128 .bf16} {harg10 : arg10.IsWhole}
  {arg11 : Memref sig .tc .vmem S2112x256 .f32} {harg11 : arg11.IsWhole} {arg12 : Memref sig .tc .vmem S2112x128 .f32} {harg12 : arg12.IsWhole}
  {x0 : FVec Ideal S1x2112x256 .bf16} {x1 : FVec Ideal S1x2112x256 .bf16} {x2 : FVec Ideal S1x2112x128 .bf16} {x3 : FVec Ideal S2112x128 .f32}
  {x4 : FVec Ideal S1x2112x1 .f32} {x5 : FVec Ideal S2112x128 .f32}

/-- The loads of a tile's score operands from those blocks. -/
theorem Holds.score (h : Holds H x0 x1 x2 x3 x4 x5) {J N : ℕ} (hJ : J + 192 ≤ 2112) (hN : N ≤ 2112)
    {inb0 : ∀ a, (![0, J, 0] : Fin 3 → ℕ) a + (![1, 192, 256] : Fin 3 → ℕ) a ≤ S1x2112x256.size a}
    {inb1 : ∀ a, (![0, 0, 0] : Fin 3 → ℕ) a + (![1, N, 256] : Fin 3 → ℕ) a ≤ S1x2112x256.size a}
    {inb4 : ∀ a, (![0, J, 0] : Fin 3 → ℕ) a + (![1, 192, 1] : Fin 3 → ℕ) a ≤ S1x2112x1.size a}
    {inb5 : ∀ a, (![J, 0] : Fin 2 → ℕ) a + (![192, 128] : Fin 2 → ℕ) a ≤ S2112x128.size a} :
    InScore H J N hJ hN (View.readAt (Elt Ideal) arg2.view (Rect.unit (s := S1x2112x256) ![0, J, 0] ![1, 192, 256] inb0).toLoadRect (harg2.unread x0))
      (View.readAt (Elt Ideal) arg3.view (Rect.unit (s := S1x2112x256) ![0, 0, 0] ![1, N, 256] inb1).toLoadRect (harg3.unread x1))
      (View.readAt (Elt Ideal) arg6.view (Rect.unit (s := S1x2112x1) ![0, J, 0] ![1, 192, 1] inb4).toLoadRect (harg6.unread x4))
      (View.readAt (Elt Ideal) arg7.view (Rect.unit (s := S2112x128) ![J, 0] ![192, 128] inb5).toLoadRect (harg7.unread x5)) where
  q i e := (load3 harg2 x0 inb0 i e (by omega)).trans (h.q _ e)
  k r e := (load3 harg3 x1 inb1 r e (by omega)).trans ((h.k _ e).trans (by simp only [Nat.zero_add, key]))
  l i := (load3 harg6 x4 inb4 i 0 (by omega)).trans (h.l _)
  d i e := (load2 harg7 x5 inb5 i e (by omega)).trans (h.d _ e)

/-- The loads of all a tile's operands. -/
theorem Holds.tile (h : Holds H x0 x1 x2 x3 x4 x5) {J N : ℕ} (hJ : J + 192 ≤ 2112) (hN : N ≤ 2112)
    {inb0 : ∀ a, (![0, J, 0] : Fin 3 → ℕ) a + (![1, 192, 256] : Fin 3 → ℕ) a ≤ S1x2112x256.size a}
    {inb1 : ∀ a, (![0, 0, 0] : Fin 3 → ℕ) a + (![1, N, 256] : Fin 3 → ℕ) a ≤ S1x2112x256.size a}
    {inb2 : ∀ a, (![0, 0, 0] : Fin 3 → ℕ) a + (![1, N, 128] : Fin 3 → ℕ) a ≤ S1x2112x128.size a}
    {inb3 : ∀ a, (![J, 0] : Fin 2 → ℕ) a + (![192, 128] : Fin 2 → ℕ) a ≤ S2112x128.size a}
    {inb4 : ∀ a, (![0, J, 0] : Fin 3 → ℕ) a + (![1, 192, 1] : Fin 3 → ℕ) a ≤ S1x2112x1.size a}
    {inb5 : ∀ a, (![J, 0] : Fin 2 → ℕ) a + (![192, 128] : Fin 2 → ℕ) a ≤ S2112x128.size a} :
    InTile H J N hJ hN (View.readAt (Elt Ideal) arg2.view (Rect.unit (s := S1x2112x256) ![0, J, 0] ![1, 192, 256] inb0).toLoadRect (harg2.unread x0))
      (View.readAt (Elt Ideal) arg3.view (Rect.unit (s := S1x2112x256) ![0, 0, 0] ![1, N, 256] inb1).toLoadRect (harg3.unread x1))
      (View.readAt (Elt Ideal) arg4.view (Rect.unit (s := S1x2112x128) ![0, 0, 0] ![1, N, 128] inb2).toLoadRect (harg4.unread x2))
      (View.readAt (Elt Ideal) arg5.view (Rect.unit (s := S2112x128) ![J, 0] ![192, 128] inb3).toLoadRect (harg5.unread x3))
      (View.readAt (Elt Ideal) arg6.view (Rect.unit (s := S1x2112x1) ![0, J, 0] ![1, 192, 1] inb4).toLoadRect (harg6.unread x4))
      (View.readAt (Elt Ideal) arg7.view (Rect.unit (s := S2112x128) ![J, 0] ![192, 128] inb5).toLoadRect (harg7.unread x5)) where
  toInScore := h.score hJ hN
  v r e := (load3 harg4 x2 inb2 r e (by omega)).trans ((h.v _ e).trans (by simp only [Nat.zero_add, key]))
  o i e := (load2 harg5 x3 inb3 i e (by omega)).trans (h.o _ e)

/-- The zeros the values' accumulator starts from. -/
theorem accv_0 (r : Fin 2112) (e : Fin 128) :
    (View.canon (kernelRun0_A.sl.HS1_1 (F := Ideal)) : FVec Ideal S2112x128 .f32) (ix2 r e) = ((upto 0 fun a => H.p a r * H.D a e : ℝ) : EReal) := by
  rw [upto_zero, EReal.coe_zero]
  refine (store_front (n := 2112) [] _ _ ⟨r.val, r.isLt⟩ e r.isLt).trans ?_
  pointwise [k0_pay3]

/-- The zeros the keys' accumulator starts from. -/
theorem acck_0 (r : Fin 2112) (e : Fin 256) :
    (View.canon (kernelRun0_A.sl.HS0_1 (F := Ideal)) : FVec Ideal S2112x256 .f32) (ix2 r e) = ((upto 0 fun a => H.ds a r * H.Q a e : ℝ) : EReal) := by
  rw [upto_zero, EReal.coe_zero]
  refine (store_front (n := 2112) [] _ _ ⟨r.val, r.isLt⟩ e r.isLt).trans ?_
  pointwise [k0_pay2]

/-- The values' accumulator after rows 0 to 191. -/
theorem accv_1 (h : Holds H x0 x1 x2 x3 x4 x5) (r : Fin 2112) (e : Fin 128) :
    (View.canon (kernelRun0_A.sl.HS1_2 (F := Ideal) c arg2 harg2 arg3 harg3 arg6 harg6 arg7 harg7 arg12 x0 x1 x4 x5) : FVec Ideal S2112x128 .f32) (ix2 r e) = ((upto 192 fun a => H.p a r * H.D a e : ℝ) : EReal) :=
  acc_step (J := 0) (N := 192) (by decide) rfl (by decide) (fun a r e => H.p a r * H.D a e) (fun a r e hm => by rw [H.p_masked hm, zero_mul]) _ _ _ (accv_0)
    (fun k e => (dv_0 (h.score (by decide) (by decide)) _ k e).trans (congrArg (· + _) (load_acc _ _ _ k e (by omega)))) r e

/-- The keys' accumulator after rows 0 to 191. -/
theorem acck_1 (h : Holds H x0 x1 x2 x3 x4 x5) (r : Fin 2112) (e : Fin 256) :
    (View.canon (kernelRun0_A.sl.HS0_2 (F := Ideal) c arg2 harg2 arg3 harg3 arg4 harg4 arg5 harg5 arg6 harg6 arg7 harg7 arg11 x0 x1 x2 x3 x4 x5) : FVec Ideal S2112x256 .f32) (ix2 r e) = ((upto 192 fun a => H.ds a r * H.Q a e : ℝ) : EReal) :=
  acc_step (J := 0) (N := 192) (by decide) rfl (by decide) (fun a r e => H.ds a r * H.Q a e) (fun a r e hm => by rw [H.ds_masked hm, zero_mul]) _ _ _ (acck_0)
    (fun k e => (dk_0 (h.tile (by decide) (by decide)) _ k e).trans (congrArg (· + _) (load_acc _ _ _ k e (by omega)))) r e

/-- The values' accumulator after rows 192 to 383. -/
theorem accv_2 (h : Holds H x0 x1 x2 x3 x4 x5) (r : Fin 2112) (e : Fin 128) :
    (View.canon (kernelRun0_A.sl.HS1_3 (F := Ideal) c arg2 harg2 arg3 harg3 arg6 harg6 arg7 harg7 arg12 x0 x1 x4 x5) : FVec Ideal S2112x128 .f32) (ix2 r e) = ((upto 384 fun a => H.p a r * H.D a e : ℝ) : EReal) :=
  acc_step (J := 192) (N := 384) (by decide) rfl (by decide) (fun a r e => H.p a r * H.D a e) (fun a r e hm => by rw [H.p_masked hm, zero_mul]) _ _ _ (accv_1 c h)
    (fun k e => (dv_1 (h.score (by decide) (by decide)) _ k e).trans (congrArg (· + _) (load_acc _ _ _ k e (by omega)))) r e

/-- The keys' accumulator after rows 192 to 383. -/
theorem acck_2 (h : Holds H x0 x1 x2 x3 x4 x5) (r : Fin 2112) (e : Fin 256) :
    (View.canon (kernelRun0_A.sl.HS0_3 (F := Ideal) c arg2 harg2 arg3 harg3 arg4 harg4 arg5 harg5 arg6 harg6 arg7 harg7 arg11 x0 x1 x2 x3 x4 x5) : FVec Ideal S2112x256 .f32) (ix2 r e) = ((upto 384 fun a => H.ds a r * H.Q a e : ℝ) : EReal) :=
  acc_step (J := 192) (N := 384) (by decide) rfl (by decide) (fun a r e => H.ds a r * H.Q a e) (fun a r e hm => by rw [H.ds_masked hm, zero_mul]) _ _ _ (acck_1 c h)
    (fun k e => (dk_1 (h.tile (by decide) (by decide)) _ k e).trans (congrArg (· + _) (load_acc _ _ _ k e (by omega)))) r e

/-- The values' accumulator after rows 384 to 575. -/
theorem accv_3 (h : Holds H x0 x1 x2 x3 x4 x5) (r : Fin 2112) (e : Fin 128) :
    (View.canon (kernelRun0_A.sl.HS1_4 (F := Ideal) c arg2 harg2 arg3 harg3 arg6 harg6 arg7 harg7 arg12 x0 x1 x4 x5) : FVec Ideal S2112x128 .f32) (ix2 r e) = ((upto 576 fun a => H.p a r * H.D a e : ℝ) : EReal) :=
  acc_step (J := 384) (N := 576) (by decide) rfl (by decide) (fun a r e => H.p a r * H.D a e) (fun a r e hm => by rw [H.p_masked hm, zero_mul]) _ _ _ (accv_2 c h)
    (fun k e => (dv_2 (h.score (by decide) (by decide)) _ k e).trans (congrArg (· + _) (load_acc _ _ _ k e (by omega)))) r e

/-- The keys' accumulator after rows 384 to 575. -/
theorem acck_3 (h : Holds H x0 x1 x2 x3 x4 x5) (r : Fin 2112) (e : Fin 256) :
    (View.canon (kernelRun0_A.sl.HS0_4 (F := Ideal) c arg2 harg2 arg3 harg3 arg4 harg4 arg5 harg5 arg6 harg6 arg7 harg7 arg11 x0 x1 x2 x3 x4 x5) : FVec Ideal S2112x256 .f32) (ix2 r e) = ((upto 576 fun a => H.ds a r * H.Q a e : ℝ) : EReal) :=
  acc_step (J := 384) (N := 576) (by decide) rfl (by decide) (fun a r e => H.ds a r * H.Q a e) (fun a r e hm => by rw [H.ds_masked hm, zero_mul]) _ _ _ (acck_2 c h)
    (fun k e => (dk_2 (h.tile (by decide) (by decide)) _ k e).trans (congrArg (· + _) (load_acc _ _ _ k e (by omega)))) r e

/-- The values' accumulator after rows 576 to 767. -/
theorem accv_4 (h : Holds H x0 x1 x2 x3 x4 x5) (r : Fin 2112) (e : Fin 128) :
    (View.canon (kernelRun0_A.sl.HS1_5 (F := Ideal) c arg2 harg2 arg3 harg3 arg6 harg6 arg7 harg7 arg12 x0 x1 x4 x5) : FVec Ideal S2112x128 .f32) (ix2 r e) = ((upto 768 fun a => H.p a r * H.D a e : ℝ) : EReal) :=
  acc_step (J := 576) (N := 768) (by decide) rfl (by decide) (fun a r e => H.p a r * H.D a e) (fun a r e hm => by rw [H.p_masked hm, zero_mul]) _ _ _ (accv_3 c h)
    (fun k e => (dv_3 (h.score (by decide) (by decide)) _ k e).trans (congrArg (· + _) (load_acc _ _ _ k e (by omega)))) r e

/-- The keys' accumulator after rows 576 to 767. -/
theorem acck_4 (h : Holds H x0 x1 x2 x3 x4 x5) (r : Fin 2112) (e : Fin 256) :
    (View.canon (kernelRun0_A.sl.HS0_5 (F := Ideal) c arg2 harg2 arg3 harg3 arg4 harg4 arg5 harg5 arg6 harg6 arg7 harg7 arg11 x0 x1 x2 x3 x4 x5) : FVec Ideal S2112x256 .f32) (ix2 r e) = ((upto 768 fun a => H.ds a r * H.Q a e : ℝ) : EReal) :=
  acc_step (J := 576) (N := 768) (by decide) rfl (by decide) (fun a r e => H.ds a r * H.Q a e) (fun a r e hm => by rw [H.ds_masked hm, zero_mul]) _ _ _ (acck_3 c h)
    (fun k e => (dk_3 (h.tile (by decide) (by decide)) _ k e).trans (congrArg (· + _) (load_acc _ _ _ k e (by omega)))) r e

/-- The values' accumulator after rows 768 to 959. -/
theorem accv_5 (h : Holds H x0 x1 x2 x3 x4 x5) (r : Fin 2112) (e : Fin 128) :
    (View.canon (kernelRun0_A.sl.HS1_6 (F := Ideal) c arg2 harg2 arg3 harg3 arg6 harg6 arg7 harg7 arg12 x0 x1 x4 x5) : FVec Ideal S2112x128 .f32) (ix2 r e) = ((upto 960 fun a => H.p a r * H.D a e : ℝ) : EReal) :=
  acc_step (J := 768) (N := 960) (by decide) rfl (by decide) (fun a r e => H.p a r * H.D a e) (fun a r e hm => by rw [H.p_masked hm, zero_mul]) _ _ _ (accv_4 c h)
    (fun k e => (dv_4 (h.score (by decide) (by decide)) _ k e).trans (congrArg (· + _) (load_acc _ _ _ k e (by omega)))) r e

/-- The keys' accumulator after rows 768 to 959. -/
theorem acck_5 (h : Holds H x0 x1 x2 x3 x4 x5) (r : Fin 2112) (e : Fin 256) :
    (View.canon (kernelRun0_A.sl.HS0_6 (F := Ideal) c arg2 harg2 arg3 harg3 arg4 harg4 arg5 harg5 arg6 harg6 arg7 harg7 arg11 x0 x1 x2 x3 x4 x5) : FVec Ideal S2112x256 .f32) (ix2 r e) = ((upto 960 fun a => H.ds a r * H.Q a e : ℝ) : EReal) :=
  acc_step (J := 768) (N := 960) (by decide) rfl (by decide) (fun a r e => H.ds a r * H.Q a e) (fun a r e hm => by rw [H.ds_masked hm, zero_mul]) _ _ _ (acck_4 c h)
    (fun k e => (dk_4 (h.tile (by decide) (by decide)) _ k e).trans (congrArg (· + _) (load_acc _ _ _ k e (by omega)))) r e

/-- The values' accumulator after rows 960 to 1151. -/
theorem accv_6 (h : Holds H x0 x1 x2 x3 x4 x5) (r : Fin 2112) (e : Fin 128) :
    (View.canon (kernelRun0_A.sl.HS1_7 (F := Ideal) c arg2 harg2 arg3 harg3 arg6 harg6 arg7 harg7 arg12 x0 x1 x4 x5) : FVec Ideal S2112x128 .f32) (ix2 r e) = ((upto 1152 fun a => H.p a r * H.D a e : ℝ) : EReal) :=
  acc_step (J := 960) (N := 1152) (by decide) rfl (by decide) (fun a r e => H.p a r * H.D a e) (fun a r e hm => by rw [H.p_masked hm, zero_mul]) _ _ _ (accv_5 c h)
    (fun k e => (dv_5 (h.score (by decide) (by decide)) _ k e).trans (congrArg (· + _) (load_acc _ _ _ k e (by omega)))) r e

/-- The keys' accumulator after rows 960 to 1151. -/
theorem acck_6 (h : Holds H x0 x1 x2 x3 x4 x5) (r : Fin 2112) (e : Fin 256) :
    (View.canon (kernelRun0_A.sl.HS0_7 (F := Ideal) c arg2 harg2 arg3 harg3 arg4 harg4 arg5 harg5 arg6 harg6 arg7 harg7 arg11 x0 x1 x2 x3 x4 x5) : FVec Ideal S2112x256 .f32) (ix2 r e) = ((upto 1152 fun a => H.ds a r * H.Q a e : ℝ) : EReal) :=
  acc_step (J := 960) (N := 1152) (by decide) rfl (by decide) (fun a r e => H.ds a r * H.Q a e) (fun a r e hm => by rw [H.ds_masked hm, zero_mul]) _ _ _ (acck_5 c h)
    (fun k e => (dk_5 (h.tile (by decide) (by decide)) _ k e).trans (congrArg (· + _) (load_acc _ _ _ k e (by omega)))) r e

/-- The values' accumulator after rows 1152 to 1343. -/
theorem accv_7 (h : Holds H x0 x1 x2 x3 x4 x5) (r : Fin 2112) (e : Fin 128) :
    (View.canon (kernelRun0_A.sl.HS1_8 (F := Ideal) c arg2 harg2 arg3 harg3 arg6 harg6 arg7 harg7 arg12 x0 x1 x4 x5) : FVec Ideal S2112x128 .f32) (ix2 r e) = ((upto 1344 fun a => H.p a r * H.D a e : ℝ) : EReal) :=
  acc_step (J := 1152) (N := 1344) (by decide) rfl (by decide) (fun a r e => H.p a r * H.D a e) (fun a r e hm => by rw [H.p_masked hm, zero_mul]) _ _ _ (accv_6 c h)
    (fun k e => (dv_6 (h.score (by decide) (by decide)) _ k e).trans (congrArg (· + _) (load_acc _ _ _ k e (by omega)))) r e

/-- The keys' accumulator after rows 1152 to 1343. -/
theorem acck_7 (h : Holds H x0 x1 x2 x3 x4 x5) (r : Fin 2112) (e : Fin 256) :
    (View.canon (kernelRun0_A.sl.HS0_8 (F := Ideal) c arg2 harg2 arg3 harg3 arg4 harg4 arg5 harg5 arg6 harg6 arg7 harg7 arg11 x0 x1 x2 x3 x4 x5) : FVec Ideal S2112x256 .f32) (ix2 r e) = ((upto 1344 fun a => H.ds a r * H.Q a e : ℝ) : EReal) :=
  acc_step (J := 1152) (N := 1344) (by decide) rfl (by decide) (fun a r e => H.ds a r * H.Q a e) (fun a r e hm => by rw [H.ds_masked hm, zero_mul]) _ _ _ (acck_6 c h)
    (fun k e => (dk_6 (h.tile (by decide) (by decide)) _ k e).trans (congrArg (· + _) (load_acc _ _ _ k e (by omega)))) r e

/-- The values' accumulator after rows 1344 to 1535. -/
theorem accv_8 (h : Holds H x0 x1 x2 x3 x4 x5) (r : Fin 2112) (e : Fin 128) :
    (View.canon (kernelRun0_A.sl.HS1_9 (F := Ideal) c arg2 harg2 arg3 harg3 arg6 harg6 arg7 harg7 arg12 x0 x1 x4 x5) : FVec Ideal S2112x128 .f32) (ix2 r e) = ((upto 1536 fun a => H.p a r * H.D a e : ℝ) : EReal) :=
  acc_step (J := 1344) (N := 1536) (by decide) rfl (by decide) (fun a r e => H.p a r * H.D a e) (fun a r e hm => by rw [H.p_masked hm, zero_mul]) _ _ _ (accv_7 c h)
    (fun k e => (dv_7 (h.score (by decide) (by decide)) _ k e).trans (congrArg (· + _) (load_acc _ _ _ k e (by omega)))) r e

/-- The keys' accumulator after rows 1344 to 1535. -/
theorem acck_8 (h : Holds H x0 x1 x2 x3 x4 x5) (r : Fin 2112) (e : Fin 256) :
    (View.canon (kernelRun0_A.sl.HS0_9 (F := Ideal) c arg2 harg2 arg3 harg3 arg4 harg4 arg5 harg5 arg6 harg6 arg7 harg7 arg11 x0 x1 x2 x3 x4 x5) : FVec Ideal S2112x256 .f32) (ix2 r e) = ((upto 1536 fun a => H.ds a r * H.Q a e : ℝ) : EReal) :=
  acc_step (J := 1344) (N := 1536) (by decide) rfl (by decide) (fun a r e => H.ds a r * H.Q a e) (fun a r e hm => by rw [H.ds_masked hm, zero_mul]) _ _ _ (acck_7 c h)
    (fun k e => (dk_7 (h.tile (by decide) (by decide)) _ k e).trans (congrArg (· + _) (load_acc _ _ _ k e (by omega)))) r e

/-- The values' accumulator after rows 1536 to 1727. -/
theorem accv_9 (h : Holds H x0 x1 x2 x3 x4 x5) (r : Fin 2112) (e : Fin 128) :
    (View.canon (kernelRun0_A.sl.HS1_10 (F := Ideal) c arg2 harg2 arg3 harg3 arg6 harg6 arg7 harg7 arg12 x0 x1 x4 x5) : FVec Ideal S2112x128 .f32) (ix2 r e) = ((upto 1728 fun a => H.p a r * H.D a e : ℝ) : EReal) :=
  acc_step (J := 1536) (N := 1728) (by decide) rfl (by decide) (fun a r e => H.p a r * H.D a e) (fun a r e hm => by rw [H.p_masked hm, zero_mul]) _ _ _ (accv_8 c h)
    (fun k e => (dv_8 (h.score (by decide) (by decide)) _ k e).trans (congrArg (· + _) (load_acc _ _ _ k e (by omega)))) r e

/-- The keys' accumulator after rows 1536 to 1727. -/
theorem acck_9 (h : Holds H x0 x1 x2 x3 x4 x5) (r : Fin 2112) (e : Fin 256) :
    (View.canon (kernelRun0_A.sl.HS0_10 (F := Ideal) c arg2 harg2 arg3 harg3 arg4 harg4 arg5 harg5 arg6 harg6 arg7 harg7 arg11 x0 x1 x2 x3 x4 x5) : FVec Ideal S2112x256 .f32) (ix2 r e) = ((upto 1728 fun a => H.ds a r * H.Q a e : ℝ) : EReal) :=
  acc_step (J := 1536) (N := 1728) (by decide) rfl (by decide) (fun a r e => H.ds a r * H.Q a e) (fun a r e hm => by rw [H.ds_masked hm, zero_mul]) _ _ _ (acck_8 c h)
    (fun k e => (dk_8 (h.tile (by decide) (by decide)) _ k e).trans (congrArg (· + _) (load_acc _ _ _ k e (by omega)))) r e

/-- The values' accumulator after rows 1728 to 1919. -/
theorem accv_10 (h : Holds H x0 x1 x2 x3 x4 x5) (r : Fin 2112) (e : Fin 128) :
    (View.canon (kernelRun0_A.sl.HS1_11 (F := Ideal) c arg2 harg2 arg3 harg3 arg6 harg6 arg7 harg7 arg12 x0 x1 x4 x5) : FVec Ideal S2112x128 .f32) (ix2 r e) = ((upto 1920 fun a => H.p a r * H.D a e : ℝ) : EReal) :=
  acc_step (J := 1728) (N := 1920) (by decide) rfl (by decide) (fun a r e => H.p a r * H.D a e) (fun a r e hm => by rw [H.p_masked hm, zero_mul]) _ _ _ (accv_9 c h)
    (fun k e => (dv_9 (h.score (by decide) (by decide)) _ k e).trans (congrArg (· + _) (load_acc _ _ _ k e (by omega)))) r e

/-- The keys' accumulator after rows 1728 to 1919. -/
theorem acck_10 (h : Holds H x0 x1 x2 x3 x4 x5) (r : Fin 2112) (e : Fin 256) :
    (View.canon (kernelRun0_A.sl.HS0_11 (F := Ideal) c arg2 harg2 arg3 harg3 arg4 harg4 arg5 harg5 arg6 harg6 arg7 harg7 arg11 x0 x1 x2 x3 x4 x5) : FVec Ideal S2112x256 .f32) (ix2 r e) = ((upto 1920 fun a => H.ds a r * H.Q a e : ℝ) : EReal) :=
  acc_step (J := 1728) (N := 1920) (by decide) rfl (by decide) (fun a r e => H.ds a r * H.Q a e) (fun a r e hm => by rw [H.ds_masked hm, zero_mul]) _ _ _ (acck_9 c h)
    (fun k e => (dk_9 (h.tile (by decide) (by decide)) _ k e).trans (congrArg (· + _) (load_acc _ _ _ k e (by omega)))) r e

/-- The values' accumulator after rows 1920 to 2111. -/
theorem accv_11 (h : Holds H x0 x1 x2 x3 x4 x5) (r : Fin 2112) (e : Fin 128) :
    (View.canon (kernelRun0_A.sl.HS1_12 (F := Ideal) c arg2 harg2 arg3 harg3 arg6 harg6 arg7 harg7 arg12 x0 x1 x4 x5) : FVec Ideal S2112x128 .f32) (ix2 r e) = ((upto 2112 fun a => H.p a r * H.D a e : ℝ) : EReal) :=
  acc_step (J := 1920) (N := 2112) (by decide) rfl (by decide) (fun a r e => H.p a r * H.D a e) (fun a r e hm => by rw [H.p_masked hm, zero_mul]) _ _ _ (accv_10 c h)
    (fun k e => (dv_10 (h.score (by decide) (by decide)) _ k e).trans (congrArg (· + _) (load_acc _ _ _ k e (by omega)))) r e

/-- The keys' accumulator after rows 1920 to 2111. -/
theorem acck_11 (h : Holds H x0 x1 x2 x3 x4 x5) (r : Fin 2112) (e : Fin 256) :
    (View.canon (kernelRun0_A.sl.HS0_12 (F := Ideal) c arg2 harg2 arg3 harg3 arg4 harg4 arg5 harg5 arg6 harg6 arg7 harg7 arg11 x0 x1 x2 x3 x4 x5) : FVec Ideal S2112x256 .f32) (ix2 r e) = ((upto 2112 fun a => H.ds a r * H.Q a e : ℝ) : EReal) :=
  acc_step (J := 1920) (N := 2112) (by decide) rfl (by decide) (fun a r e => H.ds a r * H.Q a e) (fun a r e hm => by rw [H.ds_masked hm, zero_mul]) _ _ _ (acck_10 c h)
    (fun k e => (dk_10 (h.tile (by decide) (by decide)) _ k e).trans (congrArg (· + _) (load_acc _ _ _ k e (by omega)))) r e

/-- The stores of the queries' gradient. -/
theorem outq (h : Holds H x0 x1 x2 x3 x4 x5) (r : Fin 2112) (e : Fin 256) :
    (View.canon (kernelRun0_A (F := Ideal) c i arg2 harg2 arg3 harg3 arg4 harg4 arg5 harg5 arg6 harg6 arg7 harg7 arg8 harg8 arg9 harg9 arg10 harg10 arg11 harg11 arg12 harg12 x0 x1 x2 x3 x4 x5).1
      : FVec Ideal S1x2112x256 .bf16) (ix3 0 r e) = ((H.dq r e : ℝ) : EReal) := by
  unfold kernelRun0_A
  dsimp only
  revert r e
  suffices hs : ∀ (r : Fin 2112) (e : Fin 256), r.val < 1920 + 192 → _ from fun r e => hs r e r.isLt
  refine tile_step (J := 1920) (φ := .bf16) (by decide) (fun r e => ((H.dq r e : ℝ) : EReal)) _ _ _ ?_ ?_
  swap
  · exact dq_10 (h.tile (by decide) (by decide))
  refine tile_step (J := 1728) (φ := .bf16) (by decide) (fun r e => ((H.dq r e : ℝ) : EReal)) _ _ _ ?_ ?_
  swap
  · exact dq_9 (h.tile (by decide) (by decide))
  refine tile_step (J := 1536) (φ := .bf16) (by decide) (fun r e => ((H.dq r e : ℝ) : EReal)) _ _ _ ?_ ?_
  swap
  · exact dq_8 (h.tile (by decide) (by decide))
  refine tile_step (J := 1344) (φ := .bf16) (by decide) (fun r e => ((H.dq r e : ℝ) : EReal)) _ _ _ ?_ ?_
  swap
  · exact dq_7 (h.tile (by decide) (by decide))
  refine tile_step (J := 1152) (φ := .bf16) (by decide) (fun r e => ((H.dq r e : ℝ) : EReal)) _ _ _ ?_ ?_
  swap
  · exact dq_6 (h.tile (by decide) (by decide))
  refine tile_step (J := 960) (φ := .bf16) (by decide) (fun r e => ((H.dq r e : ℝ) : EReal)) _ _ _ ?_ ?_
  swap
  · exact dq_5 (h.tile (by decide) (by decide))
  refine tile_step (J := 768) (φ := .bf16) (by decide) (fun r e => ((H.dq r e : ℝ) : EReal)) _ _ _ ?_ ?_
  swap
  · exact dq_4 (h.tile (by decide) (by decide))
  refine tile_step (J := 576) (φ := .bf16) (by decide) (fun r e => ((H.dq r e : ℝ) : EReal)) _ _ _ ?_ ?_
  swap
  · exact dq_3 (h.tile (by decide) (by decide))
  refine tile_step (J := 384) (φ := .bf16) (by decide) (fun r e => ((H.dq r e : ℝ) : EReal)) _ _ _ ?_ ?_
  swap
  · exact dq_2 (h.tile (by decide) (by decide))
  refine tile_step (J := 192) (φ := .bf16) (by decide) (fun r e => ((H.dq r e : ℝ) : EReal)) _ _ _ ?_ ?_
  swap
  · exact dq_1 (h.tile (by decide) (by decide))
  refine tile_step (J := 0) (φ := .bf16) (by decide) (fun r e => ((H.dq r e : ℝ) : EReal)) _ _ _ ?_ ?_
  swap
  · exact dq_0 (h.tile (by decide) (by decide))
  exact fun r e hr => absurd hr (Nat.not_lt_zero _)

/-- The store of the keys' gradient. -/
theorem outk (h : Holds H x0 x1 x2 x3 x4 x5) (r : Fin 2112) (e : Fin 256) :
    (View.canon (kernelRun0_A (F := Ideal) c i arg2 harg2 arg3 harg3 arg4 harg4 arg5 harg5 arg6 harg6 arg7 harg7 arg8 harg8 arg9 harg9 arg10 harg10 arg11 harg11 arg12 harg12 x0 x1 x2 x3 x4 x5).2.1
      : FVec Ideal S1x2112x256 .bf16) (ix3 0 r e) = ((H.dk r e : ℝ) : EReal) := by
  refine (store_whole _ _ _ r e).trans ?_
  have hp : ∀ y : FVec Ideal S2112x256 .f32, (k0_pay116 y : FVec Ideal S1x2112x256 .bf16) (ix3 0 r e) = y (ix2 r e) := fun y => by
    pointwise [k0_pay116]
  refine (hp _).trans ((load_acc _ _ _ r e r.isLt).trans ((acck_11 c h r e).trans ?_))
  rw [upto_all, Head.dk]

/-- The store of the values' gradient. -/
theorem outv (h : Holds H x0 x1 x2 x3 x4 x5) (r : Fin 2112) (e : Fin 128) :
    (View.canon (kernelRun0_A (F := Ideal) c i arg2 harg2 arg3 harg3 arg4 harg4 arg5 harg5 arg6 harg6 arg7 harg7 arg8 harg8 arg9 harg9 arg10 harg10 arg11 harg11 arg12 harg12 x0 x1 x2 x3 x4 x5).2.2.1
      : FVec Ideal S1x2112x128 .bf16) (ix3 0 r e) = ((H.dv r e : ℝ) : EReal) := by
  refine (store_whole _ _ _ r e).trans ?_
  have hp : ∀ y : FVec Ideal S2112x128 .f32, (k0_pay1 (k0_pay117 y) : FVec Ideal S1x2112x128 .bf16) (ix3 0 r e) = y (ix2 r e) := fun y => by
    pointwise [k0_pay1, k0_pay117]
  refine (hp _).trans ((load_acc _ _ _ r e r.isLt).trans ((accv_11 c h r e).trans ?_))
  rw [upto_all, Head.dv]

end Cert.KernelIdeal.Block

end
-- ==== Proof.RefStages.lean ====
/- The reference's results, stage by stage, each stage read at an index. -/
module

public import proofs.«01_k».proof.Proof.Spec
public import proofs.«01_k».proof.Proof.Gen.ReferenceIdeal.Run
public import Idealize.ShloMosaic.Lib.Pointwise

@[expose] public section

set_option maxRecDepth 16384

noncomputable section

namespace Cert.ReferenceIdeal.Stage

open Cert.ReferenceIdeal Cert.ReferenceIdeal.Gen Idealize.ShloMosaic Idealize.ShloMosaic.TcCoe Idealize.SL.Sem

/-- The chunk of a row. -/
def cid : IVec S2112 32 :=
  select (andi (cmpi .ne (signi (iotaInDim S2112 32 0)) (broadcastInDim S2112 ![] bcast_S_S2112 (signi (id (constantI S_ 32 64#32)))))
      (cmpi .ne (Host.remsi (iotaInDim S2112 32 0) (broadcastInDim S2112 ![] bcast_S_S2112 (id (constantI S_ 32 64#32)))) (broadcastInDim S2112 ![] bcast_S_S2112 (constantI S_ 32 0#32))))
    (subi (Host.divsi (iotaInDim S2112 32 0) (broadcastInDim S2112 ![] bcast_S_S2112 (id (constantI S_ 32 64#32)))) (broadcastInDim S2112 ![] bcast_S_S2112 (constantI S_ 32 1#32)))
    (Host.divsi (iotaInDim S2112 32 0) (broadcastInDim S2112 ![] bcast_S_S2112 (id (constantI S_ 32 64#32))))

/-- Which keys a row sees. -/
def mask : IVec S2x4x2112x2112 1 :=
  broadcastInDim S2x4x2112x2112 ![0, 1, 2, 3] bcast_S1x1x2112x2112_S2x4x2112x2112_0_1_2_3
    (broadcastInDim S1x1x2112x2112 ![2, 3] bcast_S2112x2112_S1x1x2112x2112_2_3
      (cmpi .sle (broadcastInDim S2112x2112 ![0, 1] bcast_S1x2112_S2112x2112_0_1 (broadcastInDim S1x2112 ![1] bcast_S2112_S1x2112_1 cid))
        (broadcastInDim S2112x2112 ![0, 1] bcast_S2112x1_S2112x2112_0_1 (broadcastInDim S2112x1 ![0] bcast_S2112_S2112x1_0 cid))))

/-- The queries or keys by example, head and row. -/
def wide (q : FVec Ideal S4x4224x256 .bf16) : FVec Ideal S2x4x2112x256 .f32 :=
  transpose S2x4x2112x256 [1, 0, 2, 3] (shapeCast _ (extf .f32 q bitsLt_bf16_f32) shapeCasts_S4x4224x256_S4x2x2112x256) transposes_S4x2x2112x256_S2x4x2112x256_1_0_2_3

/-- The values by example, head and row. -/
def narrow (v : FVec Ideal S4x4224x128 .bf16) : FVec Ideal S2x4x2112x128 .f32 :=
  transpose S2x4x2112x128 [1, 0, 2, 3] (shapeCast _ (extf .f32 v bitsLt_bf16_f32) shapeCasts_S4x4224x128_S4x2x2112x128) transposes_S4x2x2112x128_S2x4x2112x128_1_0_2_3

/-- The result's gradient by example, head and row. -/
def grad (d : FVec Ideal S4224x512 .f32) : FVec Ideal S2x4x2112x128 .f32 :=
  transpose S2x4x2112x128 [0, 2, 1, 3] (shapeCast _ d shapeCasts_S4224x512_S2x2112x4x128) transposes_S2x2112x4x128_S2x4x2112x128_0_2_1_3

/-- The masked logits. -/
def logit (q k : FVec Ideal S2x4x2112x256 .f32) : FVec Ideal S2x4x2112x2112 .f32 :=
  select mask (mulf (Host.dotGeneral dot_S2x4x2112x256_S2x4x2112x256_S2x4x2112x2112_3_3_2_2_01_01 none q k)
      (broadcastInDim S2x4x2112x2112 ![] bcast_S_S2x4x2112x2112 (constant S_ .f32 0x3D93CD3A#32)))
    (broadcastInDim S2x4x2112x2112 ![] bcast_S_S2x4x2112x2112 (id (constant S_ .f32 0xFF800000#32)))

/-- A row's greatest logit. -/
def top (s : FVec Ideal S2x4x2112x2112 .f32) : FVec Ideal S2x4x2112 .f32 :=
  Host.reduce FloatOps.maximumf s (constant S_ .f32 0xFF800000#32) reducesTo_S2x4x2112x2112_S2x4x2112_d3 h_S_

/-- The shifted exponentials. -/
def expo (s : FVec Ideal S2x4x2112x2112 .f32) (t : FVec Ideal S2x4x2112 .f32) : FVec Ideal S2x4x2112x2112 .f32 :=
  Host.exp (subf s (broadcastInDim S2x4x2112x2112 ![0, 1, 2, 3] bcast_S2x4x2112x1_S2x4x2112x2112_0_1_2_3
    (broadcastInDim S2x4x2112x1 ![0, 1, 2] bcast_S2x4x2112_S2x4x2112x1_0_1_2
      (maximumf (broadcastInDim S2x4x2112 ![] bcast_S_S2x4x2112 (constant S_ .f32 0xFF800000#32)) t))))

/-- A row's sum of exponentials. -/
def total (e : FVec Ideal S2x4x2112x2112 .f32) : FVec Ideal S2x4x2112x1 .f32 :=
  broadcastInDim S2x4x2112x1 ![0, 1, 2] bcast_S2x4x2112_S2x4x2112x1_0_1_2
    (Host.reduceAdd e (constant S_ .f32 0x00000000#32) reducesTo_S2x4x2112x2112_S2x4x2112_d3 h_S_)

/-- The gradients of the weights. -/
def dweight (d v : FVec Ideal S2x4x2112x128 .f32) : FVec Ideal S2x4x2112x2112 .f32 :=
  Host.dotGeneral dot_S2x4x2112x128_S2x4x2112x128_S2x4x2112x2112_3_3_2_2_01_01 none d v

/-- The sum in the quotient's second part, with its sign. -/
def dtotal (e dp : FVec Ideal S2x4x2112x2112 .f32) (l : FVec Ideal S2x4x2112x1 .f32) : FVec Ideal S2x4x2112 .f32 :=
  Host.reduceAdd (negf (shapeCast S2x4x2112x1 (Host.reduceAdd (mulf (mulf dp
      (broadcastInDim S2x4x2112x2112 ![0, 1, 2, 3] bcast_S2x4x2112x1_S2x4x2112x2112_0_1_2_3
        (Host.divf (broadcastInDim S2x4x2112x1 ![] bcast_S_S2x4x2112x1 (constant S_ .f32 0x3F800000#32)) (mulf l l)))) e)
      (constant S_ .f32 0x00000000#32) reducesTo_S2x4x2112x2112_S2x4x2112_d3 h_S_) shapeCasts_S2x4x2112_S2x4x2112x1))
    (constant S_ .f32 0x00000000#32) reducesTo_S2x4x2112x1_S2x4x2112_d3 h_S_

/-- The gradients of the logits. -/
def dlogit (e dp : FVec Ideal S2x4x2112x2112 .f32) (l : FVec Ideal S2x4x2112x1 .f32) : FVec Ideal S2x4x2112x2112 .f32 :=
  mulf (select mask (mulf (addf (Host.divf dp (broadcastInDim S2x4x2112x2112 ![0, 1, 2, 3] bcast_S2x4x2112x1_S2x4x2112x2112_0_1_2_3 l))
      (broadcastInDim S2x4x2112x2112 ![0, 1, 2] bcast_S2x4x2112_S2x4x2112x2112_0_1_2 (dtotal e dp l))) e)
      (broadcastInDim S2x4x2112x2112 ![] bcast_S_S2x4x2112x2112 (constant S_ .f32 0x00000000#32)))
    (broadcastInDim S2x4x2112x2112 ![] bcast_S_S2x4x2112x2112 (constant S_ .f32 0x3D93CD3A#32))

/-- The queries' gradient in the arguments' layout. -/
def outq (g : FVec Ideal S2x4x2112x2112 .f32) (k : FVec Ideal S2x4x2112x256 .f32) : FVec Ideal S4x4224x256 .bf16 :=
  truncf .bf16 (shapeCast _ (transpose S4x2x2112x256 [1, 0, 2, 3] (Host.dotGeneral dot_S2x4x2112x2112_S2x4x2112x256_S2x4x2112x256_3_2_2_3_01_01 none g k)
    transposes_S2x4x2112x256_S4x2x2112x256_1_0_2_3) shapeCasts_S4x2x2112x256_S4x4224x256) bitsLt_bf16_f32

/-- The keys' gradient in the arguments' layout. -/
def outk (g : FVec Ideal S2x4x2112x2112 .f32) (q : FVec Ideal S2x4x2112x256 .f32) : FVec Ideal S4x4224x256 .bf16 :=
  truncf .bf16 (shapeCast _ (transpose S4x2x2112x256 [1, 0, 2, 3] (Host.dotGeneral dot_S2x4x2112x2112_S2x4x2112x256_S2x4x2112x256_2_2_3_3_01_01 none g q)
    transposes_S2x4x2112x256_S4x2x2112x256_1_0_2_3) shapeCasts_S4x2x2112x256_S4x4224x256) bitsLt_bf16_f32

/-- The values' gradient in the arguments' layout. -/
def outv (d : FVec Ideal S2x4x2112x128 .f32) (e : FVec Ideal S2x4x2112x2112 .f32) (l : FVec Ideal S2x4x2112x1 .f32) : FVec Ideal S4x4224x128 .bf16 :=
  truncf .bf16 (shapeCast _ (transpose S4x2x2112x128 [1, 0, 2, 3] (transpose S2x4x2112x128 [0, 1, 3, 2]
    (Host.dotGeneral dot_S2x4x2112x128_S2x4x2112x2112_S2x4x128x2112_2_2_3_3_01_01 none d
      (Host.divf e (broadcastInDim S2x4x2112x2112 ![0, 1, 2, 3] bcast_S2x4x2112x1_S2x4x2112x2112_0_1_2_3 l)))
    transposes_S2x4x128x2112_S2x4x2112x128_0_1_3_2) transposes_S2x4x2112x128_S4x2x2112x128_1_0_2_3) shapeCasts_S4x2x2112x128_S4x4224x128) bitsLt_bf16_f32

variable (m : (ℓ : Loc nD τ sig) → Buf (Elt Ideal) ℓ) (c : Dev nD)

/-- The queries. -/
abbrev argq : FVec Ideal S4x4224x256 .bf16 := m ((c.tc : Thread nD τ).loc main_arg0)
/-- The keys. -/
abbrev argk : FVec Ideal S4x4224x256 .bf16 := m ((c.tc : Thread nD τ).loc main_arg1)
/-- The values. -/
abbrev argv : FVec Ideal S4x4224x128 .bf16 := m ((c.tc : Thread nD τ).loc main_arg2)
/-- The gradient of the attention's result. -/
abbrev argd : FVec Ideal S4224x512 .f32 := m ((c.tc : Thread nD τ).loc main_arg3)

/-- The exponentials and their sums over whole arguments. -/
def expoOf (q k : FVec Ideal S4x4224x256 .bf16) : FVec Ideal S2x4x2112x2112 .f32 :=
  expo (logit (wide q) (wide k)) (top (logit (wide q) (wide k)))

/-- The logits' gradients over whole arguments. -/
def dlogitOf (q k : FVec Ideal S4x4224x256 .bf16) (v : FVec Ideal S4x4224x128 .bf16) (d : FVec Ideal S4224x512 .f32) : FVec Ideal S2x4x2112x2112 .f32 :=
  dlogit (expoOf q k) (dweight (grad d) (narrow v)) (total (expoOf q k))

/-- The reference's first result by its stages. -/
theorem out0_eq : Value.res_out0 m c = outq (dlogitOf (argq m c) (argk m c) (argv m c) (argd m c)) (wide (argk m c)) := rfl
/-- The reference's second result by its stages. -/
theorem out1_eq : Value.res_out1 m c = outk (dlogitOf (argq m c) (argk m c) (argv m c) (argd m c)) (wide (argq m c)) := rfl
/-- The reference's third result by its stages. -/
theorem out2_eq : Value.res_out2 m c = outv (grad (argd m c)) (expoOf (argq m c) (argk m c)) (total (expoOf (argq m c) (argk m c))) := rfl

/-! ## Each stage at an index -/

/-- Floor division of a row number by the chunk length, word by word. -/
theorem cid_word : ∀ i : Fin 2112, Scalar.select
      (IntOp.andi
        (IntOp.cmpi CmpIPredicate.ne
          (if BitVec.ofNat 32 i.val = 0 then (0 : BitVec 32) else if (BitVec.ofNat 32 i.val).msb = true then -1 else 1)
          (if 64#32 = 0 then 0 else if (64#32).msb = true then -1 else 1))
        (IntOp.cmpi CmpIPredicate.ne (IntOp.remsi ArithUnit.host (BitVec.ofNat 32 i.val) 64#32) 0#32))
      (IntOp.subi (IntOp.divsi ArithUnit.host (BitVec.ofNat 32 i.val) 64#32) 1#32)
      (IntOp.divsi ArithUnit.host (BitVec.ofNat 32 i.val) 64#32) = BitVec.ofNat 32 (i.val / 64) := by decide +kernel

/-- Two chunk numbers compared as words. -/
theorem sle_word : ∀ a b : Fin 33, IntOp.cmpi .sle (BitVec.ofNat 32 a.val) (BitVec.ofNat 32 b.val) = if a.val ≤ b.val then 1#1 else 0#1 := by
  decide +kernel

/-- A row's chunk is its number over the chunk length. -/
theorem cid_at (i : Fin 2112) : cid (ix1 i) = BitVec.ofNat 32 (i.val / 64) := by
  pointwise [cid]
  exact cid_word i

/-- A row sees the keys of its chunk and of the chunks before. -/
theorem mask_at (b : Fin 2) (h : Fin 4) (r k : Fin 2112) : mask (ix4 b h r k) = if k.val / 64 ≤ r.val / 64 then 1#1 else 0#1 := by
  pointwise [mask]
  rw [cid_at, cid_at]
  exact sle_word ⟨k.val / 64, by omega⟩ ⟨r.val / 64, by omega⟩

/-- Where a query or key lies in the argument. -/
theorem wide_at (q : FVec Ideal S4x4224x256 .bf16) (b : Fin 2) (h : Fin 4) (r : Fin 2112) (d : Fin 256) :
    wide q (ix4 b h r d) = q (ix3 h ⟨b.val * 2112 + r.val, by omega⟩ d) := by
  pointwise [wide]

/-- Where a value lies in the argument. -/
theorem narrow_at (v : FVec Ideal S4x4224x128 .bf16) (b : Fin 2) (h : Fin 4) (r : Fin 2112) (d : Fin 128) :
    narrow v (ix4 b h r d) = v (ix3 h ⟨b.val * 2112 + r.val, by omega⟩ d) := by
  pointwise [narrow]

/-- Where an element of the result's gradient lies in the argument. -/
theorem grad_at (g : FVec Ideal S4224x512 .f32) (b : Fin 2) (h : Fin 4) (r : Fin 2112) (d : Fin 128) :
    grad g (ix4 b h r d) = g (ix2 ⟨b.val * 2112 + r.val, by omega⟩ ⟨h.val * 128 + d.val, by omega⟩) := by
  pointwise [grad]

/-- A masked logit at its indices. -/
theorem logit_at (q k : FVec Ideal S2x4x2112x256 .f32) (b : Fin 2) (h : Fin 4) (r c : Fin 2112) :
    logit q k (ix4 b h r c) = if c.val / 64 ≤ r.val / 64 then (∑ d : Fin 256, q (ix4 b h r d) * k (ix4 b h c d)) * Ideal.ofBits .f32 0x3D93CD3A#32 else ⊥ := by
  pointwise [logit]
  rw [mask_at]
  split
  · rfl
  · exact Attn.ofBits_neg_inf

/-- A row's greatest logit at its index. -/
theorem top_at (s : FVec Ideal S2x4x2112x2112 .f32) (b : Fin 2) (h : Fin 4) (r : Fin 2112) :
    top s (ix3 b h r) = Finset.univ.fold max ⊥ fun c : Fin 2112 => s (ix4 b h r c) := by
  pointwise [top]
  rw [Attn.ofBits_neg_inf]

/-- A shifted exponential at its indices. -/
theorem expo_at (s : FVec Ideal S2x4x2112x2112 .f32) (t : FVec Ideal S2x4x2112 .f32) (b : Fin 2) (h : Fin 4) (r c : Fin 2112) :
    expo s t (ix4 b h r c) = Ideal.exp (s (ix4 b h r c) - t (ix3 b h r)) := by
  pointwise [expo]
  rw [Attn.ofBits_neg_inf, max_eq_right bot_le]

/-- The sum of a row's exponentials at its index. -/
theorem total_at (e : FVec Ideal S2x4x2112x2112 .f32) (b : Fin 2) (h : Fin 4) (r : Fin 2112) (z : Fin 1) :
    total e (ix4 b h r z) = ∑ c : Fin 2112, e (ix4 b h r c) := by
  pointwise [total]

/-- A weight's gradient at its indices. -/
theorem dweight_at (g v : FVec Ideal S2x4x2112x128 .f32) (b : Fin 2) (h : Fin 4) (r c : Fin 2112) :
    dweight g v (ix4 b h r c) = ∑ d : Fin 128, g (ix4 b h r d) * v (ix4 b h c d) := by
  pointwise [dweight]

/-- The gradient of a row's sum at its index. -/
theorem dtotal_at (e dp : FVec Ideal S2x4x2112x2112 .f32) (l : FVec Ideal S2x4x2112x1 .f32) (b : Fin 2) (h : Fin 4) (r : Fin 2112) :
    dtotal e dp l (ix3 b h r)
      = -∑ c : Fin 2112, dp (ix4 b h r c) * Ideal.div 1 (l (ix4 b h r 0) * l (ix4 b h r 0)) * e (ix4 b h r c) := by
  pointwise [dtotal]
  rw [Fin.sum_univ_one]

/-- A logit's gradient at its indices. -/
theorem dlogit_at (e dp : FVec Ideal S2x4x2112x2112 .f32) (l : FVec Ideal S2x4x2112x1 .f32) (b : Fin 2) (h : Fin 4) (r c : Fin 2112) :
    dlogit e dp l (ix4 b h r c) = (if c.val / 64 ≤ r.val / 64
        then (Ideal.div (dp (ix4 b h r c)) (l (ix4 b h r 0)) + dtotal e dp l (ix3 b h r)) * e (ix4 b h r c) else 0) * Ideal.ofBits .f32 0x3D93CD3A#32 := by
  pointwise [dlogit]
  rw [mask_at]
  split
  · rfl
  · rw [zero_mul]; rfl

/-- The queries' gradient at an index. -/
theorem outq_at (g : FVec Ideal S2x4x2112x2112 .f32) (k : FVec Ideal S2x4x2112x256 .f32) (b : Fin 2) (h : Fin 4) (r : Fin 2112) (d : Fin 256) :
    outq g k (ix3 h ⟨b.val * 2112 + r.val, by omega⟩ d) = ∑ c : Fin 2112, g (ix4 b h r c) * k (ix4 b h c d) := by
  pointwise [outq]

/-- The keys' gradient at an index. -/
theorem outk_at (g : FVec Ideal S2x4x2112x2112 .f32) (q : FVec Ideal S2x4x2112x256 .f32) (b : Fin 2) (h : Fin 4) (c : Fin 2112) (d : Fin 256) :
    outk g q (ix3 h ⟨b.val * 2112 + c.val, by omega⟩ d) = ∑ r : Fin 2112, g (ix4 b h r c) * q (ix4 b h r d) := by
  pointwise [outk]

/-- The values' gradient at an index. -/
theorem outv_at (g : FVec Ideal S2x4x2112x128 .f32) (e : FVec Ideal S2x4x2112x2112 .f32) (l : FVec Ideal S2x4x2112x1 .f32)
    (b : Fin 2) (h : Fin 4) (c : Fin 2112) (d : Fin 128) :
    outv g e l (ix3 h ⟨b.val * 2112 + c.val, by omega⟩ d)
      = ∑ r : Fin 2112, g (ix4 b h r d) * Ideal.div (e (ix4 b h r c)) (l (ix4 b h r 0)) := by
  pointwise [outv]

end Cert.ReferenceIdeal.Stage

end
-- ==== Proof.Host.lean ====
/- What the host hands the kernel besides the arguments: the attention's result and the logarithms of the rows' sums, each read at an index. -/
module

public import proofs.«01_k».proof.Proof.RefStages
public import proofs.«01_k».proof.Proof.Gen.KernelIdeal.Value

@[expose] public section

set_option maxRecDepth 16384

noncomputable section

namespace Cert.KernelIdeal.Host

open Cert.KernelIdeal Cert.KernelIdeal.Gen Idealize.ShloMosaic Idealize.ShloMosaic.TcCoe Idealize.SL.Sem
open Cert.ReferenceIdeal.Stage (logit top total wide narrow)

/-- The shifted exponentials. -/
def expo (s : FVec Ideal S2x4x2112x2112 .f32) (t : FVec Ideal S2x4x2112 .f32) : FVec Ideal S2x4x2112x2112 .f32 :=
  Host.exp (subf s (broadcastInDim S2x4x2112x2112 ![0, 1, 2, 3] bcast_S2x4x2112x1_S2x4x2112x2112_0_1_2_3
    (broadcastInDim S2x4x2112x1 ![0, 1, 2] bcast_S2x4x2112_S2x4x2112x1_0_1_2 t)))

/-- The attention's result, the heads side by side. -/
def outcome (e : FVec Ideal S2x4x2112x2112 .f32) (l : FVec Ideal S2x4x2112x1 .f32) (v : FVec Ideal S2x4x2112x128 .f32) : FVec Ideal S4224x512 .f32 :=
  shapeCast S4224x512 (transpose S2x2112x4x128 [0, 2, 1, 3] (Host.dotGeneral dot_S2x4x2112x2112_S2x4x2112x128_S2x4x2112x128_3_2_2_3_01_01 none
    (Host.divf e (broadcastInDim S2x4x2112x2112 ![0, 1, 2, 3] bcast_S2x4x2112x1_S2x4x2112x2112_0_1_2_3 l)) v)
    transposes_S2x4x2112x128_S2x2112x4x128_0_2_1_3) shapeCasts_S2x2112x4x128_S4224x512

/-- The logarithms of the rows' sums, in the arguments' layout. -/
def lse (t : FVec Ideal S2x4x2112 .f32) (l : FVec Ideal S2x4x2112x1 .f32) : FVec Ideal S4x4224x1 .f32 :=
  shapeCast S4x4224x1 (transpose S4x2x2112x1 [1, 0, 2, 3] (addf (broadcastInDim S2x4x2112x1 ![0, 1, 2] bcast_S2x4x2112_S2x4x2112x1_0_1_2 t) (Host.log l))
    transposes_S2x4x2112x1_S4x2x2112x1_1_0_2_3) shapeCasts_S4x2x2112x1_S4x4224x1

variable (m : (ℓ : Loc nD τ sig) → Buf (Elt Ideal) ℓ) (c : Dev nD)

/-- The queries. -/
abbrev argq : FVec Ideal S4x4224x256 .bf16 := m ((c.tc : Thread nD τ).loc main_arg0)
/-- The keys. -/
abbrev argk : FVec Ideal S4x4224x256 .bf16 := m ((c.tc : Thread nD τ).loc main_arg1)
/-- The values. -/
abbrev argv : FVec Ideal S4x4224x128 .bf16 := m ((c.tc : Thread nD τ).loc main_arg2)
/-- The gradient of the attention's result. -/
abbrev argd : FVec Ideal S4224x512 .f32 := m ((c.tc : Thread nD τ).loc main_arg3)

/-- The exponentials over whole arguments. -/
def expoOf (q k : FVec Ideal S4x4224x256 .bf16) : FVec Ideal S2x4x2112x2112 .f32 := expo (logit (wide q) (wide k)) (top (logit (wide q) (wide k)))

/-- The kernel's fourth operand is the attention's result. -/
theorem entry_o : Gen.V m c main_v32 = outcome (expoOf (argq m c) (argk m c)) (total (expoOf (argq m c) (argk m c))) (narrow (argv m c)) := by
  unfold V
  simp only [hostOps0, hostOps0_1, hostOps0_2, hostOps0_3, hostOps0_4, List.flatten_cons, List.flatten_nil, List.cons_append, List.nil_append, List.append_nil,
    StableHlo.TRef.binary, StableHlo.TRef.nullary, StableHlo.TRef.ternary, StableHlo.TRef.unary, StableHlo.TRef.toBuf, StableHlo.TRef.ofBuf, cast_eq]
  after_results_simp
  rfl

/-- The kernel's fifth operand is the logarithms of the rows' sums. -/
theorem entry_lse : Gen.V m c main_v36 = lse (top (logit (wide (argq m c)) (wide (argk m c)))) (total (expoOf (argq m c) (argk m c))) := by
  unfold V
  simp only [hostOps0, hostOps0_1, hostOps0_2, hostOps0_3, hostOps0_4, List.flatten_cons, List.flatten_nil, List.cons_append, List.nil_append, List.append_nil,
    StableHlo.TRef.binary, StableHlo.TRef.nullary, StableHlo.TRef.ternary, StableHlo.TRef.unary, StableHlo.TRef.toBuf, StableHlo.TRef.ofBuf, cast_eq]
  after_results_simp
  rfl

/-- An exponential at an index: of the logit less the row's shift. -/
theorem expo_at (s : FVec Ideal S2x4x2112x2112 .f32) (t : FVec Ideal S2x4x2112 .f32) (b : Fin 2) (h : Fin 4) (r k : Fin 2112) :
    expo s t (ix4 b h r k) = Ideal.exp (s (ix4 b h r k) - t (ix3 b h r)) := by
  pointwise [expo]

/-- The attention's result at a row and a column: the weights against the values. -/
theorem outcome_at (e : FVec Ideal S2x4x2112x2112 .f32) (l : FVec Ideal S2x4x2112x1 .f32) (v : FVec Ideal S2x4x2112x128 .f32)
    (b : Fin 2) (h : Fin 4) (r : Fin 2112) (d : Fin 128) :
    outcome e l v (ix2 ⟨b.val * 2112 + r.val, by omega⟩ ⟨h.val * 128 + d.val, by omega⟩)
      = ∑ k : Fin 2112, Ideal.div (e (ix4 b h r k)) (l (ix4 b h r 0)) * v (ix4 b h k d) := by
  pointwise [outcome]

/-- The logarithm of a row's sum, at its head and row. -/
theorem lse_at (t : FVec Ideal S2x4x2112 .f32) (l : FVec Ideal S2x4x2112x1 .f32) (b : Fin 2) (h : Fin 4) (r : Fin 2112) :
    lse t l (ix3 h ⟨b.val * 2112 + r.val, by omega⟩ 0) = t (ix3 b h r) + Ideal.log (l (ix4 b h r 0)) := by
  pointwise [lse]

end Cert.KernelIdeal.Host

end
-- ==== Proof.Lift.lean ====
/- On finite arguments every stage of the reference, and what the host hands the kernel, is a real number: the one `Spec` names. -/
module

public import proofs.«01_k».proof.Proof.Host
public import proofs.«01_k».proof.Proof.Tile
public import Idealize.ShloMosaic.PureOps.Ideal.Laws

@[expose] public section

set_option maxRecDepth 16384

noncomputable section

namespace Cert.Lift

open Cert.ReferenceIdeal Cert.ReferenceIdeal.Stage Cert.Attn Idealize.ShloMosaic Idealize.ShloMosaic.TcCoe Idealize.SL.Sem

/-- An array of real numbers. -/
def Real {s : Shape} {φ : FTy} (x : FVec Ideal s φ) : Prop := ∀ i, x i = (((x i : EReal).toReal : ℝ) : EReal)

variable {q k : FVec Ideal S4x4224x256 .bf16} {v : FVec Ideal S4x4224x128 .bf16} {d : FVec Ideal S4224x512 .f32}

/-- One example and head of whole arguments. -/
def headOf (q k : FVec Ideal S4x4224x256 .bf16) (v : FVec Ideal S4x4224x128 .bf16) (d : FVec Ideal S4224x512 .f32) (b : Fin 2) (h : Fin 4) : Head where
  Q r e := (q (ix3 h ⟨b.val * 2112 + r.val, by omega⟩ e) : EReal).toReal
  K r e := (k (ix3 h ⟨b.val * 2112 + r.val, by omega⟩ e) : EReal).toReal
  V r e := (v (ix3 h ⟨b.val * 2112 + r.val, by omega⟩ e) : EReal).toReal
  D r e := (d (ix2 ⟨b.val * 2112 + r.val, by omega⟩ ⟨h.val * 128 + e.val, by omega⟩) : EReal).toReal
  M r := (top (logit (wide q) (wide k)) (ix3 b h r) : EReal).toReal

variable (b : Fin 2) (h : Fin 4)

/-- The queries by example, head and row are the example's and head's own. -/
theorem wide_q (hq : Real q) (r : Fin 2112) (e : Fin 256) : wide q (ix4 b h r e) = (((headOf q k v d b h).Q r e : ℝ) : EReal) :=
  (wide_at q b h r e).trans (hq _)

/-- The keys by example, head and row are the example's and head's own. -/
theorem wide_k (hk : Real k) (r : Fin 2112) (e : Fin 256) : wide k (ix4 b h r e) = (((headOf q k v d b h).K r e : ℝ) : EReal) :=
  (wide_at k b h r e).trans (hk _)

/-- The values by example, head and row are the example's and head's own. -/
theorem narrow_v (hv : Real v) (r : Fin 2112) (e : Fin 128) : narrow v (ix4 b h r e) = (((headOf q k v d b h).V r e : ℝ) : EReal) :=
  (narrow_at v b h r e).trans (hv _)

/-- The result's gradient by example, head and row is the example's and head's own. -/
theorem grad_d (hd : Real d) (r : Fin 2112) (e : Fin 128) : grad d (ix4 b h r e) = (((headOf q k v d b h).D r e : ℝ) : EReal) :=
  (grad_at d b h r e).trans (hd _)

/-- The logits: real where a row sees the key, minus infinity elsewhere. -/
theorem logit_real (hq : Real q) (hk : Real k) (r c : Fin 2112) :
    logit (wide q) (wide k) (ix4 b h r c) = if c.val / 64 ≤ r.val / 64 then (((headOf q k v d b h).s r c : ℝ) : EReal) else ⊥ := by
  rw [logit_at, ← (headOf q k v d b h).logit_coe r c]
  simp only [wide_q (k := k) (v := v) (d := d) b h hq, wide_k (q := q) (v := v) (d := d) b h hk]

/-- A row's greatest logit is real: the row sees itself. -/
theorem top_real (hq : Real q) (hk : Real k) (r : Fin 2112) :
    top (logit (wide q) (wide k)) (ix3 b h r) = (((headOf q k v d b h).M r : ℝ) : EReal) := by
  have hlt : top (logit (wide q) (wide k)) (ix3 b h r) < ⊤ := by
    rw [top_at]
    refine (Finset.fold_max_lt _).mpr ⟨bot_lt_top, fun c _ => ?_⟩
    rw [logit_real (v := v) (d := d) b h hq hk]
    split
    · exact EReal.coe_lt_top _
    · exact bot_lt_top
  have hgt : ⊥ < top (logit (wide q) (wide k)) (ix3 b h r) := by
    rw [top_at]
    refine (Finset.lt_fold_max _).mpr (.inr ⟨r, Finset.mem_univ _, ?_⟩)
    rw [logit_real (v := v) (d := d) b h hq hk, if_pos le_rfl]
    exact EReal.bot_lt_coe _
  have hM : (headOf q k v d b h).M r = (top (logit (wide q) (wide k)) (ix3 b h r) : EReal).toReal := by simp only [headOf]
  rw [hM, EReal.coe_toReal hlt.ne hgt.ne']

/-- A shifted exponential. -/
theorem exp_real (hq : Real q) (hk : Real k) (r c : Fin 2112) :
    Ideal.exp (logit (wide q) (wide k) (ix4 b h r c) - top (logit (wide q) (wide k)) (ix3 b h r)) = (((headOf q k v d b h).e r c : ℝ) : EReal) := by
  rw [logit_real (v := v) (d := d) b h hq hk, top_real (v := v) (d := d) b h hq hk, Head.e]
  split
  · rw [← EReal.coe_sub, Ideal.exp_coe]
  · rw [EReal.bot_sub, Ideal.exp_bot, EReal.coe_zero]

/-- The reference's exponentials are the real ones. -/
theorem expo_real (hq : Real q) (hk : Real k) (r c : Fin 2112) : expoOf q k (ix4 b h r c) = (((headOf q k v d b h).e r c : ℝ) : EReal) := by
  rw [expoOf, Stage.expo_at, exp_real b h hq hk]

/-- The exponentials that the host computes for the kernel are the real ones. -/
theorem host_expo_real (hq : Real q) (hk : Real k) (r c : Fin 2112) :
    KernelIdeal.Host.expoOf q k (ix4 b h r c) = (((headOf q k v d b h).e r c : ℝ) : EReal) :=
  (KernelIdeal.Host.expo_at _ _ b h r c).trans (exp_real b h hq hk r c)

/-- The sums of a row's exponentials are real. -/
theorem total_real {e : FVec Ideal S2x4x2112x2112 .f32} (he : ∀ r c, e (ix4 b h r c) = (((headOf q k v d b h).e r c : ℝ) : EReal)) (r : Fin 2112) (z : Fin 1) :
    total e (ix4 b h r z) = (((headOf q k v d b h).l r : ℝ) : EReal) := by
  rw [total_at, Head.l, coe_sum]
  exact Finset.sum_congr rfl fun c _ => he r c

/-- A real number over a row's sum is the real quotient: the sum is positive. -/
theorem div_real (x : Head) (r : Fin 2112) (a : ℝ) : Ideal.div (a : EReal) (x.l r : EReal) = ((a / x.l r : ℝ) : EReal) := by
  rw [Ideal.div_coe (x.l_pos r).ne', ← EReal.coe_mul, mul_one_div]

/-- The gradients of the weights are real. -/
theorem dweight_real (hv : Real v) (hd : Real d) (r c : Fin 2112) :
    dweight (grad d) (narrow v) (ix4 b h r c) = (((headOf q k v d b h).dp r c : ℝ) : EReal) := by
  rw [dweight_at, Head.dp, coe_sum]
  refine Finset.sum_congr rfl fun e _ => ?_
  rw [grad_d (q := q) (k := k) (v := v) b h hd, narrow_v (q := q) (k := k) (d := d) b h hv, EReal.coe_mul]

/-- The gradients of the logits are the real ones. -/
theorem dlogit_real (hq : Real q) (hk : Real k) (hv : Real v) (hd : Real d) (r c : Fin 2112) :
    dlogitOf q k v d (ix4 b h r c) = (((headOf q k v d b h).ds r c : ℝ) : EReal) := by
  have he := expo_real (v := v) (d := d) b h hq hk
  have hl := total_real b h he
  have hdp := dweight_real (q := q) (k := k) b h hv hd
  have hone : (1 : EReal) = ((1 : ℝ) : EReal) := EReal.coe_one.symm
  have hsum : dtotal (expoOf q k) (dweight (grad d) (narrow v)) (total (expoOf q k)) (ix3 b h r)
      = ((-∑ c', (headOf q k v d b h).dp r c' * (1 / ((headOf q k v d b h).l r * (headOf q k v d b h).l r)) * (headOf q k v d b h).e r c' : ℝ) : EReal) := by
    rw [dtotal_at, EReal.coe_neg, coe_sum]
    refine congrArg (fun t : EReal => -t) ?_
    refine Finset.sum_congr rfl fun c' _ => ?_
    rw [hdp, hl, he, ← EReal.coe_mul, Ideal.div_coe (mul_pos ((headOf q k v d b h).l_pos r) ((headOf q k v d b h).l_pos r)).ne', hone,
      ← EReal.coe_mul, ← EReal.coe_mul, ← EReal.coe_mul, one_mul]
  rw [dlogitOf, dlogit_at, hsum, hdp, hl, he, ofBits_scale]
  split
  · rw [div_real, ← EReal.coe_add, ← EReal.coe_mul, ← EReal.coe_mul, (headOf q k v d b h).ds_quotient r c]
  · rename_i hm
    rw [(headOf q k v d b h).ds_masked hm, zero_mul, EReal.coe_zero]

/-- The reference's gradient of the queries. -/
theorem ref_dq (hq : Real q) (hk : Real k) (hv : Real v) (hd : Real d) (r : Fin 2112) (e : Fin 256) :
    outq (dlogitOf q k v d) (wide k) (ix3 h ⟨b.val * 2112 + r.val, by omega⟩ e) = (((headOf q k v d b h).dq r e : ℝ) : EReal) := by
  rw [outq_at, Head.dq, coe_sum]
  refine Finset.sum_congr rfl fun c _ => ?_
  rw [dlogit_real b h hq hk hv hd, wide_k (q := q) (v := v) (d := d) b h hk, EReal.coe_mul]

/-- The reference's gradient of the keys. -/
theorem ref_dk (hq : Real q) (hk : Real k) (hv : Real v) (hd : Real d) (c : Fin 2112) (e : Fin 256) :
    outk (dlogitOf q k v d) (wide q) (ix3 h ⟨b.val * 2112 + c.val, by omega⟩ e) = (((headOf q k v d b h).dk c e : ℝ) : EReal) := by
  rw [outk_at, Head.dk, coe_sum]
  refine Finset.sum_congr rfl fun r _ => ?_
  rw [dlogit_real b h hq hk hv hd, wide_q (k := k) (v := v) (d := d) b h hq, EReal.coe_mul]

/-- The reference's gradient of the values. -/
theorem ref_dv (hq : Real q) (hk : Real k) (hd : Real d) (c : Fin 2112) (e : Fin 128) :
    outv (grad d) (expoOf q k) (total (expoOf q k)) (ix3 h ⟨b.val * 2112 + c.val, by omega⟩ e) = (((headOf q k v d b h).dv c e : ℝ) : EReal) := by
  rw [outv_at, Head.dv, coe_sum]
  refine Finset.sum_congr rfl fun r _ => ?_
  have he := expo_real (v := v) (d := d) b h hq hk
  rw [grad_d (q := q) (k := k) (v := v) b h hd, total_real b h he, he, div_real, Head.p, ← EReal.coe_mul, mul_comm]

/-- The attention's result, as the kernel gets it. -/
theorem host_o (hq : Real q) (hk : Real k) (hv : Real v) (r : Fin 2112) (e : Fin 128) :
    KernelIdeal.Host.outcome (KernelIdeal.Host.expoOf q k) (total (KernelIdeal.Host.expoOf q k)) (narrow v)
        (ix2 ⟨b.val * 2112 + r.val, by omega⟩ ⟨h.val * 128 + e.val, by omega⟩) = (((headOf q k v d b h).o r e : ℝ) : EReal) := by
  rw [KernelIdeal.Host.outcome_at, Head.o, coe_sum]
  refine Finset.sum_congr rfl fun c _ => ?_
  have he := host_expo_real (v := v) (d := d) b h hq hk
  rw [narrow_v (q := q) (k := k) (d := d) b h hv, he, total_real b h he, div_real, Head.p, EReal.coe_mul]

/-- The logarithms of the rows' sums, as the kernel gets them. -/
theorem host_lse (hq : Real q) (hk : Real k) (r : Fin 2112) :
    KernelIdeal.Host.lse (top (logit (wide q) (wide k))) (total (KernelIdeal.Host.expoOf q k)) (ix3 h ⟨b.val * 2112 + r.val, by omega⟩ 0)
      = (((headOf q k v d b h).M r + Real.log ((headOf q k v d b h).l r) : ℝ) : EReal) := by
  rw [KernelIdeal.Host.lse_at, top_real (v := v) (d := d) b h hq hk, total_real b h (host_expo_real (v := v) (d := d) b h hq hk), Ideal.log_coe,
    if_neg (not_le.mpr ((headOf q k v d b h).l_pos r)), EReal.coe_add]

end Cert.Lift

end
-- ==== Proof.Arrays.lean ====
/- The three arrays the kernel leaves are the reference's. -/
module

public import proofs.«01_k».proof.Proof.Body
public import proofs.«01_k».proof.Proof.Lift

@[expose] public section

set_option maxRecDepth 16384

noncomputable section

namespace Cert.KernelIdeal.Arrays

open Cert.KernelIdeal Cert.KernelIdeal.Gen Cert.KernelIdeal.Host Cert.Attn Cert.Lift Idealize.ShloMosaic Idealize.ShloMosaic.TcCoe Idealize.SL.Sem
open Idealize.ShloMosaic.Pipeline (Dat)

variable (m : (ℓ : Loc nD τ sig) → Buf (Elt Ideal) ℓ) (c : Dev nD)

/-- The example of a grid point. -/
def eg (t : Fin cfg0.N) : Fin 2 := ⟨t.val / 4, by have : t.val < 8 := t.isLt; omega⟩

/-- The head of a grid point. -/
def hd (t : Fin cfg0.N) : Fin 4 := ⟨t.val % 4, by omega⟩

/-- Where each window's block of a point lies. -/
theorem idx : ∀ t : Fin cfg0.N, win0_0.index t = ![(hd t).val, (eg t).val, 0] ∧ win0_1.index t = ![(hd t).val, (eg t).val, 0]
    ∧ win0_2.index t = ![(hd t).val, (eg t).val, 0] ∧ win0_3.index t = ![(eg t).val, (hd t).val] ∧ win0_4.index t = ![(hd t).val, (eg t).val, 0]
    ∧ win0_5.index t = ![(eg t).val, (hd t).val] ∧ win0_6.index t = ![(hd t).val, (eg t).val, 0] ∧ win0_7.index t = ![(hd t).val, (eg t).val, 0]
    ∧ win0_8.index t = ![(hd t).val, (eg t).val, 0] :=
  (by decide +kernel : ∀ t : Fin grid0.N, _)

/-- The row of the whole arrays that row `r` of a point's example is. -/
abbrev at_row (t : Fin cfg0.N) (r : Fin 2112) : Fin 4224 := ⟨(eg t).val * 2112 + r.val, by have := (eg t).isLt; omega⟩

/-- The column of the heads side by side that column `e` of a point's head is. -/
abbrev at_col (t : Fin cfg0.N) (e : Fin 128) : Fin 512 := ⟨(hd t).val * 128 + e.val, by have := (hd t).isLt; omega⟩

/-- A point's block of queries: its example's rows of its head. -/
theorem blk_q (t : Fin cfg0.N) (r : Fin 2112) (e : Fin 256) : (iblk m c 0 t : FVec Ideal S1x2112x256 .bf16) (ix3 0 r e) = argq m c (ix3 (hd t) (at_row t r) e) := by
  blk_ext [iblk, V, idx t]

/-- A point's block of keys: its example's rows of its head. -/
theorem blk_k (t : Fin cfg0.N) (r : Fin 2112) (e : Fin 256) : (iblk m c 1 t : FVec Ideal S1x2112x256 .bf16) (ix3 0 r e) = argk m c (ix3 (hd t) (at_row t r) e) := by
  blk_ext [iblk, V, idx t]

/-- A point's block of values: its example's rows of its head. -/
theorem blk_v (t : Fin cfg0.N) (r : Fin 2112) (e : Fin 128) : (iblk m c 2 t : FVec Ideal S1x2112x128 .bf16) (ix3 0 r e) = argv m c (ix3 (hd t) (at_row t r) e) := by
  blk_ext [iblk, V, idx t]

/-- Where a point's block of the attention's result, or of its gradient, lies in the whole array. -/
theorem emb3 (t : Fin cfg0.N) (r : Fin 2112) (e : Fin 128) : (win0_3.blk t).view.emb (ix2 r e) = ix2 (at_row t r) (at_col t e) := by
  blk_ext [idx t]

/-- Where a point's block of the rows' logarithms lies in the whole array. -/
theorem emb4 (t : Fin cfg0.N) (r : Fin 2112) : (win0_4.blk t).view.emb (ix3 0 r 0) = ix3 (hd t) (at_row t r) 0 := by
  blk_ext [idx t]

/-- The fourth window's block of any contents. -/
theorem read3 (t : Fin cfg0.N) (W : FVec Ideal S4224x512 .f32) (r : Fin 2112) (e : Fin 128) :
    (((cfg0.win 3).blk t).view.read (Elt Ideal) W : FVec Ideal S2112x128 .f32) (ix2 r e) = W (ix2 (at_row t r) (at_col t e)) :=
  congrArg W (emb3 t r e)

/-- The fifth window's block of any contents. -/
theorem read4 (t : Fin cfg0.N) (W : FVec Ideal S4x4224x1 .f32) (r : Fin 2112) :
    (((cfg0.win 4).blk t).view.read (Elt Ideal) W : FVec Ideal S1x2112x1 .f32) (ix3 0 r 0) = W (ix3 (hd t) (at_row t r) 0) :=
  congrArg W (emb4 t r)

/-- A point's block of the attention's result. -/
theorem blk_o (t : Fin cfg0.N) (r : Fin 2112) (e : Fin 128) : (iblk m c 3 t : FVec Ideal S2112x128 .f32) (ix2 r e) = Gen.V m c main_v32 (ix2 (at_row t r) (at_col t e)) :=
  read3 t (Gen.V m c main_v32) r e

/-- A point's block of the rows' logarithms. -/
theorem blk_lse (t : Fin cfg0.N) (r : Fin 2112) : (iblk m c 4 t : FVec Ideal S1x2112x1 .f32) (ix3 0 r 0) = Gen.V m c main_v36 (ix3 (hd t) (at_row t r) 0) :=
  read4 t (Gen.V m c main_v36) r

/-- A point's block of the gradient of the attention's result. -/
theorem blk_d (t : Fin cfg0.N) (r : Fin 2112) (e : Fin 128) : (iblk m c 5 t : FVec Ideal S2112x128 .f32) (ix2 r e) = argd m c (ix2 (at_row t r) (at_col t e)) := by
  blk_ext [iblk, V, idx t]

/-- Where a point's block of the queries' gradient lies in the whole array. -/
theorem emb6 (t : Fin cfg0.N) (r : Fin 2112) (e : Fin 256) : (win0_6.blk t).view.emb (ix3 0 r e) = ix3 (hd t) (at_row t r) e := by
  blk_ext [idx t]

/-- Where a point's block of the keys' gradient lies in the whole array. -/
theorem emb7 (t : Fin cfg0.N) (r : Fin 2112) (e : Fin 256) : (win0_7.blk t).view.emb (ix3 0 r e) = ix3 (hd t) (at_row t r) e := by
  blk_ext [idx t]

/-- Where a point's block of the values' gradient lies in the whole array. -/
theorem emb8 (t : Fin cfg0.N) (r : Fin 2112) (e : Fin 128) : (win0_8.blk t).view.emb (ix3 0 r e) = ix3 (hd t) (at_row t r) e := by
  blk_ext [idx t]

end Cert.KernelIdeal.Arrays

end
-- ==== Proof.Results.lean ====
/- The three arrays the kernel leaves, on finite arguments, are the reference's. -/
module

public import proofs.«01_k».proof.Proof.Arrays

@[expose] public section

set_option maxRecDepth 16384

noncomputable section

namespace Cert.KernelIdeal.Results

open Cert.KernelIdeal Cert.KernelIdeal.Gen Cert.KernelIdeal.Host Cert.KernelIdeal.Arrays Cert.Attn Cert.Lift Idealize.ShloMosaic Idealize.ShloMosaic.TcCoe Idealize.SL.Sem
open Idealize.ShloMosaic.Pipeline (Dat)

variable (m : (ℓ : Loc nD τ sig) → Buf (Elt Ideal) ℓ) (c : Dev nD)

/-- Every argument holds real numbers only. -/
structure Finite : Prop where
  q : Lift.Real (argq m c)
  k : Lift.Real (argk m c)
  v : Lift.Real (argv m c)
  d : Lift.Real (argd m c)

/-- The example and head of a grid point. -/
def headAt (t : Fin cfg0.N) : Head := headOf (argq m c) (argk m c) (argv m c) (argd m c) (eg t) (hd t)

/-- A point's input blocks are its example's and head's operands. -/
theorem holds (fin : Finite m c) (t : Fin cfg0.N) :
    Block.Holds (headAt m c t) (iblk m c 0 t) (iblk m c 1 t) (iblk m c 2 t) (iblk m c 3 t) (iblk m c 4 t) (iblk m c 5 t) where
  q r e := (blk_q m c t r e).trans (fin.q _)
  k r e := (blk_k m c t r e).trans (fin.k _)
  v r e := (blk_v m c t r e).trans (fin.v _)
  o r e := by
    rw [blk_o, entry_o]
    exact host_o (d := argd m c) (eg t) (hd t) fin.q fin.k fin.v r e
  l r := by
    rw [blk_lse, entry_lse]
    exact host_lse (v := argv m c) (d := argd m c) (eg t) (hd t) fin.q fin.k r
  d r e := (blk_d m c t r e).trans (fin.d _)

/-- The reference's three results over whole arguments. -/
abbrev refq : FVec Ideal S4x4224x256 .bf16 :=
  Cert.ReferenceIdeal.Stage.outq (Cert.ReferenceIdeal.Stage.dlogitOf (argq m c) (argk m c) (argv m c) (argd m c)) (Cert.ReferenceIdeal.Stage.wide (argk m c))
/-- The reference's gradient of the keys. -/
abbrev refk : FVec Ideal S4x4224x256 .bf16 :=
  Cert.ReferenceIdeal.Stage.outk (Cert.ReferenceIdeal.Stage.dlogitOf (argq m c) (argk m c) (argv m c) (argd m c)) (Cert.ReferenceIdeal.Stage.wide (argq m c))
/-- The reference's gradient of the values. -/
abbrev refv : FVec Ideal S4x4224x128 .bf16 :=
  Cert.ReferenceIdeal.Stage.outv (Cert.ReferenceIdeal.Stage.grad (argd m c)) (Cert.ReferenceIdeal.Stage.expoOf (argq m c) (argk m c))
    (Cert.ReferenceIdeal.Stage.total (Cert.ReferenceIdeal.Stage.expoOf (argq m c) (argk m c)))

/-- What a point leaves of the queries' gradient. -/
theorem left_q (fin : Finite m c) (t : Fin cfg0.N) (r : Fin 2112) (e : Fin 256) :
    ((outsAt0 m c t).1 : FVec Ideal S1x2112x256 .bf16) (ix3 0 r e) = refq m c (ix3 (hd t) (at_row t r) e) := by
  unfold outsAt0
  dsimp only
  unfold out0_A_6
  rw [View.read_writes_junk_eq_canon]
  refine (Block.outq c (holds m c fin t) r e).trans ?_
  exact (ref_dq (eg t) (hd t) fin.q fin.k fin.v fin.d r e).symm

/-- What a point leaves of the keys' gradient. -/
theorem left_k (fin : Finite m c) (t : Fin cfg0.N) (r : Fin 2112) (e : Fin 256) :
    ((outsAt0 m c t).2.1 : FVec Ideal S1x2112x256 .bf16) (ix3 0 r e) = refk m c (ix3 (hd t) (at_row t r) e) := by
  unfold outsAt0
  dsimp only
  unfold out0_A_7
  rw [View.read_writes_junk_eq_canon]
  refine (Block.outk c (holds m c fin t) r e).trans ?_
  exact (ref_dk (eg t) (hd t) fin.q fin.k fin.v fin.d r e).symm

/-- What a point leaves of the values' gradient. -/
theorem left_v (fin : Finite m c) (t : Fin cfg0.N) (r : Fin 2112) (e : Fin 128) :
    ((outsAt0 m c t).2.2 : FVec Ideal S1x2112x128 .bf16) (ix3 0 r e) = refv m c (ix3 (hd t) (at_row t r) e) := by
  unfold outsAt0
  dsimp only
  unfold out0_A_8
  rw [View.read_writes_junk_eq_canon]
  refine (Block.outv c (holds m c fin t) r e).trans ?_
  exact (ref_dv (v := argv m c) (eg t) (hd t) fin.q fin.k fin.d r e).symm

/-- An index of a block with a unit leading axis, by its row and column. -/
theorem split3 {L w : ℕ} (y : (⟨3, ![1, L, w]⟩ : Shape).Idx) : y = ix3 (n0 := 1) 0 (show Fin L from y 1) (show Fin w from y 2) := by
  funext a
  refine Fin.ext ?_
  match a with
  | ⟨0, _⟩ => exact Nat.lt_one_iff.mp (y 0).isLt
  | ⟨1, _⟩ => rfl
  | ⟨2, _⟩ => rfl

/-- The array of the queries' gradient. -/
theorem arr_q (fin : Finite m c) : (dats m 0 c).arrAt 6 cfg0.N = refq m c := by
  refine (dats m 0 c).arrAt_eq_of_covers 6 _ (by decide +kernel) fun t _ y => ?_
  blk_simp
  rw [after0_6]
  obtain ⟨r, e, rfl⟩ : ∃ (r : Fin 2112) (e : Fin 256), y = (ix3 0 r e : (⟨3, ![1, 2112, 256]⟩ : Shape).Idx) := ⟨_, _, split3 y⟩
  exact (left_q m c fin t r e).trans (congrArg (refq m c) (emb6 t r e)).symm

/-- The array of the keys' gradient. -/
theorem arr_k (fin : Finite m c) : (dats m 0 c).arrAt 7 cfg0.N = refk m c := by
  refine (dats m 0 c).arrAt_eq_of_covers 7 _ (by decide +kernel) fun t _ y => ?_
  blk_simp
  rw [after0_7]
  obtain ⟨r, e, rfl⟩ : ∃ (r : Fin 2112) (e : Fin 256), y = (ix3 0 r e : (⟨3, ![1, 2112, 256]⟩ : Shape).Idx) := ⟨_, _, split3 y⟩
  exact (left_k m c fin t r e).trans (congrArg (refk m c) (emb7 t r e)).symm

/-- The array of the values' gradient. -/
theorem arr_v (fin : Finite m c) : (dats m 0 c).arrAt 8 cfg0.N = refv m c := by
  refine (dats m 0 c).arrAt_eq_of_covers 8 _ (by decide +kernel) fun t _ y => ?_
  blk_simp
  rw [after0_8]
  obtain ⟨r, e, rfl⟩ : ∃ (r : Fin 2112) (e : Fin 128), y = (ix3 0 r e : (⟨3, ![1, 2112, 128]⟩ : Shape).Idx) := ⟨_, _, split3 y⟩
  exact (left_v m c fin t r e).trans (congrArg (refv m c) (emb8 t r e)).symm

end Cert.KernelIdeal.Results

end
-- ==== Proof.Scale.lean ====
/- The constants one half, the widths and their inverses, and a sum scaled by a real that is not negative. -/
module

public import Idealize.ShloMosaic.PureOps.Ideal.Laws
public import Idealize.ShloMosaic.Lib.IdealHost

@[expose] public section

noncomputable section

namespace Cert.Scale

open Idealize.ShloMosaic

/-- The word of one half. -/
theorem half : Ideal.ofBits .f32 0x3F000000#32 = ((1 / 2 : ℝ) : EReal) := by
  simp [Ideal.ofBits, Ideal.ieee, -EReal.coe_mul]
  norm_num

/-- A sum of extended reals times a real that is not negative. -/
theorem sum_scaled {ι : Type} (s : Finset ι) (f : ι → EReal) (a : ℝ) (ha : 0 ≤ a) : (∑ r ∈ s, f r) * (a : EReal) = ∑ r ∈ s, f r * (a : EReal) := by
  classical
  induction s using Finset.induction_on with
  | empty => simp
  | insert i s hi ih =>
    rw [Finset.sum_insert hi, Finset.sum_insert hi, ← ih]
    exact EReal.right_distrib_of_nonneg_of_ne_top (EReal.coe_nonneg.mpr ha) (EReal.coe_ne_top a) _ _

/-- The sum of products of real numbers is real. -/
theorem sum_real {ι : Type} (s : Finset ι) (f : ι → EReal) (hf : ∀ i, f i = (((f i).toReal : ℝ) : EReal)) :
    ∑ r ∈ s, f r = ((∑ r ∈ s, (f r).toReal : ℝ) : EReal) := by
  rw [Finset.sum_congr rfl fun i _ => hf i]
  exact (map_sum (⟨⟨Real.toEReal, EReal.coe_zero⟩, EReal.coe_add⟩ : ℝ →+ EReal) _ _).symm

/-- Half of a sum of extended reals. -/
theorem half_sum {ι : Type} (s : Finset ι) (f : ι → EReal) : Ideal.ofBits .f32 0x3F000000#32 * ∑ r ∈ s, f r = ∑ r ∈ s, Ideal.ofBits .f32 0x3F000000#32 * f r := by
  rw [half, mul_comm, sum_scaled _ _ _ (by norm_num)]
  exact Finset.sum_congr rfl fun r _ => mul_comm _ _

/-- The word of 1024. -/
theorem w1024 : Ideal.ofBits .f32 0x44800000#32 = ((1024 : ℝ) : EReal) := by
  simp [Ideal.ofBits, Ideal.ieee, -EReal.coe_mul]
  norm_num

/-- The word of 1024's inverse. -/
theorem winv1024 : Ideal.ofBits .f32 0x3A800000#32 = ((1 / 1024 : ℝ) : EReal) := by
  simp [Ideal.ofBits, Ideal.ieee, -EReal.coe_mul]
  norm_num

/-- The word of 512. -/
theorem w512 : Ideal.ofBits .f32 0x44000000#32 = ((512 : ℝ) : EReal) := by
  simp [Ideal.ofBits, Ideal.ieee, -EReal.coe_mul]
  norm_num

/-- The word of 512's inverse. -/
theorem winv512 : Ideal.ofBits .f32 0x3B000000#32 = ((1 / 512 : ℝ) : EReal) := by
  simp [Ideal.ofBits, Ideal.ieee, -EReal.coe_mul]
  norm_num

/-- Dividing by 1024 or multiplying by its inverse gives the same. -/
theorem div_1024 (x : EReal) : Ideal.div x (Ideal.ofBits .f32 0x44800000#32) = x * Ideal.ofBits .f32 0x3A800000#32 := by
  rw [w1024, winv1024, Ideal.div_coe (by norm_num)]

/-- Dividing by 512 or multiplying by its inverse gives the same. -/
theorem div_512 (x : EReal) : Ideal.div x (Ideal.ofBits .f32 0x44000000#32) = x * Ideal.ofBits .f32 0x3B000000#32 := by
  rw [w512, winv512, Ideal.div_coe (by norm_num)]

end Cert.Scale

end
-- ==== Proof.Act.lean ====
/- The activations' gradients: both arrays the kernel leaves are the reference's. -/
module

public import proofs.«01_k».proof.Proof.Gen.ActIdeal.Value
public import proofs.«01_k».proof.Proof.Gen.ActRefIdeal.Run
public import proofs.«01_k».proof.Proof.Scale
public import Idealize.ShloMosaic.Lib.Pointwise
public import Idealize.ShloMosaic.Lib.Pipeline.ValueKit

@[expose] public section

set_option maxRecDepth 16384

noncomputable section

namespace Cert.ActIdeal.Swiglu

open Cert.ActIdeal Cert.ActIdeal.Gen Cert.ActIdeal.Value Idealize.ShloMosaic Idealize.ShloMosaic.TcCoe Idealize.SL.Sem
open Idealize.ShloMosaic.Pipeline (Dat)

/-- The gradient of an activation from its sum of products: half of it. -/
def da (D : FVec Ideal S4224x1024 .bf16) (W : FVec Ideal S4x704x1024 .bf16) : FVec Ideal S4x4224x704 .f32 := fun i =>
  Ideal.ofBits .f32 0x3F000000#32 * ∑ k : Fin 1024, D (ix2 (i 1) k) * W (ix3 (i 0) (i 2) k)

/-- The gate's gradient. -/
def dgate (D : FVec Ideal S4224x1024 .bf16) (W : FVec Ideal S4x704x1024 .bf16) (G U : FVec Ideal S4x4224x704 .bf16) : FVec Ideal S4x4224x704 .bf16 := fun i =>
  (da D W i * U i) * (Ideal.logistic (G i) * (1 + G i * (1 - Ideal.logistic (G i))))

/-- The other factor's gradient. -/
def dup (D : FVec Ideal S4224x1024 .bf16) (W : FVec Ideal S4x704x1024 .bf16) (G : FVec Ideal S4x4224x704 .bf16) : FVec Ideal S4x4224x704 .bf16 := fun i =>
  da D W i * (G i * Ideal.logistic (G i))

variable (m : (ℓ : Loc nD τ sig) → Buf (Elt Ideal) ℓ) (c : Dev nD)

/-- The gradient of the sum of the products. -/
abbrev argD : FVec Ideal S4224x1024 .bf16 := m ((c : Thread nD τ).loc main_arg0)

/-- The down projection's weights. -/
abbrev argW : FVec Ideal S4x704x1024 .bf16 := m ((c : Thread nD τ).loc main_arg1)

/-- The gate. -/
abbrev argG : FVec Ideal S4x4224x704 .bf16 := m ((c : Thread nD τ).loc main_arg2)

/-- The other factor. -/
abbrev argU : FVec Ideal S4x4224x704 .bf16 := m ((c : Thread nD τ).loc main_arg3)

/-- Where each window's block of a point lies. -/
theorem idx : ∀ t : Fin cfg0.N, win0_0.index t = ![(grid0.coords t 1).val, 0] ∧ win0_1.index t = ![(grid0.coords t 0).val, 0, 0]
    ∧ win0_2.index t = ![(grid0.coords t 0).val, (grid0.coords t 1).val, 0] ∧ win0_3.index t = ![(grid0.coords t 0).val, (grid0.coords t 1).val, 0]
    ∧ win0_4.index t = ![(grid0.coords t 0).val, (grid0.coords t 1).val, 0] ∧ win0_5.index t = ![(grid0.coords t 0).val, (grid0.coords t 1).val, 0] :=
  (by decide +kernel : ∀ t : Fin grid0.N, _)

/-- The array of the gate's gradient. -/
theorem arr_gate : (dats m 0 c).arrAt 4 cfg0.N = dgate (argD m c) (argW m c) (argG m c) (argU m c) := by
  refine (dats m 0 c).arrAt_eq_of_covers 4 _ (by decide +kernel) fun t _ y => ?_
  blk_simp
  rw [after0_4]
  frame_out
  canon_tiles x h
  · pointwise [k0_pay4, k0_pay1, k0_pay2, k0_pay3, k0_pay6, k0_pay12, k0_pay13, k0_pay14, k0_pay15, dgate, da]
    blk_point [iblk, V, idx t]
  · pointwise [k0_pay6, k0_pay7, k0_pay8, k0_pay9, k0_pay10, dgate, da]
    blk_point [iblk, V, idx t]

/-- The array of the other factor's gradient. -/
theorem arr_up : (dats m 0 c).arrAt 5 cfg0.N = dup (argD m c) (argW m c) (argG m c) := by
  refine (dats m 0 c).arrAt_eq_of_covers 5 _ (by decide +kernel) fun t _ y => ?_
  blk_simp
  rw [after0_5]
  frame_out
  canon_tiles x h
  · pointwise [k0_pay5, k0_pay1, k0_pay2, k0_pay3, k0_pay6, k0_pay12, k0_pay13, k0_pay14, k0_pay15, dup, da]
    blk_point [iblk, V, idx t]
  · pointwise [k0_pay6, k0_pay7, k0_pay8, k0_pay9, k0_pay11, dup, da]
    blk_point [iblk, V, idx t]

end Cert.ActIdeal.Swiglu

end
-- ==== Proof.ActRef.lean ====
/- The reference's activation gradients, element by element. -/
module

public import proofs.«01_k».proof.Proof.Act

@[expose] public section

set_option maxRecDepth 16384

noncomputable section

namespace Cert.ActIdeal.Swiglu

open Cert.ActIdeal Idealize.ShloMosaic Idealize.ShloMosaic.TcCoe Idealize.SL.Sem

variable (D : FVec Ideal S4224x1024 .bf16) (W : FVec Ideal S4x704x1024 .bf16) (G U : FVec Ideal S4x4224x704 .bf16)

/-- The reference's gradient of the activations: it halves the rows before it sums. -/
abbrev refDa : FVec Ideal S4x4224x704 .f32 :=
  (transpose Cert.ActRefIdeal.S4x4224x704 [1, 0, 2] (Host.dotGeneral (F := Ideal) Cert.ActRefIdeal.dot_S4224x1024_S4x704x1024_S4224x4x704_1_2_0_01_n_n none (mulf (broadcastInDim Cert.ActRefIdeal.S4224x1024 ![] Cert.ActRefIdeal.Gen.bcast_S_S4224x1024 (constant Cert.ActRefIdeal.S_ .f32 0x3F000000#32)) (extf .f32 D Cert.ActRefIdeal.Gen.bitsLt_bf16_f32)) (extf .f32 W Cert.ActRefIdeal.Gen.bitsLt_bf16_f32)) Cert.ActRefIdeal.Gen.transposes_S4224x4x704_S4x4224x704_1_0_2)

/-- The reference's logistic function of the gate, in plain operations. -/
abbrev refSg : FVec Ideal S4x4224x704 .f32 :=
  (Host.divf (broadcastInDim Cert.ActRefIdeal.S4x4224x704 ![] Cert.ActRefIdeal.Gen.bcast_S_S4x4224x704 (constant Cert.ActRefIdeal.S_ .f32 0x3F800000#32)) (addf (broadcastInDim Cert.ActRefIdeal.S4x4224x704 ![] Cert.ActRefIdeal.Gen.bcast_S_S4x4224x704 (constant Cert.ActRefIdeal.S_ .f32 0x3F800000#32)) (Host.exp (Host.negf (extf .f32 G Cert.ActRefIdeal.Gen.bitsLt_bf16_f32)))))

/-- The reference's gradient of the gate. -/
abbrev refGate : FVec Ideal S4x4224x704 .bf16 :=
  truncf .bf16 (addf (mulf (mulf (refDa D W) (extf .f32 U Cert.ActRefIdeal.Gen.bitsLt_bf16_f32)) (refSg G)) (mulf (mulf (extf .f32 G Cert.ActRefIdeal.Gen.bitsLt_bf16_f32) (mulf (refDa D W) (extf .f32 U Cert.ActRefIdeal.Gen.bitsLt_bf16_f32))) (mulf (refSg G) (subf (broadcastInDim Cert.ActRefIdeal.S4x4224x704 ![] Cert.ActRefIdeal.Gen.bcast_S_S4x4224x704 (constant Cert.ActRefIdeal.S_ .f32 0x3F800000#32)) (refSg G))))) Cert.ActRefIdeal.Gen.bitsLt_bf16_f32

/-- The reference's gradient of the other factor. -/
abbrev refUp : FVec Ideal S4x4224x704 .bf16 :=
  truncf .bf16 (mulf (mulf (extf .f32 G Cert.ActRefIdeal.Gen.bitsLt_bf16_f32) (refSg G)) (refDa D W)) Cert.ActRefIdeal.Gen.bitsLt_bf16_f32

/-- Halving the rows before the sum, or the sum itself, gives the same. -/
theorem refDa_eq : refDa D W = da D W := by
  funext i
  pointwise [da]
  rw [mul_comm, Scale.half, Scale.sum_scaled _ _ _ (by norm_num)]
  refine Finset.sum_congr rfl fun r _ => ?_
  rw [mul_assoc, mul_comm]

/-- The reference's logistic function is the one operation's. -/
theorem refSg_at (i : S4x4224x704.Idx) : refSg G i = Ideal.logistic (G i) := by
  pointwise []
  rfl

/-- The reference's gradient of the other factor is the kernel's, for any arguments. -/
theorem refUp_eq : refUp D W G = dup D W G := by
  unfold refUp
  rw [refDa_eq]
  funext i
  show (G i * refSg G i) * da D W i = _
  rw [refSg_at, mul_comm, dup]

/-- The two ways to write the derivative of the gate's function, times a real number. -/
theorem silu_grad (x : ℝ) (g : EReal) :
    (x : EReal) * Ideal.logistic g + g * (x : EReal) * (Ideal.logistic g * (1 - Ideal.logistic g)) = (x : EReal) * (Ideal.logistic g * (1 + g * (1 - Ideal.logistic g))) := by
  induction g with
  | bot => simp
  | top =>
    have h : (1 : EReal) - 1 = 0 := by
      rw [← EReal.coe_one, ← EReal.coe_sub, sub_self, EReal.coe_zero]
    simp [h]
  | coe g =>
    rw [Ideal.logistic_coe]
    norm_cast
    ring_nf

/-- Where the rows, the weights and the other factor are real, the reference's gradient of the gate is the kernel's. -/
theorem refGate_eq (hD : ∀ i, D i = (((D i : EReal).toReal : ℝ) : EReal)) (hW : ∀ i, W i = (((W i : EReal).toReal : ℝ) : EReal))
    (hU : ∀ i, U i = (((U i : EReal).toReal : ℝ) : EReal)) : refGate D W G U = dgate D W G U := by
  unfold refGate
  rw [refDa_eq]
  funext i
  show (da D W i * U i) * refSg G i + (G i * (da D W i * U i)) * (refSg G i * (Ideal.ofBits .f32 0x3F800000#32 - refSg G i)) = _
  obtain ⟨x, hx⟩ : ∃ x : ℝ, da D W i * U i = (x : EReal) := by
    refine ⟨1 / 2 * (∑ k : Fin 1024, (D (ix2 (i 1) k) : EReal).toReal * (W (ix3 (i 0) (i 2) k) : EReal).toReal) * (U i : EReal).toReal, ?_⟩
    rw [da, Scale.half, Scale.sum_real _ _ fun k => ?_, EReal.coe_mul, EReal.coe_mul, ← hU i]
    · simp only [EReal.toReal_mul]
    · rw [hD (ix2 (i 1) k), hW (ix3 (i 0) (i 2) k), ← EReal.coe_mul, EReal.toReal_coe]
  rw [refSg_at, Ideal.ofBits_one_f32, hx, silu_grad, dgate, hx]

end Cert.ActIdeal.Swiglu

end
-- ==== Proof.Finite.lean ====
/- What the precondition says: every element of every argument is a real number. -/
module

public import proofs.«01_k».proof.Proof.Results
public import proofs.«01_k».proof.Proof.ActRef
public import proofs.«01_k».proof.Defs

@[expose] public section

noncomputable section

namespace Cert.Finite

open Idealize.ShloMosaic Idealize.ShloMosaic.TcCoe Idealize.SL.Sem

/-- The side conditions of the precondition's program. -/
theorem facts : Cert.Pre_finite.Facts where
  bitsLt_bf16_f32 := by decide
  bcast_S_S4x4224x256 := by decide
  bcast_S_S4x4224x128 := by decide
  bcast_S_S4224x512 := by decide

/-- A number whose magnitude lies below infinity is real. -/
theorem real_of_lt (x : EReal) (h : Ideal.cmp .olt (max x (-x)) (Ideal.ofBits .f32 0x7F800000#32) = 1#1) :
    x = ((x.toReal : ℝ) : EReal) := by
  rw [Cert.Attn.ofBits_inf] at h
  have hlt : max x (-x) < ⊤ := by
    by_contra hn
    simp [Ideal.cmp, hn] at h
  have h1 : x ≠ ⊤ := fun e => by simp [e] at hlt
  have h2 : x ≠ ⊥ := fun e => by simp [e] at hlt
  exact (EReal.coe_toReal h1 h2).symm

/-- Where the precondition holds, each argument is an array of real numbers. -/
theorem finite_of_pre (m : (ℓ : Loc Cert.KernelIdeal.nD Cert.KernelIdeal.τ Cert.KernelIdeal.sig) → Buf (Elt Ideal) ℓ)
    (h : Cert.Pre_KernelIdeal_finite (hPre_finite := facts) m) (c : Dev Cert.KernelIdeal.nD) : Cert.KernelIdeal.Results.Finite m c where
  q i := real_of_lt _ (congrFun (h c).1 i)
  k i := real_of_lt _ (congrFun (h c).2.1 i)
  v i := real_of_lt _ (congrFun (h c).2.2.1 i)
  d i := real_of_lt _ (congrFun (h c).2.2.2 i)

/-- The side conditions of the program of the activation gradients' precondition. -/
theorem facts_act : Cert.Pre_finite_act.Facts where
  bitsLt_bf16_f32 := by decide
  bcast_S_S4224x1024 := by decide
  bcast_S_S4x704x1024 := by decide
  bcast_S_S4x4224x704 := by decide

/-- Where that precondition holds, the reference's gradient of the gate is the kernel's. -/
theorem gate_of_pre (m : (ℓ : Loc Cert.ActIdeal.nD Cert.ActIdeal.τ Cert.ActIdeal.sig) → Buf (Elt Ideal) ℓ)
    (h : Cert.Pre_ActIdeal_finite_act (hPre_finite_act := facts_act) m) (c : Dev Cert.ActIdeal.nD) :
    Cert.ActIdeal.Swiglu.refGate (Cert.ActIdeal.Swiglu.argD m c) (Cert.ActIdeal.Swiglu.argW m c) (Cert.ActIdeal.Swiglu.argG m c) (Cert.ActIdeal.Swiglu.argU m c)
      = Cert.ActIdeal.Swiglu.dgate (Cert.ActIdeal.Swiglu.argD m c) (Cert.ActIdeal.Swiglu.argW m c) (Cert.ActIdeal.Swiglu.argG m c) (Cert.ActIdeal.Swiglu.argU m c) :=
  Cert.ActIdeal.Swiglu.refGate_eq _ _ _ _ (fun i => real_of_lt _ (congrFun (h c).1 i)) (fun i => real_of_lt _ (congrFun (h c).2.1 i))
    (fun i => real_of_lt _ (congrFun (h c).2.2 i))

end Cert.Finite

end
-- ==== Proof.Up.lean ====
/- The gate's weight gradient: both arrays the kernel leaves are the reference's. -/
module

public import proofs.«01_k».proof.Proof.Gen.UpIdeal.Value
public import proofs.«01_k».proof.Proof.Gen.UpRefIdeal.Run
public import Idealize.ShloMosaic.PureOps.Ideal.Laws
public import Idealize.ShloMosaic.Lib.Pointwise
public import Idealize.ShloMosaic.Lib.Pipeline.ValueKit

@[expose] public section

set_option maxRecDepth 16384

noncomputable section

namespace Cert.UpIdeal.Weights

open Cert.UpIdeal Cert.UpIdeal.Gen Cert.UpIdeal.Value Idealize.ShloMosaic Idealize.ShloMosaic.TcCoe Idealize.SL.Sem
open Idealize.ShloMosaic.Pipeline (Dat)

variable (m : (ℓ : Loc nD τ sig) → Buf (Elt Ideal) ℓ) (c : Dev nD)

/-- The gradient of the products, by shard, row and column. -/
abbrev ct : FVec Ideal S4x4224x704 .bf16 := m ((c : Thread nD τ).loc main_arg0)

/-- The products' input. -/
abbrev inp : FVec Ideal S4224x1024 .bf16 := m ((c : Thread nD τ).loc main_arg1)

/-- The weights' gradient: per shard, the sum over the rows. -/
def grad : FVec Ideal S4x704x1024 .f32 := fun i => ∑ r : Fin 4224, ct m c (ix3 (i 0) r (i 1)) * inp m c (ix2 r (i 2))

/-- Where each window's block of a point lies: the point is the shard. -/
theorem idx : ∀ t : Fin cfg0.N, win0_0.index t = ![t.val, 0, 0] ∧ win0_1.index t = ![0, 0] ∧ win0_2.index t = ![t.val, 0, 0] ∧ win0_3.index t = ![t.val, 0, 0] :=
  (by decide +kernel : ∀ t : Fin grid0.N, _)

/-- The array of the gradient. -/
theorem arr_wide : (dats m 0 c).arrAt 2 cfg0.N = grad m c := by
  refine (dats m 0 c).arrAt_eq_of_covers 2 _ (by decide +kernel) fun t _ y => ?_
  blk_simp
  rw [after0_2]
  frame_out
  unfold grad
  pointwise [k0_pay2, k0_pay1]
  blk_point [iblk, V, idx t]

/-- The array of the gradient's short copy. -/
theorem arr_short : (dats m 0 c).arrAt 3 cfg0.N = grad m c := by
  refine (dats m 0 c).arrAt_eq_of_covers 3 _ (by decide +kernel) fun t _ y => ?_
  blk_simp
  rw [after0_3]
  frame_out
  unfold grad
  pointwise [k0_pay3, k0_pay1]
  blk_point [iblk, V, idx t]

/-- The reference's product is the gradient. -/
theorem ref_eq : Host.dotGeneral (F := Ideal) Cert.UpRefIdeal.dot_S4x704x4224_S4224x1024_S4x704x1024_2_0_01_1_n_n none
    (transpose Cert.UpRefIdeal.S4x704x4224 [0, 2, 1] (extf .f32 (ct m c) Cert.UpRefIdeal.Gen.bitsLt_bf16_f32) Cert.UpRefIdeal.Gen.transposes_S4x4224x704_S4x704x4224_0_2_1)
    (extf .f32 (inp m c) Cert.UpRefIdeal.Gen.bitsLt_bf16_f32) = grad m c := by
  funext i
  unfold grad
  pointwise []

end Cert.UpIdeal.Weights

end
-- ==== Proof.Down.lean ====
/- The down projection's weight gradient: both arrays the kernel leaves are the reference's. -/
module

public import proofs.«01_k».proof.Proof.Gen.DownIdeal.Value
public import proofs.«01_k».proof.Proof.Gen.DownRefIdeal.Run
public import proofs.«01_k».proof.Proof.Scale
public import Idealize.ShloMosaic.Lib.Pointwise
public import Idealize.ShloMosaic.Lib.Pipeline.ValueKit

@[expose] public section

set_option maxRecDepth 16384

noncomputable section

namespace Cert.DownIdeal.Weights

open Cert.DownIdeal Cert.DownIdeal.Gen Cert.DownIdeal.Value Idealize.ShloMosaic Idealize.ShloMosaic.TcCoe Idealize.SL.Sem
open Idealize.ShloMosaic.Pipeline (Dat)

variable (m : (ℓ : Loc nD τ sig) → Buf (Elt Ideal) ℓ) (c : Dev nD)

/-- The activations, by shard, row and column. -/
abbrev act : FVec Ideal S4x4224x704 .bf16 := m ((c : Thread nD τ).loc main_arg0)

/-- The gradient of the sum of the products. -/
abbrev dh : FVec Ideal S4224x1024 .bf16 := m ((c : Thread nD τ).loc main_arg1)

/-- The weights' gradient: per shard, half the sum over the rows. -/
def grad : FVec Ideal S4x704x1024 .f32 := fun i => (∑ r : Fin 4224, act m c (ix3 (i 0) r (i 1)) * dh m c (ix2 r (i 2))) * Ideal.ofBits .f32 0x3F000000#32

/-- Where each window's block of a point lies: the point is the shard. -/
theorem idx : ∀ t : Fin cfg0.N, win0_0.index t = ![t.val, 0, 0] ∧ win0_1.index t = ![0, 0] ∧ win0_2.index t = ![t.val, 0, 0] ∧ win0_3.index t = ![t.val, 0, 0] :=
  (by decide +kernel : ∀ t : Fin grid0.N, _)

/-- The array of the gradient. -/
theorem arr_wide : (dats m 0 c).arrAt 2 cfg0.N = grad m c := by
  refine (dats m 0 c).arrAt_eq_of_covers 2 _ (by decide +kernel) fun t _ y => ?_
  blk_simp
  rw [after0_2]
  frame_out
  unfold grad
  pointwise [k0_pay2, k0_pay1]
  blk_point [iblk, V, idx t]

/-- The array of the gradient's short copy. -/
theorem arr_short : (dats m 0 c).arrAt 3 cfg0.N = grad m c := by
  refine (dats m 0 c).arrAt_eq_of_covers 3 _ (by decide +kernel) fun t _ y => ?_
  blk_simp
  rw [after0_3]
  frame_out
  unfold grad
  pointwise [k0_pay3, k0_pay1]
  blk_point [iblk, V, idx t]

/-- The reference's product, whose rows are halved before they are summed, is the gradient. -/
theorem ref_eq : transpose Cert.DownRefIdeal.S4x704x1024 [1, 2, 0] (Host.dotGeneral (F := Ideal) Cert.DownRefIdeal.dot_S4224x1024_S4x4224x704_S1024x4x704_0_1_1_02_n_n none
      (mulf (broadcastInDim Cert.DownRefIdeal.S4224x1024 ![] Cert.DownRefIdeal.Gen.bcast_S_S4224x1024 (constant Cert.DownRefIdeal.S_ .f32 0x3F000000#32)) (extf .f32 (dh m c) Cert.DownRefIdeal.Gen.bitsLt_bf16_f32))
      (extf .f32 (act m c) Cert.DownRefIdeal.Gen.bitsLt_bf16_f32)) Cert.DownRefIdeal.Gen.transposes_S1024x4x704_S4x704x1024_1_2_0 = grad m c := by
  funext i
  unfold grad
  pointwise []
  rw [Scale.half, Scale.sum_scaled _ _ _ (by norm_num)]
  refine Finset.sum_congr rfl fun r _ => ?_
  rw [mul_assoc, mul_comm, mul_comm (dh m c _)]

end Cert.DownIdeal.Weights

end
-- ==== Proof.Rms.lean ====
/- The gradient of a row's norm: two ways to write it agree over the extended reals. -/
module

public import proofs.«01_k».proof.Proof.Scale

@[expose] public section

noncomputable section

namespace Cert.Rms

open Idealize.ShloMosaic

/-- A sum of squares is not negative. -/
theorem squares_nonneg {n : ℕ} (x : Fin n → EReal) : 0 ≤ ∑ k, x k * x k :=
  Finset.sum_nonneg fun k _ => by
    induction x k with
    | bot => simp
    | top => simp
    | coe v => exact_mod_cast mul_self_nonneg v

/-- A number taken twice with half a negative weight is taken once with the weight. -/
theorem twice_half (z : EReal) (d : ℝ) (hd : 0 < d) : z * ((-(1 / 2) * d : ℝ) : EReal) + z * ((-(1 / 2) * d : ℝ) : EReal) = -(z * (d : EReal)) := by
  have hn : (-(1 / 2) * d : ℝ) < 0 := by linarith
  induction z with
  | bot =>
    rw [EReal.bot_mul_coe_of_neg hn, EReal.bot_mul_coe_of_pos hd]
    rfl
  | top =>
    rw [EReal.top_mul_coe_of_neg hn, EReal.top_mul_coe_of_pos hd]
    rfl
  | coe z =>
    norm_cast
    ring

/-- The scale of a row whose sum of squares is a real number, and its quotient by the mean. -/
theorem scale_real (s w e : ℝ) (hs : 0 ≤ s) (hw : 0 < w) (he : 0 < e) :
    ∃ r : ℝ, 0 < r ∧ Ideal.rsqrt ((s : EReal) * (w : EReal) + (e : EReal)) = (r : EReal)
      ∧ Ideal.div (r : EReal) ((s : EReal) * (w : EReal) + (e : EReal)) = ((r * (r * r) : ℝ) : EReal) := by
  have hv : 0 < s * w + e := by positivity
  have hc : (s : EReal) * (w : EReal) + (e : EReal) = ((s * w + e : ℝ) : EReal) := by norm_cast
  refine ⟨(Real.sqrt (s * w + e))⁻¹, inv_pos.mpr (Real.sqrt_pos.mpr hv), ?_, ?_⟩
  · rw [hc, Ideal.rsqrt_coe, if_neg (not_lt.mpr hv.le), if_neg hv.ne']
  · rw [hc, Ideal.div_coe hv.ne', ← EReal.coe_mul]
    congr 2
    rw [← mul_inv, Real.mul_self_sqrt hv.le, one_div]

/-- The row's gradient. The kernel scales the row once and takes the mean of the products with the scaled row; the reference
    differentiates the scale by itself, and adds both halves of the square's derivative. The words are the width's inverse and
    one small positive number. -/
theorem bwd {n : ℕ} (x a : Fin n → EReal) (b : EReal) (j : Fin n) (w e : ℝ) (hw : 0 < w) (he : 0 < e) :
    b + Ideal.rsqrt ((∑ k, x k * x k) * (w : EReal) + (e : EReal))
        * (a j - x j * Ideal.rsqrt ((∑ k, x k * x k) * (w : EReal) + (e : EReal))
          * ((∑ k, a k * (x k * Ideal.rsqrt ((∑ k, x k * x k) * (w : EReal) + (e : EReal)))) * (w : EReal)))
      = a j * Ideal.rsqrt ((∑ k, x k * x k) * (w : EReal) + (e : EReal))
        + x j * ((∑ k, x k * a k) * (((-(1 / 2) : ℝ) : EReal)
          * Ideal.div (Ideal.rsqrt ((∑ k, x k * x k) * (w : EReal) + (e : EReal))) ((∑ k, x k * x k) * (w : EReal) + (e : EReal))) * (w : EReal))
        + (∑ k, x k * a k) * (((-(1 / 2) : ℝ) : EReal)
          * Ideal.div (Ideal.rsqrt ((∑ k, x k * x k) * (w : EReal) + (e : EReal))) ((∑ k, x k * x k) * (w : EReal) + (e : EReal))) * (w : EReal) * x j + b := by
  have hS := squares_nonneg x
  generalize (∑ k, x k * x k) = S at hS ⊢
  induction S with
  | bot => exact absurd hS (by simp)
  | top =>
    rw [EReal.top_mul_coe_of_pos hw, EReal.top_add_coe, Ideal.rsqrt_top, Ideal.zero_div (by simp)]
    simp
  | coe s =>
    obtain ⟨r, hr, e1, e2⟩ := scale_real s w e (by exact_mod_cast hS) hw he
    rw [e1, e2]
    have hT : ∑ k, a k * (x k * (r : EReal)) = (∑ k, x k * a k) * (r : EReal) := by
      rw [Scale.sum_scaled _ _ _ hr.le]
      exact Finset.sum_congr rfl fun k _ => by rw [← mul_assoc, mul_comm (a k)]
    rw [hT]
    generalize (∑ k, x k * a k) = T
    have hd : 0 < r * (r * r) * w := by positivity
    have h2 := twice_half (x j * T) (r * (r * r) * w) hd
    have h3 : x j * (T * (((-(1 / 2) : ℝ) : EReal) * ((r * (r * r) : ℝ) : EReal)) * (w : EReal)) = x j * T * ((-(1 / 2) * (r * (r * r) * w) : ℝ) : EReal) := by
      push_cast
      simp only [mul_assoc]
    have h4 : (r : EReal) * (x j * (r : EReal) * (T * (r : EReal) * (w : EReal))) = x j * T * ((r * (r * r) * w : ℝ) : EReal) := by
      push_cast
      simp only [mul_assoc, mul_comm, mul_left_comm]
    rw [mul_comm _ (x j), add_assoc (a j * (r : EReal)), h3, h2, ← h4, sub_eq_add_neg,
      EReal.left_distrib_of_nonneg_of_ne_top (EReal.coe_nonneg.mpr hr.le) (EReal.coe_ne_top r), mul_neg, add_comm b, mul_comm (a j)]

/-- The word of the small number added to a mean of squares, a positive real. -/
theorem eps : ∃ e : ℝ, 0 < e ∧ Ideal.ofBits .f32 0x358637BD#32 = (e : EReal) := by
  refine ⟨8796093 / 8796093022208, by norm_num, ?_⟩
  simp [Ideal.ofBits, Ideal.ieee, -EReal.coe_mul]
  norm_num

/-- The word of minus one half. -/
theorem minus_half : Ideal.ofBits .f32 0xBF000000#32 = ((-(1 / 2) : ℝ) : EReal) := by
  simp [Ideal.ofBits, Ideal.ieee, -EReal.coe_mul]
  norm_num

/-- The same at a width of 1024, with the constants' words. -/
theorem bwd_1024 {n : ℕ} (x a : Fin n → EReal) (b : EReal) (j : Fin n) :
    b + Ideal.rsqrt ((∑ k, x k * x k) * Ideal.ofBits .f32 0x3A800000#32 + Ideal.ofBits .f32 0x358637BD#32) * (a j - x j * Ideal.rsqrt ((∑ k, x k * x k) * Ideal.ofBits .f32 0x3A800000#32 + Ideal.ofBits .f32 0x358637BD#32)
          * ((∑ k, a k * (x k * Ideal.rsqrt ((∑ k, x k * x k) * Ideal.ofBits .f32 0x3A800000#32 + Ideal.ofBits .f32 0x358637BD#32))) * Ideal.ofBits .f32 0x3A800000#32))
      = a j * Ideal.rsqrt ((∑ k, x k * x k) * Ideal.ofBits .f32 0x3A800000#32 + Ideal.ofBits .f32 0x358637BD#32) + x j * ((∑ k, x k * a k) * (Ideal.ofBits .f32 0xBF000000#32 * Ideal.div (Ideal.rsqrt ((∑ k, x k * x k) * Ideal.ofBits .f32 0x3A800000#32 + Ideal.ofBits .f32 0x358637BD#32)) ((∑ k, x k * x k) * Ideal.ofBits .f32 0x3A800000#32 + Ideal.ofBits .f32 0x358637BD#32)) * Ideal.ofBits .f32 0x3A800000#32)
        + (∑ k, x k * a k) * (Ideal.ofBits .f32 0xBF000000#32 * Ideal.div (Ideal.rsqrt ((∑ k, x k * x k) * Ideal.ofBits .f32 0x3A800000#32 + Ideal.ofBits .f32 0x358637BD#32)) ((∑ k, x k * x k) * Ideal.ofBits .f32 0x3A800000#32 + Ideal.ofBits .f32 0x358637BD#32)) * Ideal.ofBits .f32 0x3A800000#32 * x j + b := by
  obtain ⟨e, he, h⟩ := eps
  rw [h, minus_half, Scale.winv1024]
  exact bwd x a b j _ e (by norm_num) he

/-- The same at a width of 512, with the constants' words. -/
theorem bwd_512 {n : ℕ} (x a : Fin n → EReal) (b : EReal) (j : Fin n) :
    b + Ideal.rsqrt ((∑ k, x k * x k) * Ideal.ofBits .f32 0x3B000000#32 + Ideal.ofBits .f32 0x358637BD#32) * (a j - x j * Ideal.rsqrt ((∑ k, x k * x k) * Ideal.ofBits .f32 0x3B000000#32 + Ideal.ofBits .f32 0x358637BD#32)
          * ((∑ k, a k * (x k * Ideal.rsqrt ((∑ k, x k * x k) * Ideal.ofBits .f32 0x3B000000#32 + Ideal.ofBits .f32 0x358637BD#32))) * Ideal.ofBits .f32 0x3B000000#32))
      = a j * Ideal.rsqrt ((∑ k, x k * x k) * Ideal.ofBits .f32 0x3B000000#32 + Ideal.ofBits .f32 0x358637BD#32) + x j * ((∑ k, x k * a k) * (Ideal.ofBits .f32 0xBF000000#32 * Ideal.div (Ideal.rsqrt ((∑ k, x k * x k) * Ideal.ofBits .f32 0x3B000000#32 + Ideal.ofBits .f32 0x358637BD#32)) ((∑ k, x k * x k) * Ideal.ofBits .f32 0x3B000000#32 + Ideal.ofBits .f32 0x358637BD#32)) * Ideal.ofBits .f32 0x3B000000#32)
        + (∑ k, x k * a k) * (Ideal.ofBits .f32 0xBF000000#32 * Ideal.div (Ideal.rsqrt ((∑ k, x k * x k) * Ideal.ofBits .f32 0x3B000000#32 + Ideal.ofBits .f32 0x358637BD#32)) ((∑ k, x k * x k) * Ideal.ofBits .f32 0x3B000000#32 + Ideal.ofBits .f32 0x358637BD#32)) * Ideal.ofBits .f32 0x3B000000#32 * x j + b := by
  obtain ⟨e, he, h⟩ := eps
  rw [h, minus_half, Scale.winv512]
  exact bwd x a b j _ e (by norm_num) he

end Cert.Rms

end
-- ==== Proof.NormPay.lean ====
/- The gradient of the second SwiGLU block's norm and of the mixer's branches: what the kernel computes of a block, at an index. -/
module

public import proofs.«01_k».proof.Proof.Gen.NormIdeal.Value
public import proofs.«01_k».proof.Proof.Rms
public import Idealize.ShloMosaic.Lib.Pointwise
public import Idealize.ShloMosaic.Lib.Pipeline.ValueKit

@[expose] public section

set_option maxRecDepth 16384

noncomputable section

namespace Cert.NormIdeal.Back

open Cert.NormIdeal Cert.NormIdeal.Gen Cert.NormIdeal.Value Idealize.ShloMosaic Idealize.ShloMosaic.TcCoe Idealize.SL.Sem
open Idealize.ShloMosaic.Pipeline (Dat)

/-- A row's scale: the word is the width's inverse. -/
def scale {n : ℕ} (w : BitVec 32) (x : Fin n → EReal) : EReal :=
  Ideal.rsqrt ((∑ k, x k * x k) * Ideal.ofBits .f32 w + Ideal.ofBits .f32 0x358637BD#32)

/-- The gradient through a row's norm. -/
def back {n : ℕ} (w : BitVec 32) (x a : Fin n → EReal) (j : Fin n) : EReal :=
  scale w x * (a j - x j * scale w x * ((∑ k, a k * (x k * scale w x)) * Ideal.ofBits .f32 w))

/-- The first half of a row. -/
def lo (k : Fin 512) : Fin 1024 := ⟨k.val, by omega⟩

/-- The second half of a row. -/
def hi (k : Fin 512) : Fin 1024 := ⟨512 + k.val, by omega⟩

/-- The products of the first four shards, added up. -/
theorem pay5_at (v1 v7 v13 v19 : Vec Ideal S1x352x704 .bf16) (v3 v9 v15 v21 : Vec Ideal S1x704x1024 .bf16) (r : Fin 352) (j : Fin 1024) :
    k0_pay5 (F := Ideal) v1 v3 v7 v9 v13 v15 v19 v21 (ix2 r j) =
      (∑ k : Fin 704, v1 (ix3 0 r k) * v3 (ix3 0 k j)) + (∑ k : Fin 704, v7 (ix3 0 r k) * v9 (ix3 0 k j))
        + (∑ k : Fin 704, v13 (ix3 0 r k) * v15 (ix3 0 k j)) + (∑ k : Fin 704, v19 (ix3 0 r k) * v21 (ix3 0 k j)) := by
  pointwise [k0_pay5]

/-- The products of the other four, added to what is there. -/
theorem pay7_at (acc : FVec Ideal S352x1024 .f32) (v25 v31 v37 v43 : Vec Ideal S1x352x704 .bf16) (v27 v33 v39 v45 : Vec Ideal S1x704x1024 .bf16) (r : Fin 352) (j : Fin 1024) :
    k0_pay7 (F := Ideal) acc (k0_pay6 v25) v27 v31 v33 v37 v39 v43 v45 (ix2 r j) =
      acc (ix2 r j) + (∑ k : Fin 704, v25 (ix3 0 r k) * v27 (ix3 0 k j)) + (∑ k : Fin 704, v31 (ix3 0 r k) * v33 (ix3 0 k j))
        + (∑ k : Fin 704, v37 (ix3 0 r k) * v39 (ix3 0 k j)) + (∑ k : Fin 704, v43 (ix3 0 r k) * v45 (ix3 0 k j)) := by
  pointwise [k0_pay7, k0_pay6]

/-- The rows' gradient. -/
theorem pay11_at (du : FVec Ideal S352x1024 .f32) (x b : Vec Ideal S352x1024 .f32) (g : Vec Ideal S1x1024 .f32) (r : Fin 352) (j : Fin 1024) :
    k0_pay11 (F := Ideal) du x (k0_pay8 x) b g (ix2 r j) =
      b (ix2 r j) + back 0x3A800000#32 (fun k => x (ix2 r k)) (fun k => du (ix2 r k) * g (ix2 0 k)) j := by
  pointwise [k0_pay11, k0_pay10, k0_pay9, k0_pay8, back, scale]

/-- A group's part of the first gain's gradient. -/
theorem pay13_at (du : FVec Ideal S352x1024 .f32) (x : Vec Ideal S352x1024 .f32) (j : S1x1024.Idx) :
    k0_pay13 (F := Ideal) du x (k0_pay8 x) j = ∑ r : Fin 352, du (ix2 r (j 1)) * (x (ix2 r (j 1)) * scale 0x3A800000#32 fun k => x (ix2 r k)) := by
  pointwise [k0_pay13, k0_pay10, k0_pay9, k0_pay8, scale]

/-- The gradient before the output product. -/
theorem pay14_at (du : FVec Ideal S352x1024 .f32) (x b : Vec Ideal S352x1024 .f32) (g : Vec Ideal S1x1024 .f32) (w : Vec Ideal S1024x1024 .bf16) (r : Fin 352) (j : Fin 1024) :
    k0_pay14 (F := Ideal) du x (k0_pay8 x) b g w (ix2 r j) =
      ∑ q : Fin 1024, (b (ix2 r q) + back 0x3A800000#32 (fun k => x (ix2 r k)) (fun k => du (ix2 r k) * g (ix2 0 k)) q) * w (ix2 j q) := by
  pointwise [k0_pay14, k0_pay12, pay11_at]

/-- The first branch's gradient. -/
theorem pay19_at (dy : FVec Ideal S352x1024 .f32) (y : Vec Ideal S352x512 .f32) (g : Vec Ideal S1x512 .f32) (r : Fin 352) (j : Fin 512) :
    k0_pay19 (F := Ideal) dy y (k0_pay15 y) (k0_pay16 y) g (ix2 r j) =
      back 0x3B000000#32 (fun k => y (ix2 r k)) (fun k => dy (ix2 r (lo k)) * g (ix2 0 k)) j := by
  pointwise [k0_pay19, k0_pay18, k0_pay17, k0_pay16, k0_pay15, back, scale, lo]

/-- A group's part of its gain's gradient. -/
theorem pay20_at (dy : FVec Ideal S352x1024 .f32) (y : Vec Ideal S352x512 .f32) (j : S1x512.Idx) :
    k0_pay20 (F := Ideal) dy y (k0_pay16 y) j = ∑ r : Fin 352, dy (ix2 r (lo (j 1))) * (y (ix2 r (j 1)) * scale 0x3B000000#32 fun k => y (ix2 r k)) := by
  pointwise [k0_pay20, k0_pay18, k0_pay17, k0_pay16, k0_pay15, scale, lo]

/-- The second branch's gradient. -/
theorem pay24_at (dy : FVec Ideal S352x1024 .f32) (y : Vec Ideal S352x512 .f32) (g : Vec Ideal S1x512 .f32) (r : Fin 352) (j : Fin 512) :
    k0_pay24 (F := Ideal) dy y g (ix2 r j) =
      back 0x3B000000#32 (fun k => y (ix2 r k)) (fun k => dy (ix2 r (hi k)) * g (ix2 0 k)) j := by
  pointwise [k0_pay24, k0_pay23, k0_pay22, k0_pay21, back, scale, hi]

/-- A group's part of its gain's gradient. -/
theorem pay1_at (dy : FVec Ideal S352x1024 .f32) (y : Vec Ideal S352x512 .f32) (j : S1x512.Idx) :
    k0_pay1 (F := Ideal) (k0_pay22 y) (k0_pay23 dy) j = ∑ r : Fin 352, dy (ix2 r (hi (j 1))) * (y (ix2 r (j 1)) * scale 0x3B000000#32 fun k => y (ix2 r k)) := by
  pointwise [k0_pay1, k0_pay23, k0_pay22, k0_pay21, scale, hi]

/-- The first gain's part is added to what is there. -/
theorem pay2_at (v acc : Vec Ideal S1x1024 .f32) (j : S1x1024.Idx) : k0_pay2 (F := Ideal) v acc j = acc j + v j := by
  pointwise [k0_pay2]

/-- So is the second's. -/
theorem pay3_at (v acc : Vec Ideal S1x512 .f32) (j : S1x512.Idx) : k0_pay3 (F := Ideal) v acc j = acc j + v j := by
  pointwise [k0_pay3]

/-- So is the third's. -/
theorem pay4_at (v w : FVec Ideal S352x512 .f32) (acc : Vec Ideal S1x512 .f32) (j : S1x512.Idx) : k0_pay4 (F := Ideal) v w acc j = acc j + k0_pay1 (F := Ideal) v w j := by
  pointwise [k0_pay4]

end Cert.NormIdeal.Back

end
-- ==== Proof.NormRows.lean ====
/- The gradient of the second SwiGLU block's norm and of the mixer's branches: what the kernel computes of a block is the array's. -/
module

public import proofs.«01_k».proof.Proof.Gen.NormIdeal.Value
public import proofs.«01_k».proof.Proof.NormPay
public import Idealize.ShloMosaic.Lib.Pointwise
public import Idealize.ShloMosaic.Lib.Pipeline.ValueKit

@[expose] public section

set_option maxRecDepth 16384

noncomputable section

namespace Cert.NormIdeal.Back

open Cert.NormIdeal Cert.NormIdeal.Gen Cert.NormIdeal.Value Idealize.ShloMosaic Idealize.ShloMosaic.TcCoe Idealize.SL.Sem
open Idealize.ShloMosaic.Pipeline (Dat)

/-- The gradient of the normalised rows: the two products' gradients times their weights, shard by shard. -/
def du (D : FVec Ideal S4x4224x704 .bf16) (W : FVec Ideal S4x704x1024 .bf16) (E : FVec Ideal S4x4224x704 .bf16) (V : FVec Ideal S4x704x1024 .bf16) (r : Fin 4224) (j : Fin 1024) : EReal :=
  (∑ k : Fin 704, D (ix3 0 r k) * W (ix3 0 k j)) + (∑ k : Fin 704, D (ix3 1 r k) * W (ix3 1 k j))
    + (∑ k : Fin 704, D (ix3 2 r k) * W (ix3 2 k j)) + (∑ k : Fin 704, D (ix3 3 r k) * W (ix3 3 k j))
    + (∑ k : Fin 704, E (ix3 0 r k) * V (ix3 0 k j)) + (∑ k : Fin 704, E (ix3 1 r k) * V (ix3 1 k j))
    + (∑ k : Fin 704, E (ix3 2 r k) * V (ix3 2 k j)) + (∑ k : Fin 704, E (ix3 3 r k) * V (ix3 3 k j))

/-- The rows' gradient. -/
def dh (D : FVec Ideal S4x4224x704 .bf16) (W : FVec Ideal S4x704x1024 .bf16) (E : FVec Ideal S4x4224x704 .bf16) (V : FVec Ideal S4x704x1024 .bf16) (X : FVec Ideal S4224x1024 .f32) (G : FVec Ideal S1x1024 .f32) (B : FVec Ideal S4224x1024 .f32) : FVec Ideal S4224x1024 .f32 := fun i =>
  B (ix2 (i 0) (i 1)) + back 0x3A800000#32 (fun k => X (ix2 (i 0) k)) (fun k => du D W E V (i 0) k * G (ix2 0 k)) (i 1)

/-- The gain's gradient: the sum over the rows. -/
def dg (D : FVec Ideal S4x4224x704 .bf16) (W : FVec Ideal S4x704x1024 .bf16) (E : FVec Ideal S4x4224x704 .bf16) (V : FVec Ideal S4x704x1024 .bf16) (X : FVec Ideal S4224x1024 .f32) : FVec Ideal S1x1024 .f32 := fun i =>
  ∑ r : Fin 4224, du D W E V r (i 1) * (X (ix2 r (i 1)) * scale 0x3A800000#32 fun k => X (ix2 r k))

/-- The gradient before the output product, from the rows' gradient and the product's weights. -/
def dy (H : FVec Ideal S4224x1024 .f32) (O : FVec Ideal S1024x1024 .bf16) (r : Fin 4224) (j : Fin 1024) : EReal := ∑ q : Fin 1024, H (ix2 r q) * O (ix2 j q)

/-- A branch's gradient; its columns of the product's are given. -/
def dbranch (H : FVec Ideal S4224x1024 .f32) (O : FVec Ideal S1024x1024 .bf16) (at' : Fin 512 → Fin 1024) (Y : FVec Ideal S4224x512 .f32) (G : FVec Ideal S1x512 .f32) : FVec Ideal S4224x512 .f32 := fun i =>
  back 0x3B000000#32 (fun k => Y (ix2 (i 0) k)) (fun k => dy H O (i 0) (at' k) * G (ix2 0 k)) (i 1)

/-- A branch's gain's gradient. -/
def dgain (H : FVec Ideal S4224x1024 .f32) (O : FVec Ideal S1024x1024 .bf16) (at' : Fin 512 → Fin 1024) (Y : FVec Ideal S4224x512 .f32) : FVec Ideal S1x512 .f32 := fun i =>
  ∑ r : Fin 4224, dy H O r (at' (i 1)) * (Y (ix2 r (i 1)) * scale 0x3B000000#32 fun k => Y (ix2 r k))

variable (m : (ℓ : Loc nD τ sig) → Buf (Elt Ideal) ℓ) (c : Dev nD)

/-- The gate product's gradient. -/
abbrev argD : FVec Ideal S4x4224x704 .bf16 := m ((c : Thread nD τ).loc main_arg0)

/-- The gate's weights. -/
abbrev argW : FVec Ideal S4x704x1024 .bf16 := m ((c : Thread nD τ).loc main_arg1)

/-- The up product's gradient. -/
abbrev argE : FVec Ideal S4x4224x704 .bf16 := m ((c : Thread nD τ).loc main_arg2)

/-- The up weights. -/
abbrev argV : FVec Ideal S4x704x1024 .bf16 := m ((c : Thread nD τ).loc main_arg3)

/-- The rows that are normalised. -/
abbrev argX : FVec Ideal S4224x1024 .f32 := m ((c : Thread nD τ).loc main_arg4)

/-- The norm's gain. -/
abbrev argG : FVec Ideal S1x1024 .f32 := m ((c : Thread nD τ).loc main_arg5)

/-- The gradient that is added. -/
abbrev argB : FVec Ideal S4224x1024 .f32 := m ((c : Thread nD τ).loc main_arg6)

/-- The output product's weights. -/
abbrev argO : FVec Ideal S1024x1024 .bf16 := m ((c : Thread nD τ).loc main_arg7)

/-- The first branch. -/
abbrev argYa : FVec Ideal S4224x512 .f32 := m ((c : Thread nD τ).loc main_arg8)

/-- The second branch. -/
abbrev argYl : FVec Ideal S4224x512 .f32 := m ((c : Thread nD τ).loc main_arg9)

/-- The first branch's gain. -/
abbrev argGa : FVec Ideal S1x512 .f32 := m ((c : Thread nD τ).loc main_arg10)

/-- The second branch's gain. -/
abbrev argGl : FVec Ideal S1x512 .f32 := m ((c : Thread nD τ).loc main_arg11)

/-- Where each window's block of a point lies: the point is the group of rows. -/
theorem idx : ∀ t : Fin cfg0.N, win0_0.index t = ![0, t.val, 0] ∧ win0_1.index t = ![0, 0, 0] ∧ win0_2.index t = ![0, t.val, 0] ∧ win0_3.index t = ![0, 0, 0] ∧ win0_4.index t = ![t.val, 0] ∧ win0_5.index t = ![0, 0] ∧ win0_6.index t = ![t.val, 0] ∧ win0_7.index t = ![0, 0] ∧ win0_8.index t = ![t.val, 0] ∧ win0_9.index t = ![t.val, 0] ∧ win0_10.index t = ![0, 0] ∧ win0_11.index t = ![0, 0] ∧ win0_12.index t = ![t.val, 0] ∧ win0_13.index t = ![t.val, 0] ∧ win0_14.index t = ![0, 0] ∧ win0_15.index t = ![t.val, 0] ∧ win0_16.index t = ![t.val, 0] ∧ win0_17.index t = ![0, 0] ∧ win0_18.index t = ![0, 0] :=
  (by decide +kernel : ∀ t : Fin grid0.N, _)

/-- A block's row among all. -/
def row (t : Fin cfg0.N) (r : Fin 352) : Fin 4224 := ⟨t.val * 352 + r.val, by have := lt_of_lt_of_eq t.isLt N_0; omega⟩

/-- A block's gradient of the normalised rows, as the kernel computes it. -/
abbrev duB (t : Fin cfg0.N) : FVec Ideal S352x1024 .f32 :=
  k0_pay7 (k0_pay5 (View.ld (iblk m c 0 t) (Rect.unit ![0, 0, 0] ![1, 352, 704] inb_S4x352x704_S1x352x704_0_0_0)) (View.ld (iblk m c 1 t) (Rect.unit ![0, 0, 0] ![1, 704, 1024] inb_S4x704x1024_S1x704x1024_0_0_0)) (View.ld (iblk m c 0 t) (Rect.unit ![1, 0, 0] ![1, 352, 704] inb_S4x352x704_S1x352x704_1_0_0)) (View.ld (iblk m c 1 t) (Rect.unit ![1, 0, 0] ![1, 704, 1024] inb_S4x704x1024_S1x704x1024_1_0_0)) (View.ld (iblk m c 0 t) (Rect.unit ![2, 0, 0] ![1, 352, 704] inb_S4x352x704_S1x352x704_2_0_0)) (View.ld (iblk m c 1 t) (Rect.unit ![2, 0, 0] ![1, 704, 1024] inb_S4x704x1024_S1x704x1024_2_0_0)) (View.ld (iblk m c 0 t) (Rect.unit ![3, 0, 0] ![1, 352, 704] inb_S4x352x704_S1x352x704_3_0_0)) (View.ld (iblk m c 1 t) (Rect.unit ![3, 0, 0] ![1, 704, 1024] inb_S4x704x1024_S1x704x1024_3_0_0)))
    (k0_pay6 (View.ld (iblk m c 2 t) (Rect.unit ![0, 0, 0] ![1, 352, 704] inb_S4x352x704_S1x352x704_0_0_0))) (View.ld (iblk m c 3 t) (Rect.unit ![0, 0, 0] ![1, 704, 1024] inb_S4x704x1024_S1x704x1024_0_0_0)) (View.ld (iblk m c 2 t) (Rect.unit ![1, 0, 0] ![1, 352, 704] inb_S4x352x704_S1x352x704_1_0_0)) (View.ld (iblk m c 3 t) (Rect.unit ![1, 0, 0] ![1, 704, 1024] inb_S4x704x1024_S1x704x1024_1_0_0)) (View.ld (iblk m c 2 t) (Rect.unit ![2, 0, 0] ![1, 352, 704] inb_S4x352x704_S1x352x704_2_0_0)) (View.ld (iblk m c 3 t) (Rect.unit ![2, 0, 0] ![1, 704, 1024] inb_S4x704x1024_S1x704x1024_2_0_0)) (View.ld (iblk m c 2 t) (Rect.unit ![3, 0, 0] ![1, 352, 704] inb_S4x352x704_S1x352x704_3_0_0)) (View.ld (iblk m c 3 t) (Rect.unit ![3, 0, 0] ![1, 704, 1024] inb_S4x704x1024_S1x704x1024_3_0_0))

/-- A block's gradient before the output product. -/
abbrev dyB (t : Fin cfg0.N) : FVec Ideal S352x1024 .f32 :=
  k0_pay14 (duB m c t) (iblk m c 4 t) (k0_pay8 (iblk m c 4 t)) (iblk m c 6 t) (iblk m c 5 t) (iblk m c 7 t)

/-- A block's rows of an array are the array's. -/
theorem x_at (t : Fin cfg0.N) (r : Fin 352) (k : Fin 1024) : (iblk m c 4 t : Vec Ideal S352x1024 .f32) (ix2 r k) = argX m c (ix2 (row t r) k) := by
  unfold row
  blk_point [iblk, V, idx t]

/-- So are those of the gradient that is added. -/
theorem b_at (t : Fin cfg0.N) (r : Fin 352) (k : Fin 1024) : (iblk m c 6 t : Vec Ideal S352x1024 .f32) (ix2 r k) = argB m c (ix2 (row t r) k) := by
  unfold row
  blk_point [iblk, V, idx t]

/-- So are those of the first branch. -/
theorem ya_at (t : Fin cfg0.N) (r : Fin 352) (k : Fin 512) : (iblk m c 8 t : Vec Ideal S352x512 .f32) (ix2 r k) = argYa m c (ix2 (row t r) k) := by
  unfold row
  blk_point [iblk, V, idx t]

/-- So are those of the second branch. -/
theorem yl_at (t : Fin cfg0.N) (r : Fin 352) (k : Fin 512) : (iblk m c 9 t : Vec Ideal S352x512 .f32) (ix2 r k) = argYl m c (ix2 (row t r) k) := by
  unfold row
  blk_point [iblk, V, idx t]

/-- The gains and the weights are whole. -/
theorem g_at (t : Fin cfg0.N) (k : Fin 1024) : (iblk m c 5 t : Vec Ideal S1x1024 .f32) (ix2 0 k) = argG m c (ix2 0 k) := by
  blk_point [iblk, V, idx t]

/-- So is the first branch's gain. -/
theorem ga_at (t : Fin cfg0.N) (k : Fin 512) : (iblk m c 10 t : Vec Ideal S1x512 .f32) (ix2 0 k) = argGa m c (ix2 0 k) := by
  blk_point [iblk, V, idx t]

/-- So is the second branch's. -/
theorem gl_at (t : Fin cfg0.N) (k : Fin 512) : (iblk m c 11 t : Vec Ideal S1x512 .f32) (ix2 0 k) = argGl m c (ix2 0 k) := by
  blk_point [iblk, V, idx t]

/-- So are the output product's weights. -/
theorem o_at (t : Fin cfg0.N) (j k : Fin 1024) : (iblk m c 7 t : Vec Ideal S1024x1024 .bf16) (ix2 j k) = argO m c (ix2 j k) := by
  blk_point [iblk, V, idx t]

/-- A block's gradient of the normalised rows is the array's. -/
theorem du_at (t : Fin cfg0.N) (r : Fin 352) (j : Fin 1024) : duB m c t (ix2 r j) = du (argD m c) (argW m c) (argE m c) (argV m c) (row t r) j := by
  unfold duB
  rw [pay7_at, pay5_at]
  unfold du row
  blk_point [iblk, V, idx t]

/-- All the rows' gradient. -/
abbrev allDh : FVec Ideal S4224x1024 .f32 := dh (argD m c) (argW m c) (argE m c) (argV m c) (argX m c) (argG m c) (argB m c)

/-- A block's rows' gradient is the array's. -/
theorem dh_at (t : Fin cfg0.N) (r : Fin 352) (j : Fin 1024) :
    k0_pay11 (F := Ideal) (duB m c t) (iblk m c 4 t) (k0_pay8 (iblk m c 4 t)) (iblk m c 6 t) (iblk m c 5 t) (ix2 r j) = allDh m c (ix2 (row t r) j) := by
  rw [pay11_at]
  simp only [du_at, x_at, b_at, g_at]
  rfl

/-- A block's gradient before the output product is the array's. -/
theorem dy_at (t : Fin cfg0.N) (r : Fin 352) (j : Fin 1024) : dyB m c t (ix2 r j) = dy (allDh m c) (argO m c) (row t r) j := by
  unfold dyB
  rw [pay14_at]
  simp only [du_at, x_at, b_at, g_at, o_at]
  rfl

/-- A block's gradient of the first branch is the array's. -/
theorem dya_at (t : Fin cfg0.N) (r : Fin 352) (j : Fin 512) :
    k0_pay19 (F := Ideal) (dyB m c t) (iblk m c 8 t) (k0_pay15 (iblk m c 8 t)) (k0_pay16 (iblk m c 8 t)) (iblk m c 10 t) (ix2 r j)
      = dbranch (allDh m c) (argO m c) lo (argYa m c) (argGa m c) (ix2 (row t r) j) := by
  rw [pay19_at]
  simp only [dy_at, ya_at, ga_at]
  rfl

/-- A block's gradient of the second branch is the array's. -/
theorem dyl_at (t : Fin cfg0.N) (r : Fin 352) (j : Fin 512) :
    k0_pay24 (F := Ideal) (dyB m c t) (iblk m c 9 t) (iblk m c 11 t) (ix2 r j)
      = dbranch (allDh m c) (argO m c) hi (argYl m c) (argGl m c) (ix2 (row t r) j) := by
  rw [pay24_at]
  simp only [dy_at, yl_at, gl_at]
  rfl

/-- A block's short copy of its rows' gradient is the array's. -/
theorem dhs_at (t : Fin cfg0.N) (r : Fin 352) (j : Fin 1024) :
    k0_pay12 (F := Ideal) (duB m c t) (iblk m c 4 t) (k0_pay8 (iblk m c 4 t)) (iblk m c 6 t) (iblk m c 5 t) (ix2 r j) = allDh m c (ix2 (row t r) j) := by
  rw [← dh_at]
  rfl

end Cert.NormIdeal.Back

end
-- ==== Proof.Norm.lean ====
/- The gradient of the second SwiGLU block's norm and of the mixer's branches: the arrays that the kernel leaves. -/
module

public import proofs.«01_k».proof.Proof.Gen.NormIdeal.Value
public import proofs.«01_k».proof.Proof.NormRows
public import Idealize.ShloMosaic.Lib.Pointwise
public import Idealize.ShloMosaic.Lib.Pipeline.ValueKit

@[expose] public section

set_option maxRecDepth 16384

noncomputable section

namespace Cert.NormIdeal.Back

open Cert.NormIdeal Cert.NormIdeal.Gen Cert.NormIdeal.Value Idealize.ShloMosaic Idealize.ShloMosaic.TcCoe Idealize.SL.Sem
open Idealize.ShloMosaic.Pipeline (Dat)

variable (m : (ℓ : Loc nD τ sig) → Buf (Elt Ideal) ℓ) (c : Dev nD)

/-- The array of the rows' gradient. -/
theorem arr_dh : (dats m 0 c).arrAt 12 cfg0.N = allDh m c := by
  refine (dats m 0 c).arrAt_eq_of_covers 12 _ (by decide +kernel) fun t _ y => ?_
  obtain ⟨r, j, rfl⟩ : ∃ (r : Fin 352) (j : Fin 1024), y = ix2 r j := ⟨y 0, y 1, eq_ix2 y⟩
  have ht : t.val < 12 := lt_of_lt_of_eq t.isLt N_0
  blk_simp
  rw [after0_12]
  by_cases h : t.val % 12 = 0
  · rw [outsAt0_A m c t h (by omega)]
    frame_out
    refine (dh_at m c t r j).trans (congrArg (allDh m c) ?_)
    unfold row
    blk_point [idx t]
  · rw [outsAt0_B m c t h (by omega)]
    frame_out
    refine (dh_at m c t r j).trans (congrArg (allDh m c) ?_)
    unfold row
    blk_point [idx t]

/-- The array of its short copy. -/
theorem arr_short : (dats m 0 c).arrAt 13 cfg0.N = allDh m c := by
  refine (dats m 0 c).arrAt_eq_of_covers 13 _ (by decide +kernel) fun t _ y => ?_
  obtain ⟨r, j, rfl⟩ : ∃ (r : Fin 352) (j : Fin 1024), y = ix2 r j := ⟨y 0, y 1, eq_ix2 y⟩
  have ht : t.val < 12 := lt_of_lt_of_eq t.isLt N_0
  blk_simp
  rw [after0_13]
  by_cases h : t.val % 12 = 0
  · rw [outsAt0_A m c t h (by omega)]
    frame_out
    refine (dhs_at m c t r j).trans (congrArg (allDh m c) ?_)
    unfold row
    blk_point [idx t]
  · rw [outsAt0_B m c t h (by omega)]
    frame_out
    refine (dhs_at m c t r j).trans (congrArg (allDh m c) ?_)
    unfold row
    blk_point [idx t]

/-- The array of the first branch's gradient. -/
theorem arr_first : (dats m 0 c).arrAt 15 cfg0.N = dbranch (allDh m c) (argO m c) lo (argYa m c) (argGa m c) := by
  refine (dats m 0 c).arrAt_eq_of_covers 15 _ (by decide +kernel) fun t _ y => ?_
  obtain ⟨r, j, rfl⟩ : ∃ (r : Fin 352) (j : Fin 512), y = ix2 r j := ⟨y 0, y 1, eq_ix2 y⟩
  have ht : t.val < 12 := lt_of_lt_of_eq t.isLt N_0
  blk_simp
  rw [after0_15]
  by_cases h : t.val % 12 = 0
  · rw [outsAt0_A m c t h (by omega)]
    frame_out
    refine (dya_at m c t r j).trans (congrArg (dbranch (allDh m c) (argO m c) lo (argYa m c) (argGa m c)) ?_)
    unfold row
    blk_point [idx t]
  · rw [outsAt0_B m c t h (by omega)]
    frame_out
    refine (dya_at m c t r j).trans (congrArg (dbranch (allDh m c) (argO m c) lo (argYa m c) (argGa m c)) ?_)
    unfold row
    blk_point [idx t]

/-- The array of the second branch's gradient. -/
theorem arr_second : (dats m 0 c).arrAt 16 cfg0.N = dbranch (allDh m c) (argO m c) hi (argYl m c) (argGl m c) := by
  refine (dats m 0 c).arrAt_eq_of_covers 16 _ (by decide +kernel) fun t _ y => ?_
  obtain ⟨r, j, rfl⟩ : ∃ (r : Fin 352) (j : Fin 512), y = ix2 r j := ⟨y 0, y 1, eq_ix2 y⟩
  have ht : t.val < 12 := lt_of_lt_of_eq t.isLt N_0
  blk_simp
  rw [after0_16]
  by_cases h : t.val % 12 = 0
  · rw [outsAt0_A m c t h (by omega)]
    frame_out
    refine (dyl_at m c t r j).trans (congrArg (dbranch (allDh m c) (argO m c) hi (argYl m c) (argGl m c)) ?_)
    unfold row
    blk_point [idx t]
  · rw [outsAt0_B m c t h (by omega)]
    frame_out
    refine (dyl_at m c t r j).trans (congrArg (dbranch (allDh m c) (argO m c) hi (argYl m c) (argGl m c)) ?_)
    unfold row
    blk_point [idx t]

set_option maxHeartbeats 1600000 in
/-- The array of the norm's gain's gradient. -/
theorem arr_gain : (dats m 0 c).arrAt 14 cfg0.N = dg (argD m c) (argW m c) (argE m c) (argV m c) (argX m c) := by
  refine (dats m 0 c).arrAt_eq_of_after_last 14 t0_11 (by decide +kernel) _ fun j => ?_
  blk_simp
  rw [after0_14, Pipeline.eq_sum_fin_of_reset_step_apply_last (fun n h => (outsAt0 m c n h).2.2.1) 12 (fun _ => 0)
    (fun p j => k0_pay13 (F := Ideal) (duB m c p) (iblk m c 4 p) (k0_pay8 (iblk m c 4 p)) j)
    (fun t h j => by rw [outsAt0_A m c t h (by have := lt_of_lt_of_eq t.isLt N_0; omega)]; frame_out; exact (zero_add _).symm)
    (fun t h j => by rw [outsAt0_B m c t h (by omega)]; frame_out; exact pay2_at _ _ _)
    (le_of_eq N_0) t0_11 rfl j, zero_add]
  simp only [pay13_at, du_at, x_at]
  unfold dg
  exact Fin.sum_mul_add_congr fun s k hl => congrArg₂ (· * ·) (du_at m c s k (j 1)) (congrArg₂ (· * ·) (x_at m c s k (j 1)) rfl)

/-- The array of the first branch's gain's gradient. -/
theorem arr_gain_first : (dats m 0 c).arrAt 17 cfg0.N = dgain (allDh m c) (argO m c) lo (argYa m c) := by
  refine (dats m 0 c).arrAt_eq_of_after_last 17 t0_11 (by decide +kernel) _ fun j => ?_
  blk_simp
  rw [after0_17, Pipeline.eq_sum_fin_of_reset_step_apply_last (fun n h => (outsAt0 m c n h).2.2.2.2.2.1) 12 (fun _ => 0)
    (fun p j => k0_pay20 (F := Ideal) (dyB m c p) (iblk m c 8 p) (k0_pay16 (iblk m c 8 p)) j)
    (fun t h j => by rw [outsAt0_A m c t h (by have := lt_of_lt_of_eq t.isLt N_0; omega)]; frame_out; exact (zero_add _).symm)
    (fun t h j => by rw [outsAt0_B m c t h (by omega)]; frame_out; exact pay3_at _ _ _)
    (le_of_eq N_0) t0_11 rfl j, zero_add]
  simp only [pay20_at, dy_at, ya_at]
  unfold dgain
  exact Fin.sum_mul_add_congr fun s k hl => congrArg₂ (· * ·) rfl (congrArg₂ (· * ·) (ya_at m c s k (j 1)) rfl)

/-- The array of the second branch's gain's gradient. -/
theorem arr_gain_second : (dats m 0 c).arrAt 18 cfg0.N = dgain (allDh m c) (argO m c) hi (argYl m c) := by
  refine (dats m 0 c).arrAt_eq_of_after_last 18 t0_11 (by decide +kernel) _ fun j => ?_
  blk_simp
  rw [after0_18, Pipeline.eq_sum_fin_of_reset_step_apply_last (fun n h => (outsAt0 m c n h).2.2.2.2.2.2) 12 (fun _ => 0)
    (fun p j => k0_pay1 (F := Ideal) (k0_pay22 (iblk m c 9 p)) (k0_pay23 (dyB m c p)) j)
    (fun t h j => by rw [outsAt0_A m c t h (by have := lt_of_lt_of_eq t.isLt N_0; omega)]; frame_out; exact (zero_add _).symm)
    (fun t h j => by rw [outsAt0_B m c t h (by omega)]; frame_out; exact pay4_at _ _ _ _)
    (le_of_eq N_0) t0_11 rfl j, zero_add]
  simp only [pay1_at, dy_at, yl_at]
  unfold dgain
  exact Fin.sum_mul_add_congr fun s k hl => congrArg₂ (· * ·) rfl (congrArg₂ (· * ·) (yl_at m c s k (j 1)) rfl)

end Cert.NormIdeal.Back

end
-- ==== Proof.FfnUp.lean ====
/- The feed-forward's first products: the three arrays the kernel leaves are the reference's. -/
module

public import proofs.«01_k».proof.Proof.Gen.FfnUpIdeal.Value
public import proofs.«01_k».proof.Proof.Gen.FfnUpRefIdeal.Run
public import proofs.«01_k».proof.Proof.Scale
public import Idealize.ShloMosaic.Lib.Pointwise
public import Idealize.ShloMosaic.Lib.Pipeline.ValueKit

@[expose] public section

set_option maxRecDepth 16384

noncomputable section

namespace Cert.FfnUpIdeal.Forward

open Cert.FfnUpIdeal Cert.FfnUpIdeal.Gen Cert.FfnUpIdeal.Value Idealize.ShloMosaic Idealize.ShloMosaic.TcCoe Idealize.SL.Sem
open Idealize.ShloMosaic.Pipeline (Dat)

/-- A product: per shard, the rows times the weights. -/
def prod (X : FVec Ideal S4224x1024 .bf16) (W : FVec Ideal S4x704x1024 .bf16) : FVec Ideal S4x4224x704 .bf16 := fun i =>
  ∑ k : Fin 1024, X (ix2 (i 1) k) * W (ix3 (i 0) (i 2) k)

/-- The activation: the gate times its logistic function, times the other factor. -/
def act (X : FVec Ideal S4224x1024 .bf16) (W V : FVec Ideal S4x704x1024 .bf16) : FVec Ideal S4x4224x704 .bf16 := fun i =>
  prod X W i * Ideal.logistic (prod X W i) * prod X V i

variable (m : (ℓ : Loc nD τ sig) → Buf (Elt Ideal) ℓ) (c : Dev nD)

/-- The rows. -/
abbrev argX : FVec Ideal S4224x1024 .bf16 := m ((c : Thread nD τ).loc main_arg0)

/-- The gate's weights. -/
abbrev argG : FVec Ideal S4x704x1024 .bf16 := m ((c : Thread nD τ).loc main_arg1)

/-- The other factor's weights. -/
abbrev argU : FVec Ideal S4x704x1024 .bf16 := m ((c : Thread nD τ).loc main_arg2)

/-- Where each window's block of a point lies. -/
theorem idx : ∀ t : Fin cfg0.N, win0_0.index t = ![(grid0.coords t 1).val, 0] ∧ win0_1.index t = ![(grid0.coords t 0).val, 0, 0]
    ∧ win0_2.index t = ![(grid0.coords t 0).val, 0, 0] ∧ win0_3.index t = ![(grid0.coords t 0).val, (grid0.coords t 1).val, 0]
    ∧ win0_4.index t = ![(grid0.coords t 0).val, (grid0.coords t 1).val, 0] ∧ win0_5.index t = ![(grid0.coords t 0).val, (grid0.coords t 1).val, 0] :=
  (by decide +kernel : ∀ t : Fin grid0.N, _)

/-- The array of the gate. -/
theorem arr_gate : (dats m 0 c).arrAt 3 cfg0.N = prod (argX m c) (argG m c) := by
  refine (dats m 0 c).arrAt_eq_of_covers 3 _ (by decide +kernel) fun t _ y => ?_
  blk_simp
  rw [after0_3]
  frame_out
  pointwise [k0_pay3, k0_pay1, prod]
  blk_point [iblk, V, idx t]

/-- The array of the other factor. -/
theorem arr_up : (dats m 0 c).arrAt 4 cfg0.N = prod (argX m c) (argU m c) := by
  refine (dats m 0 c).arrAt_eq_of_covers 4 _ (by decide +kernel) fun t _ y => ?_
  blk_simp
  rw [after0_4]
  frame_out
  pointwise [k0_pay4, k0_pay2, prod]
  blk_point [iblk, V, idx t]

/-- The array of the activation. -/
theorem arr_act : (dats m 0 c).arrAt 5 cfg0.N = act (argX m c) (argG m c) (argU m c) := by
  refine (dats m 0 c).arrAt_eq_of_covers 5 _ (by decide +kernel) fun t _ y => ?_
  blk_simp
  rw [after0_5]
  frame_out
  pointwise [k0_pay5, k0_pay1, k0_pay2, act, prod]
  blk_point [iblk, V, idx t]

/-- The reference's product, before it is rounded. -/
abbrev refProd (X : FVec Ideal S4224x1024 .bf16) (W : FVec Ideal S4x704x1024 .bf16) : FVec Ideal S4x4224x704 .f32 :=
  (transpose Cert.FfnUpRefIdeal.S4x4224x704 [0, 2, 1] (Host.dotGeneral (F := Ideal) Cert.FfnUpRefIdeal.dot_S4x704x1024_S4224x1024_S4x704x4224_2_1_01_0_n_n none (extf .f32 W Cert.FfnUpRefIdeal.Gen.bitsLt_bf16_f32) (extf .f32 X Cert.FfnUpRefIdeal.Gen.bitsLt_bf16_f32)) Cert.FfnUpRefIdeal.Gen.transposes_S4x704x4224_S4x4224x704_0_2_1)

/-- The reference's activation. -/
abbrev refAct (X : FVec Ideal S4224x1024 .bf16) (W V : FVec Ideal S4x704x1024 .bf16) : FVec Ideal S4x4224x704 .bf16 :=
  truncf .bf16 (mulf (mulf (refProd X W) (Host.divf (broadcastInDim Cert.FfnUpRefIdeal.S4x4224x704 ![] Cert.FfnUpRefIdeal.Gen.bcast_S_S4x4224x704 (constant Cert.FfnUpRefIdeal.S_ .f32 0x3F800000#32)) (addf (broadcastInDim Cert.FfnUpRefIdeal.S4x4224x704 ![] Cert.FfnUpRefIdeal.Gen.bcast_S_S4x4224x704 (constant Cert.FfnUpRefIdeal.S_ .f32 0x3F800000#32)) (Host.exp (Host.negf (refProd X W)))))) (refProd X V)) Cert.FfnUpRefIdeal.Gen.bitsLt_bf16_f32

/-- The reference's product is the kernel's: the factors' order does not matter. -/
theorem refProd_eq (X : FVec Ideal S4224x1024 .bf16) (W : FVec Ideal S4x704x1024 .bf16) : refProd X W = prod X W := by
  funext i
  pointwise [prod]
  exact Finset.sum_congr rfl fun k _ => mul_comm _ _

/-- The reference's activation is the kernel's. -/
theorem refAct_eq (X : FVec Ideal S4224x1024 .bf16) (W V : FVec Ideal S4x704x1024 .bf16) : refAct X W V = act X W V := by
  unfold refAct
  rw [refProd_eq, refProd_eq]
  funext i
  pointwise [act]
  rfl

end Cert.FfnUpIdeal.Forward

end
-- ==== Proof.FfnDown.lean ====
/- The feed-forward's second products, added to the rows and normalised: both arrays the kernel leaves are the reference's. -/
module

public import proofs.«01_k».proof.Proof.Gen.FfnDownIdeal.Value
public import proofs.«01_k».proof.Proof.Gen.FfnDownRefIdeal.Run
public import proofs.«01_k».proof.Proof.Scale
public import Idealize.ShloMosaic.Lib.Pointwise
public import Idealize.ShloMosaic.Lib.Pipeline.ValueKit

@[expose] public section

set_option maxRecDepth 16384

noncomputable section

namespace Cert.FfnDownIdeal.Residual

open Cert.FfnDownIdeal Cert.FfnDownIdeal.Gen Cert.FfnDownIdeal.Value Idealize.ShloMosaic Idealize.ShloMosaic.TcCoe Idealize.SL.Sem
open Idealize.ShloMosaic.Pipeline (Dat)

/-- One shard's product, halved. -/
def part (A : FVec Ideal S4x4224x704 .bf16) (W : FVec Ideal S4x704x1024 .bf16) (s : Fin 4) (r : Fin 4224) (j : Fin 1024) : EReal :=
  Ideal.ofBits .f32 0x3F000000#32 * ∑ k : Fin 704, A (ix3 s r k) * W (ix3 s k j)

/-- The rows with the four shards' halved products added in order. -/
def sum (A : FVec Ideal S4x4224x704 .bf16) (W : FVec Ideal S4x704x1024 .bf16) (H : FVec Ideal S4224x1024 .f32) : FVec Ideal S4224x1024 .f32 := fun i =>
  H (ix2 (i 0) (i 1)) + part A W 0 (i 0) (i 1) + part A W 1 (i 0) (i 1) + part A W 2 (i 0) (i 1) + part A W 3 (i 0) (i 1)

/-- The normalised rows. -/
def norm (X : FVec Ideal S4224x1024 .f32) (G : FVec Ideal S1x1024 .f32) : FVec Ideal S4224x1024 .bf16 := fun i =>
  X (ix2 (i 0) (i 1)) * Ideal.rsqrt ((∑ k : Fin 1024, X (ix2 (i 0) k) * X (ix2 (i 0) k)) * Ideal.ofBits .f32 0x3A800000#32 + Ideal.ofBits .f32 0x358637BD#32) * G (ix2 0 (i 1))

variable (m : (ℓ : Loc nD τ sig) → Buf (Elt Ideal) ℓ) (c : Dev nD)

/-- The activations. -/
abbrev argA : FVec Ideal S4x4224x704 .bf16 := m ((c : Thread nD τ).loc main_arg0)

/-- The weights. -/
abbrev argW : FVec Ideal S4x704x1024 .bf16 := m ((c : Thread nD τ).loc main_arg1)

/-- The rows the products are added to. -/
abbrev argH : FVec Ideal S4224x1024 .f32 := m ((c : Thread nD τ).loc main_arg2)

/-- The norm's gain. -/
abbrev argG : FVec Ideal S1x1024 .f32 := m ((c : Thread nD τ).loc main_arg3)

/-- Where each window's block of a point lies: the point is the group of rows. -/
theorem idx : ∀ t : Fin cfg0.N, win0_0.index t = ![0, t.val, 0] ∧ win0_1.index t = ![0, 0, 0] ∧ win0_2.index t = ![t.val, 0]
    ∧ win0_3.index t = ![0, 0] ∧ win0_4.index t = ![t.val, 0] ∧ win0_5.index t = ![t.val, 0] :=
  (by decide +kernel : ∀ t : Fin grid0.N, _)

/-- The array of the sum. -/
theorem arr_sum : (dats m 0 c).arrAt 4 cfg0.N = sum (argA m c) (argW m c) (argH m c) := by
  refine (dats m 0 c).arrAt_eq_of_covers 4 _ (by decide +kernel) fun t _ y => ?_
  blk_simp
  rw [after0_4]
  frame_out
  pointwise [k0_pay1, k0_pay3, k0_pay4, k0_pay5, k0_pay6, sum, part]
  blk_point [iblk, V, idx t]

/-- The array of the normalised sum. -/
theorem arr_norm : (dats m 0 c).arrAt 5 cfg0.N = norm (sum (argA m c) (argW m c) (argH m c)) (argG m c) := by
  refine (dats m 0 c).arrAt_eq_of_covers 5 _ (by decide +kernel) fun t _ y => ?_
  blk_simp
  rw [after0_5]
  frame_out
  pointwise [k0_pay2, k0_pay1, k0_pay3, k0_pay4, k0_pay5, k0_pay6, norm, sum, part]
  blk_point [iblk, V, idx t]

/-- The reference's sum. -/
abbrev refSum (A : FVec Ideal S4x4224x704 .bf16) (W : FVec Ideal S4x704x1024 .bf16) (H : FVec Ideal S4224x1024 .f32) : FVec Ideal S4224x1024 .f32 :=
  addf H (mulf (broadcastInDim Cert.FfnDownRefIdeal.S4224x1024 ![] Cert.FfnDownRefIdeal.Gen.bcast_S_S4224x1024 (constant Cert.FfnDownRefIdeal.S_ .f32 0x3F000000#32)) (Host.dotGeneral (F := Ideal) Cert.FfnDownRefIdeal.dot_S4x4224x704_S4x704x1024_S4224x1024_20_10_1_2_n_n none (extf .f32 A Cert.FfnDownRefIdeal.Gen.bitsLt_bf16_f32) (extf .f32 W Cert.FfnDownRefIdeal.Gen.bitsLt_bf16_f32)))

/-- The reference's normalised rows. -/
abbrev refNorm (X : FVec Ideal S4224x1024 .f32) (G : FVec Ideal S1x1024 .f32) : FVec Ideal S4224x1024 .bf16 :=
  truncf .bf16 (mulf (mulf X (broadcastInDim Cert.FfnDownRefIdeal.S4224x1024 ![0, 1] Cert.FfnDownRefIdeal.Gen.bcast_S4224x1_S4224x1024_0_1 (Host.rsqrt (addf (Host.divf (broadcastInDim Cert.FfnDownRefIdeal.S4224x1 ![0] Cert.FfnDownRefIdeal.Gen.bcast_S4224_S4224x1_0 (Host.reduceAdd (mulf X X) (constant Cert.FfnDownRefIdeal.S_ .f32 0x00000000#32) Cert.FfnDownRefIdeal.Gen.reducesTo_S4224x1024_S4224_d1 Cert.FfnDownRefIdeal.Gen.h_S_)) (broadcastInDim Cert.FfnDownRefIdeal.S4224x1 ![] Cert.FfnDownRefIdeal.Gen.bcast_S_S4224x1 (constant Cert.FfnDownRefIdeal.S_ .f32 0x44800000#32))) (broadcastInDim Cert.FfnDownRefIdeal.S4224x1 ![] Cert.FfnDownRefIdeal.Gen.bcast_S_S4224x1 (constant Cert.FfnDownRefIdeal.S_ .f32 0x358637BD#32)))))) (broadcastInDim Cert.FfnDownRefIdeal.S4224x1024 ![0, 1] Cert.FfnDownRefIdeal.Gen.bcast_S1x1024_S4224x1024_0_1 G)) Cert.FfnDownRefIdeal.Gen.bitsLt_bf16_f32

/-- The reference adds half of one long sum: the same. -/
theorem refSum_eq (A : FVec Ideal S4x4224x704 .bf16) (W : FVec Ideal S4x704x1024 .bf16) (H : FVec Ideal S4224x1024 .f32) : refSum A W H = sum A W H := by
  funext i
  pointwise [sum, part]
  rw [Finset.sum_comm, Scale.half_sum, Fin.sum_univ_four]
  simp only [add_assoc]

/-- The reference divides by the width: the same. -/
theorem refNorm_eq (X : FVec Ideal S4224x1024 .f32) (G : FVec Ideal S1x1024 .f32) : refNorm X G = norm X G := by
  funext i
  pointwise [norm]
  rw [Scale.div_1024]

end Cert.FfnDownIdeal.Residual

end
-- ==== Proof.MixIn.lean ====
/- The mixer's input product: the array the kernel leaves is the reference's. -/
module

public import proofs.«01_k».proof.Proof.Gen.MixInIdeal.Value
public import proofs.«01_k».proof.Proof.Gen.MixInRefIdeal.Run
public import proofs.«01_k».proof.Proof.Scale
public import Idealize.ShloMosaic.Lib.Pointwise
public import Idealize.ShloMosaic.Lib.Pipeline.ValueKit

@[expose] public section

set_option maxRecDepth 16384

noncomputable section

namespace Cert.MixInIdeal.Product

open Cert.MixInIdeal Cert.MixInIdeal.Gen Cert.MixInIdeal.Value Idealize.ShloMosaic Idealize.ShloMosaic.TcCoe Idealize.SL.Sem
open Idealize.ShloMosaic.Pipeline (Dat)

variable (m : (ℓ : Loc nD τ sig) → Buf (Elt Ideal) ℓ) (c : Dev nD)

/-- The rows. -/
abbrev rows : FVec Ideal S4224x1024 .bf16 := m ((c : Thread nD τ).loc main_arg0)

/-- The weights. -/
abbrev weights : FVec Ideal S1792x1024 .bf16 := m ((c : Thread nD τ).loc main_arg1)

/-- The product of the rows and the weights. -/
def prod : FVec Ideal S4224x1792 .f32 := fun i => ∑ k : Fin 1024, rows m c (ix2 (i 0) k) * weights m c (ix2 (i 1) k)

/-- Where each window's block of a point lies: the point is the group of rows. -/
theorem idx : ∀ t : Fin cfg0.N, win0_0.index t = ![t.val, 0] ∧ win0_1.index t = ![0, 0] ∧ win0_2.index t = ![t.val, 0] :=
  (by decide +kernel : ∀ t : Fin grid0.N, _)

/-- The array of the product. -/
theorem arr_prod : (dats m 0 c).arrAt 2 cfg0.N = prod m c := by
  refine (dats m 0 c).arrAt_eq_of_covers 2 _ (by decide +kernel) fun t _ y => ?_
  blk_simp
  rw [after0_2]
  frame_out
  pointwise [k0_pay1, prod]
  blk_point [iblk, V, idx t]

/-- The reference's product is the same. -/
theorem ref_eq : Host.dotGeneral (F := Ideal) Cert.MixInRefIdeal.dot_S4224x1024_S1024x1792_S4224x1792_1_0_0_1_n_n none (extf .f32 (rows m c) Cert.MixInRefIdeal.Gen.bitsLt_bf16_f32)
    (transpose Cert.MixInRefIdeal.S1024x1792 [1, 0] (extf .f32 (weights m c) Cert.MixInRefIdeal.Gen.bitsLt_bf16_f32) Cert.MixInRefIdeal.Gen.transposes_S1792x1024_S1024x1792_1_0) = prod m c := by
  funext i
  unfold prod
  pointwise []

end Cert.MixInIdeal.Product

end
-- ==== Proof.MixOut.lean ====
/- The mixer's output product, added to the rows and normalised: the three arrays the kernel leaves are the reference's. -/
module

public import proofs.«01_k».proof.Proof.Gen.MixOutIdeal.Value
public import proofs.«01_k».proof.Proof.Gen.MixOutRefIdeal.Run
public import proofs.«01_k».proof.Proof.Scale
public import Idealize.ShloMosaic.Lib.Pointwise
public import Idealize.ShloMosaic.Lib.Pipeline.ValueKit

@[expose] public section

set_option maxRecDepth 16384

noncomputable section

namespace Cert.MixOutIdeal.Residual

open Cert.MixOutIdeal Cert.MixOutIdeal.Gen Cert.MixOutIdeal.Value Idealize.ShloMosaic Idealize.ShloMosaic.TcCoe Idealize.SL.Sem
open Idealize.ShloMosaic.Pipeline (Dat)

/-- A branch's normalised rows. -/
def branch (Y : FVec Ideal S4224x512 .f32) (G : FVec Ideal S1x512 .f32) (r : Fin 4224) (j : Fin 512) : EReal :=
  Y (ix2 r j) * Ideal.rsqrt ((∑ k : Fin 512, Y (ix2 r k) * Y (ix2 r k)) * Ideal.ofBits .f32 0x3B000000#32 + Ideal.ofBits .f32 0x358637BD#32) * G (ix2 0 j)

/-- The two branches side by side. -/
def both (A L : FVec Ideal S4224x512 .f32) (gA gL : FVec Ideal S1x512 .f32) : FVec Ideal S4224x1024 .bf16 := fun i =>
  if h : (i 1).val < 512 then branch A gA (i 0) ⟨(i 1).val, h⟩ else branch L gL (i 0) ⟨(i 1).val - 512, by have : (i 1).val < 1024 := (i 1).isLt; omega⟩

/-- The left half is the first branch. -/
theorem both_left (A L : FVec Ideal S4224x512 .f32) (gA gL : FVec Ideal S1x512 .f32) (i : S4224x1024.Idx) (j : Fin 512) (h : (i 1).val = j.val) : both A L gA gL i = branch A gA (i 0) j := by
  unfold both
  rw [dif_pos (h ▸ j.isLt)]
  exact congrArg (branch A gA (i 0)) (Fin.ext h)

/-- The right half is the second branch. -/
theorem both_right (A L : FVec Ideal S4224x512 .f32) (gA gL : FVec Ideal S1x512 .f32) (i : S4224x1024.Idx) (j : Fin 512) (h : (i 1).val = 512 + j.val) : both A L gA gL i = branch L gL (i 0) j := by
  unfold both
  rw [dif_neg (by omega)]
  exact congrArg (branch L gL (i 0)) (Fin.ext (by show (i 1).val - 512 = j.val; omega))

/-- The rows with the two branches' products added in order. -/
def sum (A L : FVec Ideal S4224x512 .f32) (gA gL : FVec Ideal S1x512 .f32) (W : FVec Ideal S1024x1024 .bf16) (H : FVec Ideal S4224x1024 .f32) : FVec Ideal S4224x1024 .f32 := fun i =>
  H (ix2 (i 0) (i 1)) + (∑ k : Fin 512, branch A gA (i 0) k * W (ix2 ⟨k.val, by omega⟩ (i 1))) + ∑ k : Fin 512, branch L gL (i 0) k * W (ix2 ⟨512 + k.val, by omega⟩ (i 1))

/-- The normalised rows. -/
def norm (X : FVec Ideal S4224x1024 .f32) (G : FVec Ideal S1x1024 .f32) : FVec Ideal S4224x1024 .bf16 := fun i =>
  X (ix2 (i 0) (i 1)) * Ideal.rsqrt ((∑ k : Fin 1024, X (ix2 (i 0) k) * X (ix2 (i 0) k)) * Ideal.ofBits .f32 0x3A800000#32 + Ideal.ofBits .f32 0x358637BD#32) * G (ix2 0 (i 1))

variable (m : (ℓ : Loc nD τ sig) → Buf (Elt Ideal) ℓ) (c : Dev nD)

/-- The first branch's rows. -/
abbrev argA : FVec Ideal S4224x512 .f32 := m ((c : Thread nD τ).loc main_arg0)

/-- The second branch's rows. -/
abbrev argL : FVec Ideal S4224x512 .f32 := m ((c : Thread nD τ).loc main_arg1)

/-- The first branch's gain. -/
abbrev argGA : FVec Ideal S1x512 .f32 := m ((c : Thread nD τ).loc main_arg2)

/-- The second branch's gain. -/
abbrev argGL : FVec Ideal S1x512 .f32 := m ((c : Thread nD τ).loc main_arg3)

/-- The weights. -/
abbrev argW : FVec Ideal S1024x1024 .bf16 := m ((c : Thread nD τ).loc main_arg4)

/-- The rows the product is added to. -/
abbrev argH : FVec Ideal S4224x1024 .f32 := m ((c : Thread nD τ).loc main_arg5)

/-- The norm's gain. -/
abbrev argG : FVec Ideal S1x1024 .f32 := m ((c : Thread nD τ).loc main_arg6)

/-- Where each window's block of a point lies: the point is the group of rows. -/
theorem idx : ∀ t : Fin cfg0.N, win0_0.index t = ![t.val, 0] ∧ win0_1.index t = ![t.val, 0] ∧ win0_2.index t = ![0, 0] ∧ win0_3.index t = ![0, 0]
    ∧ win0_4.index t = ![0, 0] ∧ win0_5.index t = ![t.val, 0] ∧ win0_6.index t = ![0, 0] ∧ win0_7.index t = ![t.val, 0]
    ∧ win0_8.index t = ![t.val, 0] ∧ win0_9.index t = ![t.val, 0] :=
  (by decide +kernel : ∀ t : Fin grid0.N, _)

/-- The array of the two branches. -/
theorem arr_both : (dats m 0 c).arrAt 7 cfg0.N = both (argA m c) (argL m c) (argGA m c) (argGL m c) := by
  refine (dats m 0 c).arrAt_eq_of_covers 7 _ (by decide +kernel) fun t _ y => ?_
  blk_simp
  rw [after0_7]
  frame_out
  canon_tiles x h
  · rw [both_right _ _ _ _ _ (x 1) (by blk_simp [idx t]; omega)]
    pointwise [k0_pay4, branch]
    blk_point [iblk, V, idx t]
  · rw [both_left _ _ _ _ _ (x 1) (by blk_simp [idx t]; omega)]
    pointwise [k0_pay3, branch]
    blk_point [iblk, V, idx t]

/-- The array of the sum. -/
theorem arr_sum : (dats m 0 c).arrAt 8 cfg0.N = sum (argA m c) (argL m c) (argGA m c) (argGL m c) (argW m c) (argH m c) := by
  refine (dats m 0 c).arrAt_eq_of_covers 8 _ (by decide +kernel) fun t _ y => ?_
  blk_simp
  rw [after0_8]
  frame_out
  pointwise [k0_pay1, k0_pay3, k0_pay4, k0_pay5, k0_pay6, k0_pay7, sum, branch]
  blk_point [iblk, V, idx t]

/-- The array of the normalised sum. -/
theorem arr_norm : (dats m 0 c).arrAt 9 cfg0.N = norm (sum (argA m c) (argL m c) (argGA m c) (argGL m c) (argW m c) (argH m c)) (argG m c) := by
  refine (dats m 0 c).arrAt_eq_of_covers 9 _ (by decide +kernel) fun t _ y => ?_
  blk_simp
  rw [after0_9]
  frame_out
  pointwise [k0_pay2, k0_pay1, k0_pay3, k0_pay4, k0_pay5, k0_pay6, k0_pay7, norm, sum, branch]
  blk_point [iblk, V, idx t]

/-- The reference's normalised rows of one branch. -/
abbrev refBranch (Y : FVec Ideal S4224x512 .f32) (G : FVec Ideal S1x512 .f32) : FVec Ideal S4224x512 .f32 :=
  (mulf (mulf Y (broadcastInDim Cert.MixOutRefIdeal.S4224x512 ![0, 1] Cert.MixOutRefIdeal.Gen.bcast_S4224x1_S4224x512_0_1 (Host.rsqrt (addf (Host.divf (broadcastInDim Cert.MixOutRefIdeal.S4224x1 ![0] Cert.MixOutRefIdeal.Gen.bcast_S4224_S4224x1_0 (Host.reduceAdd (mulf Y Y) (constant Cert.MixOutRefIdeal.S_ .f32 0x00000000#32) Cert.MixOutRefIdeal.Gen.reducesTo_S4224x512_S4224_d1 Cert.MixOutRefIdeal.Gen.h_S_)) (broadcastInDim Cert.MixOutRefIdeal.S4224x1 ![] Cert.MixOutRefIdeal.Gen.bcast_S_S4224x1 (constant Cert.MixOutRefIdeal.S_ .f32 0x44000000#32))) (broadcastInDim Cert.MixOutRefIdeal.S4224x1 ![] Cert.MixOutRefIdeal.Gen.bcast_S_S4224x1 (constant Cert.MixOutRefIdeal.S_ .f32 0x358637BD#32)))))) (broadcastInDim Cert.MixOutRefIdeal.S4224x512 ![0, 1] Cert.MixOutRefIdeal.Gen.bcast_S1x512_S4224x512_0_1 G))

/-- The reference's two branches side by side. -/
abbrev refBoth (A L : FVec Ideal S4224x512 .f32) (gA gL : FVec Ideal S1x512 .f32) : FVec Ideal S4224x1024 .f32 :=
  (concatenate Cert.MixOutRefIdeal.S4224x1024 1 [⟨Cert.MixOutRefIdeal.S4224x512, refBranch A gA⟩, ⟨Cert.MixOutRefIdeal.S4224x512, refBranch L gL⟩] Cert.MixOutRefIdeal.Gen.concatenates_S4224x512_S4224x512_S4224x1024_d1)

/-- The reference's sum. -/
abbrev refSum (A L : FVec Ideal S4224x512 .f32) (gA gL : FVec Ideal S1x512 .f32) (W : FVec Ideal S1024x1024 .bf16) (H : FVec Ideal S4224x1024 .f32) : FVec Ideal S4224x1024 .f32 :=
  addf H (Host.dotGeneral (F := Ideal) Cert.MixOutRefIdeal.dot_S4224x1024_S1024x1024_S4224x1024_1_0_0_1_n_n none (refBoth A L gA gL) (extf .f32 W Cert.MixOutRefIdeal.Gen.bitsLt_bf16_f32))

/-- The reference's normalised rows. -/
abbrev refNorm (X : FVec Ideal S4224x1024 .f32) (G : FVec Ideal S1x1024 .f32) : FVec Ideal S4224x1024 .bf16 :=
  truncf .bf16 (mulf (mulf X (broadcastInDim Cert.MixOutRefIdeal.S4224x1024 ![0, 1] Cert.MixOutRefIdeal.Gen.bcast_S4224x1_S4224x1024_0_1 (Host.rsqrt (addf (Host.divf (broadcastInDim Cert.MixOutRefIdeal.S4224x1 ![0] Cert.MixOutRefIdeal.Gen.bcast_S4224_S4224x1_0 (Host.reduceAdd (mulf X X) (constant Cert.MixOutRefIdeal.S_ .f32 0x00000000#32) Cert.MixOutRefIdeal.Gen.reducesTo_S4224x1024_S4224_d1 Cert.MixOutRefIdeal.Gen.h_S_)) (broadcastInDim Cert.MixOutRefIdeal.S4224x1 ![] Cert.MixOutRefIdeal.Gen.bcast_S_S4224x1 (constant Cert.MixOutRefIdeal.S_ .f32 0x44800000#32))) (broadcastInDim Cert.MixOutRefIdeal.S4224x1 ![] Cert.MixOutRefIdeal.Gen.bcast_S_S4224x1 (constant Cert.MixOutRefIdeal.S_ .f32 0x358637BD#32)))))) (broadcastInDim Cert.MixOutRefIdeal.S4224x1024 ![0, 1] Cert.MixOutRefIdeal.Gen.bcast_S1x1024_S4224x1024_0_1 G)) Cert.MixOutRefIdeal.Gen.bitsLt_bf16_f32

/-- The reference's branches are the kernel's. -/
theorem refBoth_eq (A L : FVec Ideal S4224x512 .f32) (gA gL : FVec Ideal S1x512 .f32) : refBoth A L gA gL = both A L gA gL := by
  funext i
  pointwise [both, branch]
  simp only [Scale.div_512]

/-- The reference's one product over both branches is the sum of the two. -/
theorem refSum_eq (A L : FVec Ideal S4224x512 .f32) (gA gL : FVec Ideal S1x512 .f32) (W : FVec Ideal S1024x1024 .bf16) (H : FVec Ideal S4224x1024 .f32) : refSum A L gA gL W H = sum A L gA gL W H := by
  unfold refSum
  rw [refBoth_eq]
  funext i
  pointwise [sum]
  rw [add_assoc]
  congr 1
  refine (Fin.sum_univ_add (a := 512) (b := 512) fun k : Fin (512 + 512) => (both A L gA gL (ix2 (i 0) k) * W (ix2 k (i 1)) : EReal)).trans ?_
  refine congrArg₂ _ (Finset.sum_congr rfl fun k _ => ?_) (Finset.sum_congr rfl fun k _ => ?_)
  · rw [both_left A L gA gL _ k rfl]
    rfl
  · rw [both_right A L gA gL _ k rfl]
    rfl

/-- The reference divides by the width: the same. -/
theorem refNorm_eq (X : FVec Ideal S4224x1024 .f32) (G : FVec Ideal S1x1024 .f32) : refNorm X G = norm X G := by
  funext i
  pointwise [norm]
  rw [Scale.div_1024]

end Cert.MixOutIdeal.Residual

end
-- ==== Proof.DwIn.lean ====
/- The mixer's input weights' gradient: the array the kernel leaves is the reference's. -/
module

public import proofs.«01_k».proof.Proof.Gen.DwInIdeal.Value
public import proofs.«01_k».proof.Proof.Gen.DwInRefIdeal.Run
public import proofs.«01_k».proof.Proof.Scale
public import Idealize.ShloMosaic.Lib.Pointwise
public import Idealize.ShloMosaic.Lib.Pipeline.ValueKit

@[expose] public section

set_option maxRecDepth 16384

noncomputable section

namespace Cert.DwInIdeal.Weights

open Cert.DwInIdeal Cert.DwInIdeal.Gen Cert.DwInIdeal.Value Idealize.ShloMosaic Idealize.ShloMosaic.TcCoe Idealize.SL.Sem
open Idealize.ShloMosaic.Pipeline (Dat)

variable (m : (ℓ : Loc nD τ sig) → Buf (Elt Ideal) ℓ) (c : Dev nD)

/-- The gradient of the products. -/
abbrev ct : FVec Ideal S4224x1792 .bf16 := m ((c : Thread nD τ).loc main_arg0)

/-- The products' input. -/
abbrev inp : FVec Ideal S4224x1024 .bf16 := m ((c : Thread nD τ).loc main_arg1)

/-- The weights' gradient: the sum over the rows. -/
def grad : FVec Ideal S1792x1024 .f32 := fun i => ∑ r : Fin 4224, ct m c (ix2 r (i 0)) * inp m c (ix2 r (i 1))

/-- Where each window's block of a point lies: the point is the group of columns. -/
theorem idx : ∀ t : Fin cfg0.N, win0_0.index t = ![0, (grid0.coords t 1).val] ∧ win0_1.index t = ![0, 0] ∧ win0_2.index t = ![(grid0.coords t 1).val, 0] :=
  (by decide +kernel : ∀ t : Fin grid0.N, _)

/-- The array of the gradient. -/
theorem arr_grad : (dats m 0 c).arrAt 2 cfg0.N = grad m c := by
  refine (dats m 0 c).arrAt_eq_of_covers 2 _ (by decide +kernel) fun t _ y => ?_
  blk_simp
  rw [after0_2]
  frame_out
  pointwise [k0_pay1, grad]
  blk_point [iblk, V, idx t]

/-- The reference's gradient is the same. -/
theorem ref_eq : transpose Cert.DwInRefIdeal.S1792x1024 [1, 0] (transpose Cert.DwInRefIdeal.S1024x1792 [1, 0] (Host.dotGeneral (F := Ideal) Cert.DwInRefIdeal.dot_S4224x1792_S4224x1024_S1792x1024_0_0_1_1_n_n none (extf .f32 (ct m c) Cert.DwInRefIdeal.Gen.bitsLt_bf16_f32) (extf .f32 (inp m c) Cert.DwInRefIdeal.Gen.bitsLt_bf16_f32)) Cert.DwInRefIdeal.Gen.transposes_S1792x1024_S1024x1792_1_0) Cert.DwInRefIdeal.Gen.transposes_S1024x1792_S1792x1024_1_0 = grad m c := by
  funext i
  unfold grad
  pointwise []

end Cert.DwInIdeal.Weights

end
-- ==== Proof.DwOut.lean ====
/- The mixer's output weights' gradient: the array the kernel leaves is the reference's. -/
module

public import proofs.«01_k».proof.Proof.Gen.DwOutIdeal.Value
public import proofs.«01_k».proof.Proof.Gen.DwOutRefIdeal.Run
public import proofs.«01_k».proof.Proof.Scale
public import Idealize.ShloMosaic.Lib.Pointwise
public import Idealize.ShloMosaic.Lib.Pipeline.ValueKit

@[expose] public section

set_option maxRecDepth 16384

noncomputable section

namespace Cert.DwOutIdeal.Weights

open Cert.DwOutIdeal Cert.DwOutIdeal.Gen Cert.DwOutIdeal.Value Idealize.ShloMosaic Idealize.ShloMosaic.TcCoe Idealize.SL.Sem
open Idealize.ShloMosaic.Pipeline (Dat)

variable (m : (ℓ : Loc nD τ sig) → Buf (Elt Ideal) ℓ) (c : Dev nD)

/-- The products' input. -/
abbrev lhs : FVec Ideal S4224x1024 .bf16 := m ((c : Thread nD τ).loc main_arg0)

/-- The gradient of the products. -/
abbrev rhs : FVec Ideal S4224x1024 .bf16 := m ((c : Thread nD τ).loc main_arg1)

/-- The weights' gradient: the sum over the rows. -/
def grad : FVec Ideal S1024x1024 .f32 := fun i => ∑ r : Fin 4224, lhs m c (ix2 r (i 0)) * rhs m c (ix2 r (i 1))

/-- Where each window's block of a point lies: the point is the group of columns. -/
theorem idx : ∀ t : Fin cfg0.N, win0_0.index t = ![0, (grid0.coords t 1).val] ∧ win0_1.index t = ![0, 0] ∧ win0_2.index t = ![(grid0.coords t 1).val, 0] :=
  (by decide +kernel : ∀ t : Fin grid0.N, _)

/-- The array of the gradient. -/
theorem arr_grad : (dats m 0 c).arrAt 2 cfg0.N = grad m c := by
  refine (dats m 0 c).arrAt_eq_of_covers 2 _ (by decide +kernel) fun t _ y => ?_
  blk_simp
  rw [after0_2]
  frame_out
  pointwise [k0_pay1, grad]
  blk_point [iblk, V, idx t]

/-- The reference's gradient is the same. -/
theorem ref_eq : transpose Cert.DwOutRefIdeal.S1024x1024 [1, 0] (Host.dotGeneral (F := Ideal) Cert.DwOutRefIdeal.dot_S4224x1024_S4224x1024_S1024x1024_0_0_1_1_n_n none (extf .f32 (rhs m c) Cert.DwOutRefIdeal.Gen.bitsLt_bf16_f32) (extf .f32 (lhs m c) Cert.DwOutRefIdeal.Gen.bitsLt_bf16_f32)) Cert.DwOutRefIdeal.Gen.transposes_S1024x1024_S1024x1024_1_0 = grad m c := by
  funext i
  unfold grad
  pointwise []
  exact Finset.sum_congr rfl fun k _ => mul_comm _ _

end Cert.DwOutIdeal.Weights

end
-- ==== Proof.MixDin.lean ====
/- The gradient of the mixer's norm: the three arrays the kernel leaves are the reference's. -/
module

public import proofs.«01_k».proof.Proof.Gen.MixDinIdeal.Value
public import proofs.«01_k».proof.Proof.Gen.MixDinRefIdeal.Run
public import proofs.«01_k».proof.Proof.Rms
public import Idealize.ShloMosaic.Lib.Pointwise
public import Idealize.ShloMosaic.Lib.Pipeline.ValueKit

@[expose] public section

set_option maxRecDepth 16384

noncomputable section

namespace Cert.MixDinIdeal.Back

open Cert.MixDinIdeal Cert.MixDinIdeal.Gen Cert.MixDinIdeal.Value Idealize.ShloMosaic Idealize.ShloMosaic.TcCoe Idealize.SL.Sem
open Idealize.ShloMosaic.Pipeline (Dat)

/-- The gradient of the normalised rows: the product's gradient times the weights. -/
def du (Z : FVec Ideal S4224x1792 .bf16) (W : FVec Ideal S1792x1024 .bf16) (r : Fin 4224) (j : Fin 1024) : EReal := ∑ k : Fin 1792, Z (ix2 r k) * W (ix2 k j)

/-- A row's scale. -/
def scale (X : FVec Ideal S4224x1024 .f32) (r : Fin 4224) : EReal :=
  Ideal.rsqrt ((∑ k : Fin 1024, X (ix2 r k) * X (ix2 r k)) * Ideal.ofBits .f32 0x3A800000#32 + Ideal.ofBits .f32 0x358637BD#32)

/-- The rows' gradient. -/
def dh (Z : FVec Ideal S4224x1792 .bf16) (W : FVec Ideal S1792x1024 .bf16) (X : FVec Ideal S4224x1024 .f32) (G : FVec Ideal S1x1024 .f32) (B : FVec Ideal S4224x1024 .f32) : FVec Ideal S4224x1024 .f32 := fun i =>
  B (ix2 (i 0) (i 1)) + scale X (i 0) * (du Z W (i 0) (i 1) * G (ix2 0 (i 1)) - X (ix2 (i 0) (i 1)) * scale X (i 0)
    * ((∑ k : Fin 1024, du Z W (i 0) k * G (ix2 0 k) * (X (ix2 (i 0) k) * scale X (i 0))) * Ideal.ofBits .f32 0x3A800000#32))

/-- The gain's gradient: the sum over the rows. -/
def dg (Z : FVec Ideal S4224x1792 .bf16) (W : FVec Ideal S1792x1024 .bf16) (X : FVec Ideal S4224x1024 .f32) : FVec Ideal S1x1024 .f32 := fun i =>
  ∑ r : Fin 4224, du Z W r (i 1) * (X (ix2 r (i 1)) * scale X r)

variable (m : (ℓ : Loc nD τ sig) → Buf (Elt Ideal) ℓ) (c : Dev nD)

/-- The product's gradient. -/
abbrev argZ : FVec Ideal S4224x1792 .bf16 := m ((c : Thread nD τ).loc main_arg0)

/-- The product's weights. -/
abbrev argW : FVec Ideal S1792x1024 .bf16 := m ((c : Thread nD τ).loc main_arg1)

/-- The rows that are normalised. -/
abbrev argX : FVec Ideal S4224x1024 .f32 := m ((c : Thread nD τ).loc main_arg2)

/-- The norm's gain. -/
abbrev argG : FVec Ideal S1x1024 .f32 := m ((c : Thread nD τ).loc main_arg3)

/-- The gradient that is added. -/
abbrev argB : FVec Ideal S4224x1024 .f32 := m ((c : Thread nD τ).loc main_arg4)

/-- Where each window's block of a point lies: the point is the group of rows. -/
theorem idx : ∀ t : Fin cfg0.N, win0_0.index t = ![t.val, 0] ∧ win0_1.index t = ![0, 0] ∧ win0_2.index t = ![t.val, 0] ∧ win0_3.index t = ![0, 0]
    ∧ win0_4.index t = ![t.val, 0] ∧ win0_5.index t = ![t.val, 0] ∧ win0_6.index t = ![t.val, 0] ∧ win0_7.index t = ![0, 0] :=
  (by decide +kernel : ∀ t : Fin grid0.N, _)

/-- The array of the rows' gradient. -/
theorem arr_dh : (dats m 0 c).arrAt 5 cfg0.N = dh (argZ m c) (argW m c) (argX m c) (argG m c) (argB m c) := by
  refine (dats m 0 c).arrAt_eq_of_covers 5 _ (by decide +kernel) fun t _ y => ?_
  have ht : t.val < 12 := lt_of_lt_of_eq t.isLt N_0
  blk_simp
  rw [after0_5]
  by_cases h : t.val % 12 = 0
  · rw [outsAt0_A m c t h (by omega)]
    frame_out
    pointwise [k0_pay3, k0_pay4, k0_pay5, k0_pay6, k0_pay7, dh, du, scale]
    blk_point [iblk, V, idx t]
  · rw [outsAt0_B m c t h (by omega)]
    frame_out
    pointwise [k0_pay3, k0_pay4, k0_pay5, k0_pay6, k0_pay7, dh, du, scale]
    blk_point [iblk, V, idx t]

/-- The array of its short copy. -/
theorem arr_short : (dats m 0 c).arrAt 6 cfg0.N = dh (argZ m c) (argW m c) (argX m c) (argG m c) (argB m c) := by
  refine (dats m 0 c).arrAt_eq_of_covers 6 _ (by decide +kernel) fun t _ y => ?_
  have ht : t.val < 12 := lt_of_lt_of_eq t.isLt N_0
  blk_simp
  rw [after0_6]
  by_cases h : t.val % 12 = 0
  · rw [outsAt0_A m c t h (by omega)]
    frame_out
    pointwise [k0_pay3, k0_pay4, k0_pay5, k0_pay6, k0_pay7, dh, du, scale]
    blk_point [iblk, V, idx t]
  · rw [outsAt0_B m c t h (by omega)]
    frame_out
    pointwise [k0_pay3, k0_pay4, k0_pay5, k0_pay6, k0_pay7, dh, du, scale]
    blk_point [iblk, V, idx t]

/-- A group's part of the gain's gradient, added to what is there. -/
theorem part_add (v1 : Vec Ideal S352x1792 .bf16) (v2 : Vec Ideal S1792x1024 .bf16) (v5 : Vec Ideal S352x1024 .f32) (acc : Vec Ideal S1x1024 .f32) (j : S1x1024.Idx) :
    k0_pay2 (F := Ideal) (k0_pay8 v1 v2 v5) acc j = acc j + k0_pay1 (F := Ideal) (k0_pay8 v1 v2 v5) j := by
  pointwise [k0_pay2]

/-- A group's part of the gain's gradient. -/
theorem part_at (v1 : Vec Ideal S352x1792 .bf16) (v2 : Vec Ideal S1792x1024 .bf16) (v5 : Vec Ideal S352x1024 .f32) (j : S1x1024.Idx) :
    k0_pay1 (F := Ideal) (k0_pay8 v1 v2 v5) j = ∑ r : Fin 352, (∑ k : Fin 1792, v1 (ix2 r k) * v2 (ix2 k (j 1)))
      * (v5 (ix2 r (j 1)) * Ideal.rsqrt ((∑ k : Fin 1024, v5 (ix2 r k) * v5 (ix2 r k)) * Ideal.ofBits .f32 0x3A800000#32 + Ideal.ofBits .f32 0x358637BD#32)) := by
  pointwise [k0_pay1, k0_pay8, k0_pay3, k0_pay4, k0_pay5]

/-- The array of the gain's gradient. -/
theorem arr_gain : (dats m 0 c).arrAt 7 cfg0.N = dg (argZ m c) (argW m c) (argX m c) := by
  refine (dats m 0 c).arrAt_eq_of_after_last 7 t0_11 (by decide +kernel) _ fun j => ?_
  blk_simp
  rw [after0_7, Pipeline.eq_sum_fin_of_reset_step_apply_last (fun n h => (outsAt0 m c n h).2.2) 12 (fun _ => 0)
    (fun p j => k0_pay1 (F := Ideal) (k0_pay8 (iblk m c 0 p) (iblk m c 1 p) (iblk m c 2 p)) j)
    (fun t h j => by rw [outsAt0_A m c t h (by have := lt_of_lt_of_eq t.isLt N_0; omega)]; frame_out; rw [zero_add])
    (fun t h j => by rw [outsAt0_B m c t h (by omega)]; frame_out; rw [part_add])
    (le_of_eq N_0) t0_11 rfl j, zero_add]
  unfold dg
  simp only [part_at]
  refine Fin.sum_mul_add_congr fun s k hl => ?_
  unfold du scale
  blk_point [iblk, V, idx s]

end Cert.MixDinIdeal.Back

end
-- ==== Proof.FirstNorm.lean ====
/- The first block's norm: the array that the kernel leaves is the reference's. -/
module

public import proofs.«01_k».proof.Proof.Gen.FirstNormIdeal.Value
public import proofs.«01_k».proof.Proof.Gen.FirstNormRefIdeal.Run
public import proofs.«01_k».proof.Proof.Scale
public import Idealize.ShloMosaic.Lib.Pointwise
public import Idealize.ShloMosaic.Lib.Pipeline.ValueKit

@[expose] public section

set_option maxRecDepth 16384

noncomputable section

namespace Cert.FirstNormIdeal.Rows

open Cert.FirstNormIdeal Cert.FirstNormIdeal.Gen Cert.FirstNormIdeal.Value Idealize.ShloMosaic Idealize.ShloMosaic.TcCoe Idealize.SL.Sem
open Idealize.ShloMosaic.Pipeline (Dat)

/-- The normalised rows. -/
def norm (X : FVec Ideal S4224x1024 .f32) (G : FVec Ideal S1x1024 .f32) : FVec Ideal S4224x1024 .bf16 := fun i =>
  X (ix2 (i 0) (i 1)) * Ideal.rsqrt ((∑ k : Fin 1024, X (ix2 (i 0) k) * X (ix2 (i 0) k)) * Ideal.ofBits .f32 0x3A800000#32 + Ideal.ofBits .f32 0x358637BD#32) * G (ix2 0 (i 1))

variable (m : (ℓ : Loc nD τ sig) → Buf (Elt Ideal) ℓ) (c : Dev nD)

/-- The rows. -/
abbrev argX : FVec Ideal S4224x1024 .f32 := m ((c : Thread nD τ).loc main_arg0)

/-- The norm's gain. -/
abbrev argG : FVec Ideal S1x1024 .f32 := m ((c : Thread nD τ).loc main_arg1)

/-- Where each window's block of a point lies: the point is the group of rows. -/
theorem idx : ∀ t : Fin cfg0.N, win0_0.index t = ![t.val, 0] ∧ win0_1.index t = ![0, 0] ∧ win0_2.index t = ![t.val, 0] :=
  (by decide +kernel : ∀ t : Fin grid0.N, _)

/-- The array of the normalised rows. -/
theorem arr_norm : (dats m 0 c).arrAt 2 cfg0.N = norm (argX m c) (argG m c) := by
  refine (dats m 0 c).arrAt_eq_of_covers 2 _ (by decide +kernel) fun t _ y => ?_
  blk_simp
  rw [after0_2]
  frame_out
  pointwise [k0_pay1, norm]
  blk_point [iblk, V, idx t]

/-- The reference's normalised rows. -/
abbrev refNorm (X : FVec Ideal S4224x1024 .f32) (G : FVec Ideal S1x1024 .f32) : FVec Ideal S4224x1024 .bf16 :=
  truncf .bf16 (mulf (mulf X (broadcastInDim Cert.FirstNormRefIdeal.S4224x1024 ![0, 1] Cert.FirstNormRefIdeal.Gen.bcast_S4224x1_S4224x1024_0_1 (Host.rsqrt (addf (Host.divf (broadcastInDim Cert.FirstNormRefIdeal.S4224x1 ![0] Cert.FirstNormRefIdeal.Gen.bcast_S4224_S4224x1_0 (Host.reduceAdd (mulf X X) (constant Cert.FirstNormRefIdeal.S_ .f32 0x00000000#32) Cert.FirstNormRefIdeal.Gen.reducesTo_S4224x1024_S4224_d1 Cert.FirstNormRefIdeal.Gen.h_S_)) (broadcastInDim Cert.FirstNormRefIdeal.S4224x1 ![] Cert.FirstNormRefIdeal.Gen.bcast_S_S4224x1 (constant Cert.FirstNormRefIdeal.S_ .f32 0x44800000#32))) (broadcastInDim Cert.FirstNormRefIdeal.S4224x1 ![] Cert.FirstNormRefIdeal.Gen.bcast_S_S4224x1 (constant Cert.FirstNormRefIdeal.S_ .f32 0x358637BD#32)))))) (broadcastInDim Cert.FirstNormRefIdeal.S4224x1024 ![0, 1] Cert.FirstNormRefIdeal.Gen.bcast_S1x1024_S4224x1024_0_1 G)) Cert.FirstNormRefIdeal.Gen.bitsLt_bf16_f32

/-- The reference divides by the width: the same. -/
theorem refNorm_eq (X : FVec Ideal S4224x1024 .f32) (G : FVec Ideal S1x1024 .f32) : refNorm X G = norm X G := by
  funext i
  pointwise [norm]
  rw [Scale.div_1024]

end Cert.FirstNormIdeal.Rows

end
-- ==== Proof.DinARows.lean ====
/- The gradient of the first SwiGLU block's norm, the first half of the rows: what the kernel computes of a block is the array's. -/
module

public import proofs.«01_k».proof.Proof.Gen.DinAIdeal.Frame
public import proofs.«01_k».proof.Proof.NormRows
public import Idealize.ShloMosaic.Lib.Pointwise
public import Idealize.ShloMosaic.Lib.Pipeline.ValueKit

@[expose] public section

set_option maxRecDepth 16384

noncomputable section

namespace Cert.DinAIdeal.Back

open Cert.DinAIdeal Cert.DinAIdeal.Gen Idealize.ShloMosaic Idealize.ShloMosaic.TcCoe Idealize.SL.Sem
open Idealize.ShloMosaic.Pipeline (Dat)
open Cert.NormIdeal.Back (scale back du)

/-- The products of the first four shards, added up. -/
theorem pay7_at (v1 v7 v13 v19 : Vec Ideal S1x352x704 .bf16) (v3 v9 v15 v21 : Vec Ideal S1x704x1024 .bf16) (r : Fin 352) (j : Fin 1024) :
    k0_pay7 (F := Ideal) v1 v3 v7 v9 v13 v15 v19 v21 (ix2 r j) =
      (∑ k : Fin 704, v1 (ix3 0 r k) * v3 (ix3 0 k j)) + (∑ k : Fin 704, v7 (ix3 0 r k) * v9 (ix3 0 k j))
        + (∑ k : Fin 704, v13 (ix3 0 r k) * v15 (ix3 0 k j)) + (∑ k : Fin 704, v19 (ix3 0 r k) * v21 (ix3 0 k j)) := by
  pointwise [k0_pay7]

/-- The products of the other four, added to what is there. -/
theorem pay9_at (acc : FVec Ideal S352x1024 .f32) (v25 v31 v37 v43 : Vec Ideal S1x352x704 .bf16) (v27 v33 v39 v45 : Vec Ideal S1x704x1024 .bf16) (r : Fin 352) (j : Fin 1024) :
    k0_pay9 (F := Ideal) acc (k0_pay8 v25) v27 v31 v33 v37 v39 v43 v45 (ix2 r j) =
      acc (ix2 r j) + (∑ k : Fin 704, v25 (ix3 0 r k) * v27 (ix3 0 k j)) + (∑ k : Fin 704, v31 (ix3 0 r k) * v33 (ix3 0 k j))
        + (∑ k : Fin 704, v37 (ix3 0 r k) * v39 (ix3 0 k j)) + (∑ k : Fin 704, v43 (ix3 0 r k) * v45 (ix3 0 k j)) := by
  pointwise [k0_pay9, k0_pay8]

/-- The rows' gradient. -/
theorem pay3_at (du : FVec Ideal S352x1024 .f32) (x b : Vec Ideal S352x1024 .f32) (g : Vec Ideal S1x1024 .f32) (r : Fin 352) (j : Fin 1024) :
    k0_pay3 (F := Ideal) du x (k0_pay10 x) b g (ix2 r j) =
      b (ix2 r j) + back 0x3A800000#32 (fun k => x (ix2 r k)) (fun k => du (ix2 r k) * g (ix2 0 k)) j := by
  pointwise [k0_pay3, k0_pay2, k0_pay1, k0_pay10, back, scale]

/-- A group's part of the first gain's gradient. -/
theorem pay5_at (du : FVec Ideal S352x1024 .f32) (x : Vec Ideal S352x1024 .f32) (j : S1x1024.Idx) :
    k0_pay5 (F := Ideal) du x (k0_pay10 x) j = ∑ r : Fin 352, du (ix2 r (j 1)) * (x (ix2 r (j 1)) * scale 0x3A800000#32 fun k => x (ix2 r k)) := by
  pointwise [k0_pay5, k0_pay2, k0_pay1, k0_pay10, scale]

/-- The gain's part is added to what is there. -/
theorem pay6_at (v : FVec Ideal S352x1024 .f32) (x : Vec Ideal S352x1024 .f32) (w : FVec Ideal S352x1 .f32) (acc : Vec Ideal S1x1024 .f32) (j : S1x1024.Idx) :
    k0_pay6 (F := Ideal) v x w acc j = acc j + k0_pay5 (F := Ideal) v x w j := by
  pointwise [k0_pay6]

variable (m : (ℓ : Loc nD τ sig) → Buf (Elt Ideal) ℓ) (c : Dev nD)

/-- The gate product's gradient. -/
abbrev argD : FVec Ideal S4x4224x704 .bf16 := m ((c : Thread nD τ).loc main_arg0)

/-- The gate's weights. -/
abbrev argW : FVec Ideal S4x704x1024 .bf16 := m ((c : Thread nD τ).loc main_arg1)

/-- The up product's gradient. -/
abbrev argE : FVec Ideal S4x4224x704 .bf16 := m ((c : Thread nD τ).loc main_arg2)

/-- The up weights. -/
abbrev argV : FVec Ideal S4x704x1024 .bf16 := m ((c : Thread nD τ).loc main_arg3)

/-- The rows that are normalised. -/
abbrev argX : FVec Ideal S4224x1024 .f32 := m ((c : Thread nD τ).loc main_arg4)

/-- The norm's gain. -/
abbrev argG : FVec Ideal S1x1024 .f32 := m ((c : Thread nD τ).loc main_arg5)

/-- The gradient that is added. -/
abbrev argB : FVec Ideal S4224x1024 .f32 := m ((c : Thread nD τ).loc main_arg6)

/-- Where each window's block of a point lies: the point is the group of rows of the half. -/
theorem idx : ∀ t : Fin cfg0.N, win0_0.index t = ![0, t.val, 0] ∧ win0_1.index t = ![0, 0, 0] ∧ win0_2.index t = ![0, t.val, 0] ∧ win0_3.index t = ![0, 0, 0] ∧ win0_4.index t = ![t.val, 0] ∧ win0_5.index t = ![0, 0] ∧ win0_6.index t = ![t.val, 0] ∧ win0_7.index t = ![t.val, 0] ∧ win0_8.index t = ![t.val, 0] ∧ win0_9.index t = ![0, 0] :=
  (by decide +kernel : ∀ t : Fin grid0.N, _)

/-- A row of the half among all. -/
def half (r : Fin 2112) : Fin 4224 := ⟨0 + r.val, by omega⟩

/-- A block's row among the half's. -/
def part (t : Fin cfg0.N) (r : Fin 352) : Fin 2112 := ⟨t.val * 352 + r.val, by have := lt_of_lt_of_eq t.isLt N_0; omega⟩

/-- A block's row among all. -/
def row (t : Fin cfg0.N) (r : Fin 352) : Fin 4224 := ⟨(t.val) * 352 + r.val, by have := lt_of_lt_of_eq t.isLt N_0; omega⟩

/-- It is the half's. -/
theorem row_eq (t : Fin cfg0.N) (r : Fin 352) : row t r = half (part t r) := Fin.ext (by simp only [row, half, part]; omega)

/-- The rows' gradient. -/
def dh (D : FVec Ideal S4x4224x704 .bf16) (W : FVec Ideal S4x704x1024 .bf16) (E : FVec Ideal S4x4224x704 .bf16) (V : FVec Ideal S4x704x1024 .bf16) (X : FVec Ideal S4224x1024 .f32) (G : FVec Ideal S1x1024 .f32) (B : FVec Ideal S4224x1024 .f32) : FVec Ideal S4224x1024 .f32 := fun i =>
  B (ix2 (i 0) (i 1)) + back 0x3A800000#32 (fun k => X (ix2 (i 0) k)) (fun k => du D W E V (i 0) k * G (ix2 0 k)) (i 1)

/-- The gain's gradient: the sum over the half's rows. -/
def dg (D : FVec Ideal S4x4224x704 .bf16) (W : FVec Ideal S4x704x1024 .bf16) (E : FVec Ideal S4x4224x704 .bf16) (V : FVec Ideal S4x704x1024 .bf16) (X : FVec Ideal S4224x1024 .f32) : FVec Ideal S1x1024 .f32 := fun i =>
  ∑ r : Fin 2112, du D W E V (half r) (i 1) * (X (ix2 (half r) (i 1)) * scale 0x3A800000#32 fun k => X (ix2 (half r) k))

/-- A block's gradient of the normalised rows, as the kernel computes it. -/
abbrev duB (t : Fin cfg0.N) : FVec Ideal S352x1024 .f32 :=
  k0_pay9 (k0_pay7 (View.ld (iblk m c 0 t) (Rect.unit ![0, 0, 0] ![1, 352, 704] inb_S4x352x704_S1x352x704_0_0_0)) (View.ld (iblk m c 1 t) (Rect.unit ![0, 0, 0] ![1, 704, 1024] inb_S4x704x1024_S1x704x1024_0_0_0)) (View.ld (iblk m c 0 t) (Rect.unit ![1, 0, 0] ![1, 352, 704] inb_S4x352x704_S1x352x704_1_0_0)) (View.ld (iblk m c 1 t) (Rect.unit ![1, 0, 0] ![1, 704, 1024] inb_S4x704x1024_S1x704x1024_1_0_0)) (View.ld (iblk m c 0 t) (Rect.unit ![2, 0, 0] ![1, 352, 704] inb_S4x352x704_S1x352x704_2_0_0)) (View.ld (iblk m c 1 t) (Rect.unit ![2, 0, 0] ![1, 704, 1024] inb_S4x704x1024_S1x704x1024_2_0_0)) (View.ld (iblk m c 0 t) (Rect.unit ![3, 0, 0] ![1, 352, 704] inb_S4x352x704_S1x352x704_3_0_0)) (View.ld (iblk m c 1 t) (Rect.unit ![3, 0, 0] ![1, 704, 1024] inb_S4x704x1024_S1x704x1024_3_0_0)))
    (k0_pay8 (View.ld (iblk m c 2 t) (Rect.unit ![0, 0, 0] ![1, 352, 704] inb_S4x352x704_S1x352x704_0_0_0))) (View.ld (iblk m c 3 t) (Rect.unit ![0, 0, 0] ![1, 704, 1024] inb_S4x704x1024_S1x704x1024_0_0_0)) (View.ld (iblk m c 2 t) (Rect.unit ![1, 0, 0] ![1, 352, 704] inb_S4x352x704_S1x352x704_1_0_0)) (View.ld (iblk m c 3 t) (Rect.unit ![1, 0, 0] ![1, 704, 1024] inb_S4x704x1024_S1x704x1024_1_0_0)) (View.ld (iblk m c 2 t) (Rect.unit ![2, 0, 0] ![1, 352, 704] inb_S4x352x704_S1x352x704_2_0_0)) (View.ld (iblk m c 3 t) (Rect.unit ![2, 0, 0] ![1, 704, 1024] inb_S4x704x1024_S1x704x1024_2_0_0)) (View.ld (iblk m c 2 t) (Rect.unit ![3, 0, 0] ![1, 352, 704] inb_S4x352x704_S1x352x704_3_0_0)) (View.ld (iblk m c 3 t) (Rect.unit ![3, 0, 0] ![1, 704, 1024] inb_S4x704x1024_S1x704x1024_3_0_0))

/-- A block's rows of an array are the array's. -/
theorem x_at (t : Fin cfg0.N) (r : Fin 352) (k : Fin 1024) : (iblk m c 4 t : Vec Ideal S352x1024 .f32) (ix2 r k) = argX m c (ix2 (row t r) k) := by
  unfold row
  blk_point [iblk, V, idx t]

/-- So are those of the gradient that is added. -/
theorem b_at (t : Fin cfg0.N) (r : Fin 352) (k : Fin 1024) : (iblk m c 6 t : Vec Ideal S352x1024 .f32) (ix2 r k) = argB m c (ix2 (row t r) k) := by
  unfold row
  blk_point [iblk, V, idx t]

/-- The gains and the weights are whole. -/
theorem g_at (t : Fin cfg0.N) (k : Fin 1024) : (iblk m c 5 t : Vec Ideal S1x1024 .f32) (ix2 0 k) = argG m c (ix2 0 k) := by
  blk_point [iblk, V, idx t]

/-- A block's gradient of the normalised rows is the array's. -/
theorem du_at (t : Fin cfg0.N) (r : Fin 352) (j : Fin 1024) : duB m c t (ix2 r j) = du (argD m c) (argW m c) (argE m c) (argV m c) (row t r) j := by
  unfold duB
  rw [pay9_at, pay7_at]
  unfold du row
  blk_point [iblk, V, idx t]

/-- The rows' gradient, of the kernel's arguments. -/
abbrev allDh : FVec Ideal S4224x1024 .f32 := dh (argD m c) (argW m c) (argE m c) (argV m c) (argX m c) (argG m c) (argB m c)

/-- A block's rows' gradient is the array's. -/
theorem dh_at (t : Fin cfg0.N) (r : Fin 352) (j : Fin 1024) :
    k0_pay3 (F := Ideal) (duB m c t) (iblk m c 4 t) (k0_pay10 (iblk m c 4 t)) (iblk m c 6 t) (iblk m c 5 t) (ix2 r j) = allDh m c (ix2 (row t r) j) := by
  rw [pay3_at]
  simp only [du_at, x_at, b_at, g_at]
  rfl

/-- A block's short copy of its rows' gradient is the array's. -/
theorem dhs_at (t : Fin cfg0.N) (r : Fin 352) (j : Fin 1024) :
    k0_pay4 (F := Ideal) (duB m c t) (iblk m c 4 t) (k0_pay10 (iblk m c 4 t)) (iblk m c 6 t) (iblk m c 5 t) (ix2 r j) = allDh m c (ix2 (row t r) j) := by
  rw [← dh_at]
  rfl

end Cert.DinAIdeal.Back

end
-- ==== Proof.DinA.lean ====
/- The gradient of the first SwiGLU block's norm, the first half of the rows: the arrays that the kernel leaves. -/
module

public import proofs.«01_k».proof.Proof.DinARows
public import Idealize.ShloMosaic.Lib.Pointwise
public import Idealize.ShloMosaic.Lib.Pipeline.ValueKit

@[expose] public section

set_option maxRecDepth 16384

noncomputable section

namespace Cert.DinAIdeal.Back

open Cert.DinAIdeal Cert.DinAIdeal.Gen Idealize.ShloMosaic Idealize.ShloMosaic.TcCoe Idealize.SL.Sem
open Idealize.ShloMosaic.Pipeline (Dat)
open Cert.NormIdeal.Back (scale back du)

variable (m : (ℓ : Loc nD τ sig) → Buf (Elt Ideal) ℓ) (c : Dev nD)

/-- The array of the rows' gradient: the half's rows are written. -/
theorem arr_dh0 : (dats m 0 c).arrAt 7 (cfgs 0).N = fun i => if (i 0 : ℕ) < 6 * 352 then allDh m c i else V m c main_v0_0 i := by
  refine (dats m 0 c).arrAt_eq_of_coversWhere 7 _ (fun β => β 0 < 6) (by decide +kernel) (fun t _ y => ?_)
    (fun j => by blk_simp [Pipeline.Window.cell_apply]; omega)
  obtain ⟨r, j, rfl⟩ : ∃ (r : Fin 352) (j : Fin 1024), y = ix2 r j := ⟨y 0, y 1, eq_ix2 y⟩
  have ht : t.val < 6 := lt_of_lt_of_eq t.isLt N_0
  blk_simp
  rw [after0_7]
  by_cases h : t.val % 6 = 0
  · rw [outsAt0_A m c t h (by omega)]
    frame_out
    refine (dh_at m c t r j).trans (congrArg (allDh m c) ?_)
    unfold row
    blk_point [idx t]
  · rw [outsAt0_B m c t h (by omega)]
    frame_out
    refine (dh_at m c t r j).trans (congrArg (allDh m c) ?_)
    unfold row
    blk_point [idx t]

/-- The array of its short copy. -/
theorem arr_short0 : (dats m 0 c).arrAt 8 (cfgs 0).N = fun i => if (i 0 : ℕ) < 6 * 352 then allDh m c i else V m c main_v0_1 i := by
  refine (dats m 0 c).arrAt_eq_of_coversWhere 8 _ (fun β => β 0 < 6) (by decide +kernel) (fun t _ y => ?_)
    (fun j => by blk_simp [Pipeline.Window.cell_apply]; omega)
  obtain ⟨r, j, rfl⟩ : ∃ (r : Fin 352) (j : Fin 1024), y = ix2 r j := ⟨y 0, y 1, eq_ix2 y⟩
  have ht : t.val < 6 := lt_of_lt_of_eq t.isLt N_0
  blk_simp
  rw [after0_8]
  by_cases h : t.val % 6 = 0
  · rw [outsAt0_A m c t h (by omega)]
    frame_out
    refine (dhs_at m c t r j).trans (congrArg (allDh m c) ?_)
    unfold row
    blk_point [idx t]
  · rw [outsAt0_B m c t h (by omega)]
    frame_out
    refine (dhs_at m c t r j).trans (congrArg (allDh m c) ?_)
    unfold row
    blk_point [idx t]

/-- The array of the norm's gain's gradient. -/
theorem arr_gain : (dats m 0 c).arrAt 9 cfg0.N = dg (argD m c) (argW m c) (argE m c) (argV m c) (argX m c) := by
  refine (dats m 0 c).arrAt_eq_of_after_last 9 t0_5 (by decide +kernel) _ fun j => ?_
  blk_simp
  rw [after0_9, Pipeline.eq_sum_fin_of_reset_step_apply_last (fun n h => (outsAt0 m c n h).2.2) 6 (fun _ => 0)
    (fun p j => k0_pay5 (F := Ideal) (duB m c p) (iblk m c 4 p) (k0_pay10 (iblk m c 4 p)) j)
    (fun t h j => by rw [outsAt0_A m c t h (by have := lt_of_lt_of_eq t.isLt N_0; omega)]; frame_out; exact (zero_add _).symm)
    (fun t h j => by rw [outsAt0_B m c t h (by omega)]; frame_out; exact pay6_at _ _ _ _ _)
    (le_of_eq N_0) t0_5 rfl j, zero_add]
  simp only [pay5_at, du_at, x_at, row_eq]
  unfold dg
  exact Fin.sum_mul_add_congr fun s k hl => congrArg₂ (· * ·) ((du_at m c s k (j 1)).trans (congrArg (fun r => du (argD m c) (argW m c) (argE m c) (argV m c) r (j 1)) (row_eq s k))) (congrArg₂ (· * ·) ((x_at m c s k (j 1)).trans (congrArg (fun r => argX m c (ix2 r (j 1))) (row_eq s k))) rfl)

/-- The half's rows of an array. -/
theorem cut_at (X : FVec Ideal S4224x1024 .f32) (r : Fin 2112) (j : Fin 1024) : extractStridedSlice S2112x1024 ![0, 0] X slices_S4224x1024_S2112x1024_0_0 (ix2 r j) = X (ix2 (half r) j) := by
  pointwise [half]

/-- The half's rows' gradient. -/
def rows (D : FVec Ideal S4x4224x704 .bf16) (W : FVec Ideal S4x704x1024 .bf16) (E : FVec Ideal S4x4224x704 .bf16) (V : FVec Ideal S4x704x1024 .bf16) (X : FVec Ideal S4224x1024 .f32) (G : FVec Ideal S1x1024 .f32) (B : FVec Ideal S4224x1024 .f32) : FVec Ideal S2112x1024 .f32 := fun i =>
  dh D W E V X G B (ix2 (half (i 0)) (i 1))

/-- The half's rows of an array whose first rows are the gradient. -/
theorem cut_rows (H : FVec Ideal S4224x1024 .f32) :
    extractStridedSlice S2112x1024 ![0, 0] (fun i => if (i 0 : ℕ) < 6 * 352 then allDh m c i else H i : FVec Ideal S4224x1024 .f32) slices_S4224x1024_S2112x1024_0_0
      = rows (argD m c) (argW m c) (argE m c) (argV m c) (argX m c) (argG m c) (argB m c) := by
  funext i
  obtain ⟨r, j, rfl⟩ : ∃ (r : Fin 2112) (j : Fin 1024), i = ix2 r j := ⟨i 0, i 1, eq_ix2 i⟩
  rw [cut_at]
  refine if_pos ?_
  show 0 + (r : ℕ) < 6 * 352
  omega

/-- The first result: the half's rows of the rows' gradient. -/
theorem res_dh : extractStridedSlice S2112x1024 ![0, 0] ((dats m 0 c).arrAt 7 cfg0.N : FVec Ideal S4224x1024 .f32) slices_S4224x1024_S2112x1024_0_0
    = rows (argD m c) (argW m c) (argE m c) (argV m c) (argX m c) (argG m c) (argB m c) :=
  (congrArg (fun X : FVec Ideal S4224x1024 .f32 => extractStridedSlice S2112x1024 ![0, 0] X slices_S4224x1024_S2112x1024_0_0) (arr_dh0 m c)).trans (cut_rows m c _)

/-- The second: those of its short copy. -/
theorem res_short : extractStridedSlice S2112x1024 ![0, 0] ((dats m 0 c).arrAt 8 cfg0.N : FVec Ideal S4224x1024 .bf16) slices_S4224x1024_S2112x1024_0_0
    = rows (argD m c) (argW m c) (argE m c) (argV m c) (argX m c) (argG m c) (argB m c) :=
  (congrArg (fun X : FVec Ideal S4224x1024 .bf16 => extractStridedSlice S2112x1024 ![0, 0] X slices_S4224x1024_S2112x1024_0_0) (arr_short0 m c)).trans (cut_rows m c _)

/-- The kernel's run, its three results and its arguments. -/
theorem run_results (ρ : Dev nD → PrngReg) : θ_run defs (onTc (τ := τ) (main (F := Ideal))) ⟨m, fun _ => 0, ρ⟩ fun r => ∀ c : Dev nD,
      r.2.mem ((c : Thread nD τ).loc main_v1) = extractStridedSlice S2112x1024 ![0, 0] ((dats m 0 c).arrAt 7 cfg0.N : FVec Ideal S4224x1024 .f32) slices_S4224x1024_S2112x1024_0_0
      ∧ r.2.mem ((c : Thread nD τ).loc main_v2) = extractStridedSlice S2112x1024 ![0, 0] ((dats m 0 c).arrAt 8 cfg0.N : FVec Ideal S4224x1024 .bf16) slices_S4224x1024_S2112x1024_0_0
      ∧ r.2.mem ((c : Thread nD τ).loc main_v0_2) = (dats m 0 c).arrAt 9 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c =>
    ⟨((h.1 c).2 main_v1 (Pipeline.mem_restRefs_of main_v1 (by decide) (by decide))).trans (by
        unfold Pipeline.afterTail₀
        simp only [List.flatten_cons, List.flatten_nil, List.append_nil]
        after_results
        refine congrArg (fun X : FVec Ideal S4224x1024 .f32 => extractStridedSlice S2112x1024 ![0, 0] X slices_S4224x1024_S2112x1024_0_0) ?_
        exact Pipeline.withArrays_arr spec0 (by decide) c (V0 m c) (fun w => (dats m 0 c).arrAt w cfg0.N) 7),
      ((h.1 c).2 main_v2 (Pipeline.mem_restRefs_of main_v2 (by decide) (by decide))).trans (by
        unfold Pipeline.afterTail₀
        simp only [List.flatten_cons, List.flatten_nil, List.append_nil]
        after_results
        refine congrArg (fun X : FVec Ideal S4224x1024 .bf16 => extractStridedSlice S2112x1024 ![0, 0] X slices_S4224x1024_S2112x1024_0_0) ?_
        exact Pipeline.withArrays_arr spec0 (by decide) c (V0 m c) (fun w => (dats m 0 c).arrAt w cfg0.N) 8),
      (h.1 c).1 9, h.2 c⟩)
    (θ_run_and (run_main m ρ) (unchanged m ρ))

end Cert.DinAIdeal.Back

end
-- ==== Proof.DinBRows.lean ====
/- The gradient of the first SwiGLU block's norm, the second half of the rows: what the kernel computes of a block is the array's. -/
module

public import proofs.«01_k».proof.Proof.Gen.DinBIdeal.Value
public import proofs.«01_k».proof.Proof.NormRows
public import Idealize.ShloMosaic.Lib.Pointwise
public import Idealize.ShloMosaic.Lib.Pipeline.ValueKit

@[expose] public section

set_option maxRecDepth 16384

noncomputable section

namespace Cert.DinBIdeal.Back

open Cert.DinBIdeal Cert.DinBIdeal.Gen Cert.DinBIdeal.Value Idealize.ShloMosaic Idealize.ShloMosaic.TcCoe Idealize.SL.Sem
open Idealize.ShloMosaic.Pipeline (Dat)
open Cert.NormIdeal.Back (scale back du)

/-- The products of the first four shards, added up. -/
theorem pay7_at (v1 v7 v13 v19 : Vec Ideal S1x352x704 .bf16) (v3 v9 v15 v21 : Vec Ideal S1x704x1024 .bf16) (r : Fin 352) (j : Fin 1024) :
    k0_pay7 (F := Ideal) v1 v3 v7 v9 v13 v15 v19 v21 (ix2 r j) =
      (∑ k : Fin 704, v1 (ix3 0 r k) * v3 (ix3 0 k j)) + (∑ k : Fin 704, v7 (ix3 0 r k) * v9 (ix3 0 k j))
        + (∑ k : Fin 704, v13 (ix3 0 r k) * v15 (ix3 0 k j)) + (∑ k : Fin 704, v19 (ix3 0 r k) * v21 (ix3 0 k j)) := by
  pointwise [k0_pay7]

/-- The products of the other four, added to what is there. -/
theorem pay9_at (acc : FVec Ideal S352x1024 .f32) (v25 v31 v37 v43 : Vec Ideal S1x352x704 .bf16) (v27 v33 v39 v45 : Vec Ideal S1x704x1024 .bf16) (r : Fin 352) (j : Fin 1024) :
    k0_pay9 (F := Ideal) acc (k0_pay8 v25) v27 v31 v33 v37 v39 v43 v45 (ix2 r j) =
      acc (ix2 r j) + (∑ k : Fin 704, v25 (ix3 0 r k) * v27 (ix3 0 k j)) + (∑ k : Fin 704, v31 (ix3 0 r k) * v33 (ix3 0 k j))
        + (∑ k : Fin 704, v37 (ix3 0 r k) * v39 (ix3 0 k j)) + (∑ k : Fin 704, v43 (ix3 0 r k) * v45 (ix3 0 k j)) := by
  pointwise [k0_pay9, k0_pay8]

/-- The rows' gradient. -/
theorem pay3_at (du : FVec Ideal S352x1024 .f32) (x b : Vec Ideal S352x1024 .f32) (g : Vec Ideal S1x1024 .f32) (r : Fin 352) (j : Fin 1024) :
    k0_pay3 (F := Ideal) du x (k0_pay10 x) b g (ix2 r j) =
      b (ix2 r j) + back 0x3A800000#32 (fun k => x (ix2 r k)) (fun k => du (ix2 r k) * g (ix2 0 k)) j := by
  pointwise [k0_pay3, k0_pay2, k0_pay1, k0_pay10, back, scale]

/-- A group's part of the first gain's gradient. -/
theorem pay5_at (du : FVec Ideal S352x1024 .f32) (x : Vec Ideal S352x1024 .f32) (j : S1x1024.Idx) :
    k0_pay5 (F := Ideal) du x (k0_pay10 x) j = ∑ r : Fin 352, du (ix2 r (j 1)) * (x (ix2 r (j 1)) * scale 0x3A800000#32 fun k => x (ix2 r k)) := by
  pointwise [k0_pay5, k0_pay2, k0_pay1, k0_pay10, scale]

/-- The gain's part is added to what is there. -/
theorem pay6_at (v : FVec Ideal S352x1024 .f32) (x : Vec Ideal S352x1024 .f32) (w : FVec Ideal S352x1 .f32) (acc : Vec Ideal S1x1024 .f32) (j : S1x1024.Idx) :
    k0_pay6 (F := Ideal) v x w acc j = acc j + k0_pay5 (F := Ideal) v x w j := by
  pointwise [k0_pay6]

variable (m : (ℓ : Loc nD τ sig) → Buf (Elt Ideal) ℓ) (c : Dev nD)

/-- The gate product's gradient. -/
abbrev argD : FVec Ideal S4x4224x704 .bf16 := m ((c : Thread nD τ).loc main_arg0)

/-- The gate's weights. -/
abbrev argW : FVec Ideal S4x704x1024 .bf16 := m ((c : Thread nD τ).loc main_arg1)

/-- The up product's gradient. -/
abbrev argE : FVec Ideal S4x4224x704 .bf16 := m ((c : Thread nD τ).loc main_arg2)

/-- The up weights. -/
abbrev argV : FVec Ideal S4x704x1024 .bf16 := m ((c : Thread nD τ).loc main_arg3)

/-- The rows that are normalised. -/
abbrev argX : FVec Ideal S4224x1024 .f32 := m ((c : Thread nD τ).loc main_arg4)

/-- The norm's gain. -/
abbrev argG : FVec Ideal S1x1024 .f32 := m ((c : Thread nD τ).loc main_arg5)

/-- The gradient that is added. -/
abbrev argB : FVec Ideal S4224x1024 .f32 := m ((c : Thread nD τ).loc main_arg6)

/-- What is there before of the rows' gradient. -/
abbrev argH : FVec Ideal S4224x1024 .f32 := m ((c : Thread nD τ).loc main_arg7)

/-- What is there before of its short copy. -/
abbrev argS : FVec Ideal S4224x1024 .bf16 := m ((c : Thread nD τ).loc main_arg8)

/-- Where each window's block of a point lies: the point is the group of rows of the half. -/
theorem idx : ∀ t : Fin cfg0.N, win0_0.index t = ![0, t.val + 6, 0] ∧ win0_1.index t = ![0, 0, 0] ∧ win0_2.index t = ![0, t.val + 6, 0] ∧ win0_3.index t = ![0, 0, 0] ∧ win0_4.index t = ![t.val + 6, 0] ∧ win0_5.index t = ![0, 0] ∧ win0_6.index t = ![t.val + 6, 0] ∧ win0_7.index t = ![t.val + 6, 0] ∧ win0_8.index t = ![t.val + 6, 0] ∧ win0_9.index t = ![0, 0] :=
  (by decide +kernel : ∀ t : Fin grid0.N, _)

/-- A row of the half among all. -/
def half (r : Fin 2112) : Fin 4224 := ⟨2112 + r.val, by omega⟩

/-- A block's row among the half's. -/
def part (t : Fin cfg0.N) (r : Fin 352) : Fin 2112 := ⟨t.val * 352 + r.val, by have := lt_of_lt_of_eq t.isLt N_0; omega⟩

/-- A block's row among all. -/
def row (t : Fin cfg0.N) (r : Fin 352) : Fin 4224 := ⟨(t.val + 6) * 352 + r.val, by have := lt_of_lt_of_eq t.isLt N_0; omega⟩

/-- It is the half's. -/
theorem row_eq (t : Fin cfg0.N) (r : Fin 352) : row t r = half (part t r) := Fin.ext (by simp only [row, half, part]; omega)

/-- The rows' gradient. -/
def dh (D : FVec Ideal S4x4224x704 .bf16) (W : FVec Ideal S4x704x1024 .bf16) (E : FVec Ideal S4x4224x704 .bf16) (V : FVec Ideal S4x704x1024 .bf16) (X : FVec Ideal S4224x1024 .f32) (G : FVec Ideal S1x1024 .f32) (B : FVec Ideal S4224x1024 .f32) : FVec Ideal S4224x1024 .f32 := fun i =>
  B (ix2 (i 0) (i 1)) + back 0x3A800000#32 (fun k => X (ix2 (i 0) k)) (fun k => du D W E V (i 0) k * G (ix2 0 k)) (i 1)

/-- The gain's gradient: the sum over the half's rows. -/
def dg (D : FVec Ideal S4x4224x704 .bf16) (W : FVec Ideal S4x704x1024 .bf16) (E : FVec Ideal S4x4224x704 .bf16) (V : FVec Ideal S4x704x1024 .bf16) (X : FVec Ideal S4224x1024 .f32) : FVec Ideal S1x1024 .f32 := fun i =>
  ∑ r : Fin 2112, du D W E V (half r) (i 1) * (X (ix2 (half r) (i 1)) * scale 0x3A800000#32 fun k => X (ix2 (half r) k))

/-- A block's gradient of the normalised rows, as the kernel computes it. -/
abbrev duB (t : Fin cfg0.N) : FVec Ideal S352x1024 .f32 :=
  k0_pay9 (k0_pay7 (View.ld (iblk m c 0 t) (Rect.unit ![0, 0, 0] ![1, 352, 704] inb_S4x352x704_S1x352x704_0_0_0)) (View.ld (iblk m c 1 t) (Rect.unit ![0, 0, 0] ![1, 704, 1024] inb_S4x704x1024_S1x704x1024_0_0_0)) (View.ld (iblk m c 0 t) (Rect.unit ![1, 0, 0] ![1, 352, 704] inb_S4x352x704_S1x352x704_1_0_0)) (View.ld (iblk m c 1 t) (Rect.unit ![1, 0, 0] ![1, 704, 1024] inb_S4x704x1024_S1x704x1024_1_0_0)) (View.ld (iblk m c 0 t) (Rect.unit ![2, 0, 0] ![1, 352, 704] inb_S4x352x704_S1x352x704_2_0_0)) (View.ld (iblk m c 1 t) (Rect.unit ![2, 0, 0] ![1, 704, 1024] inb_S4x704x1024_S1x704x1024_2_0_0)) (View.ld (iblk m c 0 t) (Rect.unit ![3, 0, 0] ![1, 352, 704] inb_S4x352x704_S1x352x704_3_0_0)) (View.ld (iblk m c 1 t) (Rect.unit ![3, 0, 0] ![1, 704, 1024] inb_S4x704x1024_S1x704x1024_3_0_0)))
    (k0_pay8 (View.ld (iblk m c 2 t) (Rect.unit ![0, 0, 0] ![1, 352, 704] inb_S4x352x704_S1x352x704_0_0_0))) (View.ld (iblk m c 3 t) (Rect.unit ![0, 0, 0] ![1, 704, 1024] inb_S4x704x1024_S1x704x1024_0_0_0)) (View.ld (iblk m c 2 t) (Rect.unit ![1, 0, 0] ![1, 352, 704] inb_S4x352x704_S1x352x704_1_0_0)) (View.ld (iblk m c 3 t) (Rect.unit ![1, 0, 0] ![1, 704, 1024] inb_S4x704x1024_S1x704x1024_1_0_0)) (View.ld (iblk m c 2 t) (Rect.unit ![2, 0, 0] ![1, 352, 704] inb_S4x352x704_S1x352x704_2_0_0)) (View.ld (iblk m c 3 t) (Rect.unit ![2, 0, 0] ![1, 704, 1024] inb_S4x704x1024_S1x704x1024_2_0_0)) (View.ld (iblk m c 2 t) (Rect.unit ![3, 0, 0] ![1, 352, 704] inb_S4x352x704_S1x352x704_3_0_0)) (View.ld (iblk m c 3 t) (Rect.unit ![3, 0, 0] ![1, 704, 1024] inb_S4x704x1024_S1x704x1024_3_0_0))

/-- A block's rows of an array are the array's. -/
theorem x_at (t : Fin cfg0.N) (r : Fin 352) (k : Fin 1024) : (iblk m c 4 t : Vec Ideal S352x1024 .f32) (ix2 r k) = argX m c (ix2 (row t r) k) := by
  unfold row
  blk_point [iblk, V, idx t]

/-- So are those of the gradient that is added. -/
theorem b_at (t : Fin cfg0.N) (r : Fin 352) (k : Fin 1024) : (iblk m c 6 t : Vec Ideal S352x1024 .f32) (ix2 r k) = argB m c (ix2 (row t r) k) := by
  unfold row
  blk_point [iblk, V, idx t]

/-- The gains and the weights are whole. -/
theorem g_at (t : Fin cfg0.N) (k : Fin 1024) : (iblk m c 5 t : Vec Ideal S1x1024 .f32) (ix2 0 k) = argG m c (ix2 0 k) := by
  blk_point [iblk, V, idx t]

/-- A block's gradient of the normalised rows is the array's. -/
theorem du_at (t : Fin cfg0.N) (r : Fin 352) (j : Fin 1024) : duB m c t (ix2 r j) = du (argD m c) (argW m c) (argE m c) (argV m c) (row t r) j := by
  unfold duB
  rw [pay9_at, pay7_at]
  unfold du row
  blk_point [iblk, V, idx t]

/-- The rows' gradient, of the kernel's arguments. -/
abbrev allDh : FVec Ideal S4224x1024 .f32 := dh (argD m c) (argW m c) (argE m c) (argV m c) (argX m c) (argG m c) (argB m c)

/-- A block's rows' gradient is the array's. -/
theorem dh_at (t : Fin cfg0.N) (r : Fin 352) (j : Fin 1024) :
    k0_pay3 (F := Ideal) (duB m c t) (iblk m c 4 t) (k0_pay10 (iblk m c 4 t)) (iblk m c 6 t) (iblk m c 5 t) (ix2 r j) = allDh m c (ix2 (row t r) j) := by
  rw [pay3_at]
  simp only [du_at, x_at, b_at, g_at]
  rfl

/-- A block's short copy of its rows' gradient is the array's. -/
theorem dhs_at (t : Fin cfg0.N) (r : Fin 352) (j : Fin 1024) :
    k0_pay4 (F := Ideal) (duB m c t) (iblk m c 4 t) (k0_pay10 (iblk m c 4 t)) (iblk m c 6 t) (iblk m c 5 t) (ix2 r j) = allDh m c (ix2 (row t r) j) := by
  rw [← dh_at]
  rfl

/-- The rows before as they are, the half's rows new. -/
def both (N H : FVec Ideal S4224x1024 .f32) : FVec Ideal S4224x1024 .f32 := fun i => if 6 * 352 ≤ (i 0 : ℕ) then N i else H i

end Cert.DinBIdeal.Back

end
-- ==== Proof.DinB.lean ====
/- The gradient of the first SwiGLU block's norm, the second half of the rows: the arrays that the kernel leaves. -/
module

public import proofs.«01_k».proof.Proof.DinBRows
public import Idealize.ShloMosaic.Lib.Pointwise
public import Idealize.ShloMosaic.Lib.Pipeline.ValueKit

@[expose] public section

set_option maxRecDepth 16384

noncomputable section

namespace Cert.DinBIdeal.Back

open Cert.DinBIdeal Cert.DinBIdeal.Gen Cert.DinBIdeal.Value Idealize.ShloMosaic Idealize.ShloMosaic.TcCoe Idealize.SL.Sem
open Idealize.ShloMosaic.Pipeline (Dat)
open Cert.NormIdeal.Back (scale back du)

variable (m : (ℓ : Loc nD τ sig) → Buf (Elt Ideal) ℓ) (c : Dev nD)

/-- The array of the rows' gradient: the half's rows are written. -/
theorem arr_dh0 : (dats m 0 c).arrAt 7 (cfgs 0).N = fun i => if 6 * 352 ≤ (i 0 : ℕ) then allDh m c i else V m c main_v0_0 i := by
  refine (dats m 0 c).arrAt_eq_of_coversWhere 7 _ (fun β => 6 ≤ β 0) (by decide +kernel) (fun t _ y => ?_)
    (fun j => by blk_simp [Pipeline.Window.cell_apply]; omega)
  obtain ⟨r, j, rfl⟩ : ∃ (r : Fin 352) (j : Fin 1024), y = ix2 r j := ⟨y 0, y 1, eq_ix2 y⟩
  have ht : t.val < 6 := lt_of_lt_of_eq t.isLt N_0
  blk_simp
  rw [after0_7]
  by_cases h : t.val % 6 = 0
  · rw [outsAt0_A m c t h (by omega)]
    frame_out
    refine (dh_at m c t r j).trans (congrArg (allDh m c) ?_)
    unfold row
    blk_point [idx t]
  · rw [outsAt0_B m c t h (by omega)]
    frame_out
    refine (dh_at m c t r j).trans (congrArg (allDh m c) ?_)
    unfold row
    blk_point [idx t]

/-- The array of its short copy. -/
theorem arr_short0 : (dats m 0 c).arrAt 8 (cfgs 0).N = fun i => if 6 * 352 ≤ (i 0 : ℕ) then allDh m c i else V m c main_v0_1 i := by
  refine (dats m 0 c).arrAt_eq_of_coversWhere 8 _ (fun β => 6 ≤ β 0) (by decide +kernel) (fun t _ y => ?_)
    (fun j => by blk_simp [Pipeline.Window.cell_apply]; omega)
  obtain ⟨r, j, rfl⟩ : ∃ (r : Fin 352) (j : Fin 1024), y = ix2 r j := ⟨y 0, y 1, eq_ix2 y⟩
  have ht : t.val < 6 := lt_of_lt_of_eq t.isLt N_0
  blk_simp
  rw [after0_8]
  by_cases h : t.val % 6 = 0
  · rw [outsAt0_A m c t h (by omega)]
    frame_out
    refine (dhs_at m c t r j).trans (congrArg (allDh m c) ?_)
    unfold row
    blk_point [idx t]
  · rw [outsAt0_B m c t h (by omega)]
    frame_out
    refine (dhs_at m c t r j).trans (congrArg (allDh m c) ?_)
    unfold row
    blk_point [idx t]

/-- The array of the norm's gain's gradient. -/
theorem arr_gain : (dats m 0 c).arrAt 9 cfg0.N = dg (argD m c) (argW m c) (argE m c) (argV m c) (argX m c) := by
  refine (dats m 0 c).arrAt_eq_of_after_last 9 t0_5 (by decide +kernel) _ fun j => ?_
  blk_simp
  rw [after0_9, Pipeline.eq_sum_fin_of_reset_step_apply_last (fun n h => (outsAt0 m c n h).2.2) 6 (fun _ => 0)
    (fun p j => k0_pay5 (F := Ideal) (duB m c p) (iblk m c 4 p) (k0_pay10 (iblk m c 4 p)) j)
    (fun t h j => by rw [outsAt0_A m c t h (by have := lt_of_lt_of_eq t.isLt N_0; omega)]; frame_out; exact (zero_add _).symm)
    (fun t h j => by rw [outsAt0_B m c t h (by omega)]; frame_out; exact pay6_at _ _ _ _ _)
    (le_of_eq N_0) t0_5 rfl j, zero_add]
  simp only [pay5_at, du_at, x_at, row_eq]
  unfold dg
  exact Fin.sum_mul_add_congr fun s k hl => congrArg₂ (· * ·) ((du_at m c s k (j 1)).trans (congrArg (fun r => du (argD m c) (argW m c) (argE m c) (argV m c) r (j 1)) (row_eq s k))) (congrArg₂ (· * ·) ((x_at m c s k (j 1)).trans (congrArg (fun r => argX m c (ix2 r (j 1))) (row_eq s k))) rfl)

/-- What the rows' gradient's array holds at the region's start. -/
theorem entry_dh : V m c main_v0_0 = argH m c := by
  unfold V
  after_results
  try rfl

/-- What its short copy's holds. -/
theorem entry_short : V m c main_v0_1 = argS m c := by
  unfold V
  after_results
  try rfl

/-- The array of the rows' gradient, of the kernel's arguments. -/
theorem arr_dh : (dats m 0 c).arrAt 7 cfg0.N = both (allDh m c) (argH m c) :=
  (arr_dh0 m c).trans (by rw [entry_dh]; rfl)

/-- The array of its short copy, of the kernel's arguments. -/
theorem arr_short : (dats m 0 c).arrAt 8 cfg0.N = both (allDh m c) (argS m c) :=
  (arr_short0 m c).trans (by rw [entry_short]; rfl)

end Cert.DinBIdeal.Back

end
-- ==== Proof.MixDinRef.lean ====
/- The gradient of the mixer's norm: what the reference writes is what the kernel leaves. -/
module

public import proofs.«01_k».proof.Proof.MixDin

@[expose] public section

set_option maxRecDepth 16384

noncomputable section

namespace Cert.MixDinIdeal.Back

open Cert.MixDinIdeal Cert.MixDinIdeal.Gen Cert.MixDinIdeal.Value Idealize.ShloMosaic Idealize.ShloMosaic.TcCoe Idealize.SL.Sem
open Idealize.ShloMosaic.Pipeline (Dat)

/-- What the reference writes for the rows' gradient. -/
abbrev refDh (Z : FVec Ideal S4224x1792 .bf16) (W : FVec Ideal S1792x1024 .bf16) (X : FVec Ideal S4224x1024 .f32) (G : FVec Ideal S1x1024 .f32) (B : FVec Ideal S4224x1024 .f32) : FVec Ideal S4224x1024 .f32 :=
  addf (addf (addf (mulf (mulf (Host.dotGeneral Cert.MixDinRefIdeal.dot_S4224x1792_S1024x1792_S4224x1024_1_1_0_0_n_n none (extf .f32 Z Cert.MixDinRefIdeal.Gen.bitsLt_bf16_f32) (transpose Cert.MixDinRefIdeal.S1024x1792 [1, 0] (extf .f32 W Cert.MixDinRefIdeal.Gen.bitsLt_bf16_f32) Cert.MixDinRefIdeal.Gen.transposes_S1792x1024_S1024x1792_1_0)) (broadcastInDim Cert.MixDinRefIdeal.S4224x1024 ![0, 1] Cert.MixDinRefIdeal.Gen.bcast_S1x1024_S4224x1024_0_1 G)) (broadcastInDim Cert.MixDinRefIdeal.S4224x1024 ![0, 1] Cert.MixDinRefIdeal.Gen.bcast_S4224x1_S4224x1024_0_1 (Host.rsqrt (addf (Host.divf (broadcastInDim Cert.MixDinRefIdeal.S4224x1 ![0] Cert.MixDinRefIdeal.Gen.bcast_S4224_S4224x1_0 (Host.reduceAdd (mulf X X) (constant Cert.MixDinRefIdeal.S_ .f32 0x00000000#32) Cert.MixDinRefIdeal.Gen.reducesTo_S4224x1024_S4224_d1 Cert.MixDinRefIdeal.Gen.h_S_)) (broadcastInDim Cert.MixDinRefIdeal.S4224x1 ![] Cert.MixDinRefIdeal.Gen.bcast_S_S4224x1 (constant Cert.MixDinRefIdeal.S_ .f32 0x44800000#32))) (broadcastInDim Cert.MixDinRefIdeal.S4224x1 ![] Cert.MixDinRefIdeal.Gen.bcast_S_S4224x1 (constant Cert.MixDinRefIdeal.S_ .f32 0x358637BD#32)))))) (mulf X (broadcastInDim Cert.MixDinRefIdeal.S4224x1024 ![0] Cert.MixDinRefIdeal.Gen.bcast_S4224_S4224x1024_0 (Host.reduceAdd (Host.divf (mulf (shapeCast _ (Host.reduceAdd (mulf X (mulf (Host.dotGeneral Cert.MixDinRefIdeal.dot_S4224x1792_S1024x1792_S4224x1024_1_1_0_0_n_n none (extf .f32 Z Cert.MixDinRefIdeal.Gen.bitsLt_bf16_f32) (transpose Cert.MixDinRefIdeal.S1024x1792 [1, 0] (extf .f32 W Cert.MixDinRefIdeal.Gen.bitsLt_bf16_f32) Cert.MixDinRefIdeal.Gen.transposes_S1792x1024_S1024x1792_1_0)) (broadcastInDim Cert.MixDinRefIdeal.S4224x1024 ![0, 1] Cert.MixDinRefIdeal.Gen.bcast_S1x1024_S4224x1024_0_1 G))) (constant Cert.MixDinRefIdeal.S_ .f32 0x00000000#32) Cert.MixDinRefIdeal.Gen.reducesTo_S4224x1024_S4224_d1 Cert.MixDinRefIdeal.Gen.h_S_) Cert.MixDinRefIdeal.Gen.shapeCasts_S4224_S4224x1) (mulf (broadcastInDim Cert.MixDinRefIdeal.S4224x1 ![] Cert.MixDinRefIdeal.Gen.bcast_S_S4224x1 (constant Cert.MixDinRefIdeal.S_ .f32 0xBF000000#32)) (Host.divf (Host.rsqrt (addf (Host.divf (broadcastInDim Cert.MixDinRefIdeal.S4224x1 ![0] Cert.MixDinRefIdeal.Gen.bcast_S4224_S4224x1_0 (Host.reduceAdd (mulf X X) (constant Cert.MixDinRefIdeal.S_ .f32 0x00000000#32) Cert.MixDinRefIdeal.Gen.reducesTo_S4224x1024_S4224_d1 Cert.MixDinRefIdeal.Gen.h_S_)) (broadcastInDim Cert.MixDinRefIdeal.S4224x1 ![] Cert.MixDinRefIdeal.Gen.bcast_S_S4224x1 (constant Cert.MixDinRefIdeal.S_ .f32 0x44800000#32))) (broadcastInDim Cert.MixDinRefIdeal.S4224x1 ![] Cert.MixDinRefIdeal.Gen.bcast_S_S4224x1 (constant Cert.MixDinRefIdeal.S_ .f32 0x358637BD#32)))) (addf (Host.divf (broadcastInDim Cert.MixDinRefIdeal.S4224x1 ![0] Cert.MixDinRefIdeal.Gen.bcast_S4224_S4224x1_0 (Host.reduceAdd (mulf X X) (constant Cert.MixDinRefIdeal.S_ .f32 0x00000000#32) Cert.MixDinRefIdeal.Gen.reducesTo_S4224x1024_S4224_d1 Cert.MixDinRefIdeal.Gen.h_S_)) (broadcastInDim Cert.MixDinRefIdeal.S4224x1 ![] Cert.MixDinRefIdeal.Gen.bcast_S_S4224x1 (constant Cert.MixDinRefIdeal.S_ .f32 0x44800000#32))) (broadcastInDim Cert.MixDinRefIdeal.S4224x1 ![] Cert.MixDinRefIdeal.Gen.bcast_S_S4224x1 (constant Cert.MixDinRefIdeal.S_ .f32 0x358637BD#32)))))) (broadcastInDim Cert.MixDinRefIdeal.S4224x1 ![] Cert.MixDinRefIdeal.Gen.bcast_S_S4224x1 (constant Cert.MixDinRefIdeal.S_ .f32 0x44800000#32))) (constant Cert.MixDinRefIdeal.S_ .f32 0x00000000#32) Cert.MixDinRefIdeal.Gen.reducesTo_S4224x1_S4224_d1 Cert.MixDinRefIdeal.Gen.h_S_)))) (mulf (broadcastInDim Cert.MixDinRefIdeal.S4224x1024 ![0] Cert.MixDinRefIdeal.Gen.bcast_S4224_S4224x1024_0 (Host.reduceAdd (Host.divf (mulf (shapeCast _ (Host.reduceAdd (mulf X (mulf (Host.dotGeneral Cert.MixDinRefIdeal.dot_S4224x1792_S1024x1792_S4224x1024_1_1_0_0_n_n none (extf .f32 Z Cert.MixDinRefIdeal.Gen.bitsLt_bf16_f32) (transpose Cert.MixDinRefIdeal.S1024x1792 [1, 0] (extf .f32 W Cert.MixDinRefIdeal.Gen.bitsLt_bf16_f32) Cert.MixDinRefIdeal.Gen.transposes_S1792x1024_S1024x1792_1_0)) (broadcastInDim Cert.MixDinRefIdeal.S4224x1024 ![0, 1] Cert.MixDinRefIdeal.Gen.bcast_S1x1024_S4224x1024_0_1 G))) (constant Cert.MixDinRefIdeal.S_ .f32 0x00000000#32) Cert.MixDinRefIdeal.Gen.reducesTo_S4224x1024_S4224_d1 Cert.MixDinRefIdeal.Gen.h_S_) Cert.MixDinRefIdeal.Gen.shapeCasts_S4224_S4224x1) (mulf (broadcastInDim Cert.MixDinRefIdeal.S4224x1 ![] Cert.MixDinRefIdeal.Gen.bcast_S_S4224x1 (constant Cert.MixDinRefIdeal.S_ .f32 0xBF000000#32)) (Host.divf (Host.rsqrt (addf (Host.divf (broadcastInDim Cert.MixDinRefIdeal.S4224x1 ![0] Cert.MixDinRefIdeal.Gen.bcast_S4224_S4224x1_0 (Host.reduceAdd (mulf X X) (constant Cert.MixDinRefIdeal.S_ .f32 0x00000000#32) Cert.MixDinRefIdeal.Gen.reducesTo_S4224x1024_S4224_d1 Cert.MixDinRefIdeal.Gen.h_S_)) (broadcastInDim Cert.MixDinRefIdeal.S4224x1 ![] Cert.MixDinRefIdeal.Gen.bcast_S_S4224x1 (constant Cert.MixDinRefIdeal.S_ .f32 0x44800000#32))) (broadcastInDim Cert.MixDinRefIdeal.S4224x1 ![] Cert.MixDinRefIdeal.Gen.bcast_S_S4224x1 (constant Cert.MixDinRefIdeal.S_ .f32 0x358637BD#32)))) (addf (Host.divf (broadcastInDim Cert.MixDinRefIdeal.S4224x1 ![0] Cert.MixDinRefIdeal.Gen.bcast_S4224_S4224x1_0 (Host.reduceAdd (mulf X X) (constant Cert.MixDinRefIdeal.S_ .f32 0x00000000#32) Cert.MixDinRefIdeal.Gen.reducesTo_S4224x1024_S4224_d1 Cert.MixDinRefIdeal.Gen.h_S_)) (broadcastInDim Cert.MixDinRefIdeal.S4224x1 ![] Cert.MixDinRefIdeal.Gen.bcast_S_S4224x1 (constant Cert.MixDinRefIdeal.S_ .f32 0x44800000#32))) (broadcastInDim Cert.MixDinRefIdeal.S4224x1 ![] Cert.MixDinRefIdeal.Gen.bcast_S_S4224x1 (constant Cert.MixDinRefIdeal.S_ .f32 0x358637BD#32)))))) (broadcastInDim Cert.MixDinRefIdeal.S4224x1 ![] Cert.MixDinRefIdeal.Gen.bcast_S_S4224x1 (constant Cert.MixDinRefIdeal.S_ .f32 0x44800000#32))) (constant Cert.MixDinRefIdeal.S_ .f32 0x00000000#32) Cert.MixDinRefIdeal.Gen.reducesTo_S4224x1_S4224_d1 Cert.MixDinRefIdeal.Gen.h_S_)) X)) B

/-- The reference's rows' gradient is the kernel's. -/
theorem refDh_eq (Z : FVec Ideal S4224x1792 .bf16) (W : FVec Ideal S1792x1024 .bf16) (X : FVec Ideal S4224x1024 .f32) (G : FVec Ideal S1x1024 .f32) (B : FVec Ideal S4224x1024 .f32) : refDh Z W X G B = dh Z W X G B := by
  funext i
  obtain ⟨r, j, rfl⟩ : ∃ r j, i = ix2 r j := ⟨i 0, i 1, eq_ix2 i⟩
  pointwise [dh, du, scale]
  simp only [Scale.div_1024, Finset.univ_unique, Finset.sum_singleton]
  exact (Rms.bwd_1024 (fun k => X (ix2 r k)) (fun k => (∑ q : Fin 1792, Z (ix2 r q) * W (ix2 q k)) * G (ix2 0 k)) (B (ix2 r j)) j).symm

/-- What the reference writes for the gain's gradient. -/
abbrev refGain (Z : FVec Ideal S4224x1792 .bf16) (W : FVec Ideal S1792x1024 .bf16) (X : FVec Ideal S4224x1024 .f32) : FVec Ideal S1x1024 .f32 :=
  shapeCast _ (Host.reduceAdd (mulf (mulf X (broadcastInDim Cert.MixDinRefIdeal.S4224x1024 ![0, 1] Cert.MixDinRefIdeal.Gen.bcast_S4224x1_S4224x1024_0_1 (Host.rsqrt (addf (Host.divf (broadcastInDim Cert.MixDinRefIdeal.S4224x1 ![0] Cert.MixDinRefIdeal.Gen.bcast_S4224_S4224x1_0 (Host.reduceAdd (mulf X X) (constant Cert.MixDinRefIdeal.S_ .f32 0x00000000#32) Cert.MixDinRefIdeal.Gen.reducesTo_S4224x1024_S4224_d1 Cert.MixDinRefIdeal.Gen.h_S_)) (broadcastInDim Cert.MixDinRefIdeal.S4224x1 ![] Cert.MixDinRefIdeal.Gen.bcast_S_S4224x1 (constant Cert.MixDinRefIdeal.S_ .f32 0x44800000#32))) (broadcastInDim Cert.MixDinRefIdeal.S4224x1 ![] Cert.MixDinRefIdeal.Gen.bcast_S_S4224x1 (constant Cert.MixDinRefIdeal.S_ .f32 0x358637BD#32)))))) (Host.dotGeneral Cert.MixDinRefIdeal.dot_S4224x1792_S1024x1792_S4224x1024_1_1_0_0_n_n none (extf .f32 Z Cert.MixDinRefIdeal.Gen.bitsLt_bf16_f32) (transpose Cert.MixDinRefIdeal.S1024x1792 [1, 0] (extf .f32 W Cert.MixDinRefIdeal.Gen.bitsLt_bf16_f32) Cert.MixDinRefIdeal.Gen.transposes_S1792x1024_S1024x1792_1_0))) (constant Cert.MixDinRefIdeal.S_ .f32 0x00000000#32) Cert.MixDinRefIdeal.Gen.reducesTo_S4224x1024_S1024_d0 Cert.MixDinRefIdeal.Gen.h_S_) Cert.MixDinRefIdeal.Gen.shapeCasts_S1024_S1x1024

/-- The reference's gain's gradient is the kernel's. -/
theorem refGain_eq (Z : FVec Ideal S4224x1792 .bf16) (W : FVec Ideal S1792x1024 .bf16) (X : FVec Ideal S4224x1024 .f32) : refGain Z W X = dg Z W X := by
  funext i
  pointwise [dg, du, scale]
  simp only [Scale.div_1024]
  exact Finset.sum_congr rfl fun r _ => mul_comm _ _

end Cert.MixDinIdeal.Back

end
-- ==== Proof.NormRef.lean ====
/- The gradient of the second SwiGLU block's norm and of the mixer's branches: what the reference writes is what the kernel leaves. -/
module

public import proofs.«01_k».proof.Proof.NormRows
public import proofs.«01_k».proof.Proof.Gen.NormRefIdeal.Run
public import proofs.«01_k».proof.Proof.Scale

@[expose] public section

set_option maxRecDepth 16384

noncomputable section

namespace Cert.NormIdeal.Back

open Cert.NormIdeal Cert.NormIdeal.Gen Cert.NormIdeal.Value Idealize.ShloMosaic Idealize.ShloMosaic.TcCoe Idealize.SL.Sem
open Idealize.ShloMosaic.Pipeline (Dat)

/-- What the reference computes for the gradient of the normalised rows. -/
abbrev refDu (D : FVec Ideal S4x4224x704 .bf16) (W : FVec Ideal S4x704x1024 .bf16) (E : FVec Ideal S4x4224x704 .bf16) (V : FVec Ideal S4x704x1024 .bf16) : FVec Ideal S4224x1024 .f32 :=
  addf (Host.dotGeneral Cert.NormRefIdeal.dot_S4x704x4224_S4x704x1024_S4224x1024_01_01_2_2_n_n none (transpose Cert.NormRefIdeal.S4x704x4224 [0, 2, 1] (extf .f32 E Cert.NormRefIdeal.Gen.bitsLt_bf16_f32) Cert.NormRefIdeal.Gen.transposes_S4x4224x704_S4x704x4224_0_2_1) (extf .f32 V Cert.NormRefIdeal.Gen.bitsLt_bf16_f32)) (Host.dotGeneral Cert.NormRefIdeal.dot_S4x704x4224_S4x704x1024_S4224x1024_01_01_2_2_n_n none (transpose Cert.NormRefIdeal.S4x704x4224 [0, 2, 1] (extf .f32 D Cert.NormRefIdeal.Gen.bitsLt_bf16_f32) Cert.NormRefIdeal.Gen.transposes_S4x4224x704_S4x704x4224_0_2_1) (extf .f32 W Cert.NormRefIdeal.Gen.bitsLt_bf16_f32))

/-- It is the kernel's: the kernel adds the shards of both products in a row. -/
theorem refDu_at (D : FVec Ideal S4x4224x704 .bf16) (W : FVec Ideal S4x704x1024 .bf16) (E : FVec Ideal S4x4224x704 .bf16) (V : FVec Ideal S4x704x1024 .bf16) (r : Fin 4224) (j : Fin 1024) : refDu D W E V (ix2 r j) = du D W E V r j := by
  pointwise [du]
  rw [add_comm, Fin.sum_univ_four, Fin.sum_univ_four]
  simp only [add_assoc]

/-- What the reference writes for the rows' gradient, from that. -/
abbrev refDh (U : FVec Ideal S4224x1024 .f32) (X : FVec Ideal S4224x1024 .f32) (G : FVec Ideal S1x1024 .f32) (B : FVec Ideal S4224x1024 .f32) : FVec Ideal S4224x1024 .f32 :=
  addf (addf (addf (mulf (mulf U (broadcastInDim Cert.NormRefIdeal.S4224x1024 ![0, 1] Cert.NormRefIdeal.Gen.bcast_S1x1024_S4224x1024_0_1 G)) (broadcastInDim Cert.NormRefIdeal.S4224x1024 ![0, 1] Cert.NormRefIdeal.Gen.bcast_S4224x1_S4224x1024_0_1 (Host.rsqrt (addf (Host.divf (broadcastInDim Cert.NormRefIdeal.S4224x1 ![0] Cert.NormRefIdeal.Gen.bcast_S4224_S4224x1_0 (Host.reduceAdd (mulf X X) (constant Cert.NormRefIdeal.S_ .f32 0x00000000#32) Cert.NormRefIdeal.Gen.reducesTo_S4224x1024_S4224_d1 Cert.NormRefIdeal.Gen.h_S_)) (broadcastInDim Cert.NormRefIdeal.S4224x1 ![] Cert.NormRefIdeal.Gen.bcast_S_S4224x1 (constant Cert.NormRefIdeal.S_ .f32 0x44800000#32))) (broadcastInDim Cert.NormRefIdeal.S4224x1 ![] Cert.NormRefIdeal.Gen.bcast_S_S4224x1 (constant Cert.NormRefIdeal.S_ .f32 0x358637BD#32)))))) (mulf X (broadcastInDim Cert.NormRefIdeal.S4224x1024 ![0] Cert.NormRefIdeal.Gen.bcast_S4224_S4224x1024_0 (Host.reduceAdd (Host.divf (mulf (shapeCast _ (Host.reduceAdd (mulf X (mulf U (broadcastInDim Cert.NormRefIdeal.S4224x1024 ![0, 1] Cert.NormRefIdeal.Gen.bcast_S1x1024_S4224x1024_0_1 G))) (constant Cert.NormRefIdeal.S_ .f32 0x00000000#32) Cert.NormRefIdeal.Gen.reducesTo_S4224x1024_S4224_d1 Cert.NormRefIdeal.Gen.h_S_) Cert.NormRefIdeal.Gen.shapeCasts_S4224_S4224x1) (mulf (broadcastInDim Cert.NormRefIdeal.S4224x1 ![] Cert.NormRefIdeal.Gen.bcast_S_S4224x1 (constant Cert.NormRefIdeal.S_ .f32 0xBF000000#32)) (Host.divf (Host.rsqrt (addf (Host.divf (broadcastInDim Cert.NormRefIdeal.S4224x1 ![0] Cert.NormRefIdeal.Gen.bcast_S4224_S4224x1_0 (Host.reduceAdd (mulf X X) (constant Cert.NormRefIdeal.S_ .f32 0x00000000#32) Cert.NormRefIdeal.Gen.reducesTo_S4224x1024_S4224_d1 Cert.NormRefIdeal.Gen.h_S_)) (broadcastInDim Cert.NormRefIdeal.S4224x1 ![] Cert.NormRefIdeal.Gen.bcast_S_S4224x1 (constant Cert.NormRefIdeal.S_ .f32 0x44800000#32))) (broadcastInDim Cert.NormRefIdeal.S4224x1 ![] Cert.NormRefIdeal.Gen.bcast_S_S4224x1 (constant Cert.NormRefIdeal.S_ .f32 0x358637BD#32)))) (addf (Host.divf (broadcastInDim Cert.NormRefIdeal.S4224x1 ![0] Cert.NormRefIdeal.Gen.bcast_S4224_S4224x1_0 (Host.reduceAdd (mulf X X) (constant Cert.NormRefIdeal.S_ .f32 0x00000000#32) Cert.NormRefIdeal.Gen.reducesTo_S4224x1024_S4224_d1 Cert.NormRefIdeal.Gen.h_S_)) (broadcastInDim Cert.NormRefIdeal.S4224x1 ![] Cert.NormRefIdeal.Gen.bcast_S_S4224x1 (constant Cert.NormRefIdeal.S_ .f32 0x44800000#32))) (broadcastInDim Cert.NormRefIdeal.S4224x1 ![] Cert.NormRefIdeal.Gen.bcast_S_S4224x1 (constant Cert.NormRefIdeal.S_ .f32 0x358637BD#32)))))) (broadcastInDim Cert.NormRefIdeal.S4224x1 ![] Cert.NormRefIdeal.Gen.bcast_S_S4224x1 (constant Cert.NormRefIdeal.S_ .f32 0x44800000#32))) (constant Cert.NormRefIdeal.S_ .f32 0x00000000#32) Cert.NormRefIdeal.Gen.reducesTo_S4224x1_S4224_d1 Cert.NormRefIdeal.Gen.h_S_)))) (mulf (broadcastInDim Cert.NormRefIdeal.S4224x1024 ![0] Cert.NormRefIdeal.Gen.bcast_S4224_S4224x1024_0 (Host.reduceAdd (Host.divf (mulf (shapeCast _ (Host.reduceAdd (mulf X (mulf U (broadcastInDim Cert.NormRefIdeal.S4224x1024 ![0, 1] Cert.NormRefIdeal.Gen.bcast_S1x1024_S4224x1024_0_1 G))) (constant Cert.NormRefIdeal.S_ .f32 0x00000000#32) Cert.NormRefIdeal.Gen.reducesTo_S4224x1024_S4224_d1 Cert.NormRefIdeal.Gen.h_S_) Cert.NormRefIdeal.Gen.shapeCasts_S4224_S4224x1) (mulf (broadcastInDim Cert.NormRefIdeal.S4224x1 ![] Cert.NormRefIdeal.Gen.bcast_S_S4224x1 (constant Cert.NormRefIdeal.S_ .f32 0xBF000000#32)) (Host.divf (Host.rsqrt (addf (Host.divf (broadcastInDim Cert.NormRefIdeal.S4224x1 ![0] Cert.NormRefIdeal.Gen.bcast_S4224_S4224x1_0 (Host.reduceAdd (mulf X X) (constant Cert.NormRefIdeal.S_ .f32 0x00000000#32) Cert.NormRefIdeal.Gen.reducesTo_S4224x1024_S4224_d1 Cert.NormRefIdeal.Gen.h_S_)) (broadcastInDim Cert.NormRefIdeal.S4224x1 ![] Cert.NormRefIdeal.Gen.bcast_S_S4224x1 (constant Cert.NormRefIdeal.S_ .f32 0x44800000#32))) (broadcastInDim Cert.NormRefIdeal.S4224x1 ![] Cert.NormRefIdeal.Gen.bcast_S_S4224x1 (constant Cert.NormRefIdeal.S_ .f32 0x358637BD#32)))) (addf (Host.divf (broadcastInDim Cert.NormRefIdeal.S4224x1 ![0] Cert.NormRefIdeal.Gen.bcast_S4224_S4224x1_0 (Host.reduceAdd (mulf X X) (constant Cert.NormRefIdeal.S_ .f32 0x00000000#32) Cert.NormRefIdeal.Gen.reducesTo_S4224x1024_S4224_d1 Cert.NormRefIdeal.Gen.h_S_)) (broadcastInDim Cert.NormRefIdeal.S4224x1 ![] Cert.NormRefIdeal.Gen.bcast_S_S4224x1 (constant Cert.NormRefIdeal.S_ .f32 0x44800000#32))) (broadcastInDim Cert.NormRefIdeal.S4224x1 ![] Cert.NormRefIdeal.Gen.bcast_S_S4224x1 (constant Cert.NormRefIdeal.S_ .f32 0x358637BD#32)))))) (broadcastInDim Cert.NormRefIdeal.S4224x1 ![] Cert.NormRefIdeal.Gen.bcast_S_S4224x1 (constant Cert.NormRefIdeal.S_ .f32 0x44800000#32))) (constant Cert.NormRefIdeal.S_ .f32 0x00000000#32) Cert.NormRefIdeal.Gen.reducesTo_S4224x1_S4224_d1 Cert.NormRefIdeal.Gen.h_S_)) X)) B

/-- It is the kernel's. -/
theorem refDh_at (U : FVec Ideal S4224x1024 .f32) (X : FVec Ideal S4224x1024 .f32) (G : FVec Ideal S1x1024 .f32) (B : FVec Ideal S4224x1024 .f32) (r : Fin 4224) (j : Fin 1024) :
    refDh U X G B (ix2 r j) = B (ix2 r j) + back 0x3A800000#32 (fun k => X (ix2 r k)) (fun k => U (ix2 r k) * G (ix2 0 k)) j := by
  pointwise [back, scale]
  simp only [Scale.div_1024, Finset.univ_unique, Finset.sum_singleton]
  exact (Rms.bwd_1024 (fun k => X (ix2 r k)) (fun k => U (ix2 r k) * G (ix2 0 k)) (B (ix2 r j)) j).symm

/-- The reference's rows' gradient is the kernel's. -/
theorem refDh_eq (D : FVec Ideal S4x4224x704 .bf16) (W : FVec Ideal S4x704x1024 .bf16) (E : FVec Ideal S4x4224x704 .bf16) (V : FVec Ideal S4x704x1024 .bf16) (X : FVec Ideal S4224x1024 .f32) (G : FVec Ideal S1x1024 .f32) (B : FVec Ideal S4224x1024 .f32) : refDh (refDu D W E V) X G B = dh D W E V X G B := by
  funext i
  obtain ⟨r, j, rfl⟩ : ∃ r j, i = ix2 r j := ⟨i 0, i 1, eq_ix2 i⟩
  rw [refDh_at]
  simp only [refDu_at]
  rfl

/-- What the reference writes for the gain's gradient. -/
abbrev refGain (U : FVec Ideal S4224x1024 .f32) (X : FVec Ideal S4224x1024 .f32) : FVec Ideal S1x1024 .f32 :=
  shapeCast _ (Host.reduceAdd (mulf (mulf X (broadcastInDim Cert.NormRefIdeal.S4224x1024 ![0, 1] Cert.NormRefIdeal.Gen.bcast_S4224x1_S4224x1024_0_1 (Host.rsqrt (addf (Host.divf (broadcastInDim Cert.NormRefIdeal.S4224x1 ![0] Cert.NormRefIdeal.Gen.bcast_S4224_S4224x1_0 (Host.reduceAdd (mulf X X) (constant Cert.NormRefIdeal.S_ .f32 0x00000000#32) Cert.NormRefIdeal.Gen.reducesTo_S4224x1024_S4224_d1 Cert.NormRefIdeal.Gen.h_S_)) (broadcastInDim Cert.NormRefIdeal.S4224x1 ![] Cert.NormRefIdeal.Gen.bcast_S_S4224x1 (constant Cert.NormRefIdeal.S_ .f32 0x44800000#32))) (broadcastInDim Cert.NormRefIdeal.S4224x1 ![] Cert.NormRefIdeal.Gen.bcast_S_S4224x1 (constant Cert.NormRefIdeal.S_ .f32 0x358637BD#32)))))) U) (constant Cert.NormRefIdeal.S_ .f32 0x00000000#32) Cert.NormRefIdeal.Gen.reducesTo_S4224x1024_S1024_d0 Cert.NormRefIdeal.Gen.h_S_) Cert.NormRefIdeal.Gen.shapeCasts_S1024_S1x1024

/-- It is a sum over the rows. -/
theorem refGain_at (U : FVec Ideal S4224x1024 .f32) (X : FVec Ideal S4224x1024 .f32) (z : Fin 1) (j : Fin 1024) :
    refGain U X (ix2 z j) = ∑ r : Fin 4224, U (ix2 r j) * (X (ix2 r j) * scale 0x3A800000#32 fun k => X (ix2 r k)) := by
  pointwise [scale]
  simp only [Scale.div_1024]
  exact Finset.sum_congr rfl fun r _ => mul_comm _ _

/-- The reference's gain's gradient is the kernel's. -/
theorem refGain_eq (D : FVec Ideal S4x4224x704 .bf16) (W : FVec Ideal S4x704x1024 .bf16) (E : FVec Ideal S4x4224x704 .bf16) (V : FVec Ideal S4x704x1024 .bf16) (X : FVec Ideal S4224x1024 .f32) : refGain (refDu D W E V) X = dg D W E V X := by
  funext i
  obtain ⟨r, j, rfl⟩ : ∃ r j, i = ix2 r j := ⟨i 0, i 1, eq_ix2 i⟩
  rw [refGain_at]
  simp only [refDu_at]
  rfl

/-- The gradient before the output product, as the reference computes it. -/
abbrev refProd (H : FVec Ideal S4224x1024 .f32) (O : FVec Ideal S1024x1024 .bf16) : FVec Ideal S4224x1024 .f32 :=
  Host.dotGeneral Cert.NormRefIdeal.dot_S4224x1024_S1024x1024_S4224x1024_1_1_0_0_n_n none H (extf .f32 O Cert.NormRefIdeal.Gen.bitsLt_bf16_f32)

/-- The columns of the first branch. -/
abbrev refLo (P : FVec Ideal S4224x1024 .f32) : FVec Ideal S4224x512 .f32 :=
  extractStridedSlice Cert.NormRefIdeal.S4224x512 ![0, 0] P Cert.NormRefIdeal.Gen.slices_S4224x1024_S4224x512_0_0

/-- The columns of the second branch. -/
abbrev refHi (P : FVec Ideal S4224x1024 .f32) : FVec Ideal S4224x512 .f32 :=
  extractStridedSlice Cert.NormRefIdeal.S4224x512 ![0, 512] P Cert.NormRefIdeal.Gen.slices_S4224x1024_S4224x512_0_512

/-- The first branch's columns are the kernel's. -/
theorem refLo_at (H : FVec Ideal S4224x1024 .f32) (O : FVec Ideal S1024x1024 .bf16) (r : Fin 4224) (j : Fin 512) : refLo (refProd H O) (ix2 r j) = dy H O r (lo j) := by
  pointwise [dy, lo]

/-- The second branch's columns are the kernel's. -/
theorem refHi_at (H : FVec Ideal S4224x1024 .f32) (O : FVec Ideal S1024x1024 .bf16) (r : Fin 4224) (j : Fin 512) : refHi (refProd H O) (ix2 r j) = dy H O r (hi j) := by
  pointwise [dy, hi]

/-- What the reference writes for a branch's gradient, from its columns. -/
abbrev refBranch (V : FVec Ideal S4224x512 .f32) (Y : FVec Ideal S4224x512 .f32) (G : FVec Ideal S1x512 .f32) : FVec Ideal S4224x512 .f32 :=
  addf (addf (mulf (mulf V (broadcastInDim Cert.NormRefIdeal.S4224x512 ![0, 1] Cert.NormRefIdeal.Gen.bcast_S1x512_S4224x512_0_1 G)) (broadcastInDim Cert.NormRefIdeal.S4224x512 ![0, 1] Cert.NormRefIdeal.Gen.bcast_S4224x1_S4224x512_0_1 (Host.rsqrt (addf (Host.divf (broadcastInDim Cert.NormRefIdeal.S4224x1 ![0] Cert.NormRefIdeal.Gen.bcast_S4224_S4224x1_0 (Host.reduceAdd (mulf Y Y) (constant Cert.NormRefIdeal.S_ .f32 0x00000000#32) Cert.NormRefIdeal.Gen.reducesTo_S4224x512_S4224_d1 Cert.NormRefIdeal.Gen.h_S_)) (broadcastInDim Cert.NormRefIdeal.S4224x1 ![] Cert.NormRefIdeal.Gen.bcast_S_S4224x1 (constant Cert.NormRefIdeal.S_ .f32 0x44000000#32))) (broadcastInDim Cert.NormRefIdeal.S4224x1 ![] Cert.NormRefIdeal.Gen.bcast_S_S4224x1 (constant Cert.NormRefIdeal.S_ .f32 0x358637BD#32)))))) (mulf Y (broadcastInDim Cert.NormRefIdeal.S4224x512 ![0] Cert.NormRefIdeal.Gen.bcast_S4224_S4224x512_0 (Host.reduceAdd (Host.divf (mulf (shapeCast _ (Host.reduceAdd (mulf Y (mulf V (broadcastInDim Cert.NormRefIdeal.S4224x512 ![0, 1] Cert.NormRefIdeal.Gen.bcast_S1x512_S4224x512_0_1 G))) (constant Cert.NormRefIdeal.S_ .f32 0x00000000#32) Cert.NormRefIdeal.Gen.reducesTo_S4224x512_S4224_d1 Cert.NormRefIdeal.Gen.h_S_) Cert.NormRefIdeal.Gen.shapeCasts_S4224_S4224x1) (mulf (broadcastInDim Cert.NormRefIdeal.S4224x1 ![] Cert.NormRefIdeal.Gen.bcast_S_S4224x1 (constant Cert.NormRefIdeal.S_ .f32 0xBF000000#32)) (Host.divf (Host.rsqrt (addf (Host.divf (broadcastInDim Cert.NormRefIdeal.S4224x1 ![0] Cert.NormRefIdeal.Gen.bcast_S4224_S4224x1_0 (Host.reduceAdd (mulf Y Y) (constant Cert.NormRefIdeal.S_ .f32 0x00000000#32) Cert.NormRefIdeal.Gen.reducesTo_S4224x512_S4224_d1 Cert.NormRefIdeal.Gen.h_S_)) (broadcastInDim Cert.NormRefIdeal.S4224x1 ![] Cert.NormRefIdeal.Gen.bcast_S_S4224x1 (constant Cert.NormRefIdeal.S_ .f32 0x44000000#32))) (broadcastInDim Cert.NormRefIdeal.S4224x1 ![] Cert.NormRefIdeal.Gen.bcast_S_S4224x1 (constant Cert.NormRefIdeal.S_ .f32 0x358637BD#32)))) (addf (Host.divf (broadcastInDim Cert.NormRefIdeal.S4224x1 ![0] Cert.NormRefIdeal.Gen.bcast_S4224_S4224x1_0 (Host.reduceAdd (mulf Y Y) (constant Cert.NormRefIdeal.S_ .f32 0x00000000#32) Cert.NormRefIdeal.Gen.reducesTo_S4224x512_S4224_d1 Cert.NormRefIdeal.Gen.h_S_)) (broadcastInDim Cert.NormRefIdeal.S4224x1 ![] Cert.NormRefIdeal.Gen.bcast_S_S4224x1 (constant Cert.NormRefIdeal.S_ .f32 0x44000000#32))) (broadcastInDim Cert.NormRefIdeal.S4224x1 ![] Cert.NormRefIdeal.Gen.bcast_S_S4224x1 (constant Cert.NormRefIdeal.S_ .f32 0x358637BD#32)))))) (broadcastInDim Cert.NormRefIdeal.S4224x1 ![] Cert.NormRefIdeal.Gen.bcast_S_S4224x1 (constant Cert.NormRefIdeal.S_ .f32 0x44000000#32))) (constant Cert.NormRefIdeal.S_ .f32 0x00000000#32) Cert.NormRefIdeal.Gen.reducesTo_S4224x1_S4224_d1 Cert.NormRefIdeal.Gen.h_S_)))) (mulf (broadcastInDim Cert.NormRefIdeal.S4224x512 ![0] Cert.NormRefIdeal.Gen.bcast_S4224_S4224x512_0 (Host.reduceAdd (Host.divf (mulf (shapeCast _ (Host.reduceAdd (mulf Y (mulf V (broadcastInDim Cert.NormRefIdeal.S4224x512 ![0, 1] Cert.NormRefIdeal.Gen.bcast_S1x512_S4224x512_0_1 G))) (constant Cert.NormRefIdeal.S_ .f32 0x00000000#32) Cert.NormRefIdeal.Gen.reducesTo_S4224x512_S4224_d1 Cert.NormRefIdeal.Gen.h_S_) Cert.NormRefIdeal.Gen.shapeCasts_S4224_S4224x1) (mulf (broadcastInDim Cert.NormRefIdeal.S4224x1 ![] Cert.NormRefIdeal.Gen.bcast_S_S4224x1 (constant Cert.NormRefIdeal.S_ .f32 0xBF000000#32)) (Host.divf (Host.rsqrt (addf (Host.divf (broadcastInDim Cert.NormRefIdeal.S4224x1 ![0] Cert.NormRefIdeal.Gen.bcast_S4224_S4224x1_0 (Host.reduceAdd (mulf Y Y) (constant Cert.NormRefIdeal.S_ .f32 0x00000000#32) Cert.NormRefIdeal.Gen.reducesTo_S4224x512_S4224_d1 Cert.NormRefIdeal.Gen.h_S_)) (broadcastInDim Cert.NormRefIdeal.S4224x1 ![] Cert.NormRefIdeal.Gen.bcast_S_S4224x1 (constant Cert.NormRefIdeal.S_ .f32 0x44000000#32))) (broadcastInDim Cert.NormRefIdeal.S4224x1 ![] Cert.NormRefIdeal.Gen.bcast_S_S4224x1 (constant Cert.NormRefIdeal.S_ .f32 0x358637BD#32)))) (addf (Host.divf (broadcastInDim Cert.NormRefIdeal.S4224x1 ![0] Cert.NormRefIdeal.Gen.bcast_S4224_S4224x1_0 (Host.reduceAdd (mulf Y Y) (constant Cert.NormRefIdeal.S_ .f32 0x00000000#32) Cert.NormRefIdeal.Gen.reducesTo_S4224x512_S4224_d1 Cert.NormRefIdeal.Gen.h_S_)) (broadcastInDim Cert.NormRefIdeal.S4224x1 ![] Cert.NormRefIdeal.Gen.bcast_S_S4224x1 (constant Cert.NormRefIdeal.S_ .f32 0x44000000#32))) (broadcastInDim Cert.NormRefIdeal.S4224x1 ![] Cert.NormRefIdeal.Gen.bcast_S_S4224x1 (constant Cert.NormRefIdeal.S_ .f32 0x358637BD#32)))))) (broadcastInDim Cert.NormRefIdeal.S4224x1 ![] Cert.NormRefIdeal.Gen.bcast_S_S4224x1 (constant Cert.NormRefIdeal.S_ .f32 0x44000000#32))) (constant Cert.NormRefIdeal.S_ .f32 0x00000000#32) Cert.NormRefIdeal.Gen.reducesTo_S4224x1_S4224_d1 Cert.NormRefIdeal.Gen.h_S_)) Y)

/-- It is the kernel's. -/
theorem refBranch_at (V : FVec Ideal S4224x512 .f32) (Y : FVec Ideal S4224x512 .f32) (G : FVec Ideal S1x512 .f32) (r : Fin 4224) (j : Fin 512) :
    refBranch V Y G (ix2 r j) = back 0x3B000000#32 (fun k => Y (ix2 r k)) (fun k => V (ix2 r k) * G (ix2 0 k)) j := by
  have h := Rms.bwd_512 (fun k => Y (ix2 r k)) (fun k => V (ix2 r k) * G (ix2 0 k)) 0 j
  rw [zero_add, add_zero] at h
  pointwise [back, scale]
  simp only [Scale.div_512, Finset.univ_unique, Finset.sum_singleton]
  exact h.symm

/-- The reference's gradient of the first branch is the kernel's. -/
theorem refFirst_eq (H : FVec Ideal S4224x1024 .f32) (O : FVec Ideal S1024x1024 .bf16) (Y : FVec Ideal S4224x512 .f32) (G : FVec Ideal S1x512 .f32) : refBranch (refLo (refProd H O)) Y G = dbranch H O lo Y G := by
  funext i
  obtain ⟨r, j, rfl⟩ : ∃ r j, i = ix2 r j := ⟨i 0, i 1, eq_ix2 i⟩
  rw [refBranch_at]
  simp only [refLo_at]
  rfl

/-- The reference's gradient of the second branch is the kernel's. -/
theorem refSecond_eq (H : FVec Ideal S4224x1024 .f32) (O : FVec Ideal S1024x1024 .bf16) (Y : FVec Ideal S4224x512 .f32) (G : FVec Ideal S1x512 .f32) : refBranch (refHi (refProd H O)) Y G = dbranch H O hi Y G := by
  funext i
  obtain ⟨r, j, rfl⟩ : ∃ r j, i = ix2 r j := ⟨i 0, i 1, eq_ix2 i⟩
  rw [refBranch_at]
  simp only [refHi_at]
  rfl

/-- What the reference writes for a branch's gain's gradient. -/
abbrev refBranchGain (V : FVec Ideal S4224x512 .f32) (Y : FVec Ideal S4224x512 .f32) : FVec Ideal S1x512 .f32 :=
  shapeCast _ (Host.reduceAdd (mulf (mulf Y (broadcastInDim Cert.NormRefIdeal.S4224x512 ![0, 1] Cert.NormRefIdeal.Gen.bcast_S4224x1_S4224x512_0_1 (Host.rsqrt (addf (Host.divf (broadcastInDim Cert.NormRefIdeal.S4224x1 ![0] Cert.NormRefIdeal.Gen.bcast_S4224_S4224x1_0 (Host.reduceAdd (mulf Y Y) (constant Cert.NormRefIdeal.S_ .f32 0x00000000#32) Cert.NormRefIdeal.Gen.reducesTo_S4224x512_S4224_d1 Cert.NormRefIdeal.Gen.h_S_)) (broadcastInDim Cert.NormRefIdeal.S4224x1 ![] Cert.NormRefIdeal.Gen.bcast_S_S4224x1 (constant Cert.NormRefIdeal.S_ .f32 0x44000000#32))) (broadcastInDim Cert.NormRefIdeal.S4224x1 ![] Cert.NormRefIdeal.Gen.bcast_S_S4224x1 (constant Cert.NormRefIdeal.S_ .f32 0x358637BD#32)))))) V) (constant Cert.NormRefIdeal.S_ .f32 0x00000000#32) Cert.NormRefIdeal.Gen.reducesTo_S4224x512_S512_d0 Cert.NormRefIdeal.Gen.h_S_) Cert.NormRefIdeal.Gen.shapeCasts_S512_S1x512

/-- It is a sum over the rows. -/
theorem refBranchGain_at (V : FVec Ideal S4224x512 .f32) (Y : FVec Ideal S4224x512 .f32) (z : Fin 1) (j : Fin 512) :
    refBranchGain V Y (ix2 z j) = ∑ r : Fin 4224, V (ix2 r j) * (Y (ix2 r j) * scale 0x3B000000#32 fun k => Y (ix2 r k)) := by
  pointwise [scale]
  simp only [Scale.div_512]
  exact Finset.sum_congr rfl fun r _ => mul_comm _ _

/-- The reference's gradient of the first branch's gain is the kernel's. -/
theorem refFirstGain_eq (H : FVec Ideal S4224x1024 .f32) (O : FVec Ideal S1024x1024 .bf16) (Y : FVec Ideal S4224x512 .f32) : refBranchGain (refLo (refProd H O)) Y = dgain H O lo Y := by
  funext i
  obtain ⟨r, j, rfl⟩ : ∃ r j, i = ix2 r j := ⟨i 0, i 1, eq_ix2 i⟩
  rw [refBranchGain_at]
  simp only [refLo_at]
  rfl

/-- The reference's gradient of the second branch's gain is the kernel's. -/
theorem refSecondGain_eq (H : FVec Ideal S4224x1024 .f32) (O : FVec Ideal S1024x1024 .bf16) (Y : FVec Ideal S4224x512 .f32) : refBranchGain (refHi (refProd H O)) Y = dgain H O hi Y := by
  funext i
  obtain ⟨r, j, rfl⟩ : ∃ r j, i = ix2 r j := ⟨i 0, i 1, eq_ix2 i⟩
  rw [refBranchGain_at]
  simp only [refHi_at]
  rfl

/-- The first branch's gradient, from the kernel's arguments. -/
theorem refFirst_all (D : FVec Ideal S4x4224x704 .bf16) (W : FVec Ideal S4x704x1024 .bf16) (E : FVec Ideal S4x4224x704 .bf16) (V : FVec Ideal S4x704x1024 .bf16) (X : FVec Ideal S4224x1024 .f32) (G : FVec Ideal S1x1024 .f32) (B : FVec Ideal S4224x1024 .f32) (O : FVec Ideal S1024x1024 .bf16) (Y : FVec Ideal S4224x512 .f32) (K : FVec Ideal S1x512 .f32) :
    refBranch (refLo (refProd (refDh (refDu D W E V) X G B) O)) Y K = dbranch (dh D W E V X G B) O lo Y K := by
  rw [refDh_eq, refFirst_eq]

/-- The second branch's gradient, from the kernel's arguments. -/
theorem refSecond_all (D : FVec Ideal S4x4224x704 .bf16) (W : FVec Ideal S4x704x1024 .bf16) (E : FVec Ideal S4x4224x704 .bf16) (V : FVec Ideal S4x704x1024 .bf16) (X : FVec Ideal S4224x1024 .f32) (G : FVec Ideal S1x1024 .f32) (B : FVec Ideal S4224x1024 .f32) (O : FVec Ideal S1024x1024 .bf16) (Y : FVec Ideal S4224x512 .f32) (K : FVec Ideal S1x512 .f32) :
    refBranch (refHi (refProd (refDh (refDu D W E V) X G B) O)) Y K = dbranch (dh D W E V X G B) O hi Y K := by
  rw [refDh_eq, refSecond_eq]

/-- The first branch's gain's gradient, from the kernel's arguments. -/
theorem refFirstGain_all (D : FVec Ideal S4x4224x704 .bf16) (W : FVec Ideal S4x704x1024 .bf16) (E : FVec Ideal S4x4224x704 .bf16) (V : FVec Ideal S4x704x1024 .bf16) (X : FVec Ideal S4224x1024 .f32) (G : FVec Ideal S1x1024 .f32) (B : FVec Ideal S4224x1024 .f32) (O : FVec Ideal S1024x1024 .bf16) (Y : FVec Ideal S4224x512 .f32) :
    refBranchGain (refLo (refProd (refDh (refDu D W E V) X G B) O)) Y = dgain (dh D W E V X G B) O lo Y := by
  rw [refDh_eq, refFirstGain_eq]

/-- The second branch's gain's gradient, from the kernel's arguments. -/
theorem refSecondGain_all (D : FVec Ideal S4x4224x704 .bf16) (W : FVec Ideal S4x704x1024 .bf16) (E : FVec Ideal S4x4224x704 .bf16) (V : FVec Ideal S4x704x1024 .bf16) (X : FVec Ideal S4224x1024 .f32) (G : FVec Ideal S1x1024 .f32) (B : FVec Ideal S4224x1024 .f32) (O : FVec Ideal S1024x1024 .bf16) (Y : FVec Ideal S4224x512 .f32) :
    refBranchGain (refHi (refProd (refDh (refDu D W E V) X G B) O)) Y = dgain (dh D W E V X G B) O hi Y := by
  rw [refDh_eq, refSecondGain_eq]

end Cert.NormIdeal.Back

end
-- ==== Proof.DinARef.lean ====
/- The gradient of the first SwiGLU block's norm, the first half of the rows: what the reference writes is what the kernel leaves. -/
module

public import proofs.«01_k».proof.Proof.DinA
public import proofs.«01_k».proof.Proof.Gen.DinARefIdeal.Run
public import proofs.«01_k».proof.Proof.Rms

@[expose] public section

set_option maxRecDepth 16384

noncomputable section

namespace Cert.DinAIdeal.Back

open Cert.DinAIdeal Cert.DinAIdeal.Gen Idealize.ShloMosaic Idealize.ShloMosaic.TcCoe Idealize.SL.Sem
open Cert.NormIdeal.Back (scale back du)

/-- The half's rows. -/
abbrev refHalf (X : FVec Ideal S4224x1024 .f32) : FVec Ideal Cert.DinARefIdeal.S2112x1024 .f32 :=
  extractStridedSlice Cert.DinARefIdeal.S2112x1024 ![0, 0] X Cert.DinARefIdeal.Gen.slices_S4224x1024_S2112x1024_0_0

/-- A row of the half is the array's. -/
theorem refHalf_at (X : FVec Ideal S4224x1024 .f32) (r : Fin 2112) (j : Fin 1024) : refHalf X (ix2 r j) = X (ix2 (half r) j) := by
  pointwise [half]

/-- What the reference computes for the gradient of the half's normalised rows. -/
abbrev refDu (D : FVec Ideal S4x4224x704 .bf16) (W : FVec Ideal S4x704x1024 .bf16) (E : FVec Ideal S4x4224x704 .bf16) (V : FVec Ideal S4x704x1024 .bf16) : FVec Ideal Cert.DinARefIdeal.S2112x1024 .f32 :=
  addf (Host.dotGeneral Cert.DinARefIdeal.dot_S4x704x2112_S4x704x1024_S2112x1024_01_01_2_2_n_n none (transpose Cert.DinARefIdeal.S4x704x2112 [0, 2, 1] (extf .f32 (extractStridedSlice Cert.DinARefIdeal.S4x2112x704 ![0, 0, 0] E Cert.DinARefIdeal.Gen.slices_S4x4224x704_S4x2112x704_0_0_0) Cert.DinARefIdeal.Gen.bitsLt_bf16_f32) Cert.DinARefIdeal.Gen.transposes_S4x2112x704_S4x704x2112_0_2_1) (extf .f32 V Cert.DinARefIdeal.Gen.bitsLt_bf16_f32)) (Host.dotGeneral Cert.DinARefIdeal.dot_S4x704x2112_S4x704x1024_S2112x1024_01_01_2_2_n_n none (transpose Cert.DinARefIdeal.S4x704x2112 [0, 2, 1] (extf .f32 (extractStridedSlice Cert.DinARefIdeal.S4x2112x704 ![0, 0, 0] D Cert.DinARefIdeal.Gen.slices_S4x4224x704_S4x2112x704_0_0_0) Cert.DinARefIdeal.Gen.bitsLt_bf16_f32) Cert.DinARefIdeal.Gen.transposes_S4x2112x704_S4x704x2112_0_2_1) (extf .f32 W Cert.DinARefIdeal.Gen.bitsLt_bf16_f32))

/-- It is the kernel's: the kernel adds the shards of both products in a row. -/
theorem refDu_at (D : FVec Ideal S4x4224x704 .bf16) (W : FVec Ideal S4x704x1024 .bf16) (E : FVec Ideal S4x4224x704 .bf16) (V : FVec Ideal S4x704x1024 .bf16) (r : Fin 2112) (j : Fin 1024) : refDu D W E V (ix2 r j) = du D W E V (half r) j := by
  pointwise [du, half]
  rw [add_comm, Fin.sum_univ_four, Fin.sum_univ_four]
  simp only [add_assoc]

/-- What the reference computes for the half's rows' gradient, from that. -/
abbrev refDh (U X : FVec Ideal Cert.DinARefIdeal.S2112x1024 .f32) (G : FVec Ideal S1x1024 .f32) (B : FVec Ideal Cert.DinARefIdeal.S2112x1024 .f32) : FVec Ideal Cert.DinARefIdeal.S2112x1024 .f32 :=
  addf (addf (addf (mulf (mulf U (broadcastInDim Cert.DinARefIdeal.S2112x1024 ![0, 1] Cert.DinARefIdeal.Gen.bcast_S1x1024_S2112x1024_0_1 G)) (broadcastInDim Cert.DinARefIdeal.S2112x1024 ![0, 1] Cert.DinARefIdeal.Gen.bcast_S2112x1_S2112x1024_0_1 (Host.rsqrt (addf (Host.divf (broadcastInDim Cert.DinARefIdeal.S2112x1 ![0] Cert.DinARefIdeal.Gen.bcast_S2112_S2112x1_0 (Host.reduceAdd (mulf X X) (constant Cert.DinARefIdeal.S_ .f32 0x00000000#32) Cert.DinARefIdeal.Gen.reducesTo_S2112x1024_S2112_d1 Cert.DinARefIdeal.Gen.h_S_)) (broadcastInDim Cert.DinARefIdeal.S2112x1 ![] Cert.DinARefIdeal.Gen.bcast_S_S2112x1 (constant Cert.DinARefIdeal.S_ .f32 0x44800000#32))) (broadcastInDim Cert.DinARefIdeal.S2112x1 ![] Cert.DinARefIdeal.Gen.bcast_S_S2112x1 (constant Cert.DinARefIdeal.S_ .f32 0x358637BD#32)))))) (mulf X (broadcastInDim Cert.DinARefIdeal.S2112x1024 ![0] Cert.DinARefIdeal.Gen.bcast_S2112_S2112x1024_0 (Host.reduceAdd (Host.divf (mulf (shapeCast _ (Host.reduceAdd (mulf X (mulf U (broadcastInDim Cert.DinARefIdeal.S2112x1024 ![0, 1] Cert.DinARefIdeal.Gen.bcast_S1x1024_S2112x1024_0_1 G))) (constant Cert.DinARefIdeal.S_ .f32 0x00000000#32) Cert.DinARefIdeal.Gen.reducesTo_S2112x1024_S2112_d1 Cert.DinARefIdeal.Gen.h_S_) Cert.DinARefIdeal.Gen.shapeCasts_S2112_S2112x1) (mulf (broadcastInDim Cert.DinARefIdeal.S2112x1 ![] Cert.DinARefIdeal.Gen.bcast_S_S2112x1 (constant Cert.DinARefIdeal.S_ .f32 0xBF000000#32)) (Host.divf (Host.rsqrt (addf (Host.divf (broadcastInDim Cert.DinARefIdeal.S2112x1 ![0] Cert.DinARefIdeal.Gen.bcast_S2112_S2112x1_0 (Host.reduceAdd (mulf X X) (constant Cert.DinARefIdeal.S_ .f32 0x00000000#32) Cert.DinARefIdeal.Gen.reducesTo_S2112x1024_S2112_d1 Cert.DinARefIdeal.Gen.h_S_)) (broadcastInDim Cert.DinARefIdeal.S2112x1 ![] Cert.DinARefIdeal.Gen.bcast_S_S2112x1 (constant Cert.DinARefIdeal.S_ .f32 0x44800000#32))) (broadcastInDim Cert.DinARefIdeal.S2112x1 ![] Cert.DinARefIdeal.Gen.bcast_S_S2112x1 (constant Cert.DinARefIdeal.S_ .f32 0x358637BD#32)))) (addf (Host.divf (broadcastInDim Cert.DinARefIdeal.S2112x1 ![0] Cert.DinARefIdeal.Gen.bcast_S2112_S2112x1_0 (Host.reduceAdd (mulf X X) (constant Cert.DinARefIdeal.S_ .f32 0x00000000#32) Cert.DinARefIdeal.Gen.reducesTo_S2112x1024_S2112_d1 Cert.DinARefIdeal.Gen.h_S_)) (broadcastInDim Cert.DinARefIdeal.S2112x1 ![] Cert.DinARefIdeal.Gen.bcast_S_S2112x1 (constant Cert.DinARefIdeal.S_ .f32 0x44800000#32))) (broadcastInDim Cert.DinARefIdeal.S2112x1 ![] Cert.DinARefIdeal.Gen.bcast_S_S2112x1 (constant Cert.DinARefIdeal.S_ .f32 0x358637BD#32)))))) (broadcastInDim Cert.DinARefIdeal.S2112x1 ![] Cert.DinARefIdeal.Gen.bcast_S_S2112x1 (constant Cert.DinARefIdeal.S_ .f32 0x44800000#32))) (constant Cert.DinARefIdeal.S_ .f32 0x00000000#32) Cert.DinARefIdeal.Gen.reducesTo_S2112x1_S2112_d1 Cert.DinARefIdeal.Gen.h_S_)))) (mulf (broadcastInDim Cert.DinARefIdeal.S2112x1024 ![0] Cert.DinARefIdeal.Gen.bcast_S2112_S2112x1024_0 (Host.reduceAdd (Host.divf (mulf (shapeCast _ (Host.reduceAdd (mulf X (mulf U (broadcastInDim Cert.DinARefIdeal.S2112x1024 ![0, 1] Cert.DinARefIdeal.Gen.bcast_S1x1024_S2112x1024_0_1 G))) (constant Cert.DinARefIdeal.S_ .f32 0x00000000#32) Cert.DinARefIdeal.Gen.reducesTo_S2112x1024_S2112_d1 Cert.DinARefIdeal.Gen.h_S_) Cert.DinARefIdeal.Gen.shapeCasts_S2112_S2112x1) (mulf (broadcastInDim Cert.DinARefIdeal.S2112x1 ![] Cert.DinARefIdeal.Gen.bcast_S_S2112x1 (constant Cert.DinARefIdeal.S_ .f32 0xBF000000#32)) (Host.divf (Host.rsqrt (addf (Host.divf (broadcastInDim Cert.DinARefIdeal.S2112x1 ![0] Cert.DinARefIdeal.Gen.bcast_S2112_S2112x1_0 (Host.reduceAdd (mulf X X) (constant Cert.DinARefIdeal.S_ .f32 0x00000000#32) Cert.DinARefIdeal.Gen.reducesTo_S2112x1024_S2112_d1 Cert.DinARefIdeal.Gen.h_S_)) (broadcastInDim Cert.DinARefIdeal.S2112x1 ![] Cert.DinARefIdeal.Gen.bcast_S_S2112x1 (constant Cert.DinARefIdeal.S_ .f32 0x44800000#32))) (broadcastInDim Cert.DinARefIdeal.S2112x1 ![] Cert.DinARefIdeal.Gen.bcast_S_S2112x1 (constant Cert.DinARefIdeal.S_ .f32 0x358637BD#32)))) (addf (Host.divf (broadcastInDim Cert.DinARefIdeal.S2112x1 ![0] Cert.DinARefIdeal.Gen.bcast_S2112_S2112x1_0 (Host.reduceAdd (mulf X X) (constant Cert.DinARefIdeal.S_ .f32 0x00000000#32) Cert.DinARefIdeal.Gen.reducesTo_S2112x1024_S2112_d1 Cert.DinARefIdeal.Gen.h_S_)) (broadcastInDim Cert.DinARefIdeal.S2112x1 ![] Cert.DinARefIdeal.Gen.bcast_S_S2112x1 (constant Cert.DinARefIdeal.S_ .f32 0x44800000#32))) (broadcastInDim Cert.DinARefIdeal.S2112x1 ![] Cert.DinARefIdeal.Gen.bcast_S_S2112x1 (constant Cert.DinARefIdeal.S_ .f32 0x358637BD#32)))))) (broadcastInDim Cert.DinARefIdeal.S2112x1 ![] Cert.DinARefIdeal.Gen.bcast_S_S2112x1 (constant Cert.DinARefIdeal.S_ .f32 0x44800000#32))) (constant Cert.DinARefIdeal.S_ .f32 0x00000000#32) Cert.DinARefIdeal.Gen.reducesTo_S2112x1_S2112_d1 Cert.DinARefIdeal.Gen.h_S_)) X)) B

/-- It is the kernel's. -/
theorem refDh_at (U X : FVec Ideal Cert.DinARefIdeal.S2112x1024 .f32) (G : FVec Ideal S1x1024 .f32) (B : FVec Ideal Cert.DinARefIdeal.S2112x1024 .f32) (r : Fin 2112) (j : Fin 1024) :
    refDh U X G B (ix2 r j) = B (ix2 r j) + back 0x3A800000#32 (fun k => X (ix2 r k)) (fun k => U (ix2 r k) * G (ix2 0 k)) j := by
  pointwise [back, scale]
  simp only [Scale.div_1024, Finset.univ_unique, Finset.sum_singleton]
  exact (Rms.bwd_1024 (fun k => X (ix2 r k)) (fun k => U (ix2 r k) * G (ix2 0 k)) (B (ix2 r j)) j).symm

/-- The half's rows' gradient, from the reference's arguments. -/
abbrev refRows (D : FVec Ideal S4x4224x704 .bf16) (W : FVec Ideal S4x704x1024 .bf16) (E : FVec Ideal S4x4224x704 .bf16) (V : FVec Ideal S4x704x1024 .bf16) (X : FVec Ideal S4224x1024 .f32) (G : FVec Ideal S1x1024 .f32) (B : FVec Ideal S4224x1024 .f32) : FVec Ideal Cert.DinARefIdeal.S2112x1024 .f32 :=
  refDh (refDu D W E V) (refHalf X) G (refHalf B)

/-- It is the kernel's. -/
theorem refRows_at (D : FVec Ideal S4x4224x704 .bf16) (W : FVec Ideal S4x704x1024 .bf16) (E : FVec Ideal S4x4224x704 .bf16) (V : FVec Ideal S4x704x1024 .bf16) (X : FVec Ideal S4224x1024 .f32) (G : FVec Ideal S1x1024 .f32) (B : FVec Ideal S4224x1024 .f32) (r : Fin 2112) (j : Fin 1024) :
    refRows D W E V X G B (ix2 r j) = dh D W E V X G B (ix2 (half r) j) := by
  unfold refRows
  rw [refDh_at]
  simp only [refDu_at, refHalf_at]
  rfl

/-- The reference's rows' gradient is the kernel's. -/
theorem refRows_eq (D : FVec Ideal S4x4224x704 .bf16) (W : FVec Ideal S4x704x1024 .bf16) (E : FVec Ideal S4x4224x704 .bf16) (V : FVec Ideal S4x704x1024 .bf16) (X : FVec Ideal S4224x1024 .f32) (G : FVec Ideal S1x1024 .f32) (B : FVec Ideal S4224x1024 .f32) : refRows D W E V X G B = rows D W E V X G B := by
  funext i
  obtain ⟨r, j, rfl⟩ : ∃ (r : Fin 2112) (j : Fin 1024), i = ix2 r j := ⟨i 0, i 1, eq_ix2 i⟩
  exact refRows_at D W E V X G B r j

/-- What the reference writes for the gain's gradient. -/
abbrev refGain (U X : FVec Ideal Cert.DinARefIdeal.S2112x1024 .f32) : FVec Ideal S1x1024 .f32 :=
  shapeCast _ (Host.reduceAdd (mulf (mulf X (broadcastInDim Cert.DinARefIdeal.S2112x1024 ![0, 1] Cert.DinARefIdeal.Gen.bcast_S2112x1_S2112x1024_0_1 (Host.rsqrt (addf (Host.divf (broadcastInDim Cert.DinARefIdeal.S2112x1 ![0] Cert.DinARefIdeal.Gen.bcast_S2112_S2112x1_0 (Host.reduceAdd (mulf X X) (constant Cert.DinARefIdeal.S_ .f32 0x00000000#32) Cert.DinARefIdeal.Gen.reducesTo_S2112x1024_S2112_d1 Cert.DinARefIdeal.Gen.h_S_)) (broadcastInDim Cert.DinARefIdeal.S2112x1 ![] Cert.DinARefIdeal.Gen.bcast_S_S2112x1 (constant Cert.DinARefIdeal.S_ .f32 0x44800000#32))) (broadcastInDim Cert.DinARefIdeal.S2112x1 ![] Cert.DinARefIdeal.Gen.bcast_S_S2112x1 (constant Cert.DinARefIdeal.S_ .f32 0x358637BD#32)))))) U) (constant Cert.DinARefIdeal.S_ .f32 0x00000000#32) Cert.DinARefIdeal.Gen.reducesTo_S2112x1024_S1024_d0 Cert.DinARefIdeal.Gen.h_S_) Cert.DinARefIdeal.Gen.shapeCasts_S1024_S1x1024

/-- It is a sum over the half's rows. -/
theorem refGain_at (U X : FVec Ideal Cert.DinARefIdeal.S2112x1024 .f32) (z : Fin 1) (j : Fin 1024) :
    refGain U X (ix2 z j) = ∑ r : Fin 2112, U (ix2 r j) * (X (ix2 r j) * scale 0x3A800000#32 fun k => X (ix2 r k)) := by
  pointwise [scale]
  simp only [Scale.div_1024]
  exact Finset.sum_congr rfl fun r _ => mul_comm _ _

/-- The reference's gain's gradient is the kernel's. -/
theorem refGain_eq (D : FVec Ideal S4x4224x704 .bf16) (W : FVec Ideal S4x704x1024 .bf16) (E : FVec Ideal S4x4224x704 .bf16) (V : FVec Ideal S4x704x1024 .bf16) (X : FVec Ideal S4224x1024 .f32) : refGain (refDu D W E V) (refHalf X) = dg D W E V X := by
  funext i
  obtain ⟨r, j, rfl⟩ : ∃ r j, i = ix2 r j := ⟨i 0, i 1, eq_ix2 i⟩
  rw [refGain_at]
  simp only [refDu_at, refHalf_at]
  rfl

end Cert.DinAIdeal.Back

end
-- ==== Proof.DinBRef.lean ====
/- The gradient of the first SwiGLU block's norm, the second half of the rows: what the reference writes is what the kernel leaves. -/
module

public import proofs.«01_k».proof.Proof.DinB
public import proofs.«01_k».proof.Proof.Gen.DinBRefIdeal.Run
public import proofs.«01_k».proof.Proof.Rms

@[expose] public section

set_option maxRecDepth 16384

noncomputable section

namespace Cert.DinBIdeal.Back

open Cert.DinBIdeal Cert.DinBIdeal.Gen Idealize.ShloMosaic Idealize.ShloMosaic.TcCoe Idealize.SL.Sem
open Cert.NormIdeal.Back (scale back du)

/-- The half's rows. -/
abbrev refHalf (X : FVec Ideal S4224x1024 .f32) : FVec Ideal Cert.DinBRefIdeal.S2112x1024 .f32 :=
  extractStridedSlice Cert.DinBRefIdeal.S2112x1024 ![2112, 0] X Cert.DinBRefIdeal.Gen.slices_S4224x1024_S2112x1024_2112_0

/-- A row of the half is the array's. -/
theorem refHalf_at (X : FVec Ideal S4224x1024 .f32) (r : Fin 2112) (j : Fin 1024) : refHalf X (ix2 r j) = X (ix2 (half r) j) := by
  pointwise [half]

/-- What the reference computes for the gradient of the half's normalised rows. -/
abbrev refDu (D : FVec Ideal S4x4224x704 .bf16) (W : FVec Ideal S4x704x1024 .bf16) (E : FVec Ideal S4x4224x704 .bf16) (V : FVec Ideal S4x704x1024 .bf16) : FVec Ideal Cert.DinBRefIdeal.S2112x1024 .f32 :=
  addf (Host.dotGeneral Cert.DinBRefIdeal.dot_S4x704x2112_S4x704x1024_S2112x1024_01_01_2_2_n_n none (transpose Cert.DinBRefIdeal.S4x704x2112 [0, 2, 1] (extf .f32 (extractStridedSlice Cert.DinBRefIdeal.S4x2112x704 ![0, 2112, 0] E Cert.DinBRefIdeal.Gen.slices_S4x4224x704_S4x2112x704_0_2112_0) Cert.DinBRefIdeal.Gen.bitsLt_bf16_f32) Cert.DinBRefIdeal.Gen.transposes_S4x2112x704_S4x704x2112_0_2_1) (extf .f32 V Cert.DinBRefIdeal.Gen.bitsLt_bf16_f32)) (Host.dotGeneral Cert.DinBRefIdeal.dot_S4x704x2112_S4x704x1024_S2112x1024_01_01_2_2_n_n none (transpose Cert.DinBRefIdeal.S4x704x2112 [0, 2, 1] (extf .f32 (extractStridedSlice Cert.DinBRefIdeal.S4x2112x704 ![0, 2112, 0] D Cert.DinBRefIdeal.Gen.slices_S4x4224x704_S4x2112x704_0_2112_0) Cert.DinBRefIdeal.Gen.bitsLt_bf16_f32) Cert.DinBRefIdeal.Gen.transposes_S4x2112x704_S4x704x2112_0_2_1) (extf .f32 W Cert.DinBRefIdeal.Gen.bitsLt_bf16_f32))

/-- It is the kernel's: the kernel adds the shards of both products in a row. -/
theorem refDu_at (D : FVec Ideal S4x4224x704 .bf16) (W : FVec Ideal S4x704x1024 .bf16) (E : FVec Ideal S4x4224x704 .bf16) (V : FVec Ideal S4x704x1024 .bf16) (r : Fin 2112) (j : Fin 1024) : refDu D W E V (ix2 r j) = du D W E V (half r) j := by
  pointwise [du, half]
  rw [add_comm, Fin.sum_univ_four, Fin.sum_univ_four]
  simp only [add_assoc]

/-- What the reference computes for the half's rows' gradient, from that. -/
abbrev refDh (U X : FVec Ideal Cert.DinBRefIdeal.S2112x1024 .f32) (G : FVec Ideal S1x1024 .f32) (B : FVec Ideal Cert.DinBRefIdeal.S2112x1024 .f32) : FVec Ideal Cert.DinBRefIdeal.S2112x1024 .f32 :=
  addf (addf (addf (mulf (mulf U (broadcastInDim Cert.DinBRefIdeal.S2112x1024 ![0, 1] Cert.DinBRefIdeal.Gen.bcast_S1x1024_S2112x1024_0_1 G)) (broadcastInDim Cert.DinBRefIdeal.S2112x1024 ![0, 1] Cert.DinBRefIdeal.Gen.bcast_S2112x1_S2112x1024_0_1 (Host.rsqrt (addf (Host.divf (broadcastInDim Cert.DinBRefIdeal.S2112x1 ![0] Cert.DinBRefIdeal.Gen.bcast_S2112_S2112x1_0 (Host.reduceAdd (mulf X X) (constant Cert.DinBRefIdeal.S_ .f32 0x00000000#32) Cert.DinBRefIdeal.Gen.reducesTo_S2112x1024_S2112_d1 Cert.DinBRefIdeal.Gen.h_S_)) (broadcastInDim Cert.DinBRefIdeal.S2112x1 ![] Cert.DinBRefIdeal.Gen.bcast_S_S2112x1 (constant Cert.DinBRefIdeal.S_ .f32 0x44800000#32))) (broadcastInDim Cert.DinBRefIdeal.S2112x1 ![] Cert.DinBRefIdeal.Gen.bcast_S_S2112x1 (constant Cert.DinBRefIdeal.S_ .f32 0x358637BD#32)))))) (mulf X (broadcastInDim Cert.DinBRefIdeal.S2112x1024 ![0] Cert.DinBRefIdeal.Gen.bcast_S2112_S2112x1024_0 (Host.reduceAdd (Host.divf (mulf (shapeCast _ (Host.reduceAdd (mulf X (mulf U (broadcastInDim Cert.DinBRefIdeal.S2112x1024 ![0, 1] Cert.DinBRefIdeal.Gen.bcast_S1x1024_S2112x1024_0_1 G))) (constant Cert.DinBRefIdeal.S_ .f32 0x00000000#32) Cert.DinBRefIdeal.Gen.reducesTo_S2112x1024_S2112_d1 Cert.DinBRefIdeal.Gen.h_S_) Cert.DinBRefIdeal.Gen.shapeCasts_S2112_S2112x1) (mulf (broadcastInDim Cert.DinBRefIdeal.S2112x1 ![] Cert.DinBRefIdeal.Gen.bcast_S_S2112x1 (constant Cert.DinBRefIdeal.S_ .f32 0xBF000000#32)) (Host.divf (Host.rsqrt (addf (Host.divf (broadcastInDim Cert.DinBRefIdeal.S2112x1 ![0] Cert.DinBRefIdeal.Gen.bcast_S2112_S2112x1_0 (Host.reduceAdd (mulf X X) (constant Cert.DinBRefIdeal.S_ .f32 0x00000000#32) Cert.DinBRefIdeal.Gen.reducesTo_S2112x1024_S2112_d1 Cert.DinBRefIdeal.Gen.h_S_)) (broadcastInDim Cert.DinBRefIdeal.S2112x1 ![] Cert.DinBRefIdeal.Gen.bcast_S_S2112x1 (constant Cert.DinBRefIdeal.S_ .f32 0x44800000#32))) (broadcastInDim Cert.DinBRefIdeal.S2112x1 ![] Cert.DinBRefIdeal.Gen.bcast_S_S2112x1 (constant Cert.DinBRefIdeal.S_ .f32 0x358637BD#32)))) (addf (Host.divf (broadcastInDim Cert.DinBRefIdeal.S2112x1 ![0] Cert.DinBRefIdeal.Gen.bcast_S2112_S2112x1_0 (Host.reduceAdd (mulf X X) (constant Cert.DinBRefIdeal.S_ .f32 0x00000000#32) Cert.DinBRefIdeal.Gen.reducesTo_S2112x1024_S2112_d1 Cert.DinBRefIdeal.Gen.h_S_)) (broadcastInDim Cert.DinBRefIdeal.S2112x1 ![] Cert.DinBRefIdeal.Gen.bcast_S_S2112x1 (constant Cert.DinBRefIdeal.S_ .f32 0x44800000#32))) (broadcastInDim Cert.DinBRefIdeal.S2112x1 ![] Cert.DinBRefIdeal.Gen.bcast_S_S2112x1 (constant Cert.DinBRefIdeal.S_ .f32 0x358637BD#32)))))) (broadcastInDim Cert.DinBRefIdeal.S2112x1 ![] Cert.DinBRefIdeal.Gen.bcast_S_S2112x1 (constant Cert.DinBRefIdeal.S_ .f32 0x44800000#32))) (constant Cert.DinBRefIdeal.S_ .f32 0x00000000#32) Cert.DinBRefIdeal.Gen.reducesTo_S2112x1_S2112_d1 Cert.DinBRefIdeal.Gen.h_S_)))) (mulf (broadcastInDim Cert.DinBRefIdeal.S2112x1024 ![0] Cert.DinBRefIdeal.Gen.bcast_S2112_S2112x1024_0 (Host.reduceAdd (Host.divf (mulf (shapeCast _ (Host.reduceAdd (mulf X (mulf U (broadcastInDim Cert.DinBRefIdeal.S2112x1024 ![0, 1] Cert.DinBRefIdeal.Gen.bcast_S1x1024_S2112x1024_0_1 G))) (constant Cert.DinBRefIdeal.S_ .f32 0x00000000#32) Cert.DinBRefIdeal.Gen.reducesTo_S2112x1024_S2112_d1 Cert.DinBRefIdeal.Gen.h_S_) Cert.DinBRefIdeal.Gen.shapeCasts_S2112_S2112x1) (mulf (broadcastInDim Cert.DinBRefIdeal.S2112x1 ![] Cert.DinBRefIdeal.Gen.bcast_S_S2112x1 (constant Cert.DinBRefIdeal.S_ .f32 0xBF000000#32)) (Host.divf (Host.rsqrt (addf (Host.divf (broadcastInDim Cert.DinBRefIdeal.S2112x1 ![0] Cert.DinBRefIdeal.Gen.bcast_S2112_S2112x1_0 (Host.reduceAdd (mulf X X) (constant Cert.DinBRefIdeal.S_ .f32 0x00000000#32) Cert.DinBRefIdeal.Gen.reducesTo_S2112x1024_S2112_d1 Cert.DinBRefIdeal.Gen.h_S_)) (broadcastInDim Cert.DinBRefIdeal.S2112x1 ![] Cert.DinBRefIdeal.Gen.bcast_S_S2112x1 (constant Cert.DinBRefIdeal.S_ .f32 0x44800000#32))) (broadcastInDim Cert.DinBRefIdeal.S2112x1 ![] Cert.DinBRefIdeal.Gen.bcast_S_S2112x1 (constant Cert.DinBRefIdeal.S_ .f32 0x358637BD#32)))) (addf (Host.divf (broadcastInDim Cert.DinBRefIdeal.S2112x1 ![0] Cert.DinBRefIdeal.Gen.bcast_S2112_S2112x1_0 (Host.reduceAdd (mulf X X) (constant Cert.DinBRefIdeal.S_ .f32 0x00000000#32) Cert.DinBRefIdeal.Gen.reducesTo_S2112x1024_S2112_d1 Cert.DinBRefIdeal.Gen.h_S_)) (broadcastInDim Cert.DinBRefIdeal.S2112x1 ![] Cert.DinBRefIdeal.Gen.bcast_S_S2112x1 (constant Cert.DinBRefIdeal.S_ .f32 0x44800000#32))) (broadcastInDim Cert.DinBRefIdeal.S2112x1 ![] Cert.DinBRefIdeal.Gen.bcast_S_S2112x1 (constant Cert.DinBRefIdeal.S_ .f32 0x358637BD#32)))))) (broadcastInDim Cert.DinBRefIdeal.S2112x1 ![] Cert.DinBRefIdeal.Gen.bcast_S_S2112x1 (constant Cert.DinBRefIdeal.S_ .f32 0x44800000#32))) (constant Cert.DinBRefIdeal.S_ .f32 0x00000000#32) Cert.DinBRefIdeal.Gen.reducesTo_S2112x1_S2112_d1 Cert.DinBRefIdeal.Gen.h_S_)) X)) B

/-- It is the kernel's. -/
theorem refDh_at (U X : FVec Ideal Cert.DinBRefIdeal.S2112x1024 .f32) (G : FVec Ideal S1x1024 .f32) (B : FVec Ideal Cert.DinBRefIdeal.S2112x1024 .f32) (r : Fin 2112) (j : Fin 1024) :
    refDh U X G B (ix2 r j) = B (ix2 r j) + back 0x3A800000#32 (fun k => X (ix2 r k)) (fun k => U (ix2 r k) * G (ix2 0 k)) j := by
  pointwise [back, scale]
  simp only [Scale.div_1024, Finset.univ_unique, Finset.sum_singleton]
  exact (Rms.bwd_1024 (fun k => X (ix2 r k)) (fun k => U (ix2 r k) * G (ix2 0 k)) (B (ix2 r j)) j).symm

/-- The half's rows' gradient, from the reference's arguments. -/
abbrev refRows (D : FVec Ideal S4x4224x704 .bf16) (W : FVec Ideal S4x704x1024 .bf16) (E : FVec Ideal S4x4224x704 .bf16) (V : FVec Ideal S4x704x1024 .bf16) (X : FVec Ideal S4224x1024 .f32) (G : FVec Ideal S1x1024 .f32) (B : FVec Ideal S4224x1024 .f32) : FVec Ideal Cert.DinBRefIdeal.S2112x1024 .f32 :=
  refDh (refDu D W E V) (refHalf X) G (refHalf B)

/-- It is the kernel's. -/
theorem refRows_at (D : FVec Ideal S4x4224x704 .bf16) (W : FVec Ideal S4x704x1024 .bf16) (E : FVec Ideal S4x4224x704 .bf16) (V : FVec Ideal S4x704x1024 .bf16) (X : FVec Ideal S4224x1024 .f32) (G : FVec Ideal S1x1024 .f32) (B : FVec Ideal S4224x1024 .f32) (r : Fin 2112) (j : Fin 1024) :
    refRows D W E V X G B (ix2 r j) = dh D W E V X G B (ix2 (half r) j) := by
  unfold refRows
  rw [refDh_at]
  simp only [refDu_at, refHalf_at]
  rfl

/-- What the reference writes for the gain's gradient. -/
abbrev refGain (U X : FVec Ideal Cert.DinBRefIdeal.S2112x1024 .f32) : FVec Ideal S1x1024 .f32 :=
  shapeCast _ (Host.reduceAdd (mulf (mulf X (broadcastInDim Cert.DinBRefIdeal.S2112x1024 ![0, 1] Cert.DinBRefIdeal.Gen.bcast_S2112x1_S2112x1024_0_1 (Host.rsqrt (addf (Host.divf (broadcastInDim Cert.DinBRefIdeal.S2112x1 ![0] Cert.DinBRefIdeal.Gen.bcast_S2112_S2112x1_0 (Host.reduceAdd (mulf X X) (constant Cert.DinBRefIdeal.S_ .f32 0x00000000#32) Cert.DinBRefIdeal.Gen.reducesTo_S2112x1024_S2112_d1 Cert.DinBRefIdeal.Gen.h_S_)) (broadcastInDim Cert.DinBRefIdeal.S2112x1 ![] Cert.DinBRefIdeal.Gen.bcast_S_S2112x1 (constant Cert.DinBRefIdeal.S_ .f32 0x44800000#32))) (broadcastInDim Cert.DinBRefIdeal.S2112x1 ![] Cert.DinBRefIdeal.Gen.bcast_S_S2112x1 (constant Cert.DinBRefIdeal.S_ .f32 0x358637BD#32)))))) U) (constant Cert.DinBRefIdeal.S_ .f32 0x00000000#32) Cert.DinBRefIdeal.Gen.reducesTo_S2112x1024_S1024_d0 Cert.DinBRefIdeal.Gen.h_S_) Cert.DinBRefIdeal.Gen.shapeCasts_S1024_S1x1024

/-- It is a sum over the half's rows. -/
theorem refGain_at (U X : FVec Ideal Cert.DinBRefIdeal.S2112x1024 .f32) (z : Fin 1) (j : Fin 1024) :
    refGain U X (ix2 z j) = ∑ r : Fin 2112, U (ix2 r j) * (X (ix2 r j) * scale 0x3A800000#32 fun k => X (ix2 r k)) := by
  pointwise [scale]
  simp only [Scale.div_1024]
  exact Finset.sum_congr rfl fun r _ => mul_comm _ _

/-- The reference's gain's gradient is the kernel's. -/
theorem refGain_eq (D : FVec Ideal S4x4224x704 .bf16) (W : FVec Ideal S4x704x1024 .bf16) (E : FVec Ideal S4x4224x704 .bf16) (V : FVec Ideal S4x704x1024 .bf16) (X : FVec Ideal S4224x1024 .f32) : refGain (refDu D W E V) (refHalf X) = dg D W E V X := by
  funext i
  obtain ⟨r, j, rfl⟩ : ∃ r j, i = ix2 r j := ⟨i 0, i 1, eq_ix2 i⟩
  rw [refGain_at]
  simp only [refDu_at, refHalf_at]
  rfl

/-- What the reference writes: the rows before as they are, the half's rows new. -/
abbrev refBoth (H : FVec Ideal S4224x1024 .f32) (Y : FVec Ideal Cert.DinBRefIdeal.S2112x1024 .f32) : FVec Ideal S4224x1024 .f32 :=
  concatenate Cert.DinBRefIdeal.S4224x1024 0 [⟨Cert.DinBRefIdeal.S2112x1024, (extractStridedSlice Cert.DinBRefIdeal.S2112x1024 ![0, 0] H Cert.DinBRefIdeal.Gen.slices_S4224x1024_S2112x1024_0_0)⟩, ⟨Cert.DinBRefIdeal.S2112x1024, Y⟩] Cert.DinBRefIdeal.Gen.concatenates_S2112x1024_S2112x1024_S4224x1024_d0

/-- At a row. -/
theorem refBoth_at (H : FVec Ideal S4224x1024 .f32) (Y : FVec Ideal Cert.DinBRefIdeal.S2112x1024 .f32) (r : Fin 4224) (j : Fin 1024) :
    refBoth H Y (ix2 r j) = if h : 6 * 352 ≤ (r : ℕ) then Y (ix2 ⟨(r : ℕ) - 2112, by omega⟩ j) else H (ix2 r j) := by
  pointwise []
  by_cases h : (r : ℕ) < 2112
  · rw [dif_pos h, dif_neg (by omega)]
  · rw [dif_neg h, dif_pos (by omega)]

/-- The reference's array is the kernel's. -/
theorem refBoth_eq (D : FVec Ideal S4x4224x704 .bf16) (W : FVec Ideal S4x704x1024 .bf16) (E : FVec Ideal S4x4224x704 .bf16) (V : FVec Ideal S4x704x1024 .bf16) (X : FVec Ideal S4224x1024 .f32) (G : FVec Ideal S1x1024 .f32) (B H : FVec Ideal S4224x1024 .f32) :
    refBoth H (refRows D W E V X G B) = both (dh D W E V X G B) H := by
  funext i
  obtain ⟨r, j, rfl⟩ : ∃ r j, i = ix2 r j := ⟨i 0, i 1, eq_ix2 i⟩
  rw [refBoth_at]
  by_cases h : 6 * 352 ≤ (r : ℕ)
  · rw [dif_pos h, refRows_at]
    refine (congrArg (fun r => dh D W E V X G B (ix2 r j)) (Fin.ext ?_)).trans (if_pos h).symm
    simp only [half]
    omega
  · rw [dif_neg h]
    exact (if_neg h).symm

end Cert.DinBIdeal.Back

end
-- ==== Proof.lean ====
/- The certificate: the frames, and each call's arrays equal to its reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Finite
public import proofs.«01_k».proof.Proof.Up
public import proofs.«01_k».proof.Proof.Down
public import proofs.«01_k».proof.Proof.Gen.Act.Frame
public import proofs.«01_k».proof.Proof.Gen.ActIdeal.Value
public import proofs.«01_k».proof.Proof.Gen.ActRefIdeal.Run
public import proofs.«01_k».proof.Proof.Gen.Act
public import proofs.«01_k».proof.Proof.Gen.Act.Skeleton
public import proofs.«01_k».proof.Proof.Gen.Act.Launch
public import proofs.«01_k».proof.Proof.Gen.Act.Points
public import proofs.«01_k».proof.Proof.Gen.ActIdeal
public import proofs.«01_k».proof.Proof.Gen.ActIdeal.Skeleton
public import proofs.«01_k».proof.Proof.Gen.ActIdeal.Launch
public import proofs.«01_k».proof.Proof.Gen.ActIdeal.Points
public import proofs.«01_k».proof.Proof.Gen.ActIdeal.Frame
public import proofs.«01_k».proof.Proof.Gen.ActRefIdeal
public import proofs.«01_k».proof.Proof.Gen.Up.Frame
public import proofs.«01_k».proof.Proof.Gen.UpIdeal.Value
public import proofs.«01_k».proof.Proof.Gen.UpRefIdeal.Run
public import proofs.«01_k».proof.Proof.Gen.Up
public import proofs.«01_k».proof.Proof.Gen.Up.Skeleton
public import proofs.«01_k».proof.Proof.Gen.Up.Launch
public import proofs.«01_k».proof.Proof.Gen.Up.Points
public import proofs.«01_k».proof.Proof.Gen.UpIdeal
public import proofs.«01_k».proof.Proof.Gen.UpIdeal.Skeleton
public import proofs.«01_k».proof.Proof.Gen.UpIdeal.Launch
public import proofs.«01_k».proof.Proof.Gen.UpIdeal.Points
public import proofs.«01_k».proof.Proof.Gen.UpIdeal.Frame
public import proofs.«01_k».proof.Proof.Gen.UpRefIdeal
public import proofs.«01_k».proof.Proof.Gen.Down.Frame
public import proofs.«01_k».proof.Proof.Gen.DownIdeal.Value
public import proofs.«01_k».proof.Proof.Gen.DownRefIdeal.Run
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownRefIdeal
public import proofs.«01_k».proof.Proof.Gen.Norm.Frame
public import proofs.«01_k».proof.Proof.Gen.NormIdeal.Value
public import proofs.«01_k».proof.Proof.Gen.NormRefIdeal.Run
public import proofs.«01_k».proof.Proof.Gen.Norm
public import proofs.«01_k».proof.Proof.Gen.Norm.Skeleton
public import proofs.«01_k».proof.Proof.Gen.Norm.Launch
public import proofs.«01_k».proof.Proof.Gen.Norm.Points
public import proofs.«01_k».proof.Proof.Gen.NormIdeal
public import proofs.«01_k».proof.Proof.Gen.NormIdeal.Skeleton
public import proofs.«01_k».proof.Proof.Gen.NormIdeal.Launch
public import proofs.«01_k».proof.Proof.Gen.NormIdeal.Points
public import proofs.«01_k».proof.Proof.Gen.NormIdeal.Frame
public import proofs.«01_k».proof.Proof.Gen.NormRefIdeal
public import proofs.«01_k».proof.Proof.Gen.FfnUp.Frame
public import proofs.«01_k».proof.Proof.Gen.FfnUpIdeal.Value
public import proofs.«01_k».proof.Proof.Gen.FfnUpRefIdeal.Run
public import proofs.«01_k».proof.Proof.Gen.FfnUp
public import proofs.«01_k».proof.Proof.Gen.FfnUp.Skeleton
public import proofs.«01_k».proof.Proof.Gen.FfnUp.Launch
public import proofs.«01_k».proof.Proof.Gen.FfnUp.Points
public import proofs.«01_k».proof.Proof.Gen.FfnUpIdeal
public import proofs.«01_k».proof.Proof.Gen.FfnUpIdeal.Skeleton
public import proofs.«01_k».proof.Proof.Gen.FfnUpIdeal.Launch
public import proofs.«01_k».proof.Proof.Gen.FfnUpIdeal.Points
public import proofs.«01_k».proof.Proof.Gen.FfnUpIdeal.Frame
public import proofs.«01_k».proof.Proof.Gen.FfnUpRefIdeal
public import proofs.«01_k».proof.Proof.Gen.FfnDown.Frame
public import proofs.«01_k».proof.Proof.Gen.FfnDownIdeal.Value
public import proofs.«01_k».proof.Proof.Gen.FfnDownRefIdeal.Run
public import proofs.«01_k».proof.Proof.Gen.FfnDown
public import proofs.«01_k».proof.Proof.Gen.FfnDown.Skeleton
public import proofs.«01_k».proof.Proof.Gen.FfnDown.Launch
public import proofs.«01_k».proof.Proof.Gen.FfnDown.Points
public import proofs.«01_k».proof.Proof.Gen.FfnDownIdeal
public import proofs.«01_k».proof.Proof.Gen.FfnDownIdeal.Skeleton
public import proofs.«01_k».proof.Proof.Gen.FfnDownIdeal.Launch
public import proofs.«01_k».proof.Proof.Gen.FfnDownIdeal.Points
public import proofs.«01_k».proof.Proof.Gen.FfnDownIdeal.Frame
public import proofs.«01_k».proof.Proof.Gen.FfnDownRefIdeal
public import proofs.«01_k».proof.Proof.Gen.MixIn.Frame
public import proofs.«01_k».proof.Proof.Gen.MixInIdeal.Value
public import proofs.«01_k».proof.Proof.Gen.MixInRefIdeal.Run
public import proofs.«01_k».proof.Proof.Gen.MixIn
public import proofs.«01_k».proof.Proof.Gen.MixIn.Skeleton
public import proofs.«01_k».proof.Proof.Gen.MixIn.Launch
public import proofs.«01_k».proof.Proof.Gen.MixIn.Points
public import proofs.«01_k».proof.Proof.Gen.MixInIdeal
public import proofs.«01_k».proof.Proof.Gen.MixInIdeal.Skeleton
public import proofs.«01_k».proof.Proof.Gen.MixInIdeal.Launch
public import proofs.«01_k».proof.Proof.Gen.MixInIdeal.Points
public import proofs.«01_k».proof.Proof.Gen.MixInIdeal.Frame
public import proofs.«01_k».proof.Proof.Gen.MixInRefIdeal
public import proofs.«01_k».proof.Proof.Gen.MixOut.Frame
public import proofs.«01_k».proof.Proof.Gen.MixOutIdeal.Value
public import proofs.«01_k».proof.Proof.Gen.MixOutRefIdeal.Run
public import proofs.«01_k».proof.Proof.Gen.MixOut
public import proofs.«01_k».proof.Proof.Gen.MixOut.Skeleton
public import proofs.«01_k».proof.Proof.Gen.MixOut.Launch
public import proofs.«01_k».proof.Proof.Gen.MixOut.Points
public import proofs.«01_k».proof.Proof.Gen.MixOutIdeal
public import proofs.«01_k».proof.Proof.Gen.MixOutIdeal.Skeleton
public import proofs.«01_k».proof.Proof.Gen.MixOutIdeal.Launch
public import proofs.«01_k».proof.Proof.Gen.MixOutIdeal.Points
public import proofs.«01_k».proof.Proof.Gen.MixOutIdeal.Frame
public import proofs.«01_k».proof.Proof.Gen.MixOutRefIdeal
public import proofs.«01_k».proof.Proof.Gen.DwIn.Frame
public import proofs.«01_k».proof.Proof.Gen.DwInIdeal.Value
public import proofs.«01_k».proof.Proof.Gen.DwInRefIdeal.Run
public import proofs.«01_k».proof.Proof.Gen.DwIn
public import proofs.«01_k».proof.Proof.Gen.DwIn.Skeleton
public import proofs.«01_k».proof.Proof.Gen.DwIn.Launch
public import proofs.«01_k».proof.Proof.Gen.DwIn.Points
public import proofs.«01_k».proof.Proof.Gen.DwInIdeal
public import proofs.«01_k».proof.Proof.Gen.DwInIdeal.Skeleton
public import proofs.«01_k».proof.Proof.Gen.DwInIdeal.Launch
public import proofs.«01_k».proof.Proof.Gen.DwInIdeal.Points
public import proofs.«01_k».proof.Proof.Gen.DwInIdeal.Frame
public import proofs.«01_k».proof.Proof.Gen.DwInRefIdeal
public import proofs.«01_k».proof.Proof.Gen.DwOut.Frame
public import proofs.«01_k».proof.Proof.Gen.DwOutIdeal.Value
public import proofs.«01_k».proof.Proof.Gen.DwOutRefIdeal.Run
public import proofs.«01_k».proof.Proof.Gen.DwOut
public import proofs.«01_k».proof.Proof.Gen.DwOut.Skeleton
public import proofs.«01_k».proof.Proof.Gen.DwOut.Launch
public import proofs.«01_k».proof.Proof.Gen.DwOut.Points
public import proofs.«01_k».proof.Proof.Gen.DwOutIdeal
public import proofs.«01_k».proof.Proof.Gen.DwOutIdeal.Skeleton
public import proofs.«01_k».proof.Proof.Gen.DwOutIdeal.Launch
public import proofs.«01_k».proof.Proof.Gen.DwOutIdeal.Points
public import proofs.«01_k».proof.Proof.Gen.DwOutIdeal.Frame
public import proofs.«01_k».proof.Proof.Gen.DwOutRefIdeal
public import proofs.«01_k».proof.Proof.Gen.MixDin.Frame
public import proofs.«01_k».proof.Proof.Gen.MixDinIdeal.Value
public import proofs.«01_k».proof.Proof.Gen.MixDinRefIdeal.Run
public import proofs.«01_k».proof.Proof.Gen.MixDin
public import proofs.«01_k».proof.Proof.Gen.MixDin.Skeleton
public import proofs.«01_k».proof.Proof.Gen.MixDin.Launch
public import proofs.«01_k».proof.Proof.Gen.MixDin.Points
public import proofs.«01_k».proof.Proof.Gen.MixDinIdeal
public import proofs.«01_k».proof.Proof.Gen.MixDinIdeal.Skeleton
public import proofs.«01_k».proof.Proof.Gen.MixDinIdeal.Launch
public import proofs.«01_k».proof.Proof.Gen.MixDinIdeal.Points
public import proofs.«01_k».proof.Proof.Gen.MixDinIdeal.Frame
public import proofs.«01_k».proof.Proof.Gen.MixDinRefIdeal
public import proofs.«01_k».proof.Proof.Gen.FirstNorm.Frame
public import proofs.«01_k».proof.Proof.Gen.FirstNormIdeal.Value
public import proofs.«01_k».proof.Proof.Gen.FirstNormRefIdeal.Run
public import proofs.«01_k».proof.Proof.Gen.FirstNorm
public import proofs.«01_k».proof.Proof.Gen.FirstNorm.Skeleton
public import proofs.«01_k».proof.Proof.Gen.FirstNorm.Launch
public import proofs.«01_k».proof.Proof.Gen.FirstNorm.Points
public import proofs.«01_k».proof.Proof.Gen.FirstNormIdeal
public import proofs.«01_k».proof.Proof.Gen.FirstNormIdeal.Skeleton
public import proofs.«01_k».proof.Proof.Gen.FirstNormIdeal.Launch
public import proofs.«01_k».proof.Proof.Gen.FirstNormIdeal.Points
public import proofs.«01_k».proof.Proof.Gen.FirstNormIdeal.Frame
public import proofs.«01_k».proof.Proof.Gen.FirstNormRefIdeal
public import proofs.«01_k».proof.Proof.Gen.DinA.Frame
public import proofs.«01_k».proof.Proof.Gen.DinARefIdeal.Run
public import proofs.«01_k».proof.Proof.Gen.DinA
public import proofs.«01_k».proof.Proof.Gen.DinA.Skeleton
public import proofs.«01_k».proof.Proof.Gen.DinA.Launch
public import proofs.«01_k».proof.Proof.Gen.DinA.Points
public import proofs.«01_k».proof.Proof.Gen.DinAIdeal
public import proofs.«01_k».proof.Proof.Gen.DinAIdeal.Skeleton
public import proofs.«01_k».proof.Proof.Gen.DinAIdeal.Launch
public import proofs.«01_k».proof.Proof.Gen.DinAIdeal.Points
public import proofs.«01_k».proof.Proof.Gen.DinAIdeal.Frame
public import proofs.«01_k».proof.Proof.Gen.DinARefIdeal
public import proofs.«01_k».proof.Proof.Gen.DinB.Frame
public import proofs.«01_k».proof.Proof.Gen.DinBIdeal.Value
public import proofs.«01_k».proof.Proof.Gen.DinBRefIdeal.Run
public import proofs.«01_k».proof.Proof.Gen.DinB
public import proofs.«01_k».proof.Proof.Gen.DinB.Skeleton
public import proofs.«01_k».proof.Proof.Gen.DinB.Launch
public import proofs.«01_k».proof.Proof.Gen.DinB.Points
public import proofs.«01_k».proof.Proof.Gen.DinBIdeal
public import proofs.«01_k».proof.Proof.Gen.DinBIdeal.Skeleton
public import proofs.«01_k».proof.Proof.Gen.DinBIdeal.Launch
public import proofs.«01_k».proof.Proof.Gen.DinBIdeal.Points
public import proofs.«01_k».proof.Proof.Gen.DinBIdeal.Frame
public import proofs.«01_k».proof.Proof.Gen.DinBRefIdeal
public import proofs.«01_k».proof.Proof.Norm
public import proofs.«01_k».proof.Proof.FfnUp
public import proofs.«01_k».proof.Proof.FfnDown
public import proofs.«01_k».proof.Proof.MixIn
public import proofs.«01_k».proof.Proof.MixOut
public import proofs.«01_k».proof.Proof.DwIn
public import proofs.«01_k».proof.Proof.DwOut
public import proofs.«01_k».proof.Proof.MixDin
public import proofs.«01_k».proof.Proof.FirstNorm
public import proofs.«01_k».proof.Proof.DinA
public import proofs.«01_k».proof.Proof.DinB
public import proofs.«01_k».proof.Proof.MixDinRef
public import proofs.«01_k».proof.Proof.NormRef
public import proofs.«01_k».proof.Proof.DinARef
public import proofs.«01_k».proof.Proof.DinBRef
public import Idealize.ShloMosaic.Adequacy
public import Idealize.ShloMosaic.Init

@[expose] public section

noncomputable section

namespace Cert.Proof

open Idealize.ShloMosaic Idealize.ShloMosaic.TcCoe Idealize.SL.Sem

instance : Cert.Pre_finite.Facts := Cert.Finite.facts
instance : Cert.Pre_finite_act.Facts := Cert.Finite.facts_act

/-- The attention's kernel terminates, with its arguments unchanged and its counters at zero. -/
theorem frame_kernel : Cert.quiescent_Kernel := fun m ρ _ => Cert.Kernel.Gen.frame m ρ

/-- So does its reading over the extended reals. -/
theorem frame_ideal : Cert.quiescent_KernelIdeal := fun m ρ _ => Cert.KernelIdeal.Gen.frame m ρ

/-- So does the reference. -/
theorem frame_reference : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

/-- On finite arguments the kernel's three arrays are the gradients that the reference computes. -/
theorem gradients : Cert.algebraic_KernelIdeal_ReferenceIdeal_pre_finite := by
  intro m g m' g' pre args
  have fin := Cert.Finite.finite_of_pre m pre
  refine ⟨fun c => Cert.KernelIdeal.Results.refq m c, fun c => Cert.KernelIdeal.Results.refk m c, fun c => Cert.KernelIdeal.Results.refv m c, ?_, ?_⟩
  · refine (θ_run Cert.KernelIdeal.defs _ _).mono (fun r h c => ?_) (Cert.KernelIdeal.Value.run_blocks (F := Ideal) m g)
    obtain ⟨hq, hk, hv, rest⟩ := h c
    exact ⟨hq.trans (Cert.KernelIdeal.Results.arr_q m c (fin c)), hk.trans (Cert.KernelIdeal.Results.arr_k m c (fin c)),
      hv.trans (Cert.KernelIdeal.Results.arr_v m c (fin c)), rest⟩
  · refine (θ_run Cert.ReferenceIdeal.defs _ _).mono (fun r h c => ?_) (Cert.ReferenceIdeal.Value.run (F := Ideal) m' g')
    obtain ⟨hq, hk, hv, rest⟩ := h c
    obtain ⟨e0, e1, e2, e3⟩ := args c
    refine ⟨hq.trans ((Cert.ReferenceIdeal.Stage.out0_eq m' c).trans ?_), hk.trans ((Cert.ReferenceIdeal.Stage.out1_eq m' c).trans ?_),
      hv.trans ((Cert.ReferenceIdeal.Stage.out2_eq m' c).trans ?_), rest⟩
    · unfold Cert.ReferenceIdeal.Stage.argq Cert.ReferenceIdeal.Stage.argk Cert.ReferenceIdeal.Stage.argv Cert.ReferenceIdeal.Stage.argd
      rw [e0, e1, e2, e3]
    · unfold Cert.ReferenceIdeal.Stage.argq Cert.ReferenceIdeal.Stage.argk Cert.ReferenceIdeal.Stage.argv Cert.ReferenceIdeal.Stage.argd
      rw [e0, e1, e2, e3]
    · unfold Cert.ReferenceIdeal.Stage.argq Cert.ReferenceIdeal.Stage.argk Cert.ReferenceIdeal.Stage.argd
      rw [e0, e1, e3]

/-- The activations' kernel terminates, with its arguments unchanged and its counters at zero. -/
theorem frame_act : Cert.quiescent_Act := fun m ρ _ => Cert.Act.Gen.frame m ρ

/-- So does its reading over the extended reals. -/
theorem frame_act_ideal : Cert.quiescent_ActIdeal := fun m ρ _ => Cert.ActIdeal.Gen.frame m ρ

/-- So does its reference. -/
theorem frame_act_reference : Cert.quiescent_ActRefIdeal := fun m ρ _ =>
  (θ_run Cert.ActRefIdeal.defs _ _).mono (fun r h => ⟨fun c => (h c).2.2, sem_eq_zero_of_no_sems (by decide) r.2⟩)
    (Cert.ActRefIdeal.Value.run (F := Ideal) m ρ)

/-- Where its precondition holds, the activations' kernel's two arrays are the gradients that its reference computes. -/
theorem gradients_act : Cert.algebraic_ActIdeal_ActRefIdeal_pre_finite_act := by
  intro m g m' g' pre args
  refine ⟨fun c => Cert.ActIdeal.Swiglu.dgate (Cert.ActIdeal.Swiglu.argD m c) (Cert.ActIdeal.Swiglu.argW m c) (Cert.ActIdeal.Swiglu.argG m c) (Cert.ActIdeal.Swiglu.argU m c),
    fun c => Cert.ActIdeal.Swiglu.dup (Cert.ActIdeal.Swiglu.argD m c) (Cert.ActIdeal.Swiglu.argW m c) (Cert.ActIdeal.Swiglu.argG m c), ?_, ?_⟩
  · refine (θ_run Cert.ActIdeal.defs _ _).mono (fun r h c => ?_) (Cert.ActIdeal.Value.run_blocks (F := Ideal) m g)
    obtain ⟨hg, hu, rest⟩ := h c
    exact ⟨hg.trans (Cert.ActIdeal.Swiglu.arr_gate m c), hu.trans (Cert.ActIdeal.Swiglu.arr_up m c), rest⟩
  · refine (θ_run Cert.ActRefIdeal.defs _ _).mono (fun r h c => ?_) (Cert.ActRefIdeal.Value.run (F := Ideal) m' g')
    obtain ⟨hg, hu, rest⟩ := h c
    obtain ⟨e0, e1, e2, e3⟩ := args c
    refine ⟨hg.trans ?_, hu.trans ?_, rest⟩
    · rw [e0, e1, e2, e3]
      exact Cert.Finite.gate_of_pre m pre c
    · rw [e0, e1, e2]
      exact Cert.ActIdeal.Swiglu.refUp_eq _ _ _

/-- The gate's weights' kernel terminates, with its arguments unchanged and its counters at zero. -/
theorem frame_up : Cert.quiescent_Up := fun m ρ _ => Cert.Up.Gen.frame m ρ

/-- So does its reading over the extended reals. -/
theorem frame_up_ideal : Cert.quiescent_UpIdeal := fun m ρ _ => Cert.UpIdeal.Gen.frame m ρ

/-- So does its reference. -/
theorem frame_up_reference : Cert.quiescent_UpRefIdeal := fun m ρ _ =>
  (θ_run Cert.UpRefIdeal.defs _ _).mono (fun r h => ⟨fun c => (h c).2.2, sem_eq_zero_of_no_sems (by decide) r.2⟩)
    (Cert.UpRefIdeal.Value.run (F := Ideal) m ρ)

/-- The gate's weights' kernel's two arrays are the gradient that its reference computes. -/
theorem gradients_up : Cert.algebraic_UpIdeal_UpRefIdeal := by
  intro m g m' g' _ args
  refine ⟨fun c => Cert.UpIdeal.Weights.grad m c, fun c => Cert.UpIdeal.Weights.grad m c, ?_, ?_⟩
  · refine (θ_run Cert.UpIdeal.defs _ _).mono (fun r h c => ?_) (Cert.UpIdeal.Value.run_blocks (F := Ideal) m g)
    obtain ⟨hw, hs, rest⟩ := h c
    exact ⟨hw.trans (Cert.UpIdeal.Weights.arr_wide m c), hs.trans (Cert.UpIdeal.Weights.arr_short m c), rest⟩
  · refine (θ_run Cert.UpRefIdeal.defs _ _).mono (fun r h c => ?_) (Cert.UpRefIdeal.Value.run (F := Ideal) m' g')
    obtain ⟨hw, hs, rest⟩ := h c
    obtain ⟨e0, e1⟩ := args c
    refine ⟨hw.trans ?_, hs.trans ?_, rest⟩
    · rw [e0, e1]
      exact Cert.UpIdeal.Weights.ref_eq m c
    · rw [e0, e1]
      exact Cert.UpIdeal.Weights.ref_eq m c

/-- The down projection's weights' kernel terminates, with its arguments unchanged and its counters at zero. -/
theorem frame_down : Cert.quiescent_Down := fun m ρ _ => Cert.Down.Gen.frame m ρ

/-- So does its reading over the extended reals. -/
theorem frame_down_ideal : Cert.quiescent_DownIdeal := fun m ρ _ => Cert.DownIdeal.Gen.frame m ρ

/-- So does its reference. -/
theorem frame_down_reference : Cert.quiescent_DownRefIdeal := fun m ρ _ =>
  (θ_run Cert.DownRefIdeal.defs _ _).mono (fun r h => ⟨fun c => (h c).2.2, sem_eq_zero_of_no_sems (by decide) r.2⟩)
    (Cert.DownRefIdeal.Value.run (F := Ideal) m ρ)

/-- The down projection's weights' kernel's two arrays are the gradient that its reference computes. -/
theorem gradients_down : Cert.algebraic_DownIdeal_DownRefIdeal := by
  intro m g m' g' _ args
  refine ⟨fun c => Cert.DownIdeal.Weights.grad m c, fun c => Cert.DownIdeal.Weights.grad m c, ?_, ?_⟩
  · refine (θ_run Cert.DownIdeal.defs _ _).mono (fun r h c => ?_) (Cert.DownIdeal.Value.run_blocks (F := Ideal) m g)
    obtain ⟨hw, hs, rest⟩ := h c
    exact ⟨hw.trans (Cert.DownIdeal.Weights.arr_wide m c), hs.trans (Cert.DownIdeal.Weights.arr_short m c), rest⟩
  · refine (θ_run Cert.DownRefIdeal.defs _ _).mono (fun r h c => ?_) (Cert.DownRefIdeal.Value.run (F := Ideal) m' g')
    obtain ⟨hw, hs, rest⟩ := h c
    obtain ⟨e0, e1⟩ := args c
    refine ⟨hw.trans ?_, hs.trans ?_, rest⟩
    · rw [e0, e1]
      exact Cert.DownIdeal.Weights.ref_eq m c
    · rw [e0, e1]
      exact Cert.DownIdeal.Weights.ref_eq m c

/-- The second SwiGLU block's norm's gradient's kernel terminates, with its arguments unchanged and its counters at zero. -/
theorem frame_norm : Cert.quiescent_Norm := fun m ρ _ => Cert.Norm.Gen.frame m ρ

/-- So does its reading over the extended reals. -/
theorem frame_norm_ideal : Cert.quiescent_NormIdeal := fun m ρ _ => Cert.NormIdeal.Gen.frame m ρ

/-- So does its reference. -/
theorem frame_norm_reference : Cert.quiescent_NormRefIdeal := fun m ρ _ =>
  (θ_run Cert.NormRefIdeal.defs _ _).mono (fun r h => ⟨fun c => (h c).2.2.2.2.2.2.2, sem_eq_zero_of_no_sems (by decide) r.2⟩)
    (Cert.NormRefIdeal.Value.run (F := Ideal) m ρ)

/-- The second SwiGLU block's norm's gradient's kernel's seven arrays are what its reference computes. -/
theorem gradients_norm : Cert.algebraic_NormIdeal_NormRefIdeal := by
  intro m g m' g' _ args
  refine ⟨fun c => Cert.NormIdeal.Back.dh (Cert.NormIdeal.Back.argD m c) (Cert.NormIdeal.Back.argW m c) (Cert.NormIdeal.Back.argE m c) (Cert.NormIdeal.Back.argV m c) (Cert.NormIdeal.Back.argX m c) (Cert.NormIdeal.Back.argG m c) (Cert.NormIdeal.Back.argB m c), fun c => Cert.NormIdeal.Back.dh (Cert.NormIdeal.Back.argD m c) (Cert.NormIdeal.Back.argW m c) (Cert.NormIdeal.Back.argE m c) (Cert.NormIdeal.Back.argV m c) (Cert.NormIdeal.Back.argX m c) (Cert.NormIdeal.Back.argG m c) (Cert.NormIdeal.Back.argB m c), fun c => Cert.NormIdeal.Back.dg (Cert.NormIdeal.Back.argD m c) (Cert.NormIdeal.Back.argW m c) (Cert.NormIdeal.Back.argE m c) (Cert.NormIdeal.Back.argV m c) (Cert.NormIdeal.Back.argX m c), fun c => Cert.NormIdeal.Back.dbranch (Cert.NormIdeal.Back.dh (Cert.NormIdeal.Back.argD m c) (Cert.NormIdeal.Back.argW m c) (Cert.NormIdeal.Back.argE m c) (Cert.NormIdeal.Back.argV m c) (Cert.NormIdeal.Back.argX m c) (Cert.NormIdeal.Back.argG m c) (Cert.NormIdeal.Back.argB m c)) (Cert.NormIdeal.Back.argO m c) Cert.NormIdeal.Back.lo (Cert.NormIdeal.Back.argYa m c) (Cert.NormIdeal.Back.argGa m c), fun c => Cert.NormIdeal.Back.dbranch (Cert.NormIdeal.Back.dh (Cert.NormIdeal.Back.argD m c) (Cert.NormIdeal.Back.argW m c) (Cert.NormIdeal.Back.argE m c) (Cert.NormIdeal.Back.argV m c) (Cert.NormIdeal.Back.argX m c) (Cert.NormIdeal.Back.argG m c) (Cert.NormIdeal.Back.argB m c)) (Cert.NormIdeal.Back.argO m c) Cert.NormIdeal.Back.hi (Cert.NormIdeal.Back.argYl m c) (Cert.NormIdeal.Back.argGl m c), fun c => Cert.NormIdeal.Back.dgain (Cert.NormIdeal.Back.dh (Cert.NormIdeal.Back.argD m c) (Cert.NormIdeal.Back.argW m c) (Cert.NormIdeal.Back.argE m c) (Cert.NormIdeal.Back.argV m c) (Cert.NormIdeal.Back.argX m c) (Cert.NormIdeal.Back.argG m c) (Cert.NormIdeal.Back.argB m c)) (Cert.NormIdeal.Back.argO m c) Cert.NormIdeal.Back.lo (Cert.NormIdeal.Back.argYa m c), fun c => Cert.NormIdeal.Back.dgain (Cert.NormIdeal.Back.dh (Cert.NormIdeal.Back.argD m c) (Cert.NormIdeal.Back.argW m c) (Cert.NormIdeal.Back.argE m c) (Cert.NormIdeal.Back.argV m c) (Cert.NormIdeal.Back.argX m c) (Cert.NormIdeal.Back.argG m c) (Cert.NormIdeal.Back.argB m c)) (Cert.NormIdeal.Back.argO m c) Cert.NormIdeal.Back.hi (Cert.NormIdeal.Back.argYl m c), ?_, ?_⟩
  · refine (θ_run Cert.NormIdeal.defs _ _).mono (fun r h c => ?_) (Cert.NormIdeal.Value.run_blocks (F := Ideal) m g)
    obtain ⟨h0, h1, h2, h3, h4, h5, h6, rest⟩ := h c
    exact ⟨h0.trans (Cert.NormIdeal.Back.arr_dh m c), h1.trans (Cert.NormIdeal.Back.arr_short m c), h2.trans (Cert.NormIdeal.Back.arr_gain m c), h3.trans (Cert.NormIdeal.Back.arr_first m c), h4.trans (Cert.NormIdeal.Back.arr_second m c), h5.trans (Cert.NormIdeal.Back.arr_gain_first m c), h6.trans (Cert.NormIdeal.Back.arr_gain_second m c), rest⟩
  · refine (θ_run Cert.NormRefIdeal.defs _ _).mono (fun r h c => ?_) (Cert.NormRefIdeal.Value.run (F := Ideal) m' g')
    obtain ⟨h0, h1, h2, h3, h4, h5, h6, rest⟩ := h c
    obtain ⟨e0, e1, e2, e3, e4, e5, e6, e7, e8, e9, e10, e11⟩ := args c
    refine ⟨h0.trans ?_, h1.trans ?_, h2.trans ?_, h3.trans ?_, h4.trans ?_, h5.trans ?_, h6.trans ?_, rest⟩
    · unfold Cert.NormRefIdeal.Value.res_main_v48
      rw [e0, e1, e2, e3, e4, e5, e6]
      exact Cert.NormIdeal.Back.refDh_eq (Cert.NormIdeal.Back.argD m c) (Cert.NormIdeal.Back.argW m c) (Cert.NormIdeal.Back.argE m c) (Cert.NormIdeal.Back.argV m c) (Cert.NormIdeal.Back.argX m c) (Cert.NormIdeal.Back.argG m c) (Cert.NormIdeal.Back.argB m c)
    · unfold Cert.NormRefIdeal.Value.res_main_v49
      rw [e0, e1, e2, e3, e4, e5, e6]
      exact Cert.NormIdeal.Back.refDh_eq (Cert.NormIdeal.Back.argD m c) (Cert.NormIdeal.Back.argW m c) (Cert.NormIdeal.Back.argE m c) (Cert.NormIdeal.Back.argV m c) (Cert.NormIdeal.Back.argX m c) (Cert.NormIdeal.Back.argG m c) (Cert.NormIdeal.Back.argB m c)
    · rw [e0, e1, e2, e3, e4]
      exact Cert.NormIdeal.Back.refGain_eq (Cert.NormIdeal.Back.argD m c) (Cert.NormIdeal.Back.argW m c) (Cert.NormIdeal.Back.argE m c) (Cert.NormIdeal.Back.argV m c) (Cert.NormIdeal.Back.argX m c)
    · unfold Cert.NormRefIdeal.Value.res_main_v122
      rw [e0, e1, e2, e3, e4, e5, e6, e7, e8, e10]
      exact Cert.NormIdeal.Back.refFirst_all (Cert.NormIdeal.Back.argD m c) (Cert.NormIdeal.Back.argW m c) (Cert.NormIdeal.Back.argE m c) (Cert.NormIdeal.Back.argV m c) (Cert.NormIdeal.Back.argX m c) (Cert.NormIdeal.Back.argG m c) (Cert.NormIdeal.Back.argB m c) (Cert.NormIdeal.Back.argO m c) (Cert.NormIdeal.Back.argYa m c) (Cert.NormIdeal.Back.argGa m c)
    · unfold Cert.NormRefIdeal.Value.res_main_v103
      rw [e0, e1, e2, e3, e4, e5, e6, e7, e9, e11]
      exact Cert.NormIdeal.Back.refSecond_all (Cert.NormIdeal.Back.argD m c) (Cert.NormIdeal.Back.argW m c) (Cert.NormIdeal.Back.argE m c) (Cert.NormIdeal.Back.argV m c) (Cert.NormIdeal.Back.argX m c) (Cert.NormIdeal.Back.argG m c) (Cert.NormIdeal.Back.argB m c) (Cert.NormIdeal.Back.argO m c) (Cert.NormIdeal.Back.argYl m c) (Cert.NormIdeal.Back.argGl m c)
    · unfold Cert.NormRefIdeal.Value.res_main_v106
      rw [e0, e1, e2, e3, e4, e5, e6, e7, e8]
      exact Cert.NormIdeal.Back.refFirstGain_all (Cert.NormIdeal.Back.argD m c) (Cert.NormIdeal.Back.argW m c) (Cert.NormIdeal.Back.argE m c) (Cert.NormIdeal.Back.argV m c) (Cert.NormIdeal.Back.argX m c) (Cert.NormIdeal.Back.argG m c) (Cert.NormIdeal.Back.argB m c) (Cert.NormIdeal.Back.argO m c) (Cert.NormIdeal.Back.argYa m c)
    · unfold Cert.NormRefIdeal.Value.res_main_v87
      rw [e0, e1, e2, e3, e4, e5, e6, e7, e9]
      exact Cert.NormIdeal.Back.refSecondGain_all (Cert.NormIdeal.Back.argD m c) (Cert.NormIdeal.Back.argW m c) (Cert.NormIdeal.Back.argE m c) (Cert.NormIdeal.Back.argV m c) (Cert.NormIdeal.Back.argX m c) (Cert.NormIdeal.Back.argG m c) (Cert.NormIdeal.Back.argB m c) (Cert.NormIdeal.Back.argO m c) (Cert.NormIdeal.Back.argYl m c)

/-- The feed-forward's first products' kernel terminates, with its arguments unchanged and its counters at zero. -/
theorem frame_ffnup : Cert.quiescent_FfnUp := fun m ρ _ => Cert.FfnUp.Gen.frame m ρ

/-- So does its reading over the extended reals. -/
theorem frame_ffnup_ideal : Cert.quiescent_FfnUpIdeal := fun m ρ _ => Cert.FfnUpIdeal.Gen.frame m ρ

/-- So does its reference. -/
theorem frame_ffnup_reference : Cert.quiescent_FfnUpRefIdeal := fun m ρ _ =>
  (θ_run Cert.FfnUpRefIdeal.defs _ _).mono (fun r h => ⟨fun c => (h c).2.2.2, sem_eq_zero_of_no_sems (by decide) r.2⟩)
    (Cert.FfnUpRefIdeal.Value.run (F := Ideal) m ρ)

/-- The feed-forward's first products' kernel's three arrays are what its reference computes. -/
theorem gradients_ffnup : Cert.algebraic_FfnUpIdeal_FfnUpRefIdeal := by
  intro m g m' g' _ args
  refine ⟨fun c => Cert.FfnUpIdeal.Forward.prod (Cert.FfnUpIdeal.Forward.argX m c) (Cert.FfnUpIdeal.Forward.argG m c), fun c => Cert.FfnUpIdeal.Forward.prod (Cert.FfnUpIdeal.Forward.argX m c) (Cert.FfnUpIdeal.Forward.argU m c), fun c => Cert.FfnUpIdeal.Forward.act (Cert.FfnUpIdeal.Forward.argX m c) (Cert.FfnUpIdeal.Forward.argG m c) (Cert.FfnUpIdeal.Forward.argU m c), ?_, ?_⟩
  · refine (θ_run Cert.FfnUpIdeal.defs _ _).mono (fun r h c => ?_) (Cert.FfnUpIdeal.Value.run_blocks (F := Ideal) m g)
    obtain ⟨h0, h1, h2, rest⟩ := h c
    exact ⟨h0.trans (Cert.FfnUpIdeal.Forward.arr_gate m c), h1.trans (Cert.FfnUpIdeal.Forward.arr_up m c), h2.trans (Cert.FfnUpIdeal.Forward.arr_act m c), rest⟩
  · refine (θ_run Cert.FfnUpRefIdeal.defs _ _).mono (fun r h c => ?_) (Cert.FfnUpRefIdeal.Value.run (F := Ideal) m' g')
    obtain ⟨h0, h1, h2, rest⟩ := h c
    obtain ⟨e0, e1, e2⟩ := args c
    refine ⟨h0.trans ?_, h1.trans ?_, h2.trans ?_, rest⟩
    · rw [e0, e1]
      exact Cert.FfnUpIdeal.Forward.refProd_eq _ _
    · rw [e0, e2]
      exact Cert.FfnUpIdeal.Forward.refProd_eq _ _
    · rw [e0, e1, e2]
      exact Cert.FfnUpIdeal.Forward.refAct_eq _ _ _

/-- The feed-forward's second products' kernel terminates, with its arguments unchanged and its counters at zero. -/
theorem frame_ffndown : Cert.quiescent_FfnDown := fun m ρ _ => Cert.FfnDown.Gen.frame m ρ

/-- So does its reading over the extended reals. -/
theorem frame_ffndown_ideal : Cert.quiescent_FfnDownIdeal := fun m ρ _ => Cert.FfnDownIdeal.Gen.frame m ρ

/-- So does its reference. -/
theorem frame_ffndown_reference : Cert.quiescent_FfnDownRefIdeal := fun m ρ _ =>
  (θ_run Cert.FfnDownRefIdeal.defs _ _).mono (fun r h => ⟨fun c => (h c).2.2, sem_eq_zero_of_no_sems (by decide) r.2⟩)
    (Cert.FfnDownRefIdeal.Value.run (F := Ideal) m ρ)

/-- The feed-forward's second products' kernel's two arrays are what its reference computes. -/
theorem gradients_ffndown : Cert.algebraic_FfnDownIdeal_FfnDownRefIdeal := by
  intro m g m' g' _ args
  refine ⟨fun c => Cert.FfnDownIdeal.Residual.sum (Cert.FfnDownIdeal.Residual.argA m c) (Cert.FfnDownIdeal.Residual.argW m c) (Cert.FfnDownIdeal.Residual.argH m c), fun c => Cert.FfnDownIdeal.Residual.norm (Cert.FfnDownIdeal.Residual.sum (Cert.FfnDownIdeal.Residual.argA m c) (Cert.FfnDownIdeal.Residual.argW m c) (Cert.FfnDownIdeal.Residual.argH m c)) (Cert.FfnDownIdeal.Residual.argG m c), ?_, ?_⟩
  · refine (θ_run Cert.FfnDownIdeal.defs _ _).mono (fun r h c => ?_) (Cert.FfnDownIdeal.Value.run_blocks (F := Ideal) m g)
    obtain ⟨h0, h1, rest⟩ := h c
    exact ⟨h0.trans (Cert.FfnDownIdeal.Residual.arr_sum m c), h1.trans (Cert.FfnDownIdeal.Residual.arr_norm m c), rest⟩
  · refine (θ_run Cert.FfnDownRefIdeal.defs _ _).mono (fun r h c => ?_) (Cert.FfnDownRefIdeal.Value.run (F := Ideal) m' g')
    obtain ⟨h0, h1, rest⟩ := h c
    obtain ⟨e0, e1, e2, e3⟩ := args c
    refine ⟨h0.trans ?_, h1.trans ?_, rest⟩
    · rw [e0, e1, e2]
      exact Cert.FfnDownIdeal.Residual.refSum_eq _ _ _
    · rw [e0, e1, e2, e3]
      exact (Cert.FfnDownIdeal.Residual.refNorm_eq (Cert.FfnDownIdeal.Residual.refSum (Cert.FfnDownIdeal.Residual.argA m c) (Cert.FfnDownIdeal.Residual.argW m c) (Cert.FfnDownIdeal.Residual.argH m c)) _).trans (by rw [Cert.FfnDownIdeal.Residual.refSum_eq])

/-- The mixer's input product's kernel terminates, with its arguments unchanged and its counters at zero. -/
theorem frame_mixin : Cert.quiescent_MixIn := fun m ρ _ => Cert.MixIn.Gen.frame m ρ

/-- So does its reading over the extended reals. -/
theorem frame_mixin_ideal : Cert.quiescent_MixInIdeal := fun m ρ _ => Cert.MixInIdeal.Gen.frame m ρ

/-- So does its reference. -/
theorem frame_mixin_reference : Cert.quiescent_MixInRefIdeal := fun m ρ _ =>
  (θ_run Cert.MixInRefIdeal.defs _ _).mono (fun r h => ⟨fun c => (h c).2, sem_eq_zero_of_no_sems (by decide) r.2⟩)
    (Cert.MixInRefIdeal.Value.run (F := Ideal) m ρ)

/-- The mixer's input product's kernel's array is what its reference computes. -/
theorem gradients_mixin : Cert.algebraic_MixInIdeal_MixInRefIdeal := by
  intro m g m' g' _ args
  refine ⟨fun c => Cert.MixInIdeal.Product.prod m c, ?_, ?_⟩
  · refine (θ_run Cert.MixInIdeal.defs _ _).mono (fun r h c => ?_) (Cert.MixInIdeal.Value.run_blocks (F := Ideal) m g)
    obtain ⟨h0, rest⟩ := h c
    exact ⟨h0.trans (Cert.MixInIdeal.Product.arr_prod m c), rest⟩
  · refine (θ_run Cert.MixInRefIdeal.defs _ _).mono (fun r h c => ?_) (Cert.MixInRefIdeal.Value.run (F := Ideal) m' g')
    obtain ⟨h0, rest⟩ := h c
    obtain ⟨e0, e1⟩ := args c
    refine ⟨h0.trans ?_, rest⟩
    · rw [e0, e1]
      exact Cert.MixInIdeal.Product.ref_eq m c

/-- The mixer's output product's kernel terminates, with its arguments unchanged and its counters at zero. -/
theorem frame_mixout : Cert.quiescent_MixOut := fun m ρ _ => Cert.MixOut.Gen.frame m ρ

/-- So does its reading over the extended reals. -/
theorem frame_mixout_ideal : Cert.quiescent_MixOutIdeal := fun m ρ _ => Cert.MixOutIdeal.Gen.frame m ρ

/-- So does its reference. -/
theorem frame_mixout_reference : Cert.quiescent_MixOutRefIdeal := fun m ρ _ =>
  (θ_run Cert.MixOutRefIdeal.defs _ _).mono (fun r h => ⟨fun c => (h c).2.2.2, sem_eq_zero_of_no_sems (by decide) r.2⟩)
    (Cert.MixOutRefIdeal.Value.run (F := Ideal) m ρ)

/-- The mixer's output product's kernel's three arrays are what its reference computes. -/
theorem gradients_mixout : Cert.algebraic_MixOutIdeal_MixOutRefIdeal := by
  intro m g m' g' _ args
  refine ⟨fun c => Cert.MixOutIdeal.Residual.both (Cert.MixOutIdeal.Residual.argA m c) (Cert.MixOutIdeal.Residual.argL m c) (Cert.MixOutIdeal.Residual.argGA m c) (Cert.MixOutIdeal.Residual.argGL m c), fun c => Cert.MixOutIdeal.Residual.sum (Cert.MixOutIdeal.Residual.argA m c) (Cert.MixOutIdeal.Residual.argL m c) (Cert.MixOutIdeal.Residual.argGA m c) (Cert.MixOutIdeal.Residual.argGL m c) (Cert.MixOutIdeal.Residual.argW m c) (Cert.MixOutIdeal.Residual.argH m c), fun c => Cert.MixOutIdeal.Residual.norm (Cert.MixOutIdeal.Residual.sum (Cert.MixOutIdeal.Residual.argA m c) (Cert.MixOutIdeal.Residual.argL m c) (Cert.MixOutIdeal.Residual.argGA m c) (Cert.MixOutIdeal.Residual.argGL m c) (Cert.MixOutIdeal.Residual.argW m c) (Cert.MixOutIdeal.Residual.argH m c)) (Cert.MixOutIdeal.Residual.argG m c), ?_, ?_⟩
  · refine (θ_run Cert.MixOutIdeal.defs _ _).mono (fun r h c => ?_) (Cert.MixOutIdeal.Value.run_blocks (F := Ideal) m g)
    obtain ⟨h0, h1, h2, rest⟩ := h c
    exact ⟨h0.trans (Cert.MixOutIdeal.Residual.arr_both m c), h1.trans (Cert.MixOutIdeal.Residual.arr_sum m c), h2.trans (Cert.MixOutIdeal.Residual.arr_norm m c), rest⟩
  · refine (θ_run Cert.MixOutRefIdeal.defs _ _).mono (fun r h c => ?_) (Cert.MixOutRefIdeal.Value.run (F := Ideal) m' g')
    obtain ⟨h0, h1, h2, rest⟩ := h c
    obtain ⟨e0, e1, e2, e3, e4, e5, e6⟩ := args c
    refine ⟨h0.trans ?_, h1.trans ?_, h2.trans ?_, rest⟩
    · rw [e0, e1, e2, e3]
      exact Cert.MixOutIdeal.Residual.refBoth_eq _ _ _ _
    · rw [e0, e1, e2, e3, e4, e5]
      exact Cert.MixOutIdeal.Residual.refSum_eq _ _ _ _ _ _
    · unfold Cert.MixOutRefIdeal.Value.res_main_v41
      rw [e0, e1, e2, e3, e4, e5, e6]
      exact (Cert.MixOutIdeal.Residual.refNorm_eq (Cert.MixOutIdeal.Residual.refSum (Cert.MixOutIdeal.Residual.argA m c) (Cert.MixOutIdeal.Residual.argL m c) (Cert.MixOutIdeal.Residual.argGA m c) (Cert.MixOutIdeal.Residual.argGL m c) (Cert.MixOutIdeal.Residual.argW m c) (Cert.MixOutIdeal.Residual.argH m c)) _).trans (by rw [Cert.MixOutIdeal.Residual.refSum_eq])

/-- The mixer's input weights' kernel terminates, with its arguments unchanged and its counters at zero. -/
theorem frame_dwin : Cert.quiescent_DwIn := fun m ρ _ => Cert.DwIn.Gen.frame m ρ

/-- So does its reading over the extended reals. -/
theorem frame_dwin_ideal : Cert.quiescent_DwInIdeal := fun m ρ _ => Cert.DwInIdeal.Gen.frame m ρ

/-- So does its reference. -/
theorem frame_dwin_reference : Cert.quiescent_DwInRefIdeal := fun m ρ _ =>
  (θ_run Cert.DwInRefIdeal.defs _ _).mono (fun r h => ⟨fun c => (h c).2, sem_eq_zero_of_no_sems (by decide) r.2⟩)
    (Cert.DwInRefIdeal.Value.run (F := Ideal) m ρ)

/-- The mixer's input weights' kernel's array is the gradient that its reference computes. -/
theorem gradients_dwin : Cert.algebraic_DwInIdeal_DwInRefIdeal := by
  intro m g m' g' _ args
  refine ⟨fun c => Cert.DwInIdeal.Weights.grad m c, ?_, ?_⟩
  · refine (θ_run Cert.DwInIdeal.defs _ _).mono (fun r h c => ?_) (Cert.DwInIdeal.Value.run_blocks (F := Ideal) m g)
    obtain ⟨h0, rest⟩ := h c
    exact ⟨h0.trans (Cert.DwInIdeal.Weights.arr_grad m c), rest⟩
  · refine (θ_run Cert.DwInRefIdeal.defs _ _).mono (fun r h c => ?_) (Cert.DwInRefIdeal.Value.run (F := Ideal) m' g')
    obtain ⟨h0, rest⟩ := h c
    obtain ⟨e0, e1⟩ := args c
    refine ⟨h0.trans ?_, rest⟩
    · rw [e0, e1]
      exact Cert.DwInIdeal.Weights.ref_eq m c

/-- The mixer's output weights' kernel terminates, with its arguments unchanged and its counters at zero. -/
theorem frame_dwout : Cert.quiescent_DwOut := fun m ρ _ => Cert.DwOut.Gen.frame m ρ

/-- So does its reading over the extended reals. -/
theorem frame_dwout_ideal : Cert.quiescent_DwOutIdeal := fun m ρ _ => Cert.DwOutIdeal.Gen.frame m ρ

/-- So does its reference. -/
theorem frame_dwout_reference : Cert.quiescent_DwOutRefIdeal := fun m ρ _ =>
  (θ_run Cert.DwOutRefIdeal.defs _ _).mono (fun r h => ⟨fun c => (h c).2, sem_eq_zero_of_no_sems (by decide) r.2⟩)
    (Cert.DwOutRefIdeal.Value.run (F := Ideal) m ρ)

/-- The mixer's output weights' kernel's array is the gradient that its reference computes. -/
theorem gradients_dwout : Cert.algebraic_DwOutIdeal_DwOutRefIdeal := by
  intro m g m' g' _ args
  refine ⟨fun c => Cert.DwOutIdeal.Weights.grad m c, ?_, ?_⟩
  · refine (θ_run Cert.DwOutIdeal.defs _ _).mono (fun r h c => ?_) (Cert.DwOutIdeal.Value.run_blocks (F := Ideal) m g)
    obtain ⟨h0, rest⟩ := h c
    exact ⟨h0.trans (Cert.DwOutIdeal.Weights.arr_grad m c), rest⟩
  · refine (θ_run Cert.DwOutRefIdeal.defs _ _).mono (fun r h c => ?_) (Cert.DwOutRefIdeal.Value.run (F := Ideal) m' g')
    obtain ⟨h0, rest⟩ := h c
    obtain ⟨e0, e1⟩ := args c
    refine ⟨h0.trans ?_, rest⟩
    · rw [e0, e1]
      exact Cert.DwOutIdeal.Weights.ref_eq m c

/-- The mixer's norm's gradient's kernel terminates, with its arguments unchanged and its counters at zero. -/
theorem frame_mixdin : Cert.quiescent_MixDin := fun m ρ _ => Cert.MixDin.Gen.frame m ρ

/-- So does its reading over the extended reals. -/
theorem frame_mixdin_ideal : Cert.quiescent_MixDinIdeal := fun m ρ _ => Cert.MixDinIdeal.Gen.frame m ρ

/-- So does its reference. -/
theorem frame_mixdin_reference : Cert.quiescent_MixDinRefIdeal := fun m ρ _ =>
  (θ_run Cert.MixDinRefIdeal.defs _ _).mono (fun r h => ⟨fun c => (h c).2.2.2, sem_eq_zero_of_no_sems (by decide) r.2⟩)
    (Cert.MixDinRefIdeal.Value.run (F := Ideal) m ρ)

/-- The mixer's norm's gradient's kernel's three arrays are what its reference computes. -/
theorem gradients_mixdin : Cert.algebraic_MixDinIdeal_MixDinRefIdeal := by
  intro m g m' g' _ args
  refine ⟨fun c => Cert.MixDinIdeal.Back.dh (Cert.MixDinIdeal.Back.argZ m c) (Cert.MixDinIdeal.Back.argW m c) (Cert.MixDinIdeal.Back.argX m c) (Cert.MixDinIdeal.Back.argG m c) (Cert.MixDinIdeal.Back.argB m c), fun c => Cert.MixDinIdeal.Back.dh (Cert.MixDinIdeal.Back.argZ m c) (Cert.MixDinIdeal.Back.argW m c) (Cert.MixDinIdeal.Back.argX m c) (Cert.MixDinIdeal.Back.argG m c) (Cert.MixDinIdeal.Back.argB m c), fun c => Cert.MixDinIdeal.Back.dg (Cert.MixDinIdeal.Back.argZ m c) (Cert.MixDinIdeal.Back.argW m c) (Cert.MixDinIdeal.Back.argX m c), ?_, ?_⟩
  · refine (θ_run Cert.MixDinIdeal.defs _ _).mono (fun r h c => ?_) (Cert.MixDinIdeal.Value.run_blocks (F := Ideal) m g)
    obtain ⟨h0, h1, h2, rest⟩ := h c
    exact ⟨h0.trans (Cert.MixDinIdeal.Back.arr_dh m c), h1.trans (Cert.MixDinIdeal.Back.arr_short m c), h2.trans (Cert.MixDinIdeal.Back.arr_gain m c), rest⟩
  · refine (θ_run Cert.MixDinRefIdeal.defs _ _).mono (fun r h c => ?_) (Cert.MixDinRefIdeal.Value.run (F := Ideal) m' g')
    obtain ⟨h0, h1, h2, rest⟩ := h c
    obtain ⟨e0, e1, e2, e3, e4⟩ := args c
    refine ⟨h0.trans ?_, h1.trans ?_, h2.trans ?_, rest⟩
    · unfold Cert.MixDinRefIdeal.Value.res_main_v39
      rw [e0, e1, e2, e3, e4]
      exact Cert.MixDinIdeal.Back.refDh_eq _ _ _ _ _
    · unfold Cert.MixDinRefIdeal.Value.res_main_v40
      rw [e0, e1, e2, e3, e4]
      exact Cert.MixDinIdeal.Back.refDh_eq _ _ _ _ _
    · rw [e0, e1, e2]
      exact Cert.MixDinIdeal.Back.refGain_eq _ _ _

/-- The first block's norm's kernel terminates, with its arguments unchanged and its counters at zero. -/
theorem frame_firstnorm : Cert.quiescent_FirstNorm := fun m ρ _ => Cert.FirstNorm.Gen.frame m ρ

/-- So does its reading over the extended reals. -/
theorem frame_firstnorm_ideal : Cert.quiescent_FirstNormIdeal := fun m ρ _ => Cert.FirstNormIdeal.Gen.frame m ρ

/-- So does its reference. -/
theorem frame_firstnorm_reference : Cert.quiescent_FirstNormRefIdeal := fun m ρ _ =>
  (θ_run Cert.FirstNormRefIdeal.defs _ _).mono (fun r h => ⟨fun c => (h c).2, sem_eq_zero_of_no_sems (by decide) r.2⟩)
    (Cert.FirstNormRefIdeal.Value.run (F := Ideal) m ρ)

/-- The first block's norm's kernel's array is what its reference computes. -/
theorem gradients_firstnorm : Cert.algebraic_FirstNormIdeal_FirstNormRefIdeal := by
  intro m g m' g' _ args
  refine ⟨fun c => Cert.FirstNormIdeal.Rows.norm (Cert.FirstNormIdeal.Rows.argX m c) (Cert.FirstNormIdeal.Rows.argG m c), ?_, ?_⟩
  · refine (θ_run Cert.FirstNormIdeal.defs _ _).mono (fun r h c => ?_) (Cert.FirstNormIdeal.Value.run_blocks (F := Ideal) m g)
    obtain ⟨h0, rest⟩ := h c
    exact ⟨h0.trans (Cert.FirstNormIdeal.Rows.arr_norm m c), rest⟩
  · refine (θ_run Cert.FirstNormRefIdeal.defs _ _).mono (fun r h c => ?_) (Cert.FirstNormRefIdeal.Value.run (F := Ideal) m' g')
    obtain ⟨h0, rest⟩ := h c
    obtain ⟨e0, e1⟩ := args c
    refine ⟨h0.trans ?_, rest⟩
    · rw [e0, e1]
      exact Cert.FirstNormIdeal.Rows.refNorm_eq _ _

/-- The first SwiGLU block's norm's gradient's first half's kernel terminates, with its arguments unchanged and its counters at zero. -/
theorem frame_dina : Cert.quiescent_DinA := fun m ρ _ => Cert.DinA.Gen.frame m ρ

/-- So does its reading over the extended reals. -/
theorem frame_dina_ideal : Cert.quiescent_DinAIdeal := fun m ρ _ => Cert.DinAIdeal.Gen.frame m ρ

/-- So does its reference. -/
theorem frame_dina_reference : Cert.quiescent_DinARefIdeal := fun m ρ _ =>
  (θ_run Cert.DinARefIdeal.defs _ _).mono (fun r h => ⟨fun c => (h c).2.2.2, sem_eq_zero_of_no_sems (by decide) r.2⟩)
    (Cert.DinARefIdeal.Value.run (F := Ideal) m ρ)

/-- The first SwiGLU block's norm's gradient's kernel's three arrays are, for the first half of the rows, what its reference computes. -/
theorem gradients_dina : Cert.algebraic_DinAIdeal_DinARefIdeal := by
  intro m g m' g' _ args
  refine ⟨fun c => Cert.DinAIdeal.Back.rows (Cert.DinAIdeal.Back.argD m c) (Cert.DinAIdeal.Back.argW m c) (Cert.DinAIdeal.Back.argE m c) (Cert.DinAIdeal.Back.argV m c) (Cert.DinAIdeal.Back.argX m c) (Cert.DinAIdeal.Back.argG m c) (Cert.DinAIdeal.Back.argB m c), fun c => Cert.DinAIdeal.Back.rows (Cert.DinAIdeal.Back.argD m c) (Cert.DinAIdeal.Back.argW m c) (Cert.DinAIdeal.Back.argE m c) (Cert.DinAIdeal.Back.argV m c) (Cert.DinAIdeal.Back.argX m c) (Cert.DinAIdeal.Back.argG m c) (Cert.DinAIdeal.Back.argB m c), fun c => Cert.DinAIdeal.Back.dg (Cert.DinAIdeal.Back.argD m c) (Cert.DinAIdeal.Back.argW m c) (Cert.DinAIdeal.Back.argE m c) (Cert.DinAIdeal.Back.argV m c) (Cert.DinAIdeal.Back.argX m c), ?_, ?_⟩
  · refine (θ_run Cert.DinAIdeal.defs _ _).mono (fun r h c => ?_) (Cert.DinAIdeal.Back.run_results m g)
    obtain ⟨h0, h1, h2, rest⟩ := h c
    exact ⟨h0.trans (Cert.DinAIdeal.Back.res_dh m c), h1.trans (Cert.DinAIdeal.Back.res_short m c), h2.trans (Cert.DinAIdeal.Back.arr_gain m c), rest⟩
  · refine (θ_run Cert.DinARefIdeal.defs _ _).mono (fun r h c => ?_) (Cert.DinARefIdeal.Value.run (F := Ideal) m' g')
    obtain ⟨h0, h1, h2, rest⟩ := h c
    obtain ⟨e0, e1, e2, e3, e4, e5, e6⟩ := args c
    refine ⟨h0.trans ?_, h1.trans ?_, h2.trans ?_, rest⟩
    · unfold Cert.DinARefIdeal.Value.res_main_v51
      rw [e0, e1, e2, e3, e4, e5, e6]
      exact Cert.DinAIdeal.Back.refRows_eq (Cert.DinAIdeal.Back.argD m c) (Cert.DinAIdeal.Back.argW m c) (Cert.DinAIdeal.Back.argE m c) (Cert.DinAIdeal.Back.argV m c) (Cert.DinAIdeal.Back.argX m c) (Cert.DinAIdeal.Back.argG m c) (Cert.DinAIdeal.Back.argB m c)
    · unfold Cert.DinARefIdeal.Value.res_main_v52
      rw [e0, e1, e2, e3, e4, e5, e6]
      exact Cert.DinAIdeal.Back.refRows_eq (Cert.DinAIdeal.Back.argD m c) (Cert.DinAIdeal.Back.argW m c) (Cert.DinAIdeal.Back.argE m c) (Cert.DinAIdeal.Back.argV m c) (Cert.DinAIdeal.Back.argX m c) (Cert.DinAIdeal.Back.argG m c) (Cert.DinAIdeal.Back.argB m c)
    · rw [e0, e1, e2, e3, e4]
      exact Cert.DinAIdeal.Back.refGain_eq (Cert.DinAIdeal.Back.argD m c) (Cert.DinAIdeal.Back.argW m c) (Cert.DinAIdeal.Back.argE m c) (Cert.DinAIdeal.Back.argV m c) (Cert.DinAIdeal.Back.argX m c)

/-- The first SwiGLU block's norm's gradient's second half's kernel terminates, with its arguments unchanged and its counters at zero. -/
theorem frame_dinb : Cert.quiescent_DinB := fun m ρ _ => Cert.DinB.Gen.frame m ρ

/-- So does its reading over the extended reals. -/
theorem frame_dinb_ideal : Cert.quiescent_DinBIdeal := fun m ρ _ => Cert.DinBIdeal.Gen.frame m ρ

/-- So does its reference. -/
theorem frame_dinb_reference : Cert.quiescent_DinBRefIdeal := fun m ρ _ =>
  (θ_run Cert.DinBRefIdeal.defs _ _).mono (fun r h => ⟨fun c => (h c).2.2.2, sem_eq_zero_of_no_sems (by decide) r.2⟩)
    (Cert.DinBRefIdeal.Value.run (F := Ideal) m ρ)

/-- The first SwiGLU block's norm's gradient's kernel's three arrays are, after the second half of the rows, what its reference computes. -/
theorem gradients_dinb : Cert.algebraic_DinBIdeal_DinBRefIdeal := by
  intro m g m' g' _ args
  refine ⟨fun c => Cert.DinBIdeal.Back.both (Cert.DinBIdeal.Back.dh (Cert.DinBIdeal.Back.argD m c) (Cert.DinBIdeal.Back.argW m c) (Cert.DinBIdeal.Back.argE m c) (Cert.DinBIdeal.Back.argV m c) (Cert.DinBIdeal.Back.argX m c) (Cert.DinBIdeal.Back.argG m c) (Cert.DinBIdeal.Back.argB m c)) (Cert.DinBIdeal.Back.argH m c), fun c => Cert.DinBIdeal.Back.both (Cert.DinBIdeal.Back.dh (Cert.DinBIdeal.Back.argD m c) (Cert.DinBIdeal.Back.argW m c) (Cert.DinBIdeal.Back.argE m c) (Cert.DinBIdeal.Back.argV m c) (Cert.DinBIdeal.Back.argX m c) (Cert.DinBIdeal.Back.argG m c) (Cert.DinBIdeal.Back.argB m c)) (Cert.DinBIdeal.Back.argS m c), fun c => Cert.DinBIdeal.Back.dg (Cert.DinBIdeal.Back.argD m c) (Cert.DinBIdeal.Back.argW m c) (Cert.DinBIdeal.Back.argE m c) (Cert.DinBIdeal.Back.argV m c) (Cert.DinBIdeal.Back.argX m c), ?_, ?_⟩
  · refine (θ_run Cert.DinBIdeal.defs _ _).mono (fun r h c => ?_) (Cert.DinBIdeal.Value.run_blocks (F := Ideal) m g)
    obtain ⟨h0, h1, h2, rest⟩ := h c
    exact ⟨h0.trans (Cert.DinBIdeal.Back.arr_dh m c), h1.trans (Cert.DinBIdeal.Back.arr_short m c), h2.trans (Cert.DinBIdeal.Back.arr_gain m c), rest⟩
  · refine (θ_run Cert.DinBRefIdeal.defs _ _).mono (fun r h c => ?_) (Cert.DinBRefIdeal.Value.run (F := Ideal) m' g')
    obtain ⟨h0, h1, h2, rest⟩ := h c
    obtain ⟨e0, e1, e2, e3, e4, e5, e6, e7, e8⟩ := args c
    refine ⟨h0.trans ?_, h1.trans ?_, h2.trans ?_, rest⟩
    · unfold Cert.DinBRefIdeal.Value.res_main_v54
      rw [e0, e1, e2, e3, e4, e5, e6, e7]
      exact Cert.DinBIdeal.Back.refBoth_eq (Cert.DinBIdeal.Back.argD m c) (Cert.DinBIdeal.Back.argW m c) (Cert.DinBIdeal.Back.argE m c) (Cert.DinBIdeal.Back.argV m c) (Cert.DinBIdeal.Back.argX m c) (Cert.DinBIdeal.Back.argG m c) (Cert.DinBIdeal.Back.argB m c) (Cert.DinBIdeal.Back.argH m c)
    · unfold Cert.DinBRefIdeal.Value.res_main_v56
      rw [e0, e1, e2, e3, e4, e5, e6, e8]
      exact Cert.DinBIdeal.Back.refBoth_eq (Cert.DinBIdeal.Back.argD m c) (Cert.DinBIdeal.Back.argW m c) (Cert.DinBIdeal.Back.argE m c) (Cert.DinBIdeal.Back.argV m c) (Cert.DinBIdeal.Back.argX m c) (Cert.DinBIdeal.Back.argG m c) (Cert.DinBIdeal.Back.argB m c) (Cert.DinBIdeal.Back.argS m c)
    · rw [e0, e1, e2, e3, e4]
      exact Cert.DinBIdeal.Back.refGain_eq (Cert.DinBIdeal.Back.argD m c) (Cert.DinBIdeal.Back.argW m c) (Cert.DinBIdeal.Back.argE m c) (Cert.DinBIdeal.Back.argV m c) (Cert.DinBIdeal.Back.argX m c)

/-- Everything the certificate claims. -/
theorem claim : Cert.Claim :=
  ⟨Cert.Kernel.Gen.facts, Cert.KernelIdeal.Gen.facts, Cert.ReferenceIdeal.Gen.facts, Cert.Act.Gen.facts, Cert.ActIdeal.Gen.facts, Cert.ActRefIdeal.Gen.facts,
    Cert.Up.Gen.facts, Cert.UpIdeal.Gen.facts, Cert.UpRefIdeal.Gen.facts, Cert.Down.Gen.facts, Cert.DownIdeal.Gen.facts, Cert.DownRefIdeal.Gen.facts,
    Cert.Norm.Gen.facts, Cert.NormIdeal.Gen.facts, Cert.NormRefIdeal.Gen.facts,
    Cert.FfnUp.Gen.facts, Cert.FfnUpIdeal.Gen.facts, Cert.FfnUpRefIdeal.Gen.facts,
    Cert.FfnDown.Gen.facts, Cert.FfnDownIdeal.Gen.facts, Cert.FfnDownRefIdeal.Gen.facts,
    Cert.MixIn.Gen.facts, Cert.MixInIdeal.Gen.facts, Cert.MixInRefIdeal.Gen.facts,
    Cert.MixOut.Gen.facts, Cert.MixOutIdeal.Gen.facts, Cert.MixOutRefIdeal.Gen.facts,
    Cert.DwIn.Gen.facts, Cert.DwInIdeal.Gen.facts, Cert.DwInRefIdeal.Gen.facts,
    Cert.DwOut.Gen.facts, Cert.DwOutIdeal.Gen.facts, Cert.DwOutRefIdeal.Gen.facts,
    Cert.MixDin.Gen.facts, Cert.MixDinIdeal.Gen.facts, Cert.MixDinRefIdeal.Gen.facts,
    Cert.FirstNorm.Gen.facts, Cert.FirstNormIdeal.Gen.facts, Cert.FirstNormRefIdeal.Gen.facts,
    Cert.DinA.Gen.facts, Cert.DinAIdeal.Gen.facts, Cert.DinARefIdeal.Gen.facts,
    Cert.DinB.Gen.facts, Cert.DinBIdeal.Gen.facts, Cert.DinBRefIdeal.Gen.facts,
    Cert.Finite.facts, Cert.Finite.facts_act,
    frame_kernel, frame_ideal, fun m ρ _ => frame_ideal m ρ trivial, frame_reference, fun m ρ _ => frame_reference m ρ trivial,
    frame_act, frame_act_ideal, fun m ρ _ => frame_act_ideal m ρ trivial, frame_act_reference, fun m ρ _ => frame_act_reference m ρ trivial,
    frame_up, frame_up_ideal, frame_up_reference, frame_down, frame_down_ideal, frame_down_reference,
    frame_norm, frame_norm_ideal, frame_norm_reference,
    frame_ffnup, frame_ffnup_ideal, frame_ffnup_reference,
    frame_ffndown, frame_ffndown_ideal, frame_ffndown_reference,
    frame_mixin, frame_mixin_ideal, frame_mixin_reference,
    frame_mixout, frame_mixout_ideal, frame_mixout_reference,
    frame_dwin, frame_dwin_ideal, frame_dwin_reference,
    frame_dwout, frame_dwout_ideal, frame_dwout_reference,
    frame_mixdin, frame_mixdin_ideal, frame_mixdin_reference,
    frame_firstnorm, frame_firstnorm_ideal, frame_firstnorm_reference,
    frame_dina, frame_dina_ideal, frame_dina_reference,
    frame_dinb, frame_dinb_ideal, frame_dinb_reference,
    trivial, gradients, trivial, gradients_act, trivial, gradients_up, trivial, gradients_down,
    trivial, gradients_norm, trivial, gradients_ffnup, trivial, gradients_ffndown, trivial, gradients_mixin, trivial, gradients_mixout, trivial, gradients_dwin, trivial, gradients_dwout, trivial, gradients_mixdin, trivial, gradients_firstnorm, trivial, gradients_dina, trivial, gradients_dinb⟩

end Cert.Proof

end
